-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0))) = (fun _ => 1#1)

def Pre_AttnUp (m : (ℓ : Loc Cert.AttnUp.nD Cert.AttnUp.τ Cert.AttnUp.sig) → Buf (Elt Bits) ℓ) : Prop :=
  True

def Pre_AttnUpIdeal (m : (ℓ : Loc Cert.AttnUpIdeal.nD Cert.AttnUpIdeal.τ Cert.AttnUpIdeal.sig) → Buf (Elt Ideal) ℓ) : Prop :=
  True

def Pre_AttnUpRefIdeal (m : (ℓ : Loc Cert.AttnUpRefIdeal.nD Cert.AttnUpRefIdeal.τ Cert.AttnUpRefIdeal.sig) → Buf (Elt Ideal) ℓ) : Prop :=
  True

def Pre_DnUp (m : (ℓ : Loc Cert.DnUp.nD Cert.DnUp.τ Cert.DnUp.sig) → Buf (Elt Bits) ℓ) : Prop :=
  True

def Pre_DnUpIdeal (m : (ℓ : Loc Cert.DnUpIdeal.nD Cert.DnUpIdeal.τ Cert.DnUpIdeal.sig) → Buf (Elt Ideal) ℓ) : Prop :=
  True

def Pre_DnUpRefIdeal (m : (ℓ : Loc Cert.DnUpRefIdeal.nD Cert.DnUpRefIdeal.τ Cert.DnUpRefIdeal.sig) → Buf (Elt Ideal) ℓ) : Prop :=
  True

def Pre_G12 (m : (ℓ : Loc Cert.G12.nD Cert.G12.τ Cert.G12.sig) → Buf (Elt Bits) ℓ) : Prop :=
  True

def Pre_G12Ideal (m : (ℓ : Loc Cert.G12Ideal.nD Cert.G12Ideal.τ Cert.G12Ideal.sig) → Buf (Elt Ideal) ℓ) : Prop :=
  True

def Pre_G12RefIdeal (m : (ℓ : Loc Cert.G12RefIdeal.nD Cert.G12RefIdeal.τ Cert.G12RefIdeal.sig) → Buf (Elt Ideal) ℓ) : Prop :=
  True

def Pre_PNorm (m : (ℓ : Loc Cert.PNorm.nD Cert.PNorm.τ Cert.PNorm.sig) → Buf (Elt Bits) ℓ) : Prop :=
  True

def Pre_PNormIdeal (m : (ℓ : Loc Cert.PNormIdeal.nD Cert.PNormIdeal.τ Cert.PNormIdeal.sig) → Buf (Elt Ideal) ℓ) : Prop :=
  True

def Pre_PNormRefIdeal (m : (ℓ : Loc Cert.PNormRefIdeal.nD Cert.PNormRefIdeal.τ Cert.PNormRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnUp [hAttnUp : Cert.AttnUp.Facts] : Prop :=
  ∀ (m : (ℓ : Loc Cert.AttnUp.nD Cert.AttnUp.τ Cert.AttnUp.sig) → Buf (Elt Bits) ℓ) (g : Dev Cert.AttnUp.nD → PrngReg), Pre_AttnUp m →
    θ_run (Cert.AttnUp.defs (F := Bits)) (onTc (τ := Cert.AttnUp.τ) (Cert.AttnUp.main (F := Bits))) ⟨m, fun _ => 0, g⟩ (fun r => (∀ c : Dev Cert.AttnUp.nD,
      r.2.mem ((c.tc : Thread Cert.AttnUp.nD Cert.AttnUp.τ).loc Cert.AttnUp.main_arg0) = m ((c.tc : Thread Cert.AttnUp.nD Cert.AttnUp.τ).loc Cert.AttnUp.main_arg0)
      ∧ r.2.mem ((c.tc : Thread Cert.AttnUp.nD Cert.AttnUp.τ).loc Cert.AttnUp.main_arg1) = m ((c.tc : Thread Cert.AttnUp.nD Cert.AttnUp.τ).loc Cert.AttnUp.main_arg1)
      ∧ r.2.mem ((c.tc : Thread Cert.AttnUp.nD Cert.AttnUp.τ).loc Cert.AttnUp.main_arg2) = m ((c.tc : Thread Cert.AttnUp.nD Cert.AttnUp.τ).loc Cert.AttnUp.main_arg2))
      ∧ r.2.sem = fun _ => 0)

def quiescent_AttnUpIdeal [hAttnUpIdeal : Cert.AttnUpIdeal.Facts] : Prop :=
  ∀ (m : (ℓ : Loc Cert.AttnUpIdeal.nD Cert.AttnUpIdeal.τ Cert.AttnUpIdeal.sig) → Buf (Elt Ideal) ℓ) (g : Dev Cert.AttnUpIdeal.nD → PrngReg), Pre_AttnUpIdeal m →
    θ_run (Cert.AttnUpIdeal.defs (F := Ideal)) (onTc (τ := Cert.AttnUpIdeal.τ) (Cert.AttnUpIdeal.main (F := Ideal))) ⟨m, fun _ => 0, g⟩ (fun r => (∀ c : Dev Cert.AttnUpIdeal.nD,
      r.2.mem ((c.tc : Thread Cert.AttnUpIdeal.nD Cert.AttnUpIdeal.τ).loc Cert.AttnUpIdeal.main_arg0) = m ((c.tc : Thread Cert.AttnUpIdeal.nD Cert.AttnUpIdeal.τ).loc Cert.AttnUpIdeal.main_arg0)
      ∧ r.2.mem ((c.tc : Thread Cert.AttnUpIdeal.nD Cert.AttnUpIdeal.τ).loc Cert.AttnUpIdeal.main_arg1) = m ((c.tc : Thread Cert.AttnUpIdeal.nD Cert.AttnUpIdeal.τ).loc Cert.AttnUpIdeal.main_arg1)
      ∧ r.2.mem ((c.tc : Thread Cert.AttnUpIdeal.nD Cert.AttnUpIdeal.τ).loc Cert.AttnUpIdeal.main_arg2) = m ((c.tc : Thread Cert.AttnUpIdeal.nD Cert.AttnUpIdeal.τ).loc Cert.AttnUpIdeal.main_arg2))
      ∧ r.2.sem = fun _ => 0)

def quiescent_AttnUpRefIdeal [hAttnUpRefIdeal : Cert.AttnUpRefIdeal.Facts] : Prop :=
  ∀ (m : (ℓ : Loc Cert.AttnUpRefIdeal.nD Cert.AttnUpRefIdeal.τ Cert.AttnUpRefIdeal.sig) → Buf (Elt Ideal) ℓ) (g : Dev Cert.AttnUpRefIdeal.nD → PrngReg), Pre_AttnUpRefIdeal m →
    θ_run (Cert.AttnUpRefIdeal.defs (F := Ideal)) (onTc (τ := Cert.AttnUpRefIdeal.τ) (Cert.AttnUpRefIdeal.main (F := Ideal))) ⟨m, fun _ => 0, g⟩ (fun r => (∀ c : Dev Cert.AttnUpRefIdeal.nD,
      r.2.mem ((c.tc : Thread Cert.AttnUpRefIdeal.nD Cert.AttnUpRefIdeal.τ).loc Cert.AttnUpRefIdeal.main_arg0) = m ((c.tc : Thread Cert.AttnUpRefIdeal.nD Cert.AttnUpRefIdeal.τ).loc Cert.AttnUpRefIdeal.main_arg0)
      ∧ r.2.mem ((c.tc : Thread Cert.AttnUpRefIdeal.nD Cert.AttnUpRefIdeal.τ).loc Cert.AttnUpRefIdeal.main_arg1) = m ((c.tc : Thread Cert.AttnUpRefIdeal.nD Cert.AttnUpRefIdeal.τ).loc Cert.AttnUpRefIdeal.main_arg1)
      ∧ r.2.mem ((c.tc : Thread Cert.AttnUpRefIdeal.nD Cert.AttnUpRefIdeal.τ).loc Cert.AttnUpRefIdeal.main_arg2) = m ((c.tc : Thread Cert.AttnUpRefIdeal.nD Cert.AttnUpRefIdeal.τ).loc Cert.AttnUpRefIdeal.main_arg2))
      ∧ r.2.sem = fun _ => 0)

def quiescent_DnUp [hDnUp : Cert.DnUp.Facts] : Prop :=
  ∀ (m : (ℓ : Loc Cert.DnUp.nD Cert.DnUp.τ Cert.DnUp.sig) → Buf (Elt Bits) ℓ) (g : Dev Cert.DnUp.nD → PrngReg), Pre_DnUp m →
    θ_run (Cert.DnUp.defs (F := Bits)) (onTc (τ := Cert.DnUp.τ) (Cert.DnUp.main (F := Bits))) ⟨m, fun _ => 0, g⟩ (fun r => (∀ c : Dev Cert.DnUp.nD,
      r.2.mem ((c.tc : Thread Cert.DnUp.nD Cert.DnUp.τ).loc Cert.DnUp.main_arg0) = m ((c.tc : Thread Cert.DnUp.nD Cert.DnUp.τ).loc Cert.DnUp.main_arg0)
      ∧ r.2.mem ((c.tc : Thread Cert.DnUp.nD Cert.DnUp.τ).loc Cert.DnUp.main_arg1) = m ((c.tc : Thread Cert.DnUp.nD Cert.DnUp.τ).loc Cert.DnUp.main_arg1)
      ∧ r.2.mem ((c.tc : Thread Cert.DnUp.nD Cert.DnUp.τ).loc Cert.DnUp.main_arg2) = m ((c.tc : Thread Cert.DnUp.nD Cert.DnUp.τ).loc Cert.DnUp.main_arg2)
      ∧ r.2.mem ((c.tc : Thread Cert.DnUp.nD Cert.DnUp.τ).loc Cert.DnUp.main_arg3) = m ((c.tc : Thread Cert.DnUp.nD Cert.DnUp.τ).loc Cert.DnUp.main_arg3))
      ∧ r.2.sem = fun _ => 0)

def quiescent_DnUpIdeal [hDnUpIdeal : Cert.DnUpIdeal.Facts] : Prop :=
  ∀ (m : (ℓ : Loc Cert.DnUpIdeal.nD Cert.DnUpIdeal.τ Cert.DnUpIdeal.sig) → Buf (Elt Ideal) ℓ) (g : Dev Cert.DnUpIdeal.nD → PrngReg), Pre_DnUpIdeal m →
    θ_run (Cert.DnUpIdeal.defs (F := Ideal)) (onTc (τ := Cert.DnUpIdeal.τ) (Cert.DnUpIdeal.main (F := Ideal))) ⟨m, fun _ => 0, g⟩ (fun r => (∀ c : Dev Cert.DnUpIdeal.nD,
      r.2.mem ((c.tc : Thread Cert.DnUpIdeal.nD Cert.DnUpIdeal.τ).loc Cert.DnUpIdeal.main_arg0) = m ((c.tc : Thread Cert.DnUpIdeal.nD Cert.DnUpIdeal.τ).loc Cert.DnUpIdeal.main_arg0)
      ∧ r.2.mem ((c.tc : Thread Cert.DnUpIdeal.nD Cert.DnUpIdeal.τ).loc Cert.DnUpIdeal.main_arg1) = m ((c.tc : Thread Cert.DnUpIdeal.nD Cert.DnUpIdeal.τ).loc Cert.DnUpIdeal.main_arg1)
      ∧ r.2.mem ((c.tc : Thread Cert.DnUpIdeal.nD Cert.DnUpIdeal.τ).loc Cert.DnUpIdeal.main_arg2) = m ((c.tc : Thread Cert.DnUpIdeal.nD Cert.DnUpIdeal.τ).loc Cert.DnUpIdeal.main_arg2)
      ∧ r.2.mem ((c.tc : Thread Cert.DnUpIdeal.nD Cert.DnUpIdeal.τ).loc Cert.DnUpIdeal.main_arg3) = m ((c.tc : Thread Cert.DnUpIdeal.nD Cert.DnUpIdeal.τ).loc Cert.DnUpIdeal.main_arg3))
      ∧ r.2.sem = fun _ => 0)

def quiescent_DnUpRefIdeal [hDnUpRefIdeal : Cert.DnUpRefIdeal.Facts] : Prop :=
  ∀ (m : (ℓ : Loc Cert.DnUpRefIdeal.nD Cert.DnUpRefIdeal.τ Cert.DnUpRefIdeal.sig) → Buf (Elt Ideal) ℓ) (g : Dev Cert.DnUpRefIdeal.nD → PrngReg), Pre_DnUpRefIdeal m →
    θ_run (Cert.DnUpRefIdeal.defs (F := Ideal)) (onTc (τ := Cert.DnUpRefIdeal.τ) (Cert.DnUpRefIdeal.main (F := Ideal))) ⟨m, fun _ => 0, g⟩ (fun r => (∀ c : Dev Cert.DnUpRefIdeal.nD,
      r.2.mem ((c.tc : Thread Cert.DnUpRefIdeal.nD Cert.DnUpRefIdeal.τ).loc Cert.DnUpRefIdeal.main_arg0) = m ((c.tc : Thread Cert.DnUpRefIdeal.nD Cert.DnUpRefIdeal.τ).loc Cert.DnUpRefIdeal.main_arg0)
      ∧ r.2.mem ((c.tc : Thread Cert.DnUpRefIdeal.nD Cert.DnUpRefIdeal.τ).loc Cert.DnUpRefIdeal.main_arg1) = m ((c.tc : Thread Cert.DnUpRefIdeal.nD Cert.DnUpRefIdeal.τ).loc Cert.DnUpRefIdeal.main_arg1)
      ∧ r.2.mem ((c.tc : Thread Cert.DnUpRefIdeal.nD Cert.DnUpRefIdeal.τ).loc Cert.DnUpRefIdeal.main_arg2) = m ((c.tc : Thread Cert.DnUpRefIdeal.nD Cert.DnUpRefIdeal.τ).loc Cert.DnUpRefIdeal.main_arg2)
      ∧ r.2.mem ((c.tc : Thread Cert.DnUpRefIdeal.nD Cert.DnUpRefIdeal.τ).loc Cert.DnUpRefIdeal.main_arg3) = m ((c.tc : Thread Cert.DnUpRefIdeal.nD Cert.DnUpRefIdeal.τ).loc Cert.DnUpRefIdeal.main_arg3))
      ∧ r.2.sem = fun _ => 0)

def quiescent_G12 [hG12 : Cert.G12.Facts] : Prop :=
  ∀ (m : (ℓ : Loc Cert.G12.nD Cert.G12.τ Cert.G12.sig) → Buf (Elt Bits) ℓ) (g : Dev Cert.G12.nD → PrngReg), Pre_G12 m →
    θ_run (Cert.G12.defs (F := Bits)) (onTc (τ := Cert.G12.τ) (Cert.G12.main (F := Bits))) ⟨m, fun _ => 0, g⟩ (fun r => (∀ c : Dev Cert.G12.nD,
      r.2.mem ((c.tc : Thread Cert.G12.nD Cert.G12.τ).loc Cert.G12.main_arg0) = m ((c.tc : Thread Cert.G12.nD Cert.G12.τ).loc Cert.G12.main_arg0)
      ∧ r.2.mem ((c.tc : Thread Cert.G12.nD Cert.G12.τ).loc Cert.G12.main_arg1) = m ((c.tc : Thread Cert.G12.nD Cert.G12.τ).loc Cert.G12.main_arg1))
      ∧ r.2.sem = fun _ => 0)

def quiescent_G12Ideal [hG12Ideal : Cert.G12Ideal.Facts] : Prop :=
  ∀ (m : (ℓ : Loc Cert.G12Ideal.nD Cert.G12Ideal.τ Cert.G12Ideal.sig) → Buf (Elt Ideal) ℓ) (g : Dev Cert.G12Ideal.nD → PrngReg), Pre_G12Ideal m →
    θ_run (Cert.G12Ideal.defs (F := Ideal)) (onTc (τ := Cert.G12Ideal.τ) (Cert.G12Ideal.main (F := Ideal))) ⟨m, fun _ => 0, g⟩ (fun r => (∀ c : Dev Cert.G12Ideal.nD,
      r.2.mem ((c.tc : Thread Cert.G12Ideal.nD Cert.G12Ideal.τ).loc Cert.G12Ideal.main_arg0) = m ((c.tc : Thread Cert.G12Ideal.nD Cert.G12Ideal.τ).loc Cert.G12Ideal.main_arg0)
      ∧ r.2.mem ((c.tc : Thread Cert.G12Ideal.nD Cert.G12Ideal.τ).loc Cert.G12Ideal.main_arg1) = m ((c.tc : Thread Cert.G12Ideal.nD Cert.G12Ideal.τ).loc Cert.G12Ideal.main_arg1))
      ∧ r.2.sem = fun _ => 0)

def quiescent_G12RefIdeal [hG12RefIdeal : Cert.G12RefIdeal.Facts] : Prop :=
  ∀ (m : (ℓ : Loc Cert.G12RefIdeal.nD Cert.G12RefIdeal.τ Cert.G12RefIdeal.sig) → Buf (Elt Ideal) ℓ) (g : Dev Cert.G12RefIdeal.nD → PrngReg), Pre_G12RefIdeal m →
    θ_run (Cert.G12RefIdeal.defs (F := Ideal)) (onTc (τ := Cert.G12RefIdeal.τ) (Cert.G12RefIdeal.main (F := Ideal))) ⟨m, fun _ => 0, g⟩ (fun r => (∀ c : Dev Cert.G12RefIdeal.nD,
      r.2.mem ((c.tc : Thread Cert.G12RefIdeal.nD Cert.G12RefIdeal.τ).loc Cert.G12RefIdeal.main_arg0) = m ((c.tc : Thread Cert.G12RefIdeal.nD Cert.G12RefIdeal.τ).loc Cert.G12RefIdeal.main_arg0)
      ∧ r.2.mem ((c.tc : Thread Cert.G12RefIdeal.nD Cert.G12RefIdeal.τ).loc Cert.G12RefIdeal.main_arg1) = m ((c.tc : Thread Cert.G12RefIdeal.nD Cert.G12RefIdeal.τ).loc Cert.G12RefIdeal.main_arg1))
      ∧ r.2.sem = fun _ => 0)

def quiescent_PNorm [hPNorm : Cert.PNorm.Facts] : Prop :=
  ∀ (m : (ℓ : Loc Cert.PNorm.nD Cert.PNorm.τ Cert.PNorm.sig) → Buf (Elt Bits) ℓ) (g : Dev Cert.PNorm.nD → PrngReg), Pre_PNorm m →
    θ_run (Cert.PNorm.defs (F := Bits)) (onTc (τ := Cert.PNorm.τ) (Cert.PNorm.main (F := Bits))) ⟨m, fun _ => 0, g⟩ (fun r => (∀ c : Dev Cert.PNorm.nD,
      r.2.mem ((c.tc : Thread Cert.PNorm.nD Cert.PNorm.τ).loc Cert.PNorm.main_arg0) = m ((c.tc : Thread Cert.PNorm.nD Cert.PNorm.τ).loc Cert.PNorm.main_arg0)
      ∧ r.2.mem ((c.tc : Thread Cert.PNorm.nD Cert.PNorm.τ).loc Cert.PNorm.main_arg1) = m ((c.tc : Thread Cert.PNorm.nD Cert.PNorm.τ).loc Cert.PNorm.main_arg1)
      ∧ r.2.mem ((c.tc : Thread Cert.PNorm.nD Cert.PNorm.τ).loc Cert.PNorm.main_arg2) = m ((c.tc : Thread Cert.PNorm.nD Cert.PNorm.τ).loc Cert.PNorm.main_arg2))
      ∧ r.2.sem = fun _ => 0)

def quiescent_PNormIdeal [hPNormIdeal : Cert.PNormIdeal.Facts] : Prop :=
  ∀ (m : (ℓ : Loc Cert.PNormIdeal.nD Cert.PNormIdeal.τ Cert.PNormIdeal.sig) → Buf (Elt Ideal) ℓ) (g : Dev Cert.PNormIdeal.nD → PrngReg), Pre_PNormIdeal m →
    θ_run (Cert.PNormIdeal.defs (F := Ideal)) (onTc (τ := Cert.PNormIdeal.τ) (Cert.PNormIdeal.main (F := Ideal))) ⟨m, fun _ => 0, g⟩ (fun r => (∀ c : Dev Cert.PNormIdeal.nD,
      r.2.mem ((c.tc : Thread Cert.PNormIdeal.nD Cert.PNormIdeal.τ).loc Cert.PNormIdeal.main_arg0) = m ((c.tc : Thread Cert.PNormIdeal.nD Cert.PNormIdeal.τ).loc Cert.PNormIdeal.main_arg0)
      ∧ r.2.mem ((c.tc : Thread Cert.PNormIdeal.nD Cert.PNormIdeal.τ).loc Cert.PNormIdeal.main_arg1) = m ((c.tc : Thread Cert.PNormIdeal.nD Cert.PNormIdeal.τ).loc Cert.PNormIdeal.main_arg1)
      ∧ r.2.mem ((c.tc : Thread Cert.PNormIdeal.nD Cert.PNormIdeal.τ).loc Cert.PNormIdeal.main_arg2) = m ((c.tc : Thread Cert.PNormIdeal.nD Cert.PNormIdeal.τ).loc Cert.PNormIdeal.main_arg2))
      ∧ r.2.sem = fun _ => 0)

def quiescent_PNormRefIdeal [hPNormRefIdeal : Cert.PNormRefIdeal.Facts] : Prop :=
  ∀ (m : (ℓ : Loc Cert.PNormRefIdeal.nD Cert.PNormRefIdeal.τ Cert.PNormRefIdeal.sig) → Buf (Elt Ideal) ℓ) (g : Dev Cert.PNormRefIdeal.nD → PrngReg), Pre_PNormRefIdeal m →
    θ_run (Cert.PNormRefIdeal.defs (F := Ideal)) (onTc (τ := Cert.PNormRefIdeal.τ) (Cert.PNormRefIdeal.main (F := Ideal))) ⟨m, fun _ => 0, g⟩ (fun r => (∀ c : Dev Cert.PNormRefIdeal.nD,
      r.2.mem ((c.tc : Thread Cert.PNormRefIdeal.nD Cert.PNormRefIdeal.τ).loc Cert.PNormRefIdeal.main_arg0) = m ((c.tc : Thread Cert.PNormRefIdeal.nD Cert.PNormRefIdeal.τ).loc Cert.PNormRefIdeal.main_arg0)
      ∧ r.2.mem ((c.tc : Thread Cert.PNormRefIdeal.nD Cert.PNormRefIdeal.τ).loc Cert.PNormRefIdeal.main_arg1) = m ((c.tc : Thread Cert.PNormRefIdeal.nD Cert.PNormRefIdeal.τ).loc Cert.PNormRefIdeal.main_arg1)
      ∧ r.2.mem ((c.tc : Thread Cert.PNormRefIdeal.nD Cert.PNormRefIdeal.τ).loc Cert.PNormRefIdeal.main_arg2) = m ((c.tc : Thread Cert.PNormRefIdeal.nD Cert.PNormRefIdeal.τ).loc Cert.PNormRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v24) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v10) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3))

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v1_0)) (v1 : (c : Dev Cert.AttnIdeal.nD) → Buf (Elt Ideal) ((c.tc : Thread Cert.AttnIdeal.nD Cert.AttnIdeal.τ).loc Cert.AttnIdeal.main_v1_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = v0 c
          ∧ r.2.mem ((c.tc : Thread Cert.AttnIdeal.nD Cert.AttnIdeal.τ).loc Cert.AttnIdeal.main_v1_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_v43) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_AttnUp_AttnUpIdeal : Prop :=
  True

def algebraic_AttnUpIdeal_AttnUpRefIdeal [hAttnUpIdeal : Cert.AttnUpIdeal.Facts] [hAttnUpRefIdeal : Cert.AttnUpRefIdeal.Facts] : Prop :=
  ∀ (m : (ℓ : Loc Cert.AttnUpIdeal.nD Cert.AttnUpIdeal.τ Cert.AttnUpIdeal.sig) → Buf (Elt Ideal) ℓ) (g : Dev Cert.AttnUpIdeal.nD → PrngReg)
    (m' : (ℓ : Loc Cert.AttnUpRefIdeal.nD Cert.AttnUpRefIdeal.τ Cert.AttnUpRefIdeal.sig) → Buf (Elt Ideal) ℓ) (g' : Dev Cert.AttnUpRefIdeal.nD → PrngReg), Pre_AttnUpIdeal m →
    (∀ c : Dev Cert.AttnUpIdeal.nD,
      m' ((c.tc : Thread Cert.AttnUpRefIdeal.nD Cert.AttnUpRefIdeal.τ).loc Cert.AttnUpRefIdeal.main_arg0) = m ((c.tc : Thread Cert.AttnUpIdeal.nD Cert.AttnUpIdeal.τ).loc Cert.AttnUpIdeal.main_arg0)
      ∧ m' ((c.tc : Thread Cert.AttnUpRefIdeal.nD Cert.AttnUpRefIdeal.τ).loc Cert.AttnUpRefIdeal.main_arg1) = m ((c.tc : Thread Cert.AttnUpIdeal.nD Cert.AttnUpIdeal.τ).loc Cert.AttnUpIdeal.main_arg1)
      ∧ m' ((c.tc : Thread Cert.AttnUpRefIdeal.nD Cert.AttnUpRefIdeal.τ).loc Cert.AttnUpRefIdeal.main_arg2) = m ((c.tc : Thread Cert.AttnUpIdeal.nD Cert.AttnUpIdeal.τ).loc Cert.AttnUpIdeal.main_arg2)) →
    ∃ (v0 : (c : Dev Cert.AttnUpIdeal.nD) → Buf (Elt Ideal) ((c.tc : Thread Cert.AttnUpIdeal.nD Cert.AttnUpIdeal.τ).loc Cert.AttnUpIdeal.main_v0)),
      θ_run (Cert.AttnUpIdeal.defs (F := Ideal)) (onTc (τ := Cert.AttnUpIdeal.τ) (Cert.AttnUpIdeal.main (F := Ideal))) ⟨m, fun _ => 0, g⟩ (fun r => ∀ c : Dev Cert.AttnUpIdeal.nD,
          r.2.mem ((c.tc : Thread Cert.AttnUpIdeal.nD Cert.AttnUpIdeal.τ).loc Cert.AttnUpIdeal.main_v0) = v0 c
          ∧ r.2.mem ((c.tc : Thread Cert.AttnUpIdeal.nD Cert.AttnUpIdeal.τ).loc Cert.AttnUpIdeal.main_arg0) = m ((c.tc : Thread Cert.AttnUpIdeal.nD Cert.AttnUpIdeal.τ).loc Cert.AttnUpIdeal.main_arg0)
          ∧ r.2.mem ((c.tc : Thread Cert.AttnUpIdeal.nD Cert.AttnUpIdeal.τ).loc Cert.AttnUpIdeal.main_arg1) = m ((c.tc : Thread Cert.AttnUpIdeal.nD Cert.AttnUpIdeal.τ).loc Cert.AttnUpIdeal.main_arg1)
          ∧ r.2.mem ((c.tc : Thread Cert.AttnUpIdeal.nD Cert.AttnUpIdeal.τ).loc Cert.AttnUpIdeal.main_arg2) = m ((c.tc : Thread Cert.AttnUpIdeal.nD Cert.AttnUpIdeal.τ).loc Cert.AttnUpIdeal.main_arg2))
      ∧ θ_run (Cert.AttnUpRefIdeal.defs (F := Ideal)) (onTc (τ := Cert.AttnUpRefIdeal.τ) (Cert.AttnUpRefIdeal.main (F := Ideal))) ⟨m', fun _ => 0, g'⟩ (fun r => ∀ c : Dev Cert.AttnUpRefIdeal.nD,
          r.2.mem ((c.tc : Thread Cert.AttnUpRefIdeal.nD Cert.AttnUpRefIdeal.τ).loc Cert.AttnUpRefIdeal.main_v5) = v0 c
          ∧ r.2.mem ((c.tc : Thread Cert.AttnUpRefIdeal.nD Cert.AttnUpRefIdeal.τ).loc Cert.AttnUpRefIdeal.main_arg0) = m' ((c.tc : Thread Cert.AttnUpRefIdeal.nD Cert.AttnUpRefIdeal.τ).loc Cert.AttnUpRefIdeal.main_arg0)
          ∧ r.2.mem ((c.tc : Thread Cert.AttnUpRefIdeal.nD Cert.AttnUpRefIdeal.τ).loc Cert.AttnUpRefIdeal.main_arg1) = m' ((c.tc : Thread Cert.AttnUpRefIdeal.nD Cert.AttnUpRefIdeal.τ).loc Cert.AttnUpRefIdeal.main_arg1)
          ∧ r.2.mem ((c.tc : Thread Cert.AttnUpRefIdeal.nD Cert.AttnUpRefIdeal.τ).loc Cert.AttnUpRefIdeal.main_arg2) = m' ((c.tc : Thread Cert.AttnUpRefIdeal.nD Cert.AttnUpRefIdeal.τ).loc Cert.AttnUpRefIdeal.main_arg2))

def preserves_DnUp_DnUpIdeal : Prop :=
  True

def algebraic_DnUpIdeal_DnUpRefIdeal [hDnUpIdeal : Cert.DnUpIdeal.Facts] [hDnUpRefIdeal : Cert.DnUpRefIdeal.Facts] : Prop :=
  ∀ (m : (ℓ : Loc Cert.DnUpIdeal.nD Cert.DnUpIdeal.τ Cert.DnUpIdeal.sig) → Buf (Elt Ideal) ℓ) (g : Dev Cert.DnUpIdeal.nD → PrngReg)
    (m' : (ℓ : Loc Cert.DnUpRefIdeal.nD Cert.DnUpRefIdeal.τ Cert.DnUpRefIdeal.sig) → Buf (Elt Ideal) ℓ) (g' : Dev Cert.DnUpRefIdeal.nD → PrngReg), Pre_DnUpIdeal m →
    (∀ c : Dev Cert.DnUpIdeal.nD,
      m' ((c.tc : Thread Cert.DnUpRefIdeal.nD Cert.DnUpRefIdeal.τ).loc Cert.DnUpRefIdeal.main_arg0) = m ((c.tc : Thread Cert.DnUpIdeal.nD Cert.DnUpIdeal.τ).loc Cert.DnUpIdeal.main_arg0)
      ∧ m' ((c.tc : Thread Cert.DnUpRefIdeal.nD Cert.DnUpRefIdeal.τ).loc Cert.DnUpRefIdeal.main_arg1) = m ((c.tc : Thread Cert.DnUpIdeal.nD Cert.DnUpIdeal.τ).loc Cert.DnUpIdeal.main_arg1)
      ∧ m' ((c.tc : Thread Cert.DnUpRefIdeal.nD Cert.DnUpRefIdeal.τ).loc Cert.DnUpRefIdeal.main_arg2) = m ((c.tc : Thread Cert.DnUpIdeal.nD Cert.DnUpIdeal.τ).loc Cert.DnUpIdeal.main_arg2)
      ∧ m' ((c.tc : Thread Cert.DnUpRefIdeal.nD Cert.DnUpRefIdeal.τ).loc Cert.DnUpRefIdeal.main_arg3) = m ((c.tc : Thread Cert.DnUpIdeal.nD Cert.DnUpIdeal.τ).loc Cert.DnUpIdeal.main_arg3)) →
    ∃ (v0 : (c : Dev Cert.DnUpIdeal.nD) → Buf (Elt Ideal) ((c.tc : Thread Cert.DnUpIdeal.nD Cert.DnUpIdeal.τ).loc Cert.DnUpIdeal.main_v0)),
      θ_run (Cert.DnUpIdeal.defs (F := Ideal)) (onTc (τ := Cert.DnUpIdeal.τ) (Cert.DnUpIdeal.main (F := Ideal))) ⟨m, fun _ => 0, g⟩ (fun r => ∀ c : Dev Cert.DnUpIdeal.nD,
          r.2.mem ((c.tc : Thread Cert.DnUpIdeal.nD Cert.DnUpIdeal.τ).loc Cert.DnUpIdeal.main_v0) = v0 c
          ∧ r.2.mem ((c.tc : Thread Cert.DnUpIdeal.nD Cert.DnUpIdeal.τ).loc Cert.DnUpIdeal.main_arg0) = m ((c.tc : Thread Cert.DnUpIdeal.nD Cert.DnUpIdeal.τ).loc Cert.DnUpIdeal.main_arg0)
          ∧ r.2.mem ((c.tc : Thread Cert.DnUpIdeal.nD Cert.DnUpIdeal.τ).loc Cert.DnUpIdeal.main_arg1) = m ((c.tc : Thread Cert.DnUpIdeal.nD Cert.DnUpIdeal.τ).loc Cert.DnUpIdeal.main_arg1)
          ∧ r.2.mem ((c.tc : Thread Cert.DnUpIdeal.nD Cert.DnUpIdeal.τ).loc Cert.DnUpIdeal.main_arg2) = m ((c.tc : Thread Cert.DnUpIdeal.nD Cert.DnUpIdeal.τ).loc Cert.DnUpIdeal.main_arg2)
          ∧ r.2.mem ((c.tc : Thread Cert.DnUpIdeal.nD Cert.DnUpIdeal.τ).loc Cert.DnUpIdeal.main_arg3) = m ((c.tc : Thread Cert.DnUpIdeal.nD Cert.DnUpIdeal.τ).loc Cert.DnUpIdeal.main_arg3))
      ∧ θ_run (Cert.DnUpRefIdeal.defs (F := Ideal)) (onTc (τ := Cert.DnUpRefIdeal.τ) (Cert.DnUpRefIdeal.main (F := Ideal))) ⟨m', fun _ => 0, g'⟩ (fun r => ∀ c : Dev Cert.DnUpRefIdeal.nD,
          r.2.mem ((c.tc : Thread Cert.DnUpRefIdeal.nD Cert.DnUpRefIdeal.τ).loc Cert.DnUpRefIdeal.main_v7) = v0 c
          ∧ r.2.mem ((c.tc : Thread Cert.DnUpRefIdeal.nD Cert.DnUpRefIdeal.τ).loc Cert.DnUpRefIdeal.main_arg0) = m' ((c.tc : Thread Cert.DnUpRefIdeal.nD Cert.DnUpRefIdeal.τ).loc Cert.DnUpRefIdeal.main_arg0)
          ∧ r.2.mem ((c.tc : Thread Cert.DnUpRefIdeal.nD Cert.DnUpRefIdeal.τ).loc Cert.DnUpRefIdeal.main_arg1) = m' ((c.tc : Thread Cert.DnUpRefIdeal.nD Cert.DnUpRefIdeal.τ).loc Cert.DnUpRefIdeal.main_arg1)
          ∧ r.2.mem ((c.tc : Thread Cert.DnUpRefIdeal.nD Cert.DnUpRefIdeal.τ).loc Cert.DnUpRefIdeal.main_arg2) = m' ((c.tc : Thread Cert.DnUpRefIdeal.nD Cert.DnUpRefIdeal.τ).loc Cert.DnUpRefIdeal.main_arg2)
          ∧ r.2.mem ((c.tc : Thread Cert.DnUpRefIdeal.nD Cert.DnUpRefIdeal.τ).loc Cert.DnUpRefIdeal.main_arg3) = m' ((c.tc : Thread Cert.DnUpRefIdeal.nD Cert.DnUpRefIdeal.τ).loc Cert.DnUpRefIdeal.main_arg3))

def preserves_G12_G12Ideal : Prop :=
  True

def algebraic_G12Ideal_G12RefIdeal [hG12Ideal : Cert.G12Ideal.Facts] [hG12RefIdeal : Cert.G12RefIdeal.Facts] : Prop :=
  ∀ (m : (ℓ : Loc Cert.G12Ideal.nD Cert.G12Ideal.τ Cert.G12Ideal.sig) → Buf (Elt Ideal) ℓ) (g : Dev Cert.G12Ideal.nD → PrngReg)
    (m' : (ℓ : Loc Cert.G12RefIdeal.nD Cert.G12RefIdeal.τ Cert.G12RefIdeal.sig) → Buf (Elt Ideal) ℓ) (g' : Dev Cert.G12RefIdeal.nD → PrngReg), Pre_G12Ideal m →
    (∀ c : Dev Cert.G12Ideal.nD,
      m' ((c.tc : Thread Cert.G12RefIdeal.nD Cert.G12RefIdeal.τ).loc Cert.G12RefIdeal.main_arg0) = m ((c.tc : Thread Cert.G12Ideal.nD Cert.G12Ideal.τ).loc Cert.G12Ideal.main_arg0)
      ∧ m' ((c.tc : Thread Cert.G12RefIdeal.nD Cert.G12RefIdeal.τ).loc Cert.G12RefIdeal.main_arg1) = m ((c.tc : Thread Cert.G12Ideal.nD Cert.G12Ideal.τ).loc Cert.G12Ideal.main_arg1)) →
    ∃ (v0 : (c : Dev Cert.G12Ideal.nD) → Buf (Elt Ideal) ((c.tc : Thread Cert.G12Ideal.nD Cert.G12Ideal.τ).loc Cert.G12Ideal.main_v1)),
      θ_run (Cert.G12Ideal.defs (F := Ideal)) (onTc (τ := Cert.G12Ideal.τ) (Cert.G12Ideal.main (F := Ideal))) ⟨m, fun _ => 0, g⟩ (fun r => ∀ c : Dev Cert.G12Ideal.nD,
          r.2.mem ((c.tc : Thread Cert.G12Ideal.nD Cert.G12Ideal.τ).loc Cert.G12Ideal.main_v1) = v0 c
          ∧ r.2.mem ((c.tc : Thread Cert.G12Ideal.nD Cert.G12Ideal.τ).loc Cert.G12Ideal.main_arg0) = m ((c.tc : Thread Cert.G12Ideal.nD Cert.G12Ideal.τ).loc Cert.G12Ideal.main_arg0)
          ∧ r.2.mem ((c.tc : Thread Cert.G12Ideal.nD Cert.G12Ideal.τ).loc Cert.G12Ideal.main_arg1) = m ((c.tc : Thread Cert.G12Ideal.nD Cert.G12Ideal.τ).loc Cert.G12Ideal.main_arg1))
      ∧ θ_run (Cert.G12RefIdeal.defs (F := Ideal)) (onTc (τ := Cert.G12RefIdeal.τ) (Cert.G12RefIdeal.main (F := Ideal))) ⟨m', fun _ => 0, g'⟩ (fun r => ∀ c : Dev Cert.G12RefIdeal.nD,
          r.2.mem ((c.tc : Thread Cert.G12RefIdeal.nD Cert.G12RefIdeal.τ).loc Cert.G12RefIdeal.main_v17) = v0 c
          ∧ r.2.mem ((c.tc : Thread Cert.G12RefIdeal.nD Cert.G12RefIdeal.τ).loc Cert.G12RefIdeal.main_arg0) = m' ((c.tc : Thread Cert.G12RefIdeal.nD Cert.G12RefIdeal.τ).loc Cert.G12RefIdeal.main_arg0)
          ∧ r.2.mem ((c.tc : Thread Cert.G12RefIdeal.nD Cert.G12RefIdeal.τ).loc Cert.G12RefIdeal.main_arg1) = m' ((c.tc : Thread Cert.G12RefIdeal.nD Cert.G12RefIdeal.τ).loc Cert.G12RefIdeal.main_arg1))

def preserves_PNorm_PNormIdeal : Prop :=
  True

def algebraic_PNormIdeal_PNormRefIdeal [hPNormIdeal : Cert.PNormIdeal.Facts] [hPNormRefIdeal : Cert.PNormRefIdeal.Facts] : Prop :=
  ∀ (m : (ℓ : Loc Cert.PNormIdeal.nD Cert.PNormIdeal.τ Cert.PNormIdeal.sig) → Buf (Elt Ideal) ℓ) (g : Dev Cert.PNormIdeal.nD → PrngReg)
    (m' : (ℓ : Loc Cert.PNormRefIdeal.nD Cert.PNormRefIdeal.τ Cert.PNormRefIdeal.sig) → Buf (Elt Ideal) ℓ) (g' : Dev Cert.PNormRefIdeal.nD → PrngReg), Pre_PNormIdeal m →
    (∀ c : Dev Cert.PNormIdeal.nD,
      m' ((c.tc : Thread Cert.PNormRefIdeal.nD Cert.PNormRefIdeal.τ).loc Cert.PNormRefIdeal.main_arg0) = m ((c.tc : Thread Cert.PNormIdeal.nD Cert.PNormIdeal.τ).loc Cert.PNormIdeal.main_arg0)
      ∧ m' ((c.tc : Thread Cert.PNormRefIdeal.nD Cert.PNormRefIdeal.τ).loc Cert.PNormRefIdeal.main_arg1) = m ((c.tc : Thread Cert.PNormIdeal.nD Cert.PNormIdeal.τ).loc Cert.PNormIdeal.main_arg1)
      ∧ m' ((c.tc : Thread Cert.PNormRefIdeal.nD Cert.PNormRefIdeal.τ).loc Cert.PNormRefIdeal.main_arg2) = m ((c.tc : Thread Cert.PNormIdeal.nD Cert.PNormIdeal.τ).loc Cert.PNormIdeal.main_arg2)) →
    ∃ (v0 : (c : Dev Cert.PNormIdeal.nD) → Buf (Elt Ideal) ((c.tc : Thread Cert.PNormIdeal.nD Cert.PNormIdeal.τ).loc Cert.PNormIdeal.main_v1)),
      θ_run (Cert.PNormIdeal.defs (F := Ideal)) (onTc (τ := Cert.PNormIdeal.τ) (Cert.PNormIdeal.main (F := Ideal))) ⟨m, fun _ => 0, g⟩ (fun r => ∀ c : Dev Cert.PNormIdeal.nD,
          r.2.mem ((c.tc : Thread Cert.PNormIdeal.nD Cert.PNormIdeal.τ).loc Cert.PNormIdeal.main_v1) = v0 c
          ∧ r.2.mem ((c.tc : Thread Cert.PNormIdeal.nD Cert.PNormIdeal.τ).loc Cert.PNormIdeal.main_arg0) = m ((c.tc : Thread Cert.PNormIdeal.nD Cert.PNormIdeal.τ).loc Cert.PNormIdeal.main_arg0)
          ∧ r.2.mem ((c.tc : Thread Cert.PNormIdeal.nD Cert.PNormIdeal.τ).loc Cert.PNormIdeal.main_arg1) = m ((c.tc : Thread Cert.PNormIdeal.nD Cert.PNormIdeal.τ).loc Cert.PNormIdeal.main_arg1)
          ∧ r.2.mem ((c.tc : Thread Cert.PNormIdeal.nD Cert.PNormIdeal.τ).loc Cert.PNormIdeal.main_arg2) = m ((c.tc : Thread Cert.PNormIdeal.nD Cert.PNormIdeal.τ).loc Cert.PNormIdeal.main_arg2))
      ∧ θ_run (Cert.PNormRefIdeal.defs (F := Ideal)) (onTc (τ := Cert.PNormRefIdeal.τ) (Cert.PNormRefIdeal.main (F := Ideal))) ⟨m', fun _ => 0, g'⟩ (fun r => ∀ c : Dev Cert.PNormRefIdeal.nD,
          r.2.mem ((c.tc : Thread Cert.PNormRefIdeal.nD Cert.PNormRefIdeal.τ).loc Cert.PNormRefIdeal.main_v14) = v0 c
          ∧ r.2.mem ((c.tc : Thread Cert.PNormRefIdeal.nD Cert.PNormRefIdeal.τ).loc Cert.PNormRefIdeal.main_arg0) = m' ((c.tc : Thread Cert.PNormRefIdeal.nD Cert.PNormRefIdeal.τ).loc Cert.PNormRefIdeal.main_arg0)
          ∧ r.2.mem ((c.tc : Thread Cert.PNormRefIdeal.nD Cert.PNormRefIdeal.τ).loc Cert.PNormRefIdeal.main_arg1) = m' ((c.tc : Thread Cert.PNormRefIdeal.nD Cert.PNormRefIdeal.τ).loc Cert.PNormRefIdeal.main_arg1)
          ∧ r.2.mem ((c.tc : Thread Cert.PNormRefIdeal.nD Cert.PNormRefIdeal.τ).loc Cert.PNormRefIdeal.main_arg2) = m' ((c.tc : Thread Cert.PNormRefIdeal.nD Cert.PNormRefIdeal.τ).loc Cert.PNormRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v29) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hUp : Cert.Up.Facts) (hUpIdeal : Cert.UpIdeal.Facts) (hUpRefIdeal : Cert.UpRefIdeal.Facts) (hGates : Cert.Gates.Facts) (hGatesIdeal : Cert.GatesIdeal.Facts) (hGatesRefIdeal : Cert.GatesRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hAttn : Cert.Attn.Facts) (hAttnIdeal : Cert.AttnIdeal.Facts) (hAttnRefIdeal : Cert.AttnRefIdeal.Facts) (hAttnUp : Cert.AttnUp.Facts) (hAttnUpIdeal : Cert.AttnUpIdeal.Facts) (hAttnUpRefIdeal : Cert.AttnUpRefIdeal.Facts) (hDnUp : Cert.DnUp.Facts) (hDnUpIdeal : Cert.DnUpIdeal.Facts) (hDnUpRefIdeal : Cert.DnUpRefIdeal.Facts) (hG12 : Cert.G12.Facts) (hG12Ideal : Cert.G12Ideal.Facts) (hG12RefIdeal : Cert.G12RefIdeal.Facts) (hPNorm : Cert.PNorm.Facts) (hPNormIdeal : Cert.PNormIdeal.Facts) (hPNormRefIdeal : Cert.PNormRefIdeal.Facts) (hMix : Cert.Mix.Facts) (hMixIdeal : Cert.MixIdeal.Facts) (hMixRefIdeal : Cert.MixRefIdeal.Facts) (hPre_finite_qk : Cert.Pre_finite_qk.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormRefIdeal (hNormRefIdeal := hNormRefIdeal)
    ∧ quiescent_Up (hUp := hUp)
    ∧ quiescent_UpIdeal (hUpIdeal := hUpIdeal)
    ∧ quiescent_UpRefIdeal (hUpRefIdeal := hUpRefIdeal)
    ∧ quiescent_Gates (hGates := hGates)
    ∧ quiescent_GatesIdeal (hGatesIdeal := hGatesIdeal)
    ∧ quiescent_GatesRefIdeal (hGatesRefIdeal := hGatesRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_AttnUp (hAttnUp := hAttnUp)
    ∧ quiescent_AttnUpIdeal (hAttnUpIdeal := hAttnUpIdeal)
    ∧ quiescent_AttnUpRefIdeal (hAttnUpRefIdeal := hAttnUpRefIdeal)
    ∧ quiescent_DnUp (hDnUp := hDnUp)
    ∧ quiescent_DnUpIdeal (hDnUpIdeal := hDnUpIdeal)
    ∧ quiescent_DnUpRefIdeal (hDnUpRefIdeal := hDnUpRefIdeal)
    ∧ quiescent_G12 (hG12 := hG12)
    ∧ quiescent_G12Ideal (hG12Ideal := hG12Ideal)
    ∧ quiescent_G12RefIdeal (hG12RefIdeal := hG12RefIdeal)
    ∧ quiescent_PNorm (hPNorm := hPNorm)
    ∧ quiescent_PNormIdeal (hPNormIdeal := hPNormIdeal)
    ∧ quiescent_PNormRefIdeal (hPNormRefIdeal := hPNormRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormRefIdeal (hNormIdeal := hNormIdeal) (hNormRefIdeal := hNormRefIdeal)
    ∧ preserves_Up_UpIdeal
    ∧ algebraic_UpIdeal_UpRefIdeal (hUpIdeal := hUpIdeal) (hUpRefIdeal := hUpRefIdeal)
    ∧ preserves_Gates_GatesIdeal
    ∧ algebraic_GatesIdeal_GatesRefIdeal (hGatesIdeal := hGatesIdeal) (hGatesRefIdeal := hGatesRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_AttnUp_AttnUpIdeal
    ∧ algebraic_AttnUpIdeal_AttnUpRefIdeal (hAttnUpIdeal := hAttnUpIdeal) (hAttnUpRefIdeal := hAttnUpRefIdeal)
    ∧ preserves_DnUp_DnUpIdeal
    ∧ algebraic_DnUpIdeal_DnUpRefIdeal (hDnUpIdeal := hDnUpIdeal) (hDnUpRefIdeal := hDnUpRefIdeal)
    ∧ preserves_G12_G12Ideal
    ∧ algebraic_G12Ideal_G12RefIdeal (hG12Ideal := hG12Ideal) (hG12RefIdeal := hG12RefIdeal)
    ∧ preserves_PNorm_PNormIdeal
    ∧ algebraic_PNormIdeal_PNormRefIdeal (hPNormIdeal := hPNormIdeal) (hPNormRefIdeal := hPNormRefIdeal)
    ∧ preserves_Mix_MixIdeal
    ∧ algebraic_MixIdeal_MixRefIdeal (hMixIdeal := hMixIdeal) (hMixRefIdeal := hMixRefIdeal)
-- ==== Pre_finite_qk.lean ====
abbrev S8192x5120 : Shape := ⟨2, ![8192, 5120]⟩
abbrev S8192x2048 : Shape := ⟨2, ![8192, 2048]⟩
abbrev S_ : Shape := ⟨0, ![]⟩

class Facts : Prop where
  slices_S8192x5120_S8192x2048_0_2048 : S8192x5120.Slices ![0, 2048] S8192x2048
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x5120 .bf16) : IVec S8192x2048 1 :=
  let main_v0 : FVec F S8192x2048 .bf16 := (extractStridedSlice S8192x2048 ![0, 2048] · slices_S8192x5120_S8192x2048_0_2048) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  main_v4
-- ==== Kernel.lean ====
abbrev S8192x4096 : Shape := ⟨2, ![8192, 4096]⟩
abbrev S4096x25632 : Shape := ⟨2, ![4096, 25632]⟩
abbrev S25632x4096 : Shape := ⟨2, ![25632, 4096]⟩
abbrev S8192x5120 : Shape := ⟨2, ![8192, 5120]⟩
abbrev S1024x4096 : Shape := ⟨2, ![1024, 4096]⟩
abbrev S128x4096 : Shape := ⟨2, ![128, 4096]⟩
abbrev S1024x1024 : Shape := ⟨2, ![1024, 1024]⟩
abbrev S8x128 : Shape := ⟨2, ![8, 128]⟩
abbrev S256x4096 : Shape := ⟨2, ![256, 4096]⟩
abbrev S256x256 : Shape := ⟨2, ![256, 256]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x25632, .f32⟩
  | .hbm, ⟨2, _⟩ => ⟨S25632x4096, .f32⟩
  | .hbm, ⟨3, _⟩ => ⟨S8192x5120, .bf16⟩
  | .local _ .vmem, ⟨0, _⟩ => ⟨S1024x4096, .bf16⟩
  | .local _ .vmem, ⟨1, _⟩ => ⟨S1024x4096, .bf16⟩
  | .local _ .vmem, ⟨2, _⟩ => ⟨S128x4096, .f32⟩
  | .local _ .vmem, ⟨3, _⟩ => ⟨S128x4096, .f32⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | .local _ .vmem, ⟨7, _⟩ => ⟨S1024x4096, .bf16⟩
  | .local _ .vmem, ⟨8, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let arg0 : BitVec 32 := BitVec.ofNat 32 (i 0).val
  let c4_i32 : BitVec 32 := 4#32
  let v0 : BitVec 32 := Scalar.minsi arg0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1_i32 : BitVec 32 := 1#32
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let v1 : BitVec 32 := Scalar.divsi v0 c1_i32
  let c1_i32_4 : BitVec 32 := 1#32
  let v16 : BitVec 32 := Scalar.subi v1 c1_i32_4
  let v17 : BitVec 32 := Scalar.select v15 v16 v1
  let c2_i32 : BitVec 32 := 2#32
  let v30 : BitVec 1 := Scalar.cmpi .slt v17 c2_i32
  let c15360_i32 : BitVec 32 := 15360#32
  let c1024_i32 : BitVec 32 := 1024#32
  let v31 : BitVec 32 := Scalar.muli v17 c1024_i32
  let v32 : BitVec 32 := Scalar.addi c15360_i32 v31
  let c2_i32_11 : BitVec 32 := 2#32
  let v33 : BitVec 32 := Scalar.subi v17 c2_i32_11
  let c3072_i32 : BitVec 32 := 3072#32
  let v34 : BitVec 32 := Scalar.muli v33 c3072_i32
  let v35 : BitVec 32 := Scalar.select v30 v32 v34
  let c5_i32 : BitVec 32 := 5#32
  let v28 : BitVec 1 := Scalar.cmpi .eq arg0 c5_i32
  let c7_i32 : BitVec 32 := 7#32
  let arg1 : BitVec 32 := BitVec.ofNat 32 (i 1).val
  let v29 : BitVec 32 := Scalar.select v28 c7_i32 arg1
  let c128_i32 : BitVec 32 := 128#32
  let v36 : BitVec 32 := Scalar.muli v29 c128_i32
  let v37 : BitVec 32 := Scalar.addi v35 v36
  v37
def k0_mult2 (i : grid0.Coords) : BitVec 32 :=
  let arg0 : BitVec 32 := BitVec.ofNat 32 (i 0).val
  let c4_i32 : BitVec 32 := 4#32
  let v0 : BitVec 32 := Scalar.minsi arg0 c4_i32
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let c4096_i32 : BitVec 32 := 4096#32
  let v39 : BitVec 32 := Scalar.muli v27 c4096_i32
  v39
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult3 (i : grid0.Coords) : BitVec 32 :=
  let arg1 : BitVec 32 := BitVec.ofNat 32 (i 1).val
  let c128_i32 : BitVec 32 := 128#32
  let v33 : BitVec 32 := Scalar.muli arg1 c128_i32
  v33
def k0_off1 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult4 (i : grid0.Coords) : BitVec 32 :=
  let arg1 : BitVec 32 := BitVec.ofNat 32 (i 1).val
  let c128_i32 : BitVec 32 := 128#32
  let v33 : BitVec 32 := Scalar.muli arg1 c128_i32
  v33
def k0_off2 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult5 (i : grid0.Coords) : BitVec 32 :=
  let arg1 : BitVec 32 := BitVec.ofNat 32 (i 1).val
  let c128_i32 : BitVec 32 := 128#32
  let v33 : BitVec 32 := Scalar.muli arg1 c128_i32
  v33
def k0_off3 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c5_i32 : BitVec 32 := 5#32
  let v28 : BitVec 1 := Scalar.cmpi .eq arg0 c5_i32
  let c7_i32 : BitVec 32 := 7#32
  let v29 : BitVec 32 := Scalar.select v28 c7_i32 arg1
  let c2_i32 : BitVec 32 := 2#32
  let v30 : BitVec 1 := Scalar.cmpi .slt v17 c2_i32
  let c1024_i32 : BitVec 32 := 1024#32
  let v31 : BitVec 32 := Scalar.muli v17 c1024_i32
  let c15360_i32 : BitVec 32 := 15360#32
  let v32 : BitVec 32 := Scalar.addi c15360_i32 v31
  let c2_i32_11 : BitVec 32 := 2#32
  let v33 : BitVec 32 := Scalar.subi v17 c2_i32_11
  let c3072_i32 : BitVec 32 := 3072#32
  let v34 : BitVec 32 := Scalar.muli v33 c3072_i32
  let v35 : BitVec 32 := Scalar.select v30 v32 v34
  let c128_i32 : BitVec 32 := 128#32
  let v36 : BitVec 32 := Scalar.muli v29 c128_i32
  let v37 : BitVec 32 := Scalar.addi v35 v36
  let v38 : BitVec 32 := v37
  let c4096_i32 : BitVec 32 := 4096#32
  let v39 : BitVec 32 := Scalar.muli v27 c4096_i32
  let v40 : BitVec 32 := v39
  let c0_i32_12 : BitVec 32 := 0#32
  ![v38.toNat, v40.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v32.toNat, v51.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x4096 : Shape := ⟨2, ![8192, 4096]⟩
abbrev S4096x25632 : Shape := ⟨2, ![4096, 25632]⟩
abbrev S8192x25632 : Shape := ⟨2, ![8192, 25632]⟩
abbrev S8192x3072 : Shape := ⟨2, ![8192, 3072]⟩
abbrev S8192x6144 : Shape := ⟨2, ![8192, 6144]⟩
abbrev S8192x2048 : Shape := ⟨2, ![8192, 2048]⟩
abbrev S8192x16 : Shape := ⟨2, ![8192, 16]⟩
abbrev S8192x1024 : Shape := ⟨2, ![8192, 1024]⟩
abbrev S8192x5120 : Shape := ⟨2, ![8192, 5120]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25632, .f32⟩
  | .hbm, ⟨2, _⟩ => ⟨S8192x4096, .f32⟩
  | .hbm, ⟨3, _⟩ => ⟨S8192x25632, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x6144, .f32⟩
  | .hbm, ⟨8, _⟩ => ⟨S8192x2048, .f32⟩
  | .hbm, ⟨9, _⟩ => ⟨S8192x16, .f32⟩
  | .hbm, ⟨10, _⟩ => ⟨S8192x16, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x5120, .f32⟩
  | .hbm, ⟨17, _⟩ => ⟨S8192x5120, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S3x512x4096 : Shape := ⟨3, ![3, 512, 4096]⟩
abbrev S3 : Shape := ⟨1, ![3]⟩
abbrev S2x512x4096 : Shape := ⟨3, ![2, 512, 4096]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S1x4096, .f32⟩
  | .local _ .vmem, ⟨1, _⟩ => ⟨S3x512x4096, .f32⟩
  | .local _ .vmem, ⟨2, _⟩ => ⟨S2x512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_17_r0 : BitVec 32 := 0#32
  let c3_i32_r0 : BitVec 32 := 3#32
  let v20_r0 : BitVec 32 := Scalar.remui c0_i32_17_r0 c3_i32_r0
  ![v20_r0.toNat]
def k0_off2 : Fin 3 → Nat :=
  let c0_i32_17_r0 : BitVec 32 := 0#32
  let c3_i32_r0 : BitVec 32 := 3#32
  let v20_r0 : BitVec 32 := Scalar.remui c0_i32_17_r0 c3_i32_r0
  let c0_i32_18_r0 : BitVec 32 := 0#32
  let c0_i32_19_r0 : BitVec 32 := 0#32
  ![v20_r0.toNat, 0, 0]
def k0_cond1 : BitVec 1 :=
  let true_25_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_24_r0 : BitVec 32 := 0#32
  let v27_r0 : BitVec 1 := Scalar.cmpi .ne v9_r0 c0_i32_24_r0
  let v28_r0 : BitVec 1 := Scalar.andi true_25_r0 v27_r0
  let true_26_r0 : BitVec 1 := 1#1
  let v29_r0 : BitVec 1 := Scalar.andi v28_r0 true_26_r0
  let v30_r0 : BitVec 32 := Scalar.extui v29_r0
  let c0_i32_27_r0 : BitVec 32 := 0#32
  let v31_r0 : BitVec 1 := Scalar.cmpi .ne v30_r0 c0_i32_27_r0
  v31_r0

def k0_off3 : Fin 1 → Nat :=
  let c0_i32_22_r0 : BitVec 32 := 0#32
  let c1_i32_23_r0 : BitVec 32 := 1#32
  let v26_r0 : BitVec 32 := Scalar.addi c0_i32_22_r0 c1_i32_23_r0
  let c3_i32_65_r0 : BitVec 32 := 3#32
  let v68_r0 : BitVec 32 := Scalar.remui v26_r0 c3_i32_65_r0
  ![v68_r0.toNat]
def k0_off4 : Fin 3 → Nat :=
  let c0_i32_22_r0 : BitVec 32 := 0#32
  let c1_i32_23_r0 : BitVec 32 := 1#32
  let v26_r0 : BitVec 32 := Scalar.addi c0_i32_22_r0 c1_i32_23_r0
  let c3_i32_65_r0 : BitVec 32 := 3#32
  let v68_r0 : BitVec 32 := Scalar.remui v26_r0 c3_i32_65_r0
  let c0_i32_67_r0 : BitVec 32 := 0#32
  let c0_i32_68_r0 : BitVec 32 := 0#32
  ![v68_r0.toNat, 0, 0]
def k0_off5 : Fin 2 → Nat :=
  let c512_i32_66_r0 : BitVec 32 := 512#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c16_i32_r0 : BitVec 32 := 16#32
  let v7_r0 : BitVec 1 := Scalar.cmpi .eq v6_r0 c16_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v69_r0 : BitVec 32 := Scalar.muli c512_i32_66_r0 v9_r0
  let c0_i32_69_r0 : BitVec 32 := 0#32
  ![v69_r0.toNat, 0]
@[reducible] def k0_t1_loop : Scf.Loop 32 :=
  let c0_i32_33_r0 : BitVec 32 := 0#32
  let c16_i32_34_r0 : BitVec 32 := 16#32
  let v34_r0 : BitVec 32 := Scalar.addi c0_i32_33_r0 c16_i32_34_r0
  let c1_i32_35_r0 : BitVec 32 := 1#32
  ⟨c0_i32_33_r0, v34_r0, c1_i32_35_r0⟩
def k0_off6 (arg4_r0 : BitVec 32) : Fin 1 → Nat :=
  let c3_i32_124_r0 : BitVec 32 := 3#32
  let v174_r0 : BitVec 32 := Scalar.remui arg4_r0 c3_i32_124_r0
  ![v174_r0.toNat]
def k0_cond2 (k0_t1 : Fin k0_t1_loop.trips) (arg8_r0 : BitVec 32) : BitVec 1 :=
  let true_74_r0 : BitVec 1 := 1#1
  let c1_i32_73_r0 : BitVec 32 := 1#32
  let v76_r0 : BitVec 32 := Scalar.addi arg8_r0 c1_i32_73_r0
  let v77_r0 : BitVec 32 := Scalar.select true_74_r0 v76_r0 arg8_r0
  let c16_i32_75_r0 : BitVec 32 := 16#32
  let v78_r0 : BitVec 1 := Scalar.cmpi .eq v77_r0 c16_i32_75_r0
  let c0_i32_76_r0 : BitVec 32 := 0#32
  let v79_r0 : BitVec 32 := Scalar.select v78_r0 c0_i32_76_r0 v77_r0
  let c0_i32_77_r0 : BitVec 32 := 0#32
  let v80_r0 : BitVec 32 := Scalar.addi v79_r0 c0_i32_77_r0
  let true_79_r0 : BitVec 1 := 1#1
  let c1_i32_78_r0 : BitVec 32 := 1#32
  let v81_r0 : BitVec 32 := Scalar.addi v79_r0 c1_i32_78_r0
  let v82_r0 : BitVec 32 := Scalar.select true_79_r0 v81_r0 v79_r0
  let c16_i32_80_r0 : BitVec 32 := 16#32
  let v83_r0 : BitVec 1 := Scalar.cmpi .eq v82_r0 c16_i32_80_r0
  let c0_i32_81_r0 : BitVec 32 := 0#32
  let v84_r0 : BitVec 32 := Scalar.select v83_r0 c0_i32_81_r0 v82_r0
  let c0_i32_82_r0 : BitVec 32 := 0#32
  let v85_r0 : BitVec 32 := Scalar.addi v84_r0 c0_i32_82_r0
  let v91_r0 : BitVec 1 := Scalar.cmpi .ne v80_r0 v85_r0
  let c0_i32_33_r0 : BitVec 32 := 0#32
  let c1_i32_35_r0 : BitVec 32 := 1#32
  let arg3_r0 : BitVec 32 := Scf.iv c0_i32_33_r0 c1_i32_35_r0 k0_t1
  let c14_i32_r0 : BitVec 32 := 14#32
  let v92_r0 : BitVec 1 := Scalar.cmpi .sge arg3_r0 c14_i32_r0
  let true_88_r0 : BitVec 1 := 1#1
  let v93_r0 : BitVec 1 := Scalar.xori v92_r0 true_88_r0
  let v94_r0 : BitVec 1 := Scalar.andi v91_r0 v93_r0
  let true_89_r0 : BitVec 1 := 1#1
  let v95_r0 : BitVec 1 := Scalar.andi v94_r0 true_89_r0
  let v96_r0 : BitVec 32 := Scalar.extui v95_r0
  let c0_i32_90_r0 : BitVec 32 := 0#32
  let v97_r0 : BitVec 1 := Scalar.cmpi .ne v96_r0 c0_i32_90_r0
  v97_r0

def k0_off7 (arg4_r0 : BitVec 32) : Fin 3 → Nat :=
  let c3_i32_124_r0 : BitVec 32 := 3#32
  let v174_r0 : BitVec 32 := Scalar.remui arg4_r0 c3_i32_124_r0
  let c0_i32_126_r0 : BitVec 32 := 0#32
  let c0_i32_127_r0 : BitVec 32 := 0#32
  ![v174_r0.toNat, 0, 0]
def k0_off8 (arg8_r0 : BitVec 32) : Fin 2 → Nat :=
  let c512_i32_125_r0 : BitVec 32 := 512#32
  let true_79_r0 : BitVec 1 := 1#1
  let true_74_r0 : BitVec 1 := 1#1
  let c1_i32_73_r0 : BitVec 32 := 1#32
  let v76_r0 : BitVec 32 := Scalar.addi arg8_r0 c1_i32_73_r0
  let v77_r0 : BitVec 32 := Scalar.select true_74_r0 v76_r0 arg8_r0
  let c16_i32_75_r0 : BitVec 32 := 16#32
  let v78_r0 : BitVec 1 := Scalar.cmpi .eq v77_r0 c16_i32_75_r0
  let c0_i32_76_r0 : BitVec 32 := 0#32
  let v79_r0 : BitVec 32 := Scalar.select v78_r0 c0_i32_76_r0 v77_r0
  let c1_i32_78_r0 : BitVec 32 := 1#32
  let v81_r0 : BitVec 32 := Scalar.addi v79_r0 c1_i32_78_r0
  let v82_r0 : BitVec 32 := Scalar.select true_79_r0 v81_r0 v79_r0
  let c16_i32_80_r0 : BitVec 32 := 16#32
  let v83_r0 : BitVec 1 := Scalar.cmpi .eq v82_r0 c16_i32_80_r0
  let c0_i32_81_r0 : BitVec 32 := 0#32
  let v84_r0 : BitVec 32 := Scalar.select v83_r0 c0_i32_81_r0 v82_r0
  let c0_i32_82_r0 : BitVec 32 := 0#32
  let v85_r0 : BitVec 32 := Scalar.addi v84_r0 c0_i32_82_r0
  let v175_r0 : BitVec 32 := Scalar.muli c512_i32_125_r0 v85_r0
  let c0_i32_128_r0 : BitVec 32 := 0#32
  ![v175_r0.toNat, 0]
def k0_off9 (arg5_r0 : BitVec 32) : Fin 1 → Nat :=
  let c3_i32_125_r0 : BitVec 32 := 3#32
  let v175_r0 : BitVec 32 := Scalar.remui arg5_r0 c3_i32_125_r0
  ![v175_r0.toNat]
def k0_cond3 (k0_t1 : Fin k0_t1_loop.trips) (arg8_r0 : BitVec 32) : BitVec 1 :=
  let c0_i32_67_r0 : BitVec 32 := 0#32
  let v70_r0 : BitVec 32 := Scalar.addi arg8_r0 c0_i32_67_r0
  let true_69_r0 : BitVec 1 := 1#1
  let c1_i32_68_r0 : BitVec 32 := 1#32
  let v71_r0 : BitVec 32 := Scalar.subi arg8_r0 c1_i32_68_r0
  let v72_r0 : BitVec 32 := Scalar.select true_69_r0 v71_r0 arg8_r0
  let c_m1_i32_70_r0 : BitVec 32 := 4294967295#32
  let v73_r0 : BitVec 1 := Scalar.cmpi .eq v72_r0 c_m1_i32_70_r0
  let c15_i32_71_r0 : BitVec 32 := 15#32
  let v74_r0 : BitVec 32 := Scalar.select v73_r0 c15_i32_71_r0 v72_r0
  let c0_i32_72_r0 : BitVec 32 := 0#32
  let v75_r0 : BitVec 32 := Scalar.addi v74_r0 c0_i32_72_r0
  let v105_r0 : BitVec 1 := Scalar.cmpi .ne v70_r0 v75_r0
  let c0_i32_33_r0 : BitVec 32 := 0#32
  let c1_i32_35_r0 : BitVec 32 := 1#32
  let arg3_r0 : BitVec 32 := Scf.iv c0_i32_33_r0 c1_i32_35_r0 k0_t1
  let c0_i32_65_r0 : BitVec 32 := 0#32
  let v68_r0 : BitVec 1 := Scalar.cmpi .eq arg3_r0 c0_i32_65_r0
  let v106_r0 : BitVec 1 := Scalar.ori v105_r0 v68_r0
  let c0_i32_95_r0 : BitVec 32 := 0#32
  let v107_r0 : BitVec 1 := Scalar.cmpi .sge arg3_r0 c0_i32_95_r0
  let v108_r0 : BitVec 1 := Scalar.andi v106_r0 v107_r0
  let v109_r0 : BitVec 32 := Scalar.extui v108_r0
  let c0_i32_96_r0 : BitVec 32 := 0#32
  let v110_r0 : BitVec 1 := Scalar.cmpi .ne v109_r0 c0_i32_96_r0
  v110_r0

def k0_off10 (arg5_r0 : BitVec 32) : Fin 3 → Nat :=
  let c3_i32_125_r0 : BitVec 32 := 3#32
  let v175_r0 : BitVec 32 := Scalar.remui arg5_r0 c3_i32_125_r0
  let c0_i32_126_r0 : BitVec 32 := 0#32
  let c0_i32_127_r0 : BitVec 32 := 0#32
  ![v175_r0.toNat, 0, 0]
def k0_off11 (arg8_r0 : BitVec 32) : Fin 2 → Nat :=
  let c512_i32_124_r0 : BitVec 32 := 512#32
  let c0_i32_67_r0 : BitVec 32 := 0#32
  let v70_r0 : BitVec 32 := Scalar.addi arg8_r0 c0_i32_67_r0
  let v174_r0 : BitVec 32 := Scalar.muli c512_i32_124_r0 v70_r0
  let c0_i32_128_r0 : BitVec 32 := 0#32
  ![v174_r0.toNat, 0]
def k0_off12 (arg5_r0 : BitVec 32) : Fin 3 → Nat :=
  let c3_i32_99_r0 : BitVec 32 := 3#32
  let v117_r0 : BitVec 32 := Scalar.remui arg5_r0 c3_i32_99_r0
  let v119_r0 : Index := Scalar.indexCast v117_r0
  let c0_r0 : Index := 0#32
  let c0_101_r0 : Index := 0#32
  ![v119_r0.toNat, 0, 0]

def k0_chk2 (arg5_r0 : BitVec 32) : Prop :=
  (∀ a, (k0_off12 arg5_r0) a + S1x512x4096.size a ≤ S3x512x4096.size a)
theorem k0_off12_inb : ∀ (arg5_r0 : BitVec 32) (k0_hw2 : k0_chk2 arg5_r0), ∀ a, (k0_off12 arg5_r0) a + S1x512x4096.size a ≤ S3x512x4096.size a := fun arg5_r0 k0_hw2 => k0_hw2

def k0_off13 (arg6_r0 : BitVec 32) : Fin 3 → Nat :=
  let c2_i32_100_r0 : BitVec 32 := 2#32
  let v118_r0 : BitVec 32 := Scalar.remui arg6_r0 c2_i32_100_r0
  let v136_r0 : Index := Scalar.indexCast v118_r0
  let c0_106_r0 : Index := 0#32
  let c0_107_r0 : Index := 0#32
  ![v136_r0.toNat, 0, 0]

def k0_chk3 (arg6_r0 : BitVec 32) : Prop :=
  (∀ a, (k0_off13 arg6_r0) a + S1x512x4096.size a ≤ S2x512x4096.size a)
theorem k0_off13_inb : ∀ (arg6_r0 : BitVec 32) (k0_hw3 : k0_chk3 arg6_r0), ∀ a, (k0_off13 arg6_r0) a + S1x512x4096.size a ≤ S2x512x4096.size a := fun arg6_r0 k0_hw3 => k0_hw3

def k0_off14 (arg6_r0 : BitVec 32) : Fin 1 → Nat :=
  let c2_i32_124_r0 : BitVec 32 := 2#32
  let v174_r0 : BitVec 32 := Scalar.remui arg6_r0 c2_i32_124_r0
  ![v174_r0.toNat]
def k0_cond6 (k0_t1 : Fin k0_t1_loop.trips) (arg8_r0 : BitVec 32) : BitVec 1 :=
  let c0_i32_67_r0 : BitVec 32 := 0#32
  let v70_r0 : BitVec 32 := Scalar.addi arg8_r0 c0_i32_67_r0
  let true_74_r0 : BitVec 1 := 1#1
  let c1_i32_73_r0 : BitVec 32 := 1#32
  let v76_r0 : BitVec 32 := Scalar.addi arg8_r0 c1_i32_73_r0
  let v77_r0 : BitVec 32 := Scalar.select true_74_r0 v76_r0 arg8_r0
  let c16_i32_75_r0 : BitVec 32 := 16#32
  let v78_r0 : BitVec 1 := Scalar.cmpi .eq v77_r0 c16_i32_75_r0
  let c0_i32_76_r0 : BitVec 32 := 0#32
  let v79_r0 : BitVec 32 := Scalar.select v78_r0 c0_i32_76_r0 v77_r0
  let c0_i32_77_r0 : BitVec 32 := 0#32
  let v80_r0 : BitVec 32 := Scalar.addi v79_r0 c0_i32_77_r0
  let v145_r0 : BitVec 1 := Scalar.cmpi .ne v70_r0 v80_r0
  let c0_i32_33_r0 : BitVec 32 := 0#32
  let c1_i32_35_r0 : BitVec 32 := 1#32
  let arg3_r0 : BitVec 32 := Scf.iv c0_i32_33_r0 c1_i32_35_r0 k0_t1
  let c15_i32_66_r0 : BitVec 32 := 15#32
  let v69_r0 : BitVec 1 := Scalar.cmpi .eq arg3_r0 c15_i32_66_r0
  let v146_r0 : BitVec 1 := Scalar.ori v145_r0 v69_r0
  let v147_r0 : BitVec 32 := Scalar.extui v146_r0
  let c0_i32_109_r0 : BitVec 32 := 0#32
  let v148_r0 : BitVec 1 := Scalar.cmpi .ne v147_r0 c0_i32_109_r0
  v148_r0

def k0_off15 (arg8_r0 : BitVec 32) : Fin 2 → Nat :=
  let c512_i32_125_r0 : BitVec 32 := 512#32
  let c0_i32_67_r0 : BitVec 32 := 0#32
  let v70_r0 : BitVec 32 := Scalar.addi arg8_r0 c0_i32_67_r0
  let v175_r0 : BitVec 32 := Scalar.muli c512_i32_125_r0 v70_r0
  let c0_i32_126_r0 : BitVec 32 := 0#32
  ![v175_r0.toNat, 0]
def k0_off16 (arg6_r0 : BitVec 32) : Fin 3 → Nat :=
  let c2_i32_124_r0 : BitVec 32 := 2#32
  let v174_r0 : BitVec 32 := Scalar.remui arg6_r0 c2_i32_124_r0
  let c0_i32_127_r0 : BitVec 32 := 0#32
  let c0_i32_128_r0 : BitVec 32 := 0#32
  ![v174_r0.toNat, 0, 0]
def k0_off17 (arg7_r0 : BitVec 32) : Fin 1 → Nat :=
  let c2_i32_124_r0 : BitVec 32 := 2#32
  let v174_r0 : BitVec 32 := Scalar.remui arg7_r0 c2_i32_124_r0
  ![v174_r0.toNat]
def k0_cond8 (k0_t1 : Fin k0_t1_loop.trips) (arg8_r0 : BitVec 32) : BitVec 1 :=
  let c0_i32_67_r0 : BitVec 32 := 0#32
  let v70_r0 : BitVec 32 := Scalar.addi arg8_r0 c0_i32_67_r0
  let true_69_r0 : BitVec 1 := 1#1
  let c1_i32_68_r0 : BitVec 32 := 1#32
  let v71_r0 : BitVec 32 := Scalar.subi arg8_r0 c1_i32_68_r0
  let v72_r0 : BitVec 32 := Scalar.select true_69_r0 v71_r0 arg8_r0
  let c_m1_i32_70_r0 : BitVec 32 := 4294967295#32
  let v73_r0 : BitVec 1 := Scalar.cmpi .eq v72_r0 c_m1_i32_70_r0
  let c15_i32_71_r0 : BitVec 32 := 15#32
  let v74_r0 : BitVec 32 := Scalar.select v73_r0 c15_i32_71_r0 v72_r0
  let c0_i32_72_r0 : BitVec 32 := 0#32
  let v75_r0 : BitVec 32 := Scalar.addi v74_r0 c0_i32_72_r0
  let v158_r0 : BitVec 1 := Scalar.cmpi .ne v70_r0 v75_r0
  let c0_i32_33_r0 : BitVec 32 := 0#32
  let c1_i32_35_r0 : BitVec 32 := 1#32
  let arg3_r0 : BitVec 32 := Scf.iv c0_i32_33_r0 c1_i32_35_r0 k0_t1
  let c0_i32_65_r0 : BitVec 32 := 0#32
  let v68_r0 : BitVec 1 := Scalar.cmpi .eq arg3_r0 c0_i32_65_r0
  let true_115_r0 : BitVec 1 := 1#1
  let v159_r0 : BitVec 1 := Scalar.xori v68_r0 true_115_r0
  let v160_r0 : BitVec 1 := Scalar.andi v158_r0 v159_r0
  let v161_r0 : BitVec 32 := Scalar.extui v160_r0
  let c0_i32_116_r0 : BitVec 32 := 0#32
  let v162_r0 : BitVec 1 := Scalar.cmpi .ne v161_r0 c0_i32_116_r0
  v162_r0

def k0_off18 (arg8_r0 : BitVec 32) : Fin 2 → Nat :=
  let c512_i32_125_r0 : BitVec 32 := 512#32
  let true_69_r0 : BitVec 1 := 1#1
  let c1_i32_68_r0 : BitVec 32 := 1#32
  let v71_r0 : BitVec 32 := Scalar.subi arg8_r0 c1_i32_68_r0
  let v72_r0 : BitVec 32 := Scalar.select true_69_r0 v71_r0 arg8_r0
  let c_m1_i32_70_r0 : BitVec 32 := 4294967295#32
  let v73_r0 : BitVec 1 := Scalar.cmpi .eq v72_r0 c_m1_i32_70_r0
  let c15_i32_71_r0 : BitVec 32 := 15#32
  let v74_r0 : BitVec 32 := Scalar.select v73_r0 c15_i32_71_r0 v72_r0
  let c0_i32_72_r0 : BitVec 32 := 0#32
  let v75_r0 : BitVec 32 := Scalar.addi v74_r0 c0_i32_72_r0
  let v175_r0 : BitVec 32 := Scalar.muli c512_i32_125_r0 v75_r0
  let c0_i32_126_r0 : BitVec 32 := 0#32
  ![v175_r0.toNat, 0]
def k0_off19 (arg7_r0 : BitVec 32) : Fin 3 → Nat :=
  let c2_i32_124_r0 : BitVec 32 := 2#32
  let v174_r0 : BitVec 32 := Scalar.remui arg7_r0 c2_i32_124_r0
  let c0_i32_127_r0 : BitVec 32 := 0#32
  let c0_i32_128_r0 : BitVec 32 := 0#32
  ![v174_r0.toNat, 0, 0]

def k0_chk1 (k0_t1 : Fin k0_t1_loop.trips) (arg4_r0 : BitVec 32) (arg5_r0 : BitVec 32) (arg6_r0 : BitVec 32) (arg7_r0 : BitVec 32) (arg8_r0 : BitVec 32) : Prop :=
  (∀ (k0_h2 : k0_cond2 k0_t1 arg8_r0 = 1#1), ∀ a, (k0_off6 arg4_r0) a + S1.size a ≤ S3.size a) ∧
  (∀ (k0_h2 : k0_cond2 k0_t1 arg8_r0 = 1#1), ∀ a, (k0_off7 arg4_r0) a + S1x512x4096.size a ≤ S3x512x4096.size a) ∧
  (∀ (k0_h2 : k0_cond2 k0_t1 arg8_r0 = 1#1), ∀ a, (k0_off8 arg8_r0) a + S512x4096.size a ≤ S8192x4096.size a) ∧
  (∀ (k0_h3 : k0_cond3 k0_t1 arg8_r0 = 1#1), ∀ a, (k0_off9 arg5_r0) a + S1.size a ≤ S3.size a) ∧
  (∀ (k0_h3 : k0_cond3 k0_t1 arg8_r0 = 1#1), ∀ a, (k0_off10 arg5_r0) a + S1x512x4096.size a ≤ S3x512x4096.size a) ∧
  (∀ (k0_h3 : k0_cond3 k0_t1 arg8_r0 = 1#1), ∀ a, (k0_off11 arg8_r0) a + S512x4096.size a ≤ S8192x4096.size a) ∧
  (∀ (k0_h6 : k0_cond6 k0_t1 arg8_r0 = 1#1), ∀ a, (k0_off14 arg6_r0) a + S1.size a ≤ S2.size a) ∧
  (∀ (k0_h6 : k0_cond6 k0_t1 arg8_r0 = 1#1), ∀ a, (k0_off15 arg8_r0) a + S512x4096.size a ≤ S8192x4096.size a) ∧
  (∀ (k0_h6 : k0_cond6 k0_t1 arg8_r0 = 1#1), ∀ a, (k0_off16 arg6_r0) a + S1x512x4096.size a ≤ S2x512x4096.size a) ∧
  (∀ (k0_h8 : k0_cond8 k0_t1 arg8_r0 = 1#1), ∀ a, (k0_off17 arg7_r0) a + S1.size a ≤ S2.size a) ∧
  (∀ (k0_h8 : k0_cond8 k0_t1 arg8_r0 = 1#1), ∀ a, (k0_off18 arg8_r0) a + S512x4096.size a ≤ S8192x4096.size a) ∧
  (∀ (k0_h8 : k0_cond8 k0_t1 arg8_r0 = 1#1), ∀ a, (k0_off19 arg7_r0) a + S1x512x4096.size a ≤ S2x512x4096.size a)
theorem k0_off6_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h2 : k0_cond2 k0_t1 arg8_r0 = 1#1), ∀ a, (k0_off6 arg4_r0) a + S1.size a ≤ S3.size a := fun k0_t1 arg4_r0 arg5_r0 arg6_r0 arg7_r0 arg8_r0 k0_hw1 k0_h2 => k0_hw1.1 k0_h2
theorem k0_off7_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h2 : k0_cond2 k0_t1 arg8_r0 = 1#1), ∀ a, (k0_off7 arg4_r0) a + S1x512x4096.size a ≤ S3x512x4096.size a := fun k0_t1 arg4_r0 arg5_r0 arg6_r0 arg7_r0 arg8_r0 k0_hw1 k0_h2 => k0_hw1.2.1 k0_h2
theorem k0_off8_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h2 : k0_cond2 k0_t1 arg8_r0 = 1#1), ∀ a, (k0_off8 arg8_r0) a + S512x4096.size a ≤ S8192x4096.size a := fun k0_t1 arg4_r0 arg5_r0 arg6_r0 arg7_r0 arg8_r0 k0_hw1 k0_h2 => k0_hw1.2.2.1 k0_h2
theorem k0_off9_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h3 : k0_cond3 k0_t1 arg8_r0 = 1#1), ∀ a, (k0_off9 arg5_r0) a + S1.size a ≤ S3.size a := fun k0_t1 arg4_r0 arg5_r0 arg6_r0 arg7_r0 arg8_r0 k0_hw1 k0_h3 => k0_hw1.2.2.2.1 k0_h3
theorem k0_off10_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h3 : k0_cond3 k0_t1 arg8_r0 = 1#1), ∀ a, (k0_off10 arg5_r0) a + S1x512x4096.size a ≤ S3x512x4096.size a := fun k0_t1 arg4_r0 arg5_r0 arg6_r0 arg7_r0 arg8_r0 k0_hw1 k0_h3 => k0_hw1.2.2.2.2.1 k0_h3
theorem k0_off11_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h3 : k0_cond3 k0_t1 arg8_r0 = 1#1), ∀ a, (k0_off11 arg8_r0) a + S512x4096.size a ≤ S8192x4096.size a := fun k0_t1 arg4_r0 arg5_r0 arg6_r0 arg7_r0 arg8_r0 k0_hw1 k0_h3 => k0_hw1.2.2.2.2.2.1 k0_h3
theorem k0_off14_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h6 : k0_cond6 k0_t1 arg8_r0 = 1#1), ∀ a, (k0_off14 arg6_r0) a + S1.size a ≤ S2.size a := fun k0_t1 arg4_r0 arg5_r0 arg6_r0 arg7_r0 arg8_r0 k0_hw1 k0_h6 => k0_hw1.2.2.2.2.2.2.1 k0_h6
theorem k0_off15_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h6 : k0_cond6 k0_t1 arg8_r0 = 1#1), ∀ a, (k0_off15 arg8_r0) a + S512x4096.size a ≤ S8192x4096.size a := fun k0_t1 arg4_r0 arg5_r0 arg6_r0 arg7_r0 arg8_r0 k0_hw1 k0_h6 => k0_hw1.2.2.2.2.2.2.2.1 k0_h6
theorem k0_off16_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h6 : k0_cond6 k0_t1 arg8_r0 = 1#1), ∀ a, (k0_off16 arg6_r0) a + S1x512x4096.size a ≤ S2x512x4096.size a := fun k0_t1 arg4_r0 arg5_r0 arg6_r0 arg7_r0 arg8_r0 k0_hw1 k0_h6 => k0_hw1.2.2.2.2.2.2.2.2.1 k0_h6
theorem k0_off17_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h8 : k0_cond8 k0_t1 arg8_r0 = 1#1), ∀ a, (k0_off17 arg7_r0) a + S1.size a ≤ S2.size a := fun k0_t1 arg4_r0 arg5_r0 arg6_r0 arg7_r0 arg8_r0 k0_hw1 k0_h8 => k0_hw1.2.2.2.2.2.2.2.2.2.1 k0_h8
theorem k0_off18_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h8 : k0_cond8 k0_t1 arg8_r0 = 1#1), ∀ a, (k0_off18 arg8_r0) a + S512x4096.size a ≤ S8192x4096.size a := fun k0_t1 arg4_r0 arg5_r0 arg6_r0 arg7_r0 arg8_r0 k0_hw1 k0_h8 => k0_hw1.2.2.2.2.2.2.2.2.2.2.1 k0_h8
theorem k0_off19_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h8 : k0_cond8 k0_t1 arg8_r0 = 1#1), ∀ a, (k0_off19 arg7_r0) a + S1x512x4096.size a ≤ S2x512x4096.size a := fun k0_t1 arg4_r0 arg5_r0 arg6_r0 arg7_r0 arg8_r0 k0_hw1 k0_h8 => k0_hw1.2.2.2.2.2.2.2.2.2.2.2 k0_h8

def k0_off20 (v35_3_r0 : BitVec 32) : Fin 1 → Nat :=
  let c2_i32_r0 : BitVec 32 := 2#32
  let v61_r0 : BitVec 32 := Scalar.remui v35_3_r0 c2_i32_r0
  ![v61_r0.toNat]

def k0_off21 (v35_4_r0 : BitVec 32) : Fin 2 → Nat :=
  let c512_i32_r0 : BitVec 32 := 512#32
  let true_38_r0 : BitVec 1 := 1#1
  let c1_i32_37_r0 : BitVec 32 := 1#32
  let v36_r0 : BitVec 32 := Scalar.subi v35_4_r0 c1_i32_37_r0
  let v37_r0 : BitVec 32 := Scalar.select true_38_r0 v36_r0 v35_4_r0
  let c_m1_i32_39_r0 : BitVec 32 := 4294967295#32
  let v38_r0 : BitVec 1 := Scalar.cmpi .eq v37_r0 c_m1_i32_39_r0
  let c15_i32_40_r0 : BitVec 32 := 15#32
  let v39_r0 : BitVec 32 := Scalar.select v38_r0 c15_i32_40_r0 v37_r0
  let c0_i32_41_r0 : BitVec 32 := 0#32
  let v40_r0 : BitVec 32 := Scalar.addi v39_r0 c0_i32_41_r0
  let v62_r0 : BitVec 32 := Scalar.muli c512_i32_r0 v40_r0
  let c0_i32_62_r0 : BitVec 32 := 0#32
  ![v62_r0.toNat, 0]

def k0_chk5 (v35_4_r0 : BitVec 32) : Prop :=
  (∀ a, (k0_off21 v35_4_r0) a + S512x4096.size a ≤ S8192x4096.size a)
theorem k0_off21_inb : ∀ (v35_4_r0 : BitVec 32) (k0_hw5 : k0_chk5 v35_4_r0), ∀ a, (k0_off21 v35_4_r0) a + S512x4096.size a ≤ S8192x4096.size a := fun v35_4_r0 k0_hw5 => k0_hw5

def k0_off22 (v35_3_r0 : BitVec 32) : Fin 3 → Nat :=
  let c2_i32_r0 : BitVec 32 := 2#32
  let v61_r0 : BitVec 32 := Scalar.remui v35_3_r0 c2_i32_r0
  let c0_i32_63_r0 : BitVec 32 := 0#32
  let c0_i32_64_r0 : BitVec 32 := 0#32
  ![v61_r0.toNat, 0, 0]

def k0_chk4 (v35_3_r0 : BitVec 32) : Prop :=
  (∀ a, (k0_off20 v35_3_r0) a + S1.size a ≤ S2.size a) ∧
  (∀ a, (k0_off22 v35_3_r0) a + S1x512x4096.size a ≤ S2x512x4096.size a)
theorem k0_off20_inb : ∀ (v35_3_r0 : BitVec 32) (k0_hw4 : k0_chk4 v35_3_r0), ∀ a, (k0_off20 v35_3_r0) a + S1.size a ≤ S2.size a := fun v35_3_r0 k0_hw4 => k0_hw4.1
theorem k0_off22_inb : ∀ (v35_3_r0 : BitVec 32) (k0_hw4 : k0_chk4 v35_3_r0), ∀ a, (k0_off22 v35_3_r0) a + S1x512x4096.size a ≤ S2x512x4096.size a := fun v35_3_r0 k0_hw4 => k0_hw4.2

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Up.lean ====
abbrev S8192x4096 : Shape := ⟨2, ![8192, 4096]⟩
abbrev S4096x16384 : Shape := ⟨2, ![4096, 16384]⟩
abbrev S8192x16384 : Shape := ⟨2, ![8192, 16384]⟩
abbrev S1024x4096 : Shape := ⟨2, ![1024, 4096]⟩
abbrev S512x1024 : Shape := ⟨2, ![512, 1024]⟩
abbrev S1024x1024 : Shape := ⟨2, ![1024, 1024]⟩
abbrev S4096x1024 : Shape := ⟨2, ![4096, 1024]⟩
abbrev S8x128 : Shape := ⟨2, ![8, 128]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 3
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S4096x1024, .bf16⟩
  | .local _ .vmem, ⟨7, _⟩ => ⟨S4096x1024, .bf16⟩
  | .local _ .vmem, ⟨8, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v33 : BitVec 32 := Scalar.muli arg1 c512_i32
  v33
def k0_off1 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c512_i32 : BitVec 32 := 512#32
  let v33 : BitVec 32 := Scalar.muli arg1 c512_i32
  v33
def k0_off2 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c512_i32 : BitVec 32 := 512#32
  let v33 : BitVec 32 := Scalar.muli arg1 c512_i32
  v33
def k0_off3 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32 : BitVec 32 := 16#32
  let v28 : BitVec 1 := Scalar.cmpi .eq arg0 c16_i32
  let c7_i32 : BitVec 32 := 7#32
  let v29 : BitVec 32 := Scalar.select v28 c7_i32 arg1
  let c8_i32 : BitVec 32 := 8#32
  let v30 : BitVec 32 := Scalar.muli v27 c8_i32
  let v31 : BitVec 32 := Scalar.addi v30 v29
  let c0_i32_11 : BitVec 32 := 0#32
  let v32 : BitVec 32 := Scalar.addi v17 c0_i32_11
  let c0_i32_12 : BitVec 32 := 0#32
  ![v31.toNat, v32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v32.toNat, v51.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Gates.lean ====
abbrev S8192x4096 : Shape := ⟨2, ![8192, 4096]⟩
abbrev S4096x25632 : Shape := ⟨2, ![4096, 25632]⟩
abbrev S25632x4096 : Shape := ⟨2, ![25632, 4096]⟩
abbrev S8192x8192 : Shape := ⟨2, ![8192, 8192]⟩
abbrev S1024x4096 : Shape := ⟨2, ![1024, 4096]⟩
abbrev S128x4096 : Shape := ⟨2, ![128, 4096]⟩
abbrev S1024x1024 : Shape := ⟨2, ![1024, 1024]⟩
abbrev S8x128 : Shape := ⟨2, ![8, 128]⟩
abbrev S256x4096 : Shape := ⟨2, ![256, 4096]⟩
abbrev S256x256 : Shape := ⟨2, ![256, 256]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x25632, .f32⟩
  | .hbm, ⟨2, _⟩ => ⟨S25632x4096, .f32⟩
  | .hbm, ⟨3, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S128x4096, .f32⟩
  | .local _ .vmem, ⟨3, _⟩ => ⟨S128x4096, .f32⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | .local _ .vmem, ⟨7, _⟩ => ⟨S1024x4096, .bf16⟩
  | .local _ .vmem, ⟨8, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def k0_mult1 (i : grid0.Coords) : BitVec 32 :=
  let c17440_i32 : BitVec 32 := 17440#32
  let arg0 : BitVec 32 := BitVec.ofNat 32 (i 0).val
  let c7_i32 : BitVec 32 := 7#32
  let v0 : BitVec 32 := Scalar.minsi arg0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1_i32 : BitVec 32 := 1#32
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let v1 : BitVec 32 := Scalar.divsi v0 c1_i32
  let c1_i32_4 : BitVec 32 := 1#32
  let v16 : BitVec 32 := Scalar.subi v1 c1_i32_4
  let v17 : BitVec 32 := Scalar.select v15 v16 v1
  let c1024_i32 : BitVec 32 := 1024#32
  let v30 : BitVec 32 := Scalar.muli v17 c1024_i32
  let v31 : BitVec 32 := Scalar.addi c17440_i32 v30
  let c8_i32 : BitVec 32 := 8#32
  let v28 : BitVec 1 := Scalar.cmpi .eq arg0 c8_i32
  let c7_i32_11 : BitVec 32 := 7#32
  let arg1 : BitVec 32 := BitVec.ofNat 32 (i 1).val
  let v29 : BitVec 32 := Scalar.select v28 c7_i32_11 arg1
  let c128_i32 : BitVec 32 := 128#32
  let v32 : BitVec 32 := Scalar.muli v29 c128_i32
  let v33 : BitVec 32 := Scalar.addi v31 v32
  v33
def k0_mult2 (i : grid0.Coords) : BitVec 32 :=
  let arg0 : BitVec 32 := BitVec.ofNat 32 (i 0).val
  let c7_i32 : BitVec 32 := 7#32
  let v0 : BitVec 32 := Scalar.minsi arg0 c7_i32
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let c4096_i32 : BitVec 32 := 4096#32
  let v35 : BitVec 32 := Scalar.muli v27 c4096_i32
  v35
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult3 (i : grid0.Coords) : BitVec 32 :=
  let arg1 : BitVec 32 := BitVec.ofNat 32 (i 1).val
  let c128_i32 : BitVec 32 := 128#32
  let v33 : BitVec 32 := Scalar.muli arg1 c128_i32
  v33
def k0_off1 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult4 (i : grid0.Coords) : BitVec 32 :=
  let arg1 : BitVec 32 := BitVec.ofNat 32 (i 1).val
  let c128_i32 : BitVec 32 := 128#32
  let v33 : BitVec 32 := Scalar.muli arg1 c128_i32
  v33
def k0_off2 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult5 (i : grid0.Coords) : BitVec 32 :=
  let arg1 : BitVec 32 := BitVec.ofNat 32 (i 1).val
  let c128_i32 : BitVec 32 := 128#32
  let v33 : BitVec 32 := Scalar.muli arg1 c128_i32
  v33
def k0_off3 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c8_i32 : BitVec 32 := 8#32
  let v28 : BitVec 1 := Scalar.cmpi .eq arg0 c8_i32
  let c7_i32_11 : BitVec 32 := 7#32
  let v29 : BitVec 32 := Scalar.select v28 c7_i32_11 arg1
  let c1024_i32 : BitVec 32 := 1024#32
  let v30 : BitVec 32 := Scalar.muli v17 c1024_i32
  let c17440_i32 : BitVec 32 := 17440#32
  let v31 : BitVec 32 := Scalar.addi c17440_i32 v30
  let c128_i32 : BitVec 32 := 128#32
  let v32 : BitVec 32 := Scalar.muli v29 c128_i32
  let v33 : BitVec 32 := Scalar.addi v31 v32
  let v34 : BitVec 32 := v33
  let c4096_i32 : BitVec 32 := 4096#32
  let v35 : BitVec 32 := Scalar.muli v27 c4096_i32
  let v36 : BitVec 32 := v35
  let c0_i32_12 : BitVec 32 := 0#32
  ![v34.toNat, v36.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v32.toNat, v51.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8192x4096 : Shape := ⟨2, ![8192, 4096]⟩
abbrev S4096x25632 : Shape := ⟨2, ![4096, 25632]⟩
abbrev S8192x25632 : Shape := ⟨2, ![8192, 25632]⟩
abbrev S8192x3072 : Shape := ⟨2, ![8192, 3072]⟩
abbrev S8192x6144 : Shape := ⟨2, ![8192, 6144]⟩
abbrev S8192x2048 : Shape := ⟨2, ![8192, 2048]⟩
abbrev S8192x16 : Shape := ⟨2, ![8192, 16]⟩
abbrev S_ : Shape := ⟨0, ![]⟩
abbrev S8192x8192 : Shape := ⟨2, ![8192, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25632, .f32⟩
  | .hbm, ⟨2, _⟩ => ⟨S8192x4096, .f32⟩
  | .hbm, ⟨3, _⟩ => ⟨S8192x25632, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x6144, .f32⟩
  | .hbm, ⟨8, _⟩ => ⟨S8192x2048, .f32⟩
  | .hbm, ⟨9, _⟩ => ⟨S8192x16, .f32⟩
  | .hbm, ⟨10, _⟩ => ⟨S8192x16, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x8192, .f32⟩
  | .hbm, ⟨30, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Down.lean ====
abbrev S8192x16384 : Shape := ⟨2, ![8192, 16384]⟩
abbrev S16384x4096 : Shape := ⟨2, ![16384, 4096]⟩
abbrev S8192x4096 : Shape := ⟨2, ![8192, 4096]⟩
abbrev S1024x4096 : Shape := ⟨2, ![1024, 4096]⟩
abbrev S512x512 : Shape := ⟨2, ![512, 512]⟩
abbrev S1024x512 : Shape := ⟨2, ![1024, 512]⟩
abbrev S4096x512 : Shape := ⟨2, ![4096, 512]⟩
abbrev S8192x512 : Shape := ⟨2, ![8192, 512]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 4
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | .local _ .vmem, ⟨9, _⟩ => ⟨S4096x512, .bf16⟩
  | .local _ .vmem, ⟨10, _⟩ => ⟨S8192x512, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![33, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v33 : BitVec 32 := Scalar.muli arg1 c512_i32
  v33
def k0_off1 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c512_i32 : BitVec 32 := 512#32
  let v33 : BitVec 32 := Scalar.muli arg1 c512_i32
  v33
def k0_off2 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_mult3 (i : grid0.Coords) : BitVec 32 :=
  let arg1 : BitVec 32 := BitVec.ofNat 32 (i 1).val
  let c1024_i32 : BitVec 32 := 1024#32
  let v55 : BitVec 32 := Scalar.muli arg1 c1024_i32
  let c0_i32_29 : BitVec 32 := 0#32
  let v56 : BitVec 32 := Scalar.addi v55 c0_i32_29
  v56
def k0_off3 (i : grid0.Coords) (c0_i32_29 : BitVec 32) : Fin 2 → Nat :=
  let arg1 : BitVec 32 := BitVec.ofNat 32 (i 1).val
  let c1024_i32 : BitVec 32 := 1024#32
  let v55 : BitVec 32 := Scalar.muli arg1 c1024_i32
  let v56 : BitVec 32 := Scalar.addi v55 c0_i32_29
  let v57 : BitVec 32 := v56
  let v59 : Index := Scalar.indexCast v57
  let c0_31 : Index := 0#32
  ![v59.toNat, 0]
def k0_mult4 (i : grid0.Coords) : BitVec 32 :=
  let arg1 : BitVec 32 := BitVec.ofNat 32 (i 1).val
  let c1024_i32_42 : BitVec 32 := 1024#32
  let v74 : BitVec 32 := Scalar.muli arg1 c1024_i32_42
  let c0_i32_43 : BitVec 32 := 0#32
  let v75 : BitVec 32 := Scalar.addi v74 c0_i32_43
  v75
def k0_off4 (i : grid0.Coords) (c0_i32_43 : BitVec 32) : Fin 2 → Nat :=
  let arg1 : BitVec 32 := BitVec.ofNat 32 (i 1).val
  let c1024_i32_42 : BitVec 32 := 1024#32
  let v74 : BitVec 32 := Scalar.muli arg1 c1024_i32_42
  let v75 : BitVec 32 := Scalar.addi v74 c0_i32_43
  let v76 : BitVec 32 := v75
  let v78 : Index := Scalar.indexCast v76
  let c256_45 : Index := 256#32
  ![v78.toNat, 256]
def k0_mult5 (i : grid0.Coords) : BitVec 32 :=
  let arg1 : BitVec 32 := BitVec.ofNat 32 (i 1).val
  let c1024_i32_57 : BitVec 32 := 1024#32
  let v93 : BitVec 32 := Scalar.muli arg1 c1024_i32_57
  let c256_i32 : BitVec 32 := 256#32
  let v94 : BitVec 32 := Scalar.addi v93 c256_i32
  v94
def k0_mult6 (i : grid0.Coords) : BitVec 32 :=
  let arg1 : BitVec 32 := BitVec.ofNat 32 (i 1).val
  let c1024_i32_71 : BitVec 32 := 1024#32
  let v112 : BitVec 32 := Scalar.muli arg1 c1024_i32_71
  let c256_i32_72 : BitVec 32 := 256#32
  let v113 : BitVec 32 := Scalar.addi v112 c256_i32_72
  v113
def k0_mult7 (i : grid0.Coords) : BitVec 32 :=
  let arg1 : BitVec 32 := BitVec.ofNat 32 (i 1).val
  let c1024_i32_85 : BitVec 32 := 1024#32
  let v131 : BitVec 32 := Scalar.muli arg1 c1024_i32_85
  let c512_i32_86 : BitVec 32 := 512#32
  let v132 : BitVec 32 := Scalar.addi v131 c512_i32_86
  v132
def k0_mult8 (i : grid0.Coords) : BitVec 32 :=
  let arg1 : BitVec 32 := BitVec.ofNat 32 (i 1).val
  let c1024_i32_100 : BitVec 32 := 1024#32
  let v150 : BitVec 32 := Scalar.muli arg1 c1024_i32_100
  let c512_i32_101 : BitVec 32 := 512#32
  let v151 : BitVec 32 := Scalar.addi v150 c512_i32_101
  v151
def k0_mult9 (i : grid0.Coords) : BitVec 32 :=
  let arg1 : BitVec 32 := BitVec.ofNat 32 (i 1).val
  let c1024_i32_114 : BitVec 32 := 1024#32
  let v169 : BitVec 32 := Scalar.muli arg1 c1024_i32_114
  let c768_i32 : BitVec 32 := 768#32
  let v170 : BitVec 32 := Scalar.addi v169 c768_i32
  v170
def k0_mult10 (i : grid0.Coords) : BitVec 32 :=
  let arg1 : BitVec 32 := BitVec.ofNat 32 (i 1).val
  let c1024_i32_128 : BitVec 32 := 1024#32
  let v188 : BitVec 32 := Scalar.muli arg1 c1024_i32_128
  let c768_i32_129 : BitVec 32 := 768#32
  let v189 : BitVec 32 := Scalar.addi v188 c768_i32_129
  v189
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult11 (i : grid0.Coords) : BitVec 32 :=
  let arg1 : BitVec 32 := BitVec.ofNat 32 (i 1).val
  let c512_i32 : BitVec 32 := 512#32
  let v33 : BitVec 32 := Scalar.muli arg1 c512_i32
  v33
def k0_off5 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_mult12 (i : grid0.Coords) : BitVec 32 :=
  let arg1 : BitVec 32 := BitVec.ofNat 32 (i 1).val
  let c1024_i32 : BitVec 32 := 1024#32
  let v55 : BitVec 32 := Scalar.muli arg1 c1024_i32
  let c0_i32_29 : BitVec 32 := 0#32
  let v56 : BitVec 32 := Scalar.addi v55 c0_i32_29
  v56
def k0_off6 (i : grid0.Coords) (c0_i32_29 : BitVec 32) : Fin 2 → Nat :=
  let arg1 : BitVec 32 := BitVec.ofNat 32 (i 1).val
  let c1024_i32 : BitVec 32 := 1024#32
  let v55 : BitVec 32 := Scalar.muli arg1 c1024_i32
  let v56 : BitVec 32 := Scalar.addi v55 c0_i32_29
  let v57 : BitVec 32 := v56
  let v59 : Index := Scalar.indexCast v57
  let c0_31 : Index := 0#32
  ![v59.toNat, 0]
def k0_mult13 (i : grid0.Coords) : BitVec 32 :=
  let arg1 : BitVec 32 := BitVec.ofNat 32 (i 1).val
  let c1024_i32_42 : BitVec 32 := 1024#32
  let v74 : BitVec 32 := Scalar.muli arg1 c1024_i32_42
  let c0_i32_43 : BitVec 32 := 0#32
  let v75 : BitVec 32 := Scalar.addi v74 c0_i32_43
  v75
def k0_off7 (i : grid0.Coords) (c0_i32_43 : BitVec 32) : Fin 2 → Nat :=
  let arg1 : BitVec 32 := BitVec.ofNat 32 (i 1).val
  let c1024_i32_42 : BitVec 32 := 1024#32
  let v74 : BitVec 32 := Scalar.muli arg1 c1024_i32_42
  let v75 : BitVec 32 := Scalar.addi v74 c0_i32_43
  let v76 : BitVec 32 := v75
  let v78 : Index := Scalar.indexCast v76
  let c256_45 : Index := 256#32
  ![v78.toNat, 256]
def k0_mult14 (i : grid0.Coords) : BitVec 32 :=
  let arg1 : BitVec 32 := BitVec.ofNat 32 (i 1).val
  let c1024_i32_57 : BitVec 32 := 1024#32
  let v93 : BitVec 32 := Scalar.muli arg1 c1024_i32_57
  let c256_i32 : BitVec 32 := 256#32
  let v94 : BitVec 32 := Scalar.addi v93 c256_i32
  v94
def k0_mult15 (i : grid0.Coords) : BitVec 32 :=
  let arg1 : BitVec 32 := BitVec.ofNat 32 (i 1).val
  let c1024_i32_71 : BitVec 32 := 1024#32
  let v112 : BitVec 32 := Scalar.muli arg1 c1024_i32_71
  let c256_i32_72 : BitVec 32 := 256#32
  let v113 : BitVec 32 := Scalar.addi v112 c256_i32_72
  v113
def k0_mult16 (i : grid0.Coords) : BitVec 32 :=
  let arg1 : BitVec 32 := BitVec.ofNat 32 (i 1).val
  let c1024_i32_85 : BitVec 32 := 1024#32
  let v131 : BitVec 32 := Scalar.muli arg1 c1024_i32_85
  let c512_i32_86 : BitVec 32 := 512#32
  let v132 : BitVec 32 := Scalar.addi v131 c512_i32_86
  v132
def k0_mult17 (i : grid0.Coords) : BitVec 32 :=
  let arg1 : BitVec 32 := BitVec.ofNat 32 (i 1).val
  let c1024_i32_100 : BitVec 32 := 1024#32
  let v150 : BitVec 32 := Scalar.muli arg1 c1024_i32_100
  let c512_i32_101 : BitVec 32 := 512#32
  let v151 : BitVec 32 := Scalar.addi v150 c512_i32_101
  v151
def k0_mult18 (i : grid0.Coords) : BitVec 32 :=
  let arg1 : BitVec 32 := BitVec.ofNat 32 (i 1).val
  let c1024_i32_114 : BitVec 32 := 1024#32
  let v169 : BitVec 32 := Scalar.muli arg1 c1024_i32_114
  let c768_i32 : BitVec 32 := 768#32
  let v170 : BitVec 32 := Scalar.addi v169 c768_i32
  v170
def k0_mult19 (i : grid0.Coords) : BitVec 32 :=
  let arg1 : BitVec 32 := BitVec.ofNat 32 (i 1).val
  let c1024_i32_128 : BitVec 32 := 1024#32
  let v188 : BitVec 32 := Scalar.muli arg1 c1024_i32_128
  let c768_i32_129 : BitVec 32 := 768#32
  let v189 : BitVec 32 := Scalar.addi v188 c768_i32_129
  v189
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c4_i32 : BitVec 32 := 4#32
  let v4 : BitVec 32 := Scalar.divsi v3 c4_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi v3 c4_i32
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v3 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c32_i32 : BitVec 32 := 32#32
  let v28 : BitVec 1 := Scalar.cmpi .eq arg0 c32_i32
  let c7_i32 : BitVec 32 := 7#32
  let v29 : BitVec 32 := Scalar.select v28 c7_i32 arg1
  let c8_i32 : BitVec 32 := 8#32
  let v30 : BitVec 32 := Scalar.muli v27 c8_i32
  let v31 : BitVec 32 := Scalar.addi v30 v29
  let c0_i32_10 : BitVec 32 := 0#32
  let v32 : BitVec 32 := Scalar.addi v17 c0_i32_10
  let c0_i32_11 : BitVec 32 := 0#32
  ![v31.toNat, v32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 1 := Scalar.cmpi .sgt arg0 c0_i32_12
  let c3_i32 : BitVec 32 := 3#32
  let v30 : BitVec 1 := Scalar.cmpi .eq v28 c3_i32
  let v31 : BitVec 1 := Scalar.andi v29 v30
  let c0_i32_13 : BitVec 32 := 0#32
  let v32 : BitVec 32 := Scalar.select v31 arg1 c0_i32_13
  let c1_i32_14 : BitVec 32 := 1#32
  let v33 : BitVec 32 := Scalar.subi arg0 c1_i32_14
  let c0_i32_15 : BitVec 32 := 0#32
  let v34 : BitVec 32 := Scalar.maxsi v33 c0_i32_15
  let c4_i32_16 : BitVec 32 := 4#32
  let v35 : BitVec 32 := Scalar.divsi v34 c4_i32_16
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let c1_i32_22 : BitVec 32 := 1#32
  let v50 : BitVec 32 := Scalar.subi v35 c1_i32_22
  let v51 : BitVec 32 := Scalar.select v49 v50 v35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_26 : BitVec 32 := 0#32
  let v55 : BitVec 1 := Scalar.cmpi .ne v54 c0_i32_26
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let v59 : BitVec 1 := Scalar.andi v58 v55
  let v60 : BitVec 32 := Scalar.addi v54 v53
  let v61 : BitVec 32 := Scalar.select v59 v60 v54
  let c0_i32_29 : BitVec 32 := 0#32
  let v62 : BitVec 32 := Scalar.addi v51 c0_i32_29
  let c0_i32_30 : BitVec 32 := 0#32
  ![v32.toNat, v62.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 1 := Scalar.cmpi .sgt arg0 c0_i32_12
  let c3_i32 : BitVec 32 := 3#32
  let v30 : BitVec 1 := Scalar.cmpi .eq v28 c3_i32
  let v31 : BitVec 1 := Scalar.andi v29 v30
  let c0_i32_13 : BitVec 32 := 0#32
  let v32 : BitVec 32 := Scalar.select v31 arg1 c0_i32_13
  let c1_i32_14 : BitVec 32 := 1#32
  let v33 : BitVec 32 := Scalar.subi arg0 c1_i32_14
  let c0_i32_15 : BitVec 32 := 0#32
  let v34 : BitVec 32 := Scalar.maxsi v33 c0_i32_15
  let c4_i32_16 : BitVec 32 := 4#32
  let v35 : BitVec 32 := Scalar.divsi v34 c4_i32_16
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let c1_i32_22 : BitVec 32 := 1#32
  let v50 : BitVec 32 := Scalar.subi v35 c1_i32_22
  let v51 : BitVec 32 := Scalar.select v49 v50 v35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_26 : BitVec 32 := 0#32
  let v55 : BitVec 1 := Scalar.cmpi .ne v54 c0_i32_26
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let v59 : BitVec 1 := Scalar.andi v58 v55
  let v60 : BitVec 32 := Scalar.addi v54 v53
  let v61 : BitVec 32 := Scalar.select v59 v60 v54
  let c0_i32_29 : BitVec 32 := 0#32
  ![v32.toNat, v51.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x16384 : Shape := ⟨2, ![8192, 16384]⟩
abbrev S16384x4096 : Shape := ⟨2, ![16384, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .f32⟩
  | .hbm, ⟨2, _⟩ => ⟨S8192x4096, .f32⟩
  | .hbm, ⟨3, _⟩ => ⟨S8192x16384, .f32⟩
  | .hbm, ⟨4, _⟩ => ⟨S8192x4096, .f32⟩
  | .hbm, ⟨5, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S8192x4096 : Shape := ⟨2, ![8192, 4096]⟩
abbrev S4096x4096 : Shape := ⟨2, ![4096, 4096]⟩
abbrev S1024x4096 : Shape := ⟨2, ![1024, 4096]⟩
abbrev S512x1024 : Shape := ⟨2, ![512, 1024]⟩
abbrev S1024x1024 : Shape := ⟨2, ![1024, 1024]⟩
abbrev S4096x1024 : Shape := ⟨2, ![4096, 1024]⟩
abbrev S8x128 : Shape := ⟨2, ![8, 128]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 4
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S4096x1024, .bf16⟩
  | .local _ .vmem, ⟨9, _⟩ => ⟨S4096x1024, .bf16⟩
  | .local _ .vmem, ⟨10, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v33 : BitVec 32 := Scalar.muli arg1 c512_i32
  v33
def k0_off1 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c512_i32 : BitVec 32 := 512#32
  let v33 : BitVec 32 := Scalar.muli arg1 c512_i32
  v33
def k0_off2 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c512_i32 : BitVec 32 := 512#32
  let v33 : BitVec 32 := Scalar.muli arg1 c512_i32
  v33
def k0_off3 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 1 := Scalar.cmpi .eq arg0 c4_i32
  let c7_i32 : BitVec 32 := 7#32
  let v29 : BitVec 32 := Scalar.select v28 c7_i32 arg1
  let c8_i32 : BitVec 32 := 8#32
  let v30 : BitVec 32 := Scalar.muli v27 c8_i32
  let v31 : BitVec 32 := Scalar.addi v30 v29
  let c0_i32_11 : BitVec 32 := 0#32
  let v32 : BitVec 32 := Scalar.addi v17 c0_i32_11
  let c0_i32_12 : BitVec 32 := 0#32
  ![v31.toNat, v32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let v62 : BitVec 32 := Scalar.addi v51 c0_i32_31
  let c0_i32_32 : BitVec 32 := 0#32
  ![v32.toNat, v62.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v32.toNat, v51.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S8192x4096 : Shape := ⟨2, ![8192, 4096]⟩
abbrev S4096x4096 : Shape := ⟨2, ![4096, 4096]⟩
abbrev S512x4096 : Shape := ⟨2, ![512, 4096]⟩
abbrev S256x1024 : Shape := ⟨2, ![256, 1024]⟩
abbrev S512x1024 : Shape := ⟨2, ![512, 1024]⟩
abbrev S4096x1024 : Shape := ⟨2, ![4096, 1024]⟩
abbrev S8x128 : Shape := ⟨2, ![8, 128]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S4096x1024, .bf16⟩
  | .local _ .vmem, ⟨11, _⟩ => ⟨S4096x1024, .bf16⟩
  | .local _ .vmem, ⟨12, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c256_i32 : BitVec 32 := 256#32
  let v33 : BitVec 32 := Scalar.muli arg1 c256_i32
  v33
def k0_off1 (i : grid0.Coords) : Fin 2 → Nat :=
  let arg1 : BitVec 32 := BitVec.ofNat 32 (i 1).val
  let c256_i32 : BitVec 32 := 256#32
  let v33 : BitVec 32 := Scalar.muli arg1 c256_i32
  let v34 : BitVec 32 := v33
  let v37 : Index := Scalar.indexCast v34
  let c0_18 : Index := 0#32
  ![v37.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c256_i32 : BitVec 32 := 256#32
  let v33 : BitVec 32 := Scalar.muli arg1 c256_i32
  v33
def k0_off2 (i : grid0.Coords) : Fin 2 → Nat :=
  let arg1 : BitVec 32 := BitVec.ofNat 32 (i 1).val
  let c256_i32 : BitVec 32 := 256#32
  let v33 : BitVec 32 := Scalar.muli arg1 c256_i32
  let v34 : BitVec 32 := v33
  let v37 : Index := Scalar.indexCast v34
  let c0_18 : Index := 0#32
  ![v37.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c256_i32 : BitVec 32 := 256#32
  let v33 : BitVec 32 := Scalar.muli arg1 c256_i32
  v33
def k0_off3 (i : grid0.Coords) : Fin 2 → Nat :=
  let arg1 : BitVec 32 := BitVec.ofNat 32 (i 1).val
  let c256_i32 : BitVec 32 := 256#32
  let v33 : BitVec 32 := Scalar.muli arg1 c256_i32
  let v34 : BitVec 32 := v33
  let v37 : Index := Scalar.indexCast v34
  let c0_18 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 1 := Scalar.cmpi .eq arg0 c4_i32
  let c15_i32 : BitVec 32 := 15#32
  let v29 : BitVec 32 := Scalar.select v28 c15_i32 arg1
  let c16_i32 : BitVec 32 := 16#32
  let v30 : BitVec 32 := Scalar.muli v27 c16_i32
  let v31 : BitVec 32 := Scalar.addi v30 v29
  let c0_i32_11 : BitVec 32 := 0#32
  let v32 : BitVec 32 := Scalar.addi v17 c0_i32_11
  let c0_i32_12 : BitVec 32 := 0#32
  ![v31.toNat, v32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let v62 : BitVec 32 := Scalar.addi v51 c0_i32_31
  let c0_i32_32 : BitVec 32 := 0#32
  ![v32.toNat, v62.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let v62 : BitVec 32 := Scalar.addi v51 c0_i32_31
  let c0_i32_32 : BitVec 32 := 0#32
  ![v32.toNat, v62.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v32.toNat, v51.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PleRefIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Attn.lean ====
abbrev S8192x5120 : Shape := ⟨2, ![8192, 5120]⟩
abbrev S1x1x8192x5120 : Shape := ⟨4, ![1, 1, 8192, 5120]⟩
abbrev S1x1x8192x1024 : Shape := ⟨4, ![1, 1, 8192, 1024]⟩
abbrev S1x1x8192x128 : Shape := ⟨4, ![1, 1, 8192, 128]⟩
abbrev S1x1x128x1024 : Shape := ⟨4, ![1, 1, 128, 1024]⟩
abbrev S1x1x128x128 : Shape := ⟨4, ![1, 1, 128, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S8192x5120, .bf16⟩
  | .hbm, ⟨1, _⟩ => ⟨S1x1x8192x5120, .bf16⟩
  | .hbm, ⟨2, _⟩ => ⟨S1x1x8192x1024, .bf16⟩
  | .hbm, ⟨3, _⟩ => ⟨S1x1x8192x128, .f32⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x128x1024, .bf16⟩
  | .local _ .vmem, ⟨5, _⟩ => ⟨S1x1x128x1024, .bf16⟩
  | .local _ .vmem, ⟨6, _⟩ => ⟨S1x1x128x1024, .bf16⟩
  | .local _ .vmem, ⟨7, _⟩ => ⟨S1x1x128x1024, .bf16⟩
  | .local _ .vmem, ⟨8, _⟩ => ⟨S1x1x128x1024, .bf16⟩
  | .local _ .vmem, ⟨9, _⟩ => ⟨S1x1x128x1024, .bf16⟩
  | .local _ .vmem, ⟨10, _⟩ => ⟨S1x1x128x1024, .bf16⟩
  | .local _ .vmem, ⟨11, _⟩ => ⟨S1x1x128x1024, .bf16⟩
  | .local _ .vmem, ⟨12, _⟩ => ⟨S1x1x128x128, .f32⟩
  | .local _ .vmem, ⟨13, _⟩ => ⟨S1x1x128x128, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg0.toNat, arg1.toNat, c2_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c3_i32 : BitVec 32 := 3#32
  let c0_i32_1 : BitVec 32 := 0#32
  ![c0_i32_0.toNat, arg0.toNat, v1.toNat, c3_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, arg0.toNat, arg1.toNat, c3_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c4_i32 : BitVec 32 := 4#32
  let c0_i32_1 : BitVec 32 := 0#32
  ![c0_i32_0.toNat, arg0.toNat, v1.toNat, c4_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, arg0.toNat, arg1.toNat, c4_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8192x5120 : Shape := ⟨2, ![8192, 5120]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S1x1x8192x1024 : Shape := ⟨4, ![1, 1, 8192, 1024]⟩
abbrev S8192x128 : Shape := ⟨2, ![8192, 128]⟩
abbrev S1x1x8192x128 : Shape := ⟨4, ![1, 1, 8192, 128]⟩

abbrev nBuf : Space → Nat
  | .hbm => 56
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .bf16⟩
  | .hbm, ⟨2, _⟩ => ⟨S8192x1024, .f32⟩
  | .hbm, ⟨3, _⟩ => ⟨S8192x8x128, .f32⟩
  | .hbm, ⟨4, _⟩ => ⟨S8192x1024, .bf16⟩
  | .hbm, ⟨5, _⟩ => ⟨S8192x1024, .f32⟩
  | .hbm, ⟨6, _⟩ => ⟨S8192x8x128, .f32⟩
  | .hbm, ⟨7, _⟩ => ⟨S8192x1024, .bf16⟩
  | .hbm, ⟨8, _⟩ => ⟨S8192x1024, .f32⟩
  | .hbm, ⟨9, _⟩ => ⟨S8192x8x128, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S8192x1, .i32⟩
  | .hbm, ⟨16, _⟩ => ⟨S8192, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x128x8192, .f32⟩
  | .hbm, ⟨45, _⟩ => ⟨S8192x8x128, .f32⟩
  | .hbm, ⟨46, _⟩ => ⟨S8x8192x1, .f32⟩
  | .hbm, ⟨47, _⟩ => ⟨S8x8192x1, .f32⟩
  | .hbm, ⟨48, _⟩ => ⟨S8x8192, .f32⟩
  | .hbm, ⟨49, _⟩ => ⟨S8192x8, .f32⟩
  | .hbm, ⟨50, _⟩ => ⟨S1x1x8192x1024, .f32⟩
  | .hbm, ⟨51, _⟩ => ⟨S1x1x8192x1024, .bf16⟩
  | .hbm, ⟨52, _⟩ => ⟨S_, .i32⟩
  | .hbm, ⟨53, _⟩ => ⟨S_, .f32⟩
  | .hbm, ⟨54, _⟩ => ⟨S8192x128, .f32⟩
  | .hbm, ⟨55, _⟩ => ⟨S1x1x8192x128, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_v19 : Ref sig .tc := ⟨.hbm, 22, rfl⟩
abbrev main_v20 : Ref sig .tc := ⟨.hbm, 23, rfl⟩
abbrev main_c_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_4 : Ref sig .tc := ⟨.hbm, 52, rfl⟩
abbrev main_call1_v0 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== AttnUp.lean ====
abbrev S8192x1024 : Shape := ⟨2, ![8192, 1024]⟩
abbrev S1024x4096 : Shape := ⟨2, ![1024, 4096]⟩
abbrev S8192x8192 : Shape := ⟨2, ![8192, 8192]⟩
abbrev S8192x4096 : Shape := ⟨2, ![8192, 4096]⟩
abbrev S2048x1024 : Shape := ⟨2, ![2048, 1024]⟩
abbrev S256x1024 : Shape := ⟨2, ![256, 1024]⟩
abbrev S1024x1024 : Shape := ⟨2, ![1024, 1024]⟩
abbrev S8x128 : Shape := ⟨2, ![8, 128]⟩
abbrev S1024x256 : Shape := ⟨2, ![1024, 256]⟩
abbrev S256x256 : Shape := ⟨2, ![256, 256]⟩

abbrev nBuf : Space → Nat
  | .hbm => 4
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x8192, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .f32⟩
  | .local _ .vmem, ⟨3, _⟩ => ⟨S256x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c256_i32 : BitVec 32 := 256#32
  let v33 : BitVec 32 := Scalar.muli arg1 c256_i32
  v33
def k0_off1 (i : grid0.Coords) : Fin 2 → Nat :=
  let arg1 : BitVec 32 := BitVec.ofNat 32 (i 1).val
  let c256_i32 : BitVec 32 := 256#32
  let v33 : BitVec 32 := Scalar.muli arg1 c256_i32
  let v34 : BitVec 32 := v33
  let v37 : Index := Scalar.indexCast v34
  let c0_18 : Index := 0#32
  ![v37.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c256_i32 : BitVec 32 := 256#32
  let v33 : BitVec 32 := Scalar.muli arg1 c256_i32
  v33
def k0_off2 (i : grid0.Coords) : Fin 2 → Nat :=
  let arg1 : BitVec 32 := BitVec.ofNat 32 (i 1).val
  let c256_i32 : BitVec 32 := 256#32
  let v33 : BitVec 32 := Scalar.muli arg1 c256_i32
  let v34 : BitVec 32 := v33
  let v37 : Index := Scalar.indexCast v34
  let c0_18 : Index := 0#32
  ![v37.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c256_i32 : BitVec 32 := 256#32
  let v33 : BitVec 32 := Scalar.muli arg1 c256_i32
  v33
def k0_off3 (i : grid0.Coords) : Fin 2 → Nat :=
  let arg1 : BitVec 32 := BitVec.ofNat 32 (i 1).val
  let c256_i32 : BitVec 32 := 256#32
  let v33 : BitVec 32 := Scalar.muli arg1 c256_i32
  let v34 : BitVec 32 := v33
  let v37 : Index := Scalar.indexCast v34
  let c0_18 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 1 := Scalar.cmpi .eq arg0 c4_i32
  let c3_i32_11 : BitVec 32 := 3#32
  let v29 : BitVec 32 := Scalar.select v28 c3_i32_11 arg1
  let c4_i32_12 : BitVec 32 := 4#32
  let v30 : BitVec 32 := Scalar.muli v27 c4_i32_12
  let v31 : BitVec 32 := Scalar.addi v30 v29
  let c0_i32_13 : BitVec 32 := 0#32
  let v32 : BitVec 32 := Scalar.addi v17 c0_i32_13
  let c0_i32_14 : BitVec 32 := 0#32
  ![v31.toNat, v32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let v62 : BitVec 32 := Scalar.addi v51 c0_i32_31
  let c0_i32_32 : BitVec 32 := 0#32
  ![v32.toNat, v62.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v32.toNat, v51.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnUpRefIdeal.lean ====
abbrev S8192x1024 : Shape := ⟨2, ![8192, 1024]⟩
abbrev S1024x4096 : Shape := ⟨2, ![1024, 4096]⟩
abbrev S8192x8192 : Shape := ⟨2, ![8192, 8192]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x8192, .bf16⟩
  | .hbm, ⟨3, _⟩ => ⟨S8192x4096, .bf16⟩
  | .hbm, ⟨4, _⟩ => ⟨S8192x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DnUp.lean ====
abbrev S8192x2048 : Shape := ⟨2, ![8192, 2048]⟩
abbrev S2048x4096 : Shape := ⟨2, ![2048, 4096]⟩
abbrev S8192x8192 : Shape := ⟨2, ![8192, 8192]⟩
abbrev S8192x4096 : Shape := ⟨2, ![8192, 4096]⟩
abbrev S2048x2048 : Shape := ⟨2, ![2048, 2048]⟩
abbrev S512x1024 : Shape := ⟨2, ![512, 1024]⟩
abbrev S2048x1024 : Shape := ⟨2, ![2048, 1024]⟩
abbrev S8x128 : Shape := ⟨2, ![8, 128]⟩
abbrev S256x2048 : Shape := ⟨2, ![256, 2048]⟩
abbrev S2048x256 : Shape := ⟨2, ![2048, 256]⟩
abbrev S256x256 : Shape := ⟨2, ![256, 256]⟩

abbrev nBuf : Space → Nat
  | .hbm => 5
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x8192, .bf16⟩
  | .hbm, ⟨3, _⟩ => ⟨S8192x4096, .bf16⟩
  | .hbm, ⟨4, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v33 : BitVec 32 := Scalar.muli arg1 c512_i32
  v33
def k0_off1 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c512_i32 : BitVec 32 := 512#32
  let v33 : BitVec 32 := Scalar.muli arg1 c512_i32
  v33
def k0_off2 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c512_i32 : BitVec 32 := 512#32
  let v33 : BitVec 32 := Scalar.muli arg1 c512_i32
  v33
def k0_off3 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v37 : Index := Scalar.indexCast v34
  let c0_18 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 1 := Scalar.cmpi .eq arg0 c4_i32
  let c3_i32_11 : BitVec 32 := 3#32
  let v29 : BitVec 32 := Scalar.select v28 c3_i32_11 arg1
  let c4_i32_12 : BitVec 32 := 4#32
  let v30 : BitVec 32 := Scalar.muli v27 c4_i32_12
  let v31 : BitVec 32 := Scalar.addi v30 v29
  let c0_i32_13 : BitVec 32 := 0#32
  let v32 : BitVec 32 := Scalar.addi v17 c0_i32_13
  let c0_i32_14 : BitVec 32 := 0#32
  ![v31.toNat, v32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c4_i32 : BitVec 32 := 4#32
  let v62 : BitVec 32 := Scalar.addi v51 c4_i32
  let c0_i32_31 : BitVec 32 := 0#32
  ![v32.toNat, v62.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let v62 : BitVec 32 := Scalar.addi v51 c0_i32_31
  let c0_i32_32 : BitVec 32 := 0#32
  ![v32.toNat, v62.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  ![v32.toNat, v51.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DnUpRefIdeal.lean ====
abbrev S8192x2048 : Shape := ⟨2, ![8192, 2048]⟩
abbrev S2048x4096 : Shape := ⟨2, ![2048, 4096]⟩
abbrev S8192x8192 : Shape := ⟨2, ![8192, 8192]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x8192, .bf16⟩
  | .hbm, ⟨3, _⟩ => ⟨S8192x4096, .bf16⟩
  | .hbm, ⟨4, _⟩ => ⟨S8192x4096, .f32⟩
  | .hbm, ⟨5, _⟩ => ⟨S8192x4096, .bf16⟩
  | .hbm, ⟨6, _⟩ => ⟨S8192x4096, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== G12.lean ====
abbrev S8192x4096 : Shape := ⟨2, ![8192, 4096]⟩
abbrev S4096x25632 : Shape := ⟨2, ![4096, 25632]⟩
abbrev S25632x4096 : Shape := ⟨2, ![25632, 4096]⟩
abbrev S16x512x6144 : Shape := ⟨3, ![16, 512, 6144]⟩
abbrev S1024x4096 : Shape := ⟨2, ![1024, 4096]⟩
abbrev S128x4096 : Shape := ⟨2, ![128, 4096]⟩
abbrev S16x64x1024 : Shape := ⟨3, ![16, 64, 1024]⟩
abbrev S8x1024x128 : Shape := ⟨3, ![8, 1024, 128]⟩
abbrev S256x4096 : Shape := ⟨2, ![256, 4096]⟩
abbrev S1024x256 : Shape := ⟨2, ![1024, 256]⟩
abbrev S1024x128 : Shape := ⟨2, ![1024, 128]⟩
abbrev S1x1024x128 : Shape := ⟨3, ![1, 1024, 128]⟩
abbrev S64x128 : Shape := ⟨2, ![64, 128]⟩
abbrev S1x64x128 : Shape := ⟨3, ![1, 64, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x25632, .f32⟩
  | .hbm, ⟨2, _⟩ => ⟨S25632x4096, .f32⟩
  | .hbm, ⟨3, _⟩ => ⟨S16x512x6144, .bf16⟩
  | .local _ .vmem, ⟨0, _⟩ => ⟨S1024x4096, .bf16⟩
  | .local _ .vmem, ⟨1, _⟩ => ⟨S1024x4096, .bf16⟩
  | .local _ .vmem, ⟨2, _⟩ => ⟨S128x4096, .f32⟩
  | .local _ .vmem, ⟨3, _⟩ => ⟨S128x4096, .f32⟩
  | .local _ .vmem, ⟨4, _⟩ => ⟨S16x64x1024, .bf16⟩
  | .local _ .vmem, ⟨5, _⟩ => ⟨S16x64x1024, .bf16⟩
  | .local _ .vmem, ⟨6, _⟩ => ⟨S1024x4096, .bf16⟩
  | .local _ .vmem, ⟨7, _⟩ => ⟨S1024x4096, .bf16⟩
  | .local _ .vmem, ⟨8, _⟩ => ⟨S8x1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def k0_mult1 (i : grid0.Coords) : BitVec 32 :=
  let arg0 : BitVec 32 := BitVec.ofNat 32 (i 0).val
  let c5_i32 : BitVec 32 := 5#32
  let v0 : BitVec 32 := Scalar.minsi arg0 c5_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1_i32 : BitVec 32 := 1#32
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let v1 : BitVec 32 := Scalar.divsi v0 c1_i32
  let c1_i32_4 : BitVec 32 := 1#32
  let v16 : BitVec 32 := Scalar.subi v1 c1_i32_4
  let v17 : BitVec 32 := Scalar.select v15 v16 v1
  let c0_i32_11 : BitVec 32 := 0#32
  let v31 : BitVec 1 := Scalar.cmpi .sgt v17 c0_i32_11
  let v32 : BitVec 32 := Scalar.extui v31
  let c0_i32_12 : BitVec 32 := 0#32
  let v33 : BitVec 1 := Scalar.cmpi .slt v17 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v17 c2_i32
  let c0_i32_15 : BitVec 32 := 0#32
  let v43 : BitVec 1 := Scalar.cmpi .ne v42 c0_i32_15
  let v44 : BitVec 1 := Scalar.andi v41 v43
  let v30 : BitVec 32 := Scalar.divsi v17 c2_i32
  let c1_i32_16 : BitVec 32 := 1#32
  let v45 : BitVec 32 := Scalar.subi v30 c1_i32_16
  let v46 : BitVec 32 := Scalar.select v44 v45 v30
  let c3072_i32 : BitVec 32 := 3072#32
  let v47 : BitVec 32 := Scalar.muli v46 c3072_i32
  let c1_i32_23 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v17 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.addi c1_i32_23 v57
  let c1024_i32 : BitVec 32 := 1024#32
  let v59 : BitVec 32 := Scalar.muli v58 c1024_i32
  let v60 : BitVec 32 := Scalar.addi v47 v59
  let c6_i32 : BitVec 32 := 6#32
  let v28 : BitVec 1 := Scalar.cmpi .eq arg0 c6_i32
  let c7_i32 : BitVec 32 := 7#32
  let arg1 : BitVec 32 := BitVec.ofNat 32 (i 1).val
  let v29 : BitVec 32 := Scalar.select v28 c7_i32 arg1
  let c128_i32 : BitVec 32 := 128#32
  let v61 : BitVec 32 := Scalar.muli v29 c128_i32
  let v62 : BitVec 32 := Scalar.addi v60 v61
  v62
def k0_mult2 (i : grid0.Coords) : BitVec 32 :=
  let arg0 : BitVec 32 := BitVec.ofNat 32 (i 0).val
  let c5_i32 : BitVec 32 := 5#32
  let v0 : BitVec 32 := Scalar.minsi arg0 c5_i32
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let c4096_i32 : BitVec 32 := 4096#32
  let v64 : BitVec 32 := Scalar.muli v27 c4096_i32
  v64
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult3 (i : grid0.Coords) : BitVec 32 :=
  let arg1 : BitVec 32 := BitVec.ofNat 32 (i 1).val
  let c128_i32 : BitVec 32 := 128#32
  let v33 : BitVec 32 := Scalar.muli arg1 c128_i32
  v33
def k0_off1 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult4 (i : grid0.Coords) : BitVec 32 :=
  let arg1 : BitVec 32 := BitVec.ofNat 32 (i 1).val
  let c128_i32 : BitVec 32 := 128#32
  let v33 : BitVec 32 := Scalar.muli arg1 c128_i32
  v33
def k0_off2 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult5 (i : grid0.Coords) : BitVec 32 :=
  let arg1 : BitVec 32 := BitVec.ofNat 32 (i 1).val
  let c128_i32 : BitVec 32 := 128#32
  let v33 : BitVec 32 := Scalar.muli arg1 c128_i32
  v33
def k0_off3 (i : grid0.Coords) : Fin 2 → Nat :=
  let arg1 : BitVec 32 := BitVec.ofNat 32 (i 1).val
  let c128_i32 : BitVec 32 := 128#32
  let v33 : BitVec 32 := Scalar.muli arg1 c128_i32
  let v34 : BitVec 32 := v33
  let v38 : Index := Scalar.indexCast v34
  let c0_18 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  ![v1.toNat, v30.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi v0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c6_i32 : BitVec 32 := 6#32
  let v28 : BitVec 1 := Scalar.cmpi .eq arg0 c6_i32
  let c7_i32 : BitVec 32 := 7#32
  let v29 : BitVec 32 := Scalar.select v28 c7_i32 arg1
  let c2_i32 : BitVec 32 := 2#32
  let v30 : BitVec 32 := Scalar.divsi v17 c2_i32
  let c0_i32_11 : BitVec 32 := 0#32
  let v31 : BitVec 1 := Scalar.cmpi .sgt v17 c0_i32_11
  let v32 : BitVec 32 := Scalar.extui v31
  let c0_i32_12 : BitVec 32 := 0#32
  let v33 : BitVec 1 := Scalar.cmpi .slt v17 c0_i32_12
  let v34 : BitVec 32 := Scalar.extui v33
  let v35 : BitVec 32 := Scalar.subi v32 v34
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v17 c2_i32
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c3072_i32 : BitVec 32 := 3072#32
  let v47 : BitVec 32 := Scalar.muli v46 c3072_i32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v17 v49
  let c0_i32_20 : BitVec 32 := 0#32
  let v51 : BitVec 1 := Scalar.cmpi .ne v50 c0_i32_20
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let v55 : BitVec 1 := Scalar.andi v54 v51
  let v56 : BitVec 32 := Scalar.addi v50 v49
  let v57 : BitVec 32 := Scalar.select v55 v56 v50
  let c1_i32_23 : BitVec 32 := 1#32
  let v58 : BitVec 32 := Scalar.addi c1_i32_23 v57
  let c1024_i32 : BitVec 32 := 1024#32
  let v59 : BitVec 32 := Scalar.muli v58 c1024_i32
  let v60 : BitVec 32 := Scalar.addi v47 v59
  let c128_i32 : BitVec 32 := 128#32
  let v61 : BitVec 32 := Scalar.muli v29 c128_i32
  let v62 : BitVec 32 := Scalar.addi v60 v61
  let v63 : BitVec 32 := v62
  let c4096_i32 : BitVec 32 := 4096#32
  let v64 : BitVec 32 := Scalar.muli v27 c4096_i32
  let v65 : BitVec 32 := v64
  let c0_i32_24 : BitVec 32 := 0#32
  ![v63.toNat, v65.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.divsi v1 c1_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 1 := Scalar.cmpi .sgt arg0 c0_i32_13
  let c0_i32_14 : BitVec 32 := 0#32
  let v30 : BitVec 1 := Scalar.cmpi .eq v28 c0_i32_14
  let v31 : BitVec 1 := Scalar.andi v29 v30
  let c0_i32_15 : BitVec 32 := 0#32
  let v32 : BitVec 32 := Scalar.select v31 arg1 c0_i32_15
  let c1_i32_16 : BitVec 32 := 1#32
  let v33 : BitVec 32 := Scalar.subi arg0 c1_i32_16
  let c0_i32_17 : BitVec 32 := 0#32
  let v34 : BitVec 32 := Scalar.maxsi v33 c0_i32_17
  let c1_i32_18 : BitVec 32 := 1#32
  let v35 : BitVec 32 := Scalar.divsi v34 c1_i32_18
  let c0_i32_19 : BitVec 32 := 0#32
  let v36 : BitVec 1 := Scalar.cmpi .sgt v34 c0_i32_19
  let v37 : BitVec 32 := Scalar.extui v36
  let c0_i32_20 : BitVec 32 := 0#32
  let v38 : BitVec 1 := Scalar.cmpi .slt v34 c0_i32_20
  let v39 : BitVec 32 := Scalar.extui v38
  let v40 : BitVec 32 := Scalar.subi v37 v39
  let c0_i32_21 : BitVec 32 := 0#32
  let v41 : BitVec 1 := Scalar.cmpi .sgt c1_i32_18 c0_i32_21
  let v42 : BitVec 32 := Scalar.extui v41
  let c0_i32_22 : BitVec 32 := 0#32
  let v43 : BitVec 1 := Scalar.cmpi .slt c1_i32_18 c0_i32_22
  let v44 : BitVec 32 := Scalar.extui v43
  let v45 : BitVec 32 := Scalar.subi v42 v44
  let v46 : BitVec 1 := Scalar.cmpi .ne v40 v45
  let v47 : BitVec 32 := Scalar.remsi v34 c1_i32_18
  let c0_i32_23 : BitVec 32 := 0#32
  let v48 : BitVec 1 := Scalar.cmpi .ne v47 c0_i32_23
  let v49 : BitVec 1 := Scalar.andi v46 v48
  let c1_i32_24 : BitVec 32 := 1#32
  let v50 : BitVec 32 := Scalar.subi v35 c1_i32_24
  let v51 : BitVec 32 := Scalar.select v49 v50 v35
  let c1_i32_25 : BitVec 32 := 1#32
  let c0_i32_26 : BitVec 32 := 0#32
  let v52 : BitVec 1 := Scalar.cmpi .eq c1_i32_25 c0_i32_26
  let c1_i32_27 : BitVec 32 := 1#32
  let v53 : BitVec 32 := Scalar.select v52 c1_i32_27 c1_i32_25
  let v54 : BitVec 32 := Scalar.remsi v34 v53
  let c0_i32_28 : BitVec 32 := 0#32
  let v55 : BitVec 1 := Scalar.cmpi .ne v54 c0_i32_28
  let c0_i32_29 : BitVec 32 := 0#32
  let v56 : BitVec 1 := Scalar.cmpi .slt v54 c0_i32_29
  let c0_i32_30 : BitVec 32 := 0#32
  let v57 : BitVec 1 := Scalar.cmpi .slt v53 c0_i32_30
  let v58 : BitVec 1 := Scalar.xori v56 v57
  let v59 : BitVec 1 := Scalar.andi v58 v55
  let v60 : BitVec 32 := Scalar.addi v54 v53
  let v61 : BitVec 32 := Scalar.select v59 v60 v54
  let c0_i32_31 : BitVec 32 := 0#32
  let c0_i32_32 : BitVec 32 := 0#32
  ![c0_i32_31.toNat, v32.toNat, v51.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== G12RefIdeal.lean ====
abbrev S8192x4096 : Shape := ⟨2, ![8192, 4096]⟩
abbrev S4096x25632 : Shape := ⟨2, ![4096, 25632]⟩
abbrev S8192x25632 : Shape := ⟨2, ![8192, 25632]⟩
abbrev S8192x3072 : Shape := ⟨2, ![8192, 3072]⟩
abbrev S8192x6144 : Shape := ⟨2, ![8192, 6144]⟩
abbrev S8192x2048 : Shape := ⟨2, ![8192, 2048]⟩
abbrev S8192x16 : Shape := ⟨2, ![8192, 16]⟩
abbrev S512x16x6144 : Shape := ⟨3, ![512, 16, 6144]⟩
abbrev S16x512x6144 : Shape := ⟨3, ![16, 512, 6144]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x25632, .f32⟩
  | .hbm, ⟨2, _⟩ => ⟨S8192x4096, .f32⟩
  | .hbm, ⟨3, _⟩ => ⟨S8192x25632, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x6144, .f32⟩
  | .hbm, ⟨8, _⟩ => ⟨S8192x2048, .f32⟩
  | .hbm, ⟨9, _⟩ => ⟨S8192x16, .f32⟩
  | .hbm, ⟨10, _⟩ => ⟨S8192x16, .f32⟩
  | .hbm, ⟨11, _⟩ => ⟨S8192x4096, .f32⟩
  | .hbm, ⟨12, _⟩ => ⟨S8192x4096, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x6144, .f32⟩
  | .hbm, ⟨17, _⟩ => ⟨S8192x6144, .bf16⟩
  | .hbm, ⟨18, _⟩ => ⟨S512x16x6144, .bf16⟩
  | .hbm, ⟨19, _⟩ => ⟨S16x512x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== PNorm.lean ====
abbrev S8192x256 : Shape := ⟨2, ![8192, 256]⟩
abbrev S256x4096 : Shape := ⟨2, ![256, 4096]⟩
abbrev S4096 : Shape := ⟨1, ![4096]⟩
abbrev S1x4096 : Shape := ⟨2, ![1, 4096]⟩
abbrev S8192x4096 : Shape := ⟨2, ![8192, 4096]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x4096, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S512x256, .f32⟩
  | .local _ .vmem, ⟨1, _⟩ => ⟨S512x256, .f32⟩
  | .local _ .vmem, ⟨2, _⟩ => ⟨S256x4096, .f32⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | .local _ .vmem, ⟨6, _⟩ => ⟨S256x4096, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PNormRefIdeal.lean ====
abbrev S8192x256 : Shape := ⟨2, ![8192, 256]⟩
abbrev S256x4096 : Shape := ⟨2, ![256, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mix.lean ====
abbrev S8192x1024 : Shape := ⟨2, ![8192, 1024]⟩
abbrev S8192x128 : Shape := ⟨2, ![8192, 128]⟩
abbrev S256x1024 : Shape := ⟨2, ![256, 1024]⟩
abbrev S256x128 : Shape := ⟨2, ![256, 128]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixRefIdeal.lean ====
abbrev S8192x1024 : Shape := ⟨2, ![8192, 1024]⟩
abbrev S8192x128 : Shape := ⟨2, ![8192, 128]⟩
abbrev S8192x8 : Shape := ⟨2, ![8192, 8]⟩
abbrev S1x8192x8 : Shape := ⟨3, ![1, 8192, 8]⟩
abbrev S3x8192x8 : Shape := ⟨3, ![3, 8192, 8]⟩
abbrev S8192x8x128 : Shape := ⟨3, ![8192, 8, 128]⟩
abbrev S1x8192x8x128 : Shape := ⟨4, ![1, 8192, 8, 128]⟩
abbrev S3x8192x8x128 : Shape := ⟨4, ![3, 8192, 8, 128]⟩
abbrev S_ : Shape := ⟨0, ![]⟩
abbrev S3x8192x8x1 : Shape := ⟨4, ![3, 8192, 8, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x8, .f32⟩
  | .hbm, ⟨7, _⟩ => ⟨S8192x8, .f32⟩
  | .hbm, ⟨8, _⟩ => ⟨S8192x8, .f32⟩
  | .hbm, ⟨9, _⟩ => ⟨S1x8192x8, .f32⟩
  | .hbm, ⟨10, _⟩ => ⟨S1x8192x8, .f32⟩
  | .hbm, ⟨11, _⟩ => ⟨S1x8192x8, .f32⟩
  | .hbm, ⟨12, _⟩ => ⟨S3x8192x8, .f32⟩
  | .hbm, ⟨13, _⟩ => ⟨S8192x8x128, .bf16⟩
  | .hbm, ⟨14, _⟩ => ⟨S8192x8x128, .bf16⟩
  | .hbm, ⟨15, _⟩ => ⟨S8192x8x128, .bf16⟩
  | .hbm, ⟨16, _⟩ => ⟨S1x8192x8x128, .bf16⟩
  | .hbm, ⟨17, _⟩ => ⟨S1x8192x8x128, .bf16⟩
  | .hbm, ⟨18, _⟩ => ⟨S1x8192x8x128, .bf16⟩
  | .hbm, ⟨19, _⟩ => ⟨S3x8192x8x128, .bf16⟩
  | .hbm, ⟨20, _⟩ => ⟨S_, .f32⟩
  | .hbm, ⟨21, _⟩ => ⟨S8192x8, .f32⟩
  | .hbm, ⟨22, _⟩ => ⟨S1x8192x8, .f32⟩
  | .hbm, ⟨23, _⟩ => ⟨S3x8192x8, .f32⟩
  | .hbm, ⟨24, _⟩ => ⟨S3x8192x8, .f32⟩
  | .hbm, ⟨25, _⟩ => ⟨S3x8192x8, .f32⟩
  | .hbm, ⟨26, _⟩ => ⟨S_, .f32⟩
  | .hbm, ⟨27, _⟩ => ⟨S8192x8, .f32⟩
  | .hbm, ⟨28, _⟩ => ⟨S1x8192x8, .f32⟩
  | .hbm, ⟨29, _⟩ => ⟨S3x8192x8, .f32⟩
  | .hbm, ⟨30, _⟩ => ⟨S3x8192x8, .f32⟩
  | .hbm, ⟨31, _⟩ => ⟨S3x8192x8x1, .f32⟩
  | .hbm, ⟨32, _⟩ => ⟨S3x8192x8x128, .f32⟩
  | .hbm, ⟨33, _⟩ => ⟨S3x8192x8x128, .f32⟩
  | .hbm, ⟨34, _⟩ => ⟨S3x8192x8x128, .f32⟩
  | .hbm, ⟨35, _⟩ => ⟨S_, .f32⟩
  | .hbm, ⟨36, _⟩ => ⟨S8192x8x128, .f32⟩
  | .hbm, ⟨37, _⟩ => ⟨S8192x1024, .f32⟩
  | .hbm, ⟨38, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Stores.lean ====
/-
  Facts on stores that the products' proofs share: one store over known contents, and stores of tiles that fill a block.
-/
module

public import Idealize.ShloMosaic.Lib.Pipeline.ValueKit
public import Idealize.ShloMosaic.Lib.Ring

@[expose] public section

set_option maxRecDepth 16384

noncomputable section

namespace Cert.Stores

open Idealize.ShloMosaic

variable {sig : RefSig} {F : FTy → Type} [FloatOps F]

/-- One store of a whole chunk over known contents reads as the chunk laid over them. -/
theorem read_store {κ : Kind} {sp : Space} {s : Shape} {e : EltTy} {arg : Memref sig κ sp s e} (harg : arg.IsWhole)
    (r : Rect s) (w : r.shape.Idx → Elt F e) (D : s.Idx → Elt F e) :
    arg.view.read (Elt F) (arg.view.writes (Elt F) (harg.unread D) [⟨r, w⟩]) = r.overlay D w := by
  funext y
  by_cases hy : y ∈ r.set
  · obtain ⟨x, rfl⟩ := r.exists_idx_of_mem hy
    rw [show r.idx x = r.emb x from rfl, View.read_writes_cons_emb, r.overlay_emb]
  · rw [View.writes_cons, View.read_slice_write_of_not_mem r _ _ _ (by rwa [Rect.map_emb_univ]), r.overlay_of_not_mem _ _ hy,
      View.writes_nil, harg.read_unread]

/-- Stores of tiles that fill a block, each the part of `G` under it, leave `G`. -/
theorem read_tiled {κ : Kind} {sp : Space} {s : Shape} {e : EltTy} (v : View sig κ sp s e) (f : v.ty.Contents (Elt F))
    (L : List (View.Piece (Elt F) s e)) (tile : Fin s.rank → ℕ) (G : s.Idx → Elt F e)
    (h : View.Piece.tiledL L tile = true) (hp : ∀ p ∈ L, ∀ x : p.1.shape.Idx, p.2 x = G (p.1.emb x)) :
    v.read (Elt F) (v.writes (Elt F) f L) = G :=
  funext fun y => (View.read_writes_apply_eq_canon v f y L (View.cover_of_tiledL L _ h y)).trans
    (View.canon_apply_of_pieces G L hp y (View.cover_of_tiledL L _ h y))

end Cert.Stores

end
-- ==== Proof.Proj.Body.lean ====
module

public import proofs.«01_k».proof.Proof.Gen.KernelIdeal.Frame
public import proofs.«01_k».proof.Proof.Gen.KernelIdeal.Skeleton
public import proofs.«01_k».proof.Proof.Stores

@[expose] public section

set_option maxRecDepth 16384

noncomputable section

namespace Cert.KernelIdeal.Proj

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.KernelIdeal.Gen
open Cert.Stores (read_store read_tiled)

variable {F : FTy → Type} [FloatOps F]

local notation "𝕄" => MT nD τ sig Unit (Elt F) ℕ (UR sig nD τ) ℕ

/-! ## What the body computes -/

/-- The panel buffer after a chunk of 128 rows is staged into it at the row offset `off 0`: the chunk, its numbers cast to
    bf16, over the buffer's earlier contents. -/
def staged (off : Fin 2 → ℕ) (inb : ∀ a, off a + S128x4096.size a ≤ S1024x4096.size a) (x1 : Vec F S128x4096 .f32)
    (D : Vec F S1024x4096 .bf16) : Vec F S1024x4096 .bf16 :=
  (Rect.unit (s := S1024x4096) off S128x4096.size inb).overlay D (k0_pay1 x1)

/-- The output block from a block of rows `x` and a weight panel `W`: sixteen products of 256 rows of `x` with 256 rows of
    `W`, side by side. -/
def outBlock (x W : Vec F S1024x4096 .bf16) : Vec F S1024x1024 .bf16 := fun y =>
  k0_pay9 (fun j => x (ix2 (⟨((y 0).val / 256 * 256 + (j 0).val) % 1024, Nat.mod_lt _ (by decide)⟩ : Fin 1024) (j 1)))
    (fun j => W (ix2 (⟨((y 1).val / 256 * 256 + (j 0).val) % 1024, Nat.mod_lt _ (by decide)⟩ : Fin 1024) (j 1)))
    (ix2 (⟨(y 0).val % 256, Nat.mod_lt _ (by decide)⟩ : Fin 256) (⟨(y 1).val % 256, Nat.mod_lt _ (by decide)⟩ : Fin 256))

/-- One of the sixteen products is the part of `outBlock` under its rectangle. -/
theorem tile_eq (x W : Vec F S1024x4096 .bf16) (o1 o2 : ℕ) (h1 : o1 % 256 = 0) (h2 : o2 % 256 = 0)
    (i1 : ∀ a, (![o1, 0] : Fin 2 → ℕ) a + S256x4096.size a ≤ S1024x4096.size a)
    (i2 : ∀ a, (![o2, 0] : Fin 2 → ℕ) a + S256x4096.size a ≤ S1024x4096.size a)
    (i3 : ∀ a, (![o1, o2] : Fin 2 → ℕ) a + S256x256.size a ≤ S1024x1024.size a) (y : S256x256.Idx) :
    k0_pay9 (View.ld x (Rect.unit (s := S1024x4096) ![o1, 0] S256x4096.size i1))
        (View.ld W (Rect.unit (s := S1024x4096) ![o2, 0] S256x4096.size i2)) y
      = outBlock x W ((Rect.unit (s := S1024x1024) ![o1, o2] S256x256.size i3).emb y) := by
  have b0 : (y 0).val < 256 := (y 0).isLt
  have b1 : (y 1).val < 256 := (y 1).isLt
  have l1 : o1 + 256 ≤ 1024 := i1 0
  have l2 : o2 + 256 ≤ 1024 := i2 0
  have e0 : (((Rect.unit (s := S1024x1024) ![o1, o2] S256x256.size i3).emb y) 0).val = o1 + (y 0).val := by
    show o1 + 1 * (y 0).val = _; omega
  have e1 : (((Rect.unit (s := S1024x1024) ![o1, o2] S256x256.size i3).emb y) 1).val = o2 + (y 1).val := by
    show o2 + 1 * (y 1).val = _; omega
  have hx : View.ld x (Rect.unit (s := S1024x4096) ![o1, 0] S256x4096.size i1) = fun j : S256x4096.Idx =>
      x (ix2 (⟨((((Rect.unit (s := S1024x1024) ![o1, o2] S256x256.size i3).emb y) 0).val / 256 * 256 + (j 0).val) % 1024, Nat.mod_lt _ (by decide)⟩ : Fin 1024) (j 1)) := by
    funext j
    have bj : (j 0).val < 256 := (j 0).isLt
    refine congrArg x (funext fun a => Fin.ext ?_)
    match a with
    | ⟨0, _⟩ =>
      show o1 + 1 * (j 0).val = ((((Rect.unit (s := S1024x1024) ![o1, o2] S256x256.size i3).emb y) 0).val / 256 * 256 + (j 0).val) % 1024
      rw [e0]; omega
    | ⟨1, _⟩ => show 0 + 1 * (j 1).val = (j 1).val; omega
  have hW : View.ld W (Rect.unit (s := S1024x4096) ![o2, 0] S256x4096.size i2) = fun j : S256x4096.Idx =>
      W (ix2 (⟨((((Rect.unit (s := S1024x1024) ![o1, o2] S256x256.size i3).emb y) 1).val / 256 * 256 + (j 0).val) % 1024, Nat.mod_lt _ (by decide)⟩ : Fin 1024) (j 1)) := by
    funext j
    have bj : (j 0).val < 256 := (j 0).isLt
    refine congrArg W (funext fun a => Fin.ext ?_)
    match a with
    | ⟨0, _⟩ =>
      show o2 + 1 * (j 0).val = ((((Rect.unit (s := S1024x1024) ![o1, o2] S256x256.size i3).emb y) 1).val / 256 * 256 + (j 0).val) % 1024
      rw [e1]; omega
    | ⟨1, _⟩ => show 0 + 1 * (j 1).val = (j 1).val; omega
  have hy : y = (ix2 (⟨(((Rect.unit (s := S1024x1024) ![o1, o2] S256x256.size i3).emb y) 0).val % 256, Nat.mod_lt _ (by decide)⟩ : Fin 256)
      (⟨(((Rect.unit (s := S1024x1024) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S1024x1024) ![o1, o2] S256x256.size i3).emb y) 0).val % 256; rw [e0]; omega
    | ⟨1, _⟩ => show (y 1).val = (((Rect.unit (s := S1024x1024) ![o1, o2] S256x256.size i3).emb y) 1).val % 256; rw [e1]; omega
  rw [hx, hW]
  unfold outBlock
  exact congrArg _ hy

set_option maxHeartbeats 1000000 in
/-- The body while only staging (the first outer step): the chunk goes into the first panel buffer, all else is as it was. -/
theorem run_stage (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S1024x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x128 .f32) (harg7 : arg7.IsWhole) (hc0 : k0_cond1 i = 1#1) (hc1 : ¬k0_cond2 i = 1#1) (hc2 : ¬k0_cond3 i = 1#1)
    (x0 : Vec F S1024x4096 .bf16) (x1 : Vec F S128x4096 .f32) (x2 : Vec F S1024x1024 .bf16) (D0 D1 : Vec F S1024x4096 .bf16) :
      ∀ (E : Set ℕ) (K : PUnit → sProp 𝕄),
        iprop(owns c arg2 fullShare x0 ∗ owns c arg3 fullShare x1 ∗ owns c arg4 fullShare x2 ∗ owns c arg5 fullShare D0 ∗ owns c arg6 fullShare D1 ∗ (∃ d, owns c arg7 fullShare d)
            ∗ (iprop(owns c arg2 fullShare x0 ∗ owns c arg3 fullShare x1 ∗ owns c arg4 fullShare x2 ∗ owns c arg5 fullShare (staged (k0_off1 i) (k0_off1_inb i hc0) x1 D0) ∗ owns c arg6 fullShare D1 ∗ (∃ d, owns c arg7 fullShare d)) -∗ K ⟨⟩))
          ⊢ wp frame (wpE (defs₀ (F := F)) Variants.none c none) E (cc0_proj_z_attn_g0 i arg2 harg2 arg3 harg3 arg4 harg4 arg5 harg5 arg6 harg6 arg7 harg7) K := by
  intro E K
  simp only [cc0_proj_z_attn_g0_eq_skeleton]; unfold cc0_proj_z_attn_g0_skel
  unfold owns
  iintro ⟨⟨%f0, %hf0, H0⟩, ⟨%f1, %hf1, H1⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hf2
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

set_option maxHeartbeats 4000000 in
/-- The body at an odd outer step: the chunk goes into the second panel buffer while the output block is computed from the
    first one. -/
theorem run_odd (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S1024x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x128 .f32) (harg7 : arg7.IsWhole) (hc0 : ¬k0_cond1 i = 1#1) (hc1 : k0_cond2 i = 1#1) (hc2 : ¬k0_cond3 i = 1#1)
    (x0 : Vec F S1024x4096 .bf16) (x1 : Vec F S128x4096 .f32) (D0 D1 : Vec F S1024x4096 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D0) ∗ owns c arg5 fullShare D0 ∗ owns c arg6 fullShare (staged (k0_off2 i) (k0_off2_inb i hc1) x1 D1) ∗ (∃ d, owns c arg7 fullShare d)) -∗ K ⟨⟩))
          ⊢ wp frame (wpE (defs₀ (F := F)) Variants.none c none) E (cc0_proj_z_attn_g0 i arg2 harg2 arg3 harg3 arg4 harg4 arg5 harg5 arg6 harg6 arg7 harg7) K := by
  intro E K
  simp only [cc0_proj_z_attn_g0_eq_skeleton]; unfold cc0_proj_z_attn_g0_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![256, 256] _ (by rfl) ?_
    simp only [View.readAt_eq_ld, harg2.read_unread, harg5.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D0 _ _ (by decide) (by decide) _ _ (by decide) x
  isplitl [HS0]
  · iexists _; isplitr; · ipureintro; exact harg5.read_unread _
    iexact HS0
  isplitl [HS1]
  · iexists _; isplitr; swap; · iexact HS1
    ipureintro
    rw [read_store harg6]
    unfold staged
    congr 2
    sl_unfold_words
    simp only [View.readAt_eq_ld, harg3.read_unread]
    exact View.ld_unit_zero (by decide) _ _
  iexists _, _; isplitr; swap; · iexact HS2
  ipureintro; rfl

set_option maxHeartbeats 4000000 in
/-- The body at an even outer step: the chunk goes into the first panel buffer while the output block is computed from the
    second one. -/
theorem run_even (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S1024x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x128 .f32) (harg7 : arg7.IsWhole) (hc0 : ¬k0_cond1 i = 1#1) (hc1 : ¬k0_cond2 i = 1#1) (hc2 : k0_cond3 i = 1#1)
    (x0 : Vec F S1024x4096 .bf16) (x1 : Vec F S128x4096 .f32) (D0 D1 : Vec F S1024x4096 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D1) ∗ owns c arg5 fullShare (staged (k0_off3 i) (k0_off3_inb i hc2) x1 D0) ∗ owns c arg6 fullShare D1 ∗ (∃ d, owns c arg7 fullShare d)) -∗ K ⟨⟩))
          ⊢ wp frame (wpE (defs₀ (F := F)) Variants.none c none) E (cc0_proj_z_attn_g0 i arg2 harg2 arg3 harg3 arg4 harg4 arg5 harg5 arg6 harg6 arg7 harg7) K := by
  intro E K
  simp only [cc0_proj_z_attn_g0_eq_skeleton]; unfold cc0_proj_z_attn_g0_skel
  simp only [k0_part4_eq_skeleton, k0_part5_eq_skeleton, k0_part6_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![256, 256] _ (by rfl) ?_
    simp only [View.readAt_eq_ld, harg2.read_unread, harg6.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D1 _ _ (by decide) (by decide) _ _ (by decide) x
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

end Cert.KernelIdeal.Proj

end
-- ==== Proof.Panels.lean ====
/-
  A weight matrix staged panel by panel into two alternating buffers, one panel ahead of the multiplication, each panel in `N`
  chunks of `R` rows: what the two buffers hold before each point of the grid. The products' proofs share it.
-/
module

public import Idealize.ShloMosaic.Lib.Pipeline.ValueKit
public import Idealize.ShloMosaic.Lib.Ring

@[expose] public section

noncomputable section

namespace Cert.Panels

open Idealize.ShloMosaic

variable {α : Type} {A B : ℕ}

/-- The buffer `D` holds the first `i` chunks of the panel `P`. -/
def Holds (R : ℕ) (P : (⟨2, ![A, B]⟩ : Shape).Idx → α) (i : ℕ) (D : (⟨2, ![A, B]⟩ : Shape).Idx → α) : Prop :=
  ∀ y, (y 0).val < i * R → D y = P y

/-- A buffer that holds all chunks is the panel. -/
theorem Holds.eq_panel {R N : ℕ} {P D : (⟨2, ![A, B]⟩ : Shape).Idx → α} (h : Holds R P N D) (hA : A ≤ N * R := by decide) : D = P :=
  funext fun y => h y (lt_of_lt_of_le (y 0).isLt hA)

/-- Laying the next chunk over the buffer adds it to what the buffer holds. -/
theorem Holds.stage {R i : ℕ} {P D : (⟨2, ![A, B]⟩ : Shape).Idx → α} (h : Holds R P i D) (off : Fin 2 → ℕ) (hoff : off = ![i * R, 0])
    (inb : ∀ a, off a + (⟨2, ![R, B]⟩ : Shape).size a ≤ (⟨2, ![A, B]⟩ : Shape).size a) (x : (⟨2, ![R, B]⟩ : Shape).Idx → α)
    (hx : ∀ (z : (⟨2, ![R, B]⟩ : Shape).Idx) (y : (⟨2, ![A, B]⟩ : Shape).Idx), (y 0).val = i * R + (z 0).val → (y 1).val = (z 1).val → P y = x z) :
    Holds R P (i + 1) ((Rect.unit (s := ⟨2, ![A, B]⟩) off (⟨2, ![R, B]⟩ : Shape).size inb).overlay D x) := by
  subst hoff
  intro y hy
  rw [Nat.succ_mul] at hy
  by_cases hm : y ∈ (Rect.unit (s := ⟨2, ![A, B]⟩) ![i * R, 0] (⟨2, ![R, B]⟩ : Shape).size inb).set
  · obtain ⟨z, rfl⟩ := (Rect.unit (s := ⟨2, ![A, B]⟩) ![i * R, 0] (⟨2, ![R, B]⟩ : Shape).size inb).exists_idx_of_mem hm
    rw [show ∀ (r : Rect ⟨2, ![A, B]⟩) (z : r.shape.Idx), r.idx z = r.emb z from fun _ _ => rfl, Rect.overlay_emb]
    refine (hx z _ ?_ ?_).symm
    · show i * R + 1 * (z 0).val = _; omega
    · show 0 + 1 * (z 1).val = _; omega
  · rw [Rect.overlay_of_not_mem _ _ _ hm]
    refine h y ?_
    by_contra hlt
    refine hm (Rect.mem_set_unit.mpr fun a => ?_)
    match a with
    | ⟨0, _⟩ => exact ⟨(by show i * R ≤ (y 0).val; omega), (by show (y 0).val < i * R + R; omega)⟩
    | ⟨1, _⟩ => exact ⟨Nat.zero_le _, (by have hB : (y 1).val < B := (y 1).isLt; show (y 1).val < 0 + B; omega)⟩

/-- What the two buffers hold before point `n`: the one of `n / N`'s parity the chunks staged so far of that step's panel,
    the other the whole panel of the step before. -/
def Inv (R N : ℕ) (P : ℕ → (⟨2, ![A, B]⟩ : Shape).Idx → α) (n : ℕ) (D0 D1 : (⟨2, ![A, B]⟩ : Shape).Idx → α) : Prop :=
  (n / N % 2 = 0 → Holds R (P (n / N)) (n % N) D0) ∧ (n / N % 2 = 1 → Holds R (P (n / N)) (n % N) D1)
  ∧ (1 ≤ n / N → n / N % 2 = 0 → Holds R (P (n / N - 1)) N D1) ∧ (1 ≤ n / N → n / N % 2 = 1 → Holds R (P (n / N - 1)) N D0)

/-- The next point is in the same outer step, or begins the next. -/
theorem next {n N : ℕ} (hN : 0 < N) :
    (n % N + 1 = N ∧ (n + 1) / N = n / N + 1 ∧ (n + 1) % N = 0) ∨ ((n + 1) / N = n / N ∧ (n + 1) % N = n % N + 1) := by
  have hr := Nat.mod_lt n hN
  have e := Nat.div_add_mod n N
  generalize n / N = q at *
  generalize n % N = r at *
  subst e
  rcases Nat.lt_or_ge (r + 1) N with h | h
  · right
    rw [show N * q + r + 1 = (r + 1) + N * q by omega, Nat.add_mul_div_left _ _ hN, Nat.add_mul_mod_self_left, Nat.div_eq_of_lt h,
      Nat.mod_eq_of_lt h]
    exact ⟨Nat.zero_add _, rfl⟩
  · left
    have hl : r + 1 = N := by omega
    rw [show N * q + r + 1 = 0 + N * (q + 1) by rw [Nat.mul_succ]; omega, Nat.add_mul_div_left _ _ hN, Nat.add_mul_mod_self_left,
      Nat.zero_div, Nat.zero_mod]
    exact ⟨hl, Nat.zero_add _, rfl⟩

variable {R N n : ℕ} {P : ℕ → (⟨2, ![A, B]⟩ : Shape).Idx → α} {D0 D1 D' : (⟨2, ![A, B]⟩ : Shape).Idx → α}

/-- An even outer step keeps the invariant, -/
theorem Inv.even (h : Inv R N P n D0 D1) (hN : 0 < N) (he : n / N % 2 = 0) (hs : Holds R (P (n / N)) (n % N + 1) D') :
    Inv R N P (n + 1) D' D1 := by
  have h2 := h.2.2.1
  rcases next (n := n) hN with ⟨r, q, z⟩ | ⟨q, r⟩
  · unfold Inv
    rw [q, z]
    rw [r] at hs
    exact ⟨fun _ => by omega, fun _ y hy => absurd hy (by rw [Nat.zero_mul]; exact Nat.not_lt_zero _), fun _ _ => by omega, fun _ _ => hs⟩
  · unfold Inv
    rw [q, r]
    exact ⟨fun _ => hs, fun _ => by omega, h2, fun _ _ => by omega⟩

/-- and so does an odd one. -/
theorem Inv.odd (h : Inv R N P n D0 D1) (hN : 0 < N) (ho : n / N % 2 = 1) (hs : Holds R (P (n / N)) (n % N + 1) D') :
    Inv R N P (n + 1) D0 D' := by
  have h2 := h.2.2.2
  rcases next (n := n) hN with ⟨r, q, z⟩ | ⟨q, r⟩
  · unfold Inv
    rw [q, z]
    rw [r] at hs
    exact ⟨fun _ y hy => absurd hy (by rw [Nat.zero_mul]; exact Nat.not_lt_zero _), fun _ => by omega, fun _ _ => hs, fun _ _ => by omega⟩
  · unfold Inv
    rw [q, r]
    exact ⟨fun _ => by omega, fun _ => hs, fun _ _ => by omega, h2⟩

end Cert.Panels

end
-- ==== Proof.Proj.Run.lean ====
module

public import proofs.«01_k».proof.Proof.Proj.Body
public import proofs.«01_k».proof.Proof.Panels

@[expose] public section

set_option maxRecDepth 16384

noncomputable section

namespace Cert.KernelIdeal.Proj

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 48 points (outer step `t / 8`, inner step `t % 8`) -/

theorem cond_stage : ∀ t : Fin cfg0.N, k0_cond1 (grid0.coords t) = 1#1 ↔ t.val < 8 :=
  (by decide +kernel : ∀ t : Fin grid0.N, _)
theorem cond_odd : ∀ t : Fin cfg0.N, k0_cond2 (grid0.coords t) = 1#1 ↔ t.val / 8 % 2 = 1 :=
  (by decide +kernel : ∀ t : Fin grid0.N, _)
theorem cond_even : ∀ t : Fin cfg0.N, k0_cond3 (grid0.coords t) = 1#1 ↔ (8 ≤ t.val ∧ t.val / 8 % 2 = 0) :=
  (by decide +kernel : ∀ t : Fin grid0.N, _)
theorem off_stage : ∀ t : Fin cfg0.N, k0_off1 (grid0.coords t) = ![t.val % 8 * 128, 0] :=
  (by decide +kernel : ∀ t : Fin grid0.N, _)
theorem off_odd : ∀ t : Fin cfg0.N, k0_off2 (grid0.coords t) = ![t.val % 8 * 128, 0] :=
  (by decide +kernel : ∀ t : Fin grid0.N, _)
theorem off_even : ∀ t : Fin cfg0.N, k0_off3 (grid0.coords t) = ![t.val % 8 * 128, 0] :=
  (by decide +kernel : ∀ t : Fin grid0.N, _)
/-- In the first outer step nothing is written back. -/
theorem not_flush : ∀ t : Fin cfg0.N, t.val < 8 → (cfg0.win 2).flush t = false :=
  (by decide +kernel : ∀ t : Fin grid0.N, t.val < 8 → win0_2.flush t = false)

/-! ## The weight panels in the two buffers -/

/-- The weight panel that outer step `T` stages, chunk by chunk. -/
def panel (c : Dev nD) (T : ℕ) : Vec F S1024x4096 .bf16 := fun y =>
  k0_pay1 (iblk m c 1 (⟨(8 * T + (y 0).val / 128) % 48, Nat.mod_lt _ (by decide)⟩ : Fin grid0.N))
    (ix2 (⟨(y 0).val % 128, Nat.mod_lt _ (by decide)⟩ : Fin 128) (y 1))

/-- What the two buffers hold before point `n`, as `Panels.Inv` says. -/
abbrev Inv (c : Dev nD) (n : ℕ) (D0 D1 : Vec F S1024x4096 .bf16) : Prop := Panels.Inv 128 8 (panel m c) n D0 D1

/-- Staging point `t`'s chunk adds one chunk to what the buffer holds. -/
theorem holds_staged (c : Dev nD) (t : Fin cfg0.N) (off : Fin 2 → ℕ) (hoff : off = ![t.val % 8 * 128, 0])
    (inb : ∀ a, off a + S128x4096.size a ≤ S1024x4096.size a) (D : Vec F S1024x4096 .bf16)
    (h : Panels.Holds 128 (panel m c (t.val / 8)) (t.val % 8) D) :
    Panels.Holds 128 (panel m c (t.val / 8)) (t.val % 8 + 1) (staged off inb (iblk m c 1 t) D) := by
  have ht : t.val < 48 := lt_of_lt_of_eq t.isLt N_0
  refine h.stage off hoff inb _ fun z y e0 e1 => ?_
  have hz : (z 0).val < 128 := (z 0).isLt
  unfold panel
  rw [show (⟨(8 * (t.val / 8) + (y 0).val / 128) % 48, Nat.mod_lt _ (by decide)⟩ : Fin grid0.N) = t from Fin.ext (by
    show (8 * (t.val / 8) + (y 0).val / 128) % 48 = t.val; rw [e0]; omega)]
  refine congrArg _ (funext fun a => Fin.ext ?_)
  match a with
  | ⟨0, _⟩ => show (y 0).val % 128 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (panel m c (t.val / 8 - 1))
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_out (c : Dev nD) (t : Fin cfg0.N) :
    (dats m 0 c).after 2 t = outBlock (iblk m c 0 t) (panel m c (t.val / 8 - 1)) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d

/-- The staging memrefs of point `t`. -/
abbrev msRows (t : Fin cfg0.N) : Memref sig .tc .vmem S1024x4096 .bf16 := win0_0.stage (cfg0.slots t 0)
abbrev msChunk (t : Fin cfg0.N) : Memref sig .tc .vmem S128x4096 .f32 := win0_1.stage (cfg0.slots t 1)
abbrev msOut (t : Fin cfg0.N) : Memref sig .tc .vmem S1024x1024 .bf16 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t]]
  unfold PhiT
  by_cases h8 : t.val < 8
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 2 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%d2, H2⟩⟩
    iapply ((run_stage c (grid0.coords t) _ _ _ _ _ _ _ _ _ _ _ _ c1 c2 c3 (iblk m c 0 t) (iblk m c 1 t) ((dats m 0 c).before 2 t d2) D0 D1) Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    iexists _; iexact H2
  · have c1 : ¬k0_cond1 (grid0.coords t) = 1#1 := fun h => h8 ((cond_stage t).mp h)
    by_cases h1 : t.val / 8 % 2 = 1
    · have c2 := (cond_odd t).mpr h1
      have c3 : ¬k0_cond3 (grid0.coords t) = 1#1 := fun h => by have := (cond_even t).mp h; omega
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.2 (by omega) h1).eq_panel]
      iapply ((run_odd c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      iexact H2
    · have c3 := (cond_even t).mpr ⟨by omega, by omega⟩
      have c2 : ¬k0_cond2 (grid0.coords t) = 1#1 := fun h => h1 ((cond_odd t).mp h)
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.1 (by omega) (by omega)).eq_panel]
      iapply ((run_even c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Proj

end
-- ==== Proof.Proj.Value.lean ====
module

public import proofs.«01_k».proof.Proof.Proj.Run

@[expose] public section

set_option maxRecDepth 16384

noncomputable section

namespace Cert.KernelIdeal.Proj

open Idealize.ShloMosaic TcCoe Tactic
open Idealize.SL Idealize.SL.Sem
open Idealize.ShloMosaic.Pipeline (Dat Cfg Window)
open Cert.KernelIdeal.Gen

variable (m : (ℓ : Loc nD τ sig) → Buf (Elt Ideal) ℓ) (ρ : Dev nD → PrngReg)

/-- The column of the weights at which panel `j` begins: two panels of the gate `z`, then one each of the query, key and
    value projections of the first attention group. -/
def panelCol (j : ℕ) : ℕ := if j < 2 then 15360 + j * 1024 else (j - 2) * 3072

theorem panelCol_lt {j : ℕ} (h : j < 5) : panelCol j + 1024 ≤ 25632 := by unfold panelCol; split <;> omega

/-- The column of the weights that column `k` of the result is taken from. -/
def col (k : Fin 5120) : Fin 25632 := ⟨panelCol (k.val / 1024) + k.val % 1024, by
  have h : k.val / 1024 < 5 := by omega
  have := panelCol_lt h
  omega⟩

/-- The activations and the weights as launched. -/
abbrev X (c : Dev nD) : Vec Ideal S8192x4096 .bf16 := m ((c : Thread nD τ).loc main_arg0)
abbrev W (c : Dev nD) : Vec Ideal S4096x25632 .f32 := m ((c : Thread nD τ).loc main_arg1)

/-- The result: rows of the activations against the chosen columns of the weights. -/
def G (c : Dev nD) : Vec Ideal S8192x5120 .bf16 := fun i => ∑ k : Fin 4096, X m c (ix2 (i 0) k) * W m c (ix2 k (col (i 1)))

theorem idx_rows : ∀ t : Fin cfg0.N, 8 ≤ t.val → win0_0.index t = ![t.val % 8, 0] :=
  (by decide +kernel : ∀ t : Fin grid0.N, _)
theorem idx_chunk : ∀ t : Fin cfg0.N, t.val < 40 → win0_1.index t = ![panelCol (t.val / 8) + t.val % 8 * 128, 0] :=
  (by decide +kernel : ∀ t : Fin grid0.N, _)
theorem idx_out : ∀ t : Fin cfg0.N, 8 ≤ t.val → win0_2.index t = ![t.val % 8, t.val / 8 - 1] :=
  (by decide +kernel : ∀ t : Fin grid0.N, _)

/-- The rows that a multiplying point reads. -/
theorem rows_apply (c : Dev nD) (t : Fin cfg0.N) (ht : 8 ≤ t.val) (y : S1024x4096.Idx) :
    iblk m c 0 t y = X m c (ix2 (⟨t.val % 8 * 1024 + (y 0).val, by have : (y 0).val < 1024 := (y 0).isLt; omega⟩ : Fin 8192) (y 1)) := by
  blk_ext [iblk, V, idx_rows t ht]

/-- The chunk of the weights that a staging point reads. -/
theorem chunk_apply (c : Dev nD) (t : Fin cfg0.N) (ht : t.val < 40) (y : S128x4096.Idx) :
    iblk m c 1 t y = W m c (ix2 (y 1) (⟨panelCol (t.val / 8) + t.val % 8 * 128 + (y 0).val, by
      have : (y 0).val < 128 := (y 0).isLt
      have h : t.val / 8 < 5 := by omega
      have := panelCol_lt h
      omega⟩ : Fin 25632)) := by
  have hV : ∀ j : S25632x4096.Idx, V m c main_v0 j = W m c (ix2 (j 1) (j 0)) := fun j => by entry_read; pointwise
  have e0 : ((((cfg0.win 1).blk t).view.emb y) 0).val = panelCol (t.val / 8) + t.val % 8 * 128 + (y 0).val := by
    have h := win0_1.rect_emb_val_off t y 0
    rw [idx_chunk t ht] at h
    exact h
  have e1 : ((((cfg0.win 1).blk t).view.emb y) 1).val = (y 1).val := by
    have h := win0_1.rect_emb_val_off t y 1
    rw [idx_chunk t ht] at h
    exact h.trans (Nat.zero_add _)
  refine (hV (((cfg0.win 1).blk t).view.emb y)).trans (congrArg (W m c) (funext fun a => Fin.ext ?_))
  match a with
  | ⟨0, _⟩ => exact e1
  | ⟨1, _⟩ => exact e0

/-- A staged panel is a block of the weights' columns, transposed. -/
theorem panel_apply (c : Dev nD) (T : ℕ) (hT : T < 5) (y : S1024x4096.Idx) :
    panel m c T y = W m c (ix2 (y 1) (⟨panelCol T + (y 0).val, by
      have : (y 0).val < 1024 := (y 0).isLt
      have := panelCol_lt hT
      omega⟩ : Fin 25632)) := by
  have hy : (y 0).val < 1024 := (y 0).isLt
  unfold panel k0_pay1
  pointwise
  rw [chunk_apply m c _ (by show (8 * T + (y 0).val / 128) % 48 < 40; omega)]
  refine congrArg (W m c) (funext fun a => Fin.ext ?_)
  match a with
  | ⟨0, _⟩ => rfl
  | ⟨1, _⟩ =>
    show panelCol ((8 * T + (y 0).val / 128) % 48 / 8) + (8 * T + (y 0).val / 128) % 48 % 8 * 128 + (y 0).val % 128 = panelCol T + (y 0).val
    rw [show (8 * T + (y 0).val / 128) % 48 / 8 = T by omega]
    omega

/-- What a multiplying point leaves in the output's block, at the element that is `j` of the output. -/
theorem out_point (c : Dev nD) (t : Fin cfg0.N) (ht : 8 ≤ t.val) (y : S1024x1024.Idx) (j : S8192x5120.Idx)
    (e0 : (j 0).val = t.val % 8 * 1024 + (y 0).val) (e1 : (j 1).val = (t.val / 8 - 1) * 1024 + (y 1).val) :
    outBlock (iblk m c 0 t) (panel m c (t.val / 8 - 1)) y = G m c j := by
  have hlt : t.val < 48 := lt_of_lt_of_eq t.isLt N_0
  have hy0 : (y 0).val < 1024 := (y 0).isLt
  have hy1 : (y 1).val < 1024 := (y 1).isLt
  unfold outBlock k0_pay9 G
  pointwise
  refine Finset.sum_congr rfl fun k _ => ?_
  rw [rows_apply m c t ht, panel_apply m c _ (by omega)]
  refine congrArg₂ (· * ·) (congrArg (fun a => X m c (ix2 a k)) (Fin.ext ?_)) (congrArg (fun a => W m c (ix2 k a)) (Fin.ext ?_))
  · show t.val % 8 * 1024 + ((y 0).val / 256 * 256 + (y 0).val % 256) % 1024 = (j 0).val
    omega
  · show panelCol (t.val / 8 - 1) + ((y 1).val / 256 * 256 + (y 1).val % 256) % 1024 = panelCol ((j 1).val / 1024) + (j 1).val % 1024
    rw [show (j 1).val / 1024 = t.val / 8 - 1 by omega]
    omega

/-- The place in the output of an element of a multiplying point's block. -/
theorem out_place (t : Fin cfg0.N) (ht : 8 ≤ t.val) (y : S1024x1024.Idx) :
    ((((cfg0.win 2).blk t).view.emb y) 0).val = t.val % 8 * 1024 + (y 0).val
      ∧ ((((cfg0.win 2).blk t).view.emb y) 1).val = (t.val / 8 - 1) * 1024 + (y 1).val := by
  constructor <;> blk_simp [idx_out t ht]

/-- The output array after the run. -/
theorem final_out (c : Dev nD) : (dats m 0 c).arrAt 2 (cfgs 0).N = G m c := by
  refine (dats m 0 c).arrAt_eq_of_covers 2 _ (by decide +kernel) fun t hf y => ?_
  have ht : 8 ≤ t.val := by
    by_contra h
    have := not_flush t (by omega)
    exact absurd (this.symm.trans hf) (by decide)
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final_out m c), h.2.1 c⟩)
    (θ_run_and ((θ_run defs _ _).mono (fun _ h => h.1) (run_main m ρ)) (frame m ρ))

end Cert.KernelIdeal.Proj

end
-- ==== Proof.Proj.Reference.lean ====
module

public import proofs.«01_k».proof.Proof.Proj.Value
public import proofs.«01_k».proof.Proof.Gen.ReferenceIdeal.Read

@[expose] public section

set_option maxRecDepth 16384

noncomputable section

namespace Cert.ReferenceIdeal.Proj

open Idealize.ShloMosaic TcCoe Tactic
open Cert.ReferenceIdeal Cert.ReferenceIdeal.Gen Cert.ReferenceIdeal.Read
open Cert.KernelIdeal.Proj (panelCol col)

variable (x0 : (⟨S8192x4096, .bf16⟩ : BufTy).Contents (Elt Ideal)) (x1 : (⟨S4096x25632, .f32⟩ : BufTy).Contents (Elt Ideal))

/-- The reference's product, at the element in row `r` and column `k` of all the projections. -/
theorem product_apply (j : S8192x25632.Idx) :
    val_main_v1 (F := Ideal) x0 x1 j = ∑ k : Fin 4096, x0 (ix2 (j 0) k) * x1 (ix2 k (j 1)) := by
  unfold val_main_v1 val_main_v0
  pointwise

/-- The reference's result at an index: the product at the column that the index's piece was split off from. -/
theorem result_apply (i : S8192x5120.Idx) :
    val_main_v15 (F := Ideal) x0 x1 i = ∑ k : Fin 4096, x0 (ix2 (i 0) k) * x1 (ix2 k (col (i 1))) := by
  have hi : (i 1).val < 5120 := (i 1).isLt
  rw [val_main_v15_apply]
  show val_main_v14 (F := Ideal) x0 x1 i = _
  unfold val_main_v14
  generalize h6 : val_main_v6 (F := Ideal) x0 x1 = p6
  generalize h11 : val_main_v11 (F := Ideal) x0 x1 = p11
  generalize h12 : val_main_v12 (F := Ideal) x0 x1 = p12
  generalize h13 : val_main_v13 (F := Ideal) x0 x1 = p13
  pointwise
  have key : ∀ (j : S8192x25632.Idx), (j 0).val = (i 0).val → (j 1).val = panelCol ((i 1).val / 1024) + (i 1).val % 1024 →
      val_main_v1 (F := Ideal) x0 x1 j = ∑ k : Fin 4096, x0 (ix2 (i 0) k) * x1 (ix2 k (col (i 1))) := fun j e0 e1 => by
    rw [product_apply, show j 0 = i 0 from Fin.ext e0, show j 1 = col (i 1) from Fin.ext e1]
  by_cases h1 : (i 1).val < 2048
  · rw [dif_pos h1, ← h6, val_main_v6_apply]
    refine key _ rfl ?_
    show 15360 + (i 1).val = panelCol ((i 1).val / 1024) + (i 1).val % 1024
    unfold panelCol; rw [if_pos (by omega)]; omega
  rw [dif_neg h1]
  by_cases h2 : (i 1).val - 2048 < 1024
  · rw [dif_pos h2, ← h11, val_main_v11_apply, val_main_v2_apply]
    refine key _ rfl ?_
    show (i 1).val - 2048 = panelCol ((i 1).val / 1024) + (i 1).val % 1024
    unfold panelCol; rw [if_neg (by omega)]; omega
  rw [dif_neg h2]
  by_cases h3 : (i 1).val - 2048 - 1024 < 1024
  · rw [dif_pos h3, ← h12, val_main_v12_apply, val_main_v3_apply]
    refine key _ rfl ?_
    show 3072 + ((i 1).val - 2048 - 1024) = panelCol ((i 1).val / 1024) + (i 1).val % 1024
    unfold panelCol; rw [if_neg (by omega)]; omega
  rw [dif_neg h3]
  · rw [← h13, val_main_v13_apply, val_main_v4_apply]
    refine key _ rfl ?_
    show 6144 + ((i 1).val - 2048 - 1024 - 1024) = panelCol ((i 1).val / 1024) + (i 1).val % 1024
    unfold panelCol; rw [if_neg (by omega)]; omega

end Cert.ReferenceIdeal.Proj

end
-- ==== Proof.Up.Body.lean ====
module

public import proofs.«01_k».proof.Proof.Gen.UpIdeal.Frame
public import proofs.«01_k».proof.Proof.Gen.UpIdeal.Skeleton
public import proofs.«01_k».proof.Proof.Stores

@[expose] public section

set_option maxRecDepth 16384

noncomputable section

namespace Cert.UpIdeal.Up

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.UpIdeal.Gen
open Cert.Stores (read_store read_tiled)

variable {F : FTy → Type} [FloatOps F]

local notation "𝕄" => MT nD τ sig Unit (Elt F) ℕ (UR sig nD τ) ℕ

/-! ## What the body computes -/

/-- The panel buffer after a chunk of 512 rows is staged into it at the row offset `off 0`: the chunk, its numbers cast to
    bf16, over the buffer's earlier contents. -/
def staged (off : Fin 2 → ℕ) (inb : ∀ a, off a + S512x1024.size a ≤ S4096x1024.size a) (x1 : Vec F S512x1024 .f32)
    (D : Vec F S4096x1024 .bf16) : Vec F S4096x1024 .bf16 :=
  (Rect.unit (s := S4096x1024) off S512x1024.size inb).overlay D (k0_pay1 x1)

/-- The output block from a block of rows `x` and a weight panel `W`: the squared positive part of sixteen products of 256 rows
    of `x` with 256 columns of `W`, side by side. -/
def outBlock (x : Vec F S1024x4096 .bf16) (W : Vec F S4096x1024 .bf16) : Vec F S1024x1024 .bf16 := fun y =>
  k0_pay9 (fun j => x (ix2 (⟨((y 0).val / 256 * 256 + (j 0).val) % 1024, Nat.mod_lt _ (by decide)⟩ : Fin 1024) (j 1)))
    (fun j => W (ix2 (j 0) (⟨((y 1).val / 256 * 256 + (j 1).val) % 1024, Nat.mod_lt _ (by decide)⟩ : Fin 1024)))
    (ix2 (⟨(y 0).val % 256, Nat.mod_lt _ (by decide)⟩ : Fin 256) (⟨(y 1).val % 256, Nat.mod_lt _ (by decide)⟩ : Fin 256))

/-- One of the sixteen products is the part of `outBlock` under its rectangle. -/
theorem tile_eq (x : Vec F S1024x4096 .bf16) (W : Vec F S4096x1024 .bf16) (o1 o2 : ℕ) (h1 : o1 % 256 = 0) (h2 : o2 % 256 = 0)
    (i1 : ∀ a, (![o1, 0] : Fin 2 → ℕ) a + S256x4096.size a ≤ S1024x4096.size a)
    (i2 : ∀ a, (![0, o2] : Fin 2 → ℕ) a + S4096x256.size a ≤ S4096x1024.size a)
    (i3 : ∀ a, (![o1, o2] : Fin 2 → ℕ) a + S256x256.size a ≤ S1024x1024.size a) (y : S256x256.Idx) :
    k0_pay9 (View.ld x (Rect.unit (s := S1024x4096) ![o1, 0] S256x4096.size i1))
        (View.ld W (Rect.unit (s := S4096x1024) ![0, o2] S4096x256.size i2)) y
      = outBlock x W ((Rect.unit (s := S1024x1024) ![o1, o2] S256x256.size i3).emb y) := by
  have b0 : (y 0).val < 256 := (y 0).isLt
  have b1 : (y 1).val < 256 := (y 1).isLt
  have l1 : o1 + 256 ≤ 1024 := i1 0
  have l2 : o2 + 256 ≤ 1024 := i2 1
  have e0 : (((Rect.unit (s := S1024x1024) ![o1, o2] S256x256.size i3).emb y) 0).val = o1 + (y 0).val := by
    show o1 + 1 * (y 0).val = _; omega
  have e1 : (((Rect.unit (s := S1024x1024) ![o1, o2] S256x256.size i3).emb y) 1).val = o2 + (y 1).val := by
    show o2 + 1 * (y 1).val = _; omega
  have hx : View.ld x (Rect.unit (s := S1024x4096) ![o1, 0] S256x4096.size i1) = fun j : S256x4096.Idx =>
      x (ix2 (⟨((((Rect.unit (s := S1024x1024) ![o1, o2] S256x256.size i3).emb y) 0).val / 256 * 256 + (j 0).val) % 1024, Nat.mod_lt _ (by decide)⟩ : Fin 1024) (j 1)) := by
    funext j
    have bj : (j 0).val < 256 := (j 0).isLt
    refine congrArg x (funext fun a => Fin.ext ?_)
    match a with
    | ⟨0, _⟩ =>
      show o1 + 1 * (j 0).val = ((((Rect.unit (s := S1024x1024) ![o1, o2] S256x256.size i3).emb y) 0).val / 256 * 256 + (j 0).val) % 1024
      rw [e0]; omega
    | ⟨1, _⟩ => show 0 + 1 * (j 1).val = (j 1).val; omega
  have hW : View.ld W (Rect.unit (s := S4096x1024) ![0, o2] S4096x256.size i2) = fun j : S4096x256.Idx =>
      W (ix2 (j 0) (⟨((((Rect.unit (s := S1024x1024) ![o1, o2] S256x256.size i3).emb y) 1).val / 256 * 256 + (j 1).val) % 1024, Nat.mod_lt _ (by decide)⟩ : Fin 1024)) := by
    funext j
    have bj : (j 1).val < 256 := (j 1).isLt
    refine congrArg W (funext fun a => Fin.ext ?_)
    match a with
    | ⟨0, _⟩ => show 0 + 1 * (j 0).val = (j 0).val; omega
    | ⟨1, _⟩ =>
      show o2 + 1 * (j 1).val = ((((Rect.unit (s := S1024x1024) ![o1, o2] S256x256.size i3).emb y) 1).val / 256 * 256 + (j 1).val) % 1024
      rw [e1]; omega
  have hy : y = (ix2 (⟨(((Rect.unit (s := S1024x1024) ![o1, o2] S256x256.size i3).emb y) 0).val % 256, Nat.mod_lt _ (by decide)⟩ : Fin 256)
      (⟨(((Rect.unit (s := S1024x1024) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S1024x1024) ![o1, o2] S256x256.size i3).emb y) 0).val % 256; rw [e0]; omega
    | ⟨1, _⟩ => show (y 1).val = (((Rect.unit (s := S1024x1024) ![o1, o2] S256x256.size i3).emb y) 1).val % 256; rw [e1]; omega
  rw [hx, hW]
  unfold outBlock
  exact congrArg _ hy

set_option maxHeartbeats 1000000 in
/-- The body while only staging (the first outer step): the chunk goes into the first panel buffer, all else is as it was. -/
theorem run_stage (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S8x128 .f32) (harg7 : arg7.IsWhole) (hc0 : k0_cond1 i = 1#1) (hc1 : ¬k0_cond2 i = 1#1) (hc2 : ¬k0_cond3 i = 1#1)
    (x0 : Vec F S1024x4096 .bf16) (x1 : Vec F S512x1024 .f32) (x2 : Vec F S1024x1024 .bf16) (D0 D1 : Vec F S4096x1024 .bf16) :
      ∀ (E : Set ℕ) (K : PUnit → sProp 𝕄),
        iprop(owns c arg2 fullShare x0 ∗ owns c arg3 fullShare x1 ∗ owns c arg4 fullShare x2 ∗ owns c arg5 fullShare D0 ∗ owns c arg6 fullShare D1 ∗ (∃ d, owns c arg7 fullShare d)
            ∗ (iprop(owns c arg2 fullShare x0 ∗ owns c arg3 fullShare x1 ∗ owns c arg4 fullShare x2 ∗ owns c arg5 fullShare (staged (k0_off1 i) (k0_off1_inb i hc0) x1 D0) ∗ owns c arg6 fullShare D1 ∗ (∃ d, owns c arg7 fullShare d)) -∗ K ⟨⟩))
          ⊢ wp frame (wpE (defs₀ (F := F)) Variants.none c none) E (cc0_mlp_up i arg2 harg2 arg3 harg3 arg4 harg4 arg5 harg5 arg6 harg6 arg7 harg7) K := by
  intro E K
  simp only [cc0_mlp_up_eq_skeleton]; unfold cc0_mlp_up_skel
  unfold owns
  iintro ⟨⟨%f0, %hf0, H0⟩, ⟨%f1, %hf1, H1⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hf2
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

set_option maxHeartbeats 4000000 in
/-- The body at an odd outer step: the chunk goes into the second panel buffer while the output block is computed from the
    first one. -/
theorem run_odd (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S8x128 .f32) (harg7 : arg7.IsWhole) (hc0 : ¬k0_cond1 i = 1#1) (hc1 : k0_cond2 i = 1#1) (hc2 : ¬k0_cond3 i = 1#1)
    (x0 : Vec F S1024x4096 .bf16) (x1 : Vec F S512x1024 .f32) (D0 D1 : Vec F S4096x1024 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D0) ∗ owns c arg5 fullShare D0 ∗ owns c arg6 fullShare (staged (k0_off2 i) (k0_off2_inb i hc1) x1 D1) ∗ (∃ d, owns c arg7 fullShare d)) -∗ K ⟨⟩))
          ⊢ wp frame (wpE (defs₀ (F := F)) Variants.none c none) E (cc0_mlp_up i arg2 harg2 arg3 harg3 arg4 harg4 arg5 harg5 arg6 harg6 arg7 harg7) K := by
  intro E K
  simp only [cc0_mlp_up_eq_skeleton]; unfold cc0_mlp_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![256, 256] _ (by rfl) ?_
    simp only [View.readAt_eq_ld, harg2.read_unread, harg5.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D0 _ _ (by decide) (by decide) _ _ (by decide) x
  isplitl [HS0]
  · iexists _; isplitr; · ipureintro; exact harg5.read_unread _
    iexact HS0
  isplitl [HS1]
  · iexists _; isplitr; swap; · iexact HS1
    ipureintro
    rw [read_store harg6]
    unfold staged
    congr 2
    sl_unfold_words
    simp only [View.readAt_eq_ld, harg3.read_unread]
    exact View.ld_unit_zero (by decide) _ _
  iexists _, _; isplitr; swap; · iexact HS2
  ipureintro; rfl

set_option maxHeartbeats 4000000 in
/-- The body at an even outer step: the chunk goes into the first panel buffer while the output block is computed from the
    second one. -/
theorem run_even (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S4096x1024 .bf16) (harg5 : arg5.IsWhole) (arg6 : Memref sig .tc .vmem S4096x1024 .bf16) (harg6 : arg6.IsWhole) (arg7 : Memref sig .tc .vmem S8x128 .f32) (harg7 : arg7.IsWhole) (hc0 : ¬k0_cond1 i = 1#1) (hc1 : ¬k0_cond2 i = 1#1) (hc2 : k0_cond3 i = 1#1)
    (x0 : Vec F S1024x4096 .bf16) (x1 : Vec F S512x1024 .f32) (D0 D1 : Vec F S4096x1024 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D1) ∗ owns c arg5 fullShare (staged (k0_off3 i) (k0_off3_inb i hc2) x1 D0) ∗ owns c arg6 fullShare D1 ∗ (∃ d, owns c arg7 fullShare d)) -∗ K ⟨⟩))
          ⊢ wp frame (wpE (defs₀ (F := F)) Variants.none c none) E (cc0_mlp_up i arg2 harg2 arg3 harg3 arg4 harg4 arg5 harg5 arg6 harg6 arg7 harg7) K := by
  intro E K
  simp only [cc0_mlp_up_eq_skeleton]; unfold cc0_mlp_up_skel
  simp only [k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![256, 256] _ (by rfl) ?_
    simp only [View.readAt_eq_ld, harg2.read_unread, harg6.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D1 _ _ (by decide) (by decide) _ _ (by decide) x
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

end Cert.UpIdeal.Up

end
-- ==== Proof.Up.Run.lean ====
module

public import proofs.«01_k».proof.Proof.Up.Body
public import proofs.«01_k».proof.Proof.Panels

@[expose] public section

set_option maxRecDepth 16384

noncomputable section

namespace Cert.UpIdeal.Up

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 136 points (outer step `t / 8`, inner step `t % 8`) -/

theorem cond_stage : ∀ t : Fin cfg0.N, k0_cond1 (grid0.coords t) = 1#1 ↔ t.val < 8 :=
  (by decide +kernel : ∀ t : Fin grid0.N, _)
theorem cond_odd : ∀ t : Fin cfg0.N, k0_cond2 (grid0.coords t) = 1#1 ↔ t.val / 8 % 2 = 1 :=
  (by decide +kernel : ∀ t : Fin grid0.N, _)
theorem cond_even : ∀ t : Fin cfg0.N, k0_cond3 (grid0.coords t) = 1#1 ↔ (8 ≤ t.val ∧ t.val / 8 % 2 = 0) :=
  (by decide +kernel : ∀ t : Fin grid0.N, _)
theorem off_stage : ∀ t : Fin cfg0.N, k0_off1 (grid0.coords t) = ![t.val % 8 * 512, 0] :=
  (by decide +kernel : ∀ t : Fin grid0.N, _)
theorem off_odd : ∀ t : Fin cfg0.N, k0_off2 (grid0.coords t) = ![t.val % 8 * 512, 0] :=
  (by decide +kernel : ∀ t : Fin grid0.N, _)
theorem off_even : ∀ t : Fin cfg0.N, k0_off3 (grid0.coords t) = ![t.val % 8 * 512, 0] :=
  (by decide +kernel : ∀ t : Fin grid0.N, _)
/-- In the first outer step nothing is written back. -/
theorem not_flush : ∀ t : Fin cfg0.N, t.val < 8 → (cfg0.win 2).flush t = false :=
  (by decide +kernel : ∀ t : Fin grid0.N, t.val < 8 → win0_2.flush t = false)

/-! ## The weight panels in the two buffers -/

/-- The weight panel that outer step `T` stages, chunk by chunk. -/
def panel (c : Dev nD) (T : ℕ) : Vec F S4096x1024 .bf16 := fun y =>
  k0_pay1 (iblk m c 1 (⟨(8 * T + (y 0).val / 512) % 136, Nat.mod_lt _ (by decide)⟩ : Fin grid0.N))
    (ix2 (⟨(y 0).val % 512, Nat.mod_lt _ (by decide)⟩ : Fin 512) (y 1))

/-- What the two buffers hold before point `n`, as `Panels.Inv` says. -/
abbrev Inv (c : Dev nD) (n : ℕ) (D0 D1 : Vec F S4096x1024 .bf16) : Prop := Panels.Inv 512 8 (panel m c) n D0 D1

/-- Staging point `t`'s chunk adds one chunk to what the buffer holds. -/
theorem holds_staged (c : Dev nD) (t : Fin cfg0.N) (off : Fin 2 → ℕ) (hoff : off = ![t.val % 8 * 512, 0])
    (inb : ∀ a, off a + S512x1024.size a ≤ S4096x1024.size a) (D : Vec F S4096x1024 .bf16)
    (h : Panels.Holds 512 (panel m c (t.val / 8)) (t.val % 8) D) :
    Panels.Holds 512 (panel m c (t.val / 8)) (t.val % 8 + 1) (staged off inb (iblk m c 1 t) D) := by
  have ht : t.val < 136 := lt_of_lt_of_eq t.isLt N_0
  refine h.stage off hoff inb _ fun z y e0 e1 => ?_
  have hz : (z 0).val < 512 := (z 0).isLt
  unfold panel
  rw [show (⟨(8 * (t.val / 8) + (y 0).val / 512) % 136, Nat.mod_lt _ (by decide)⟩ : Fin grid0.N) = t from Fin.ext (by
    show (8 * (t.val / 8) + (y 0).val / 512) % 136 = t.val; rw [e0]; omega)]
  refine congrArg _ (funext fun a => Fin.ext ?_)
  match a with
  | ⟨0, _⟩ => show (y 0).val % 512 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (panel m c (t.val / 8 - 1))
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_out (c : Dev nD) (t : Fin cfg0.N) :
    (dats m 0 c).after 2 t = outBlock (iblk m c 0 t) (panel m c (t.val / 8 - 1)) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d

/-- The staging memrefs of point `t`. -/
abbrev msRows (t : Fin cfg0.N) : Memref sig .tc .vmem S1024x4096 .bf16 := win0_0.stage (cfg0.slots t 0)
abbrev msChunk (t : Fin cfg0.N) : Memref sig .tc .vmem S512x1024 .f32 := win0_1.stage (cfg0.slots t 1)
abbrev msOut (t : Fin cfg0.N) : Memref sig .tc .vmem S1024x1024 .bf16 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t]]
  unfold PhiT
  by_cases h8 : t.val < 8
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 2 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%d2, H2⟩⟩
    iapply ((run_stage c (grid0.coords t) _ _ _ _ _ _ _ _ _ _ _ _ c1 c2 c3 (iblk m c 0 t) (iblk m c 1 t) ((dats m 0 c).before 2 t d2) D0 D1) Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    iexists _; iexact H2
  · have c1 : ¬k0_cond1 (grid0.coords t) = 1#1 := fun h => h8 ((cond_stage t).mp h)
    by_cases h1 : t.val / 8 % 2 = 1
    · have c2 := (cond_odd t).mpr h1
      have c3 : ¬k0_cond3 (grid0.coords t) = 1#1 := fun h => by have := (cond_even t).mp h; omega
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.2 (by omega) h1).eq_panel]
      iapply ((run_odd c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      iexact H2
    · have c3 := (cond_even t).mpr ⟨by omega, by omega⟩
      have c2 : ¬k0_cond2 (grid0.coords t) = 1#1 := fun h => h1 ((cond_odd t).mp h)
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.1 (by omega) (by omega)).eq_panel]
      iapply ((run_even c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.UpIdeal.Up

end
-- ==== Proof.Up.Value.lean ====
module

public import proofs.«01_k».proof.Proof.Up.Run

@[expose] public section

set_option maxRecDepth 16384

noncomputable section

namespace Cert.UpIdeal.Up

open Idealize.ShloMosaic TcCoe Tactic
open Idealize.SL Idealize.SL.Sem
open Idealize.ShloMosaic.Pipeline (Dat Cfg Window)
open Cert.UpIdeal.Gen

variable (m : (ℓ : Loc nD τ sig) → Buf (Elt Ideal) ℓ) (ρ : Dev nD → PrngReg)

/-- The activations and the weights as launched. -/
abbrev X (c : Dev nD) : Vec Ideal S8192x4096 .bf16 := m ((c : Thread nD τ).loc main_arg0)
abbrev W (c : Dev nD) : Vec Ideal S4096x16384 .f32 := m ((c : Thread nD τ).loc main_arg1)

/-- The squared positive part. -/
def relu2 (a : EReal) : EReal := max a 0 * max a 0

/-- The result: the squared positive part of the activations' product with the weights. -/
def G (c : Dev nD) : Vec Ideal S8192x16384 .bf16 := fun i => relu2 (∑ k : Fin 4096, X m c (ix2 (i 0) k) * W m c (ix2 k (i 1)))

theorem idx_rows : ∀ t : Fin cfg0.N, 8 ≤ t.val → win0_0.index t = ![t.val % 8, 0] :=
  (by decide +kernel : ∀ t : Fin grid0.N, _)
theorem idx_chunk : ∀ t : Fin cfg0.N, t.val < 128 → win0_1.index t = ![t.val % 8, t.val / 8] :=
  (by decide +kernel : ∀ t : Fin grid0.N, _)
theorem idx_out : ∀ t : Fin cfg0.N, 8 ≤ t.val → win0_2.index t = ![t.val % 8, t.val / 8 - 1] :=
  (by decide +kernel : ∀ t : Fin grid0.N, _)

/-- The rows that a multiplying point reads. -/
theorem rows_apply (c : Dev nD) (t : Fin cfg0.N) (ht : 8 ≤ t.val) (y : S1024x4096.Idx) :
    iblk m c 0 t y = X m c (ix2 (⟨t.val % 8 * 1024 + (y 0).val, by have : (y 0).val < 1024 := (y 0).isLt; omega⟩ : Fin 8192) (y 1)) := by
  blk_ext [iblk, V, idx_rows t ht]

/-- The chunk of the weights that a staging point reads. -/
theorem chunk_apply (c : Dev nD) (t : Fin cfg0.N) (ht : t.val < 128) (y : S512x1024.Idx) :
    iblk m c 1 t y = W m c (ix2 (⟨t.val % 8 * 512 + (y 0).val, by have : (y 0).val < 512 := (y 0).isLt; omega⟩ : Fin 4096)
      (⟨t.val / 8 * 1024 + (y 1).val, by have : (y 1).val < 1024 := (y 1).isLt; omega⟩ : Fin 16384)) := by
  blk_ext [iblk, V, idx_chunk t ht]

/-- A staged panel is a block of the weights' columns. -/
theorem panel_apply (c : Dev nD) (T : ℕ) (hT : T < 16) (y : S4096x1024.Idx) :
    panel m c T y = W m c (ix2 (y 0) (⟨T * 1024 + (y 1).val, by have : (y 1).val < 1024 := (y 1).isLt; omega⟩ : Fin 16384)) := by
  have hy : (y 0).val < 4096 := (y 0).isLt
  unfold panel k0_pay1
  pointwise
  rw [chunk_apply m c _ (by show (8 * T + (y 0).val / 512) % 136 < 128; omega)]
  refine congrArg (W m c) (funext fun a => Fin.ext ?_)
  match a with
  | ⟨0, _⟩ =>
    show (8 * T + (y 0).val / 512) % 136 % 8 * 512 + (y 0).val % 512 = (y 0).val
    omega
  | ⟨1, _⟩ =>
    show (8 * T + (y 0).val / 512) % 136 / 8 * 1024 + (y 1).val = T * 1024 + (y 1).val
    rw [show (8 * T + (y 0).val / 512) % 136 / 8 = T by omega]

/-- What a multiplying point leaves in the output's block, at the element that is `j` of the output. -/
theorem out_point (c : Dev nD) (t : Fin cfg0.N) (ht : 8 ≤ t.val) (y : S1024x1024.Idx) (j : S8192x16384.Idx)
    (e0 : (j 0).val = t.val % 8 * 1024 + (y 0).val) (e1 : (j 1).val = (t.val / 8 - 1) * 1024 + (y 1).val) :
    outBlock (iblk m c 0 t) (panel m c (t.val / 8 - 1)) y = G m c j := by
  have hlt : t.val < 136 := lt_of_lt_of_eq t.isLt N_0
  have hy0 : (y 0).val < 1024 := (y 0).isLt
  have hy1 : (y 1).val < 1024 := (y 1).isLt
  unfold outBlock k0_pay9 G
  pointwise
  refine congrArg relu2 (Finset.sum_congr rfl fun k _ => ?_)
  rw [rows_apply m c t ht, panel_apply m c _ (by omega)]
  refine congrArg₂ (· * ·) (congrArg (fun a => X m c (ix2 a k)) (Fin.ext ?_)) (congrArg (fun a => W m c (ix2 k a)) (Fin.ext ?_))
  · show t.val % 8 * 1024 + ((y 0).val / 256 * 256 + (y 0).val % 256) % 1024 = (j 0).val
    omega
  · show (t.val / 8 - 1) * 1024 + ((y 1).val / 256 * 256 + (y 1).val % 256) % 1024 = (j 1).val
    omega

/-- The place in the output of an element of a multiplying point's block. -/
theorem out_place (t : Fin cfg0.N) (ht : 8 ≤ t.val) (y : S1024x1024.Idx) :
    ((((cfg0.win 2).blk t).view.emb y) 0).val = t.val % 8 * 1024 + (y 0).val
      ∧ ((((cfg0.win 2).blk t).view.emb y) 1).val = (t.val / 8 - 1) * 1024 + (y 1).val := by
  constructor <;> blk_simp [idx_out t ht]

/-- The output array after the run. -/
theorem final_out (c : Dev nD) : (dats m 0 c).arrAt 2 (cfgs 0).N = G m c := by
  refine (dats m 0 c).arrAt_eq_of_covers 2 _ (by decide +kernel) fun t hf y => ?_
  have ht : 8 ≤ t.val := by
    by_contra h
    have := not_flush t (by omega)
    exact absurd (this.symm.trans hf) (by decide)
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final_out m c), h.2.1 c⟩)
    (θ_run_and ((θ_run defs _ _).mono (fun _ h => h.1) (run_main m ρ)) (frame m ρ))

end Cert.UpIdeal.Up

end
-- ==== Proof.Up.Reference.lean ====
module

public import proofs.«01_k».proof.Proof.Up.Value
public import proofs.«01_k».proof.Proof.Gen.UpRefIdeal.Read

@[expose] public section

set_option maxRecDepth 16384

noncomputable section

namespace Cert.UpRefIdeal.Up

open Idealize.ShloMosaic TcCoe Tactic
open Cert.UpRefIdeal Cert.UpRefIdeal.Gen Cert.UpRefIdeal.Read
open Cert.UpIdeal.Up (relu2)

variable (x0 : (⟨S8192x4096, .bf16⟩ : BufTy).Contents (Elt Ideal)) (x1 : (⟨S4096x16384, .f32⟩ : BufTy).Contents (Elt Ideal))

/-- The reference's product at an element. -/
theorem product_apply (j : S8192x16384.Idx) :
    val_main_v1 (F := Ideal) x0 x1 j = ∑ k : Fin 4096, x0 (ix2 (j 0) k) * x1 (ix2 k (j 1)) := by
  unfold val_main_v1 val_main_v0
  pointwise

/-- The reference's result at an element: the squared positive part of the product. -/
theorem result_apply (i : S8192x16384.Idx) :
    val_main_v4 (F := Ideal) x0 x1 i = relu2 (∑ k : Fin 4096, x0 (ix2 (i 0) k) * x1 (ix2 k (i 1))) := by
  rw [← product_apply]
  unfold val_main_v4 val_main_v3 val_main_v2 val_main_call0_v0 val_main_call0_cst relu2
  generalize val_main_v1 (F := Ideal) x0 x1 = p
  pointwise
  done

end Cert.UpRefIdeal.Up

end
-- ==== Proof.Gates.Body.lean ====
module

public import proofs.«01_k».proof.Proof.Gen.GatesIdeal.Frame
public import proofs.«01_k».proof.Proof.Gen.GatesIdeal.Skeleton
public import proofs.«01_k».proof.Proof.Stores

@[expose] public section

set_option maxRecDepth 16384

noncomputable section

namespace Cert.GatesIdeal.Gates

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.GatesIdeal.Gen
open Cert.Stores (read_store read_tiled)

variable {F : FTy → Type} [FloatOps F]

local notation "𝕄" => MT nD τ sig Unit (Elt F) ℕ (UR sig nD τ) ℕ

/-! ## What the body computes -/

/-- The panel buffer after a chunk of 128 rows is staged into it at the row offset `off 0`: the chunk, its numbers cast to
    bf16, over the buffer's earlier contents. -/
def staged (off : Fin 2 → ℕ) (inb : ∀ a, off a + S128x4096.size a ≤ S1024x4096.size a) (x1 : Vec F S128x4096 .f32)
    (D : Vec F S1024x4096 .bf16) : Vec F S1024x4096 .bf16 :=
  (Rect.unit (s := S1024x4096) off S128x4096.size inb).overlay D (k0_pay1 x1)

/-- The output block from a block of rows `x` and a weight panel `W`: the logistic function of sixteen products of 256 rows of `x`
    with 256 rows of `W`, side by side. -/
def outBlock (x W : Vec F S1024x4096 .bf16) : Vec F S1024x1024 .bf16 := fun y =>
  k0_pay5 (fun j => x (ix2 (⟨((y 0).val / 256 * 256 + (j 0).val) % 1024, Nat.mod_lt _ (by decide)⟩ : Fin 1024) (j 1)))
    (fun j => W (ix2 (⟨((y 1).val / 256 * 256 + (j 0).val) % 1024, Nat.mod_lt _ (by decide)⟩ : Fin 1024) (j 1)))
    (ix2 (⟨(y 0).val % 256, Nat.mod_lt _ (by decide)⟩ : Fin 256) (⟨(y 1).val % 256, Nat.mod_lt _ (by decide)⟩ : Fin 256))

/-- One of the sixteen products is the part of `outBlock` under its rectangle. -/
theorem tile_eq (x W : Vec F S1024x4096 .bf16) (o1 o2 : ℕ) (h1 : o1 % 256 = 0) (h2 : o2 % 256 = 0)
    (i1 : ∀ a, (![o1, 0] : Fin 2 → ℕ) a + S256x4096.size a ≤ S1024x4096.size a)
    (i2 : ∀ a, (![o2, 0] : Fin 2 → ℕ) a + S256x4096.size a ≤ S1024x4096.size a)
    (i3 : ∀ a, (![o1, o2] : Fin 2 → ℕ) a + S256x256.size a ≤ S1024x1024.size a) (y : S256x256.Idx) :
    k0_pay5 (View.ld x (Rect.unit (s := S1024x4096) ![o1, 0] S256x4096.size i1))
        (View.ld W (Rect.unit (s := S1024x4096) ![o2, 0] S256x4096.size i2)) y
      = outBlock x W ((Rect.unit (s := S1024x1024) ![o1, o2] S256x256.size i3).emb y) := by
  have b0 : (y 0).val < 256 := (y 0).isLt
  have b1 : (y 1).val < 256 := (y 1).isLt
  have l1 : o1 + 256 ≤ 1024 := i1 0
  have l2 : o2 + 256 ≤ 1024 := i2 0
  have e0 : (((Rect.unit (s := S1024x1024) ![o1, o2] S256x256.size i3).emb y) 0).val = o1 + (y 0).val := by
    show o1 + 1 * (y 0).val = _; omega
  have e1 : (((Rect.unit (s := S1024x1024) ![o1, o2] S256x256.size i3).emb y) 1).val = o2 + (y 1).val := by
    show o2 + 1 * (y 1).val = _; omega
  have hx : View.ld x (Rect.unit (s := S1024x4096) ![o1, 0] S256x4096.size i1) = fun j : S256x4096.Idx =>
      x (ix2 (⟨((((Rect.unit (s := S1024x1024) ![o1, o2] S256x256.size i3).emb y) 0).val / 256 * 256 + (j 0).val) % 1024, Nat.mod_lt _ (by decide)⟩ : Fin 1024) (j 1)) := by
    funext j
    have bj : (j 0).val < 256 := (j 0).isLt
    refine congrArg x (funext fun a => Fin.ext ?_)
    match a with
    | ⟨0, _⟩ =>
      show o1 + 1 * (j 0).val = ((((Rect.unit (s := S1024x1024) ![o1, o2] S256x256.size i3).emb y) 0).val / 256 * 256 + (j 0).val) % 1024
      rw [e0]; omega
    | ⟨1, _⟩ => show 0 + 1 * (j 1).val = (j 1).val; omega
  have hW : View.ld W (Rect.unit (s := S1024x4096) ![o2, 0] S256x4096.size i2) = fun j : S256x4096.Idx =>
      W (ix2 (⟨((((Rect.unit (s := S1024x1024) ![o1, o2] S256x256.size i3).emb y) 1).val / 256 * 256 + (j 0).val) % 1024, Nat.mod_lt _ (by decide)⟩ : Fin 1024) (j 1)) := by
    funext j
    have bj : (j 0).val < 256 := (j 0).isLt
    refine congrArg W (funext fun a => Fin.ext ?_)
    match a with
    | ⟨0, _⟩ =>
      show o2 + 1 * (j 0).val = ((((Rect.unit (s := S1024x1024) ![o1, o2] S256x256.size i3).emb y) 1).val / 256 * 256 + (j 0).val) % 1024
      rw [e1]; omega
    | ⟨1, _⟩ => show 0 + 1 * (j 1).val = (j 1).val; omega
  have hy : y = (ix2 (⟨(((Rect.unit (s := S1024x1024) ![o1, o2] S256x256.size i3).emb y) 0).val % 256, Nat.mod_lt _ (by decide)⟩ : Fin 256)
      (⟨(((Rect.unit (s := S1024x1024) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S1024x1024) ![o1, o2] S256x256.size i3).emb y) 0).val % 256; rw [e0]; omega
    | ⟨1, _⟩ => show (y 1).val = (((Rect.unit (s := S1024x1024) ![o1, o2] S256x256.size i3).emb y) 1).val % 256; rw [e1]; omega
  rw [hx, hW]
  unfold outBlock
  exact congrArg _ hy

set_option maxHeartbeats 1000000 in
/-- The body while only staging (the first outer step): the chunk goes into the first panel buffer, all else is as it was. -/
theorem run_stage (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S1024x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x128 .f32) (harg7 : arg7.IsWhole) (hc0 : k0_cond1 i = 1#1) (hc1 : ¬k0_cond2 i = 1#1) (hc2 : ¬k0_cond3 i = 1#1)
    (x0 : Vec F S1024x4096 .bf16) (x1 : Vec F S128x4096 .f32) (x2 : Vec F S1024x1024 .bf16) (D0 D1 : Vec F S1024x4096 .bf16) :
      ∀ (E : Set ℕ) (K : PUnit → sProp 𝕄),
        iprop(owns c arg2 fullShare x0 ∗ owns c arg3 fullShare x1 ∗ owns c arg4 fullShare x2 ∗ owns c arg5 fullShare D0 ∗ owns c arg6 fullShare D1 ∗ (∃ d, owns c arg7 fullShare d)
            ∗ (iprop(owns c arg2 fullShare x0 ∗ owns c arg3 fullShare x1 ∗ owns c arg4 fullShare x2 ∗ owns c arg5 fullShare (staged (k0_off1 i) (k0_off1_inb i hc0) x1 D0) ∗ owns c arg6 fullShare D1 ∗ (∃ d, owns c arg7 fullShare d)) -∗ K ⟨⟩))
          ⊢ wp frame (wpE (defs₀ (F := F)) Variants.none c none) E (cc0_proj_gates i arg2 harg2 arg3 harg3 arg4 harg4 arg5 harg5 arg6 harg6 arg7 harg7) K := by
  intro E K
  simp only [cc0_proj_gates_eq_skeleton]; unfold cc0_proj_gates_skel
  unfold owns
  iintro ⟨⟨%f0, %hf0, H0⟩, ⟨%f1, %hf1, H1⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hf2
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

set_option maxHeartbeats 4000000 in
/-- The body at an odd outer step: the chunk goes into the second panel buffer while the output block is computed from the
    first one. -/
theorem run_odd (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S1024x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x128 .f32) (harg7 : arg7.IsWhole) (hc0 : ¬k0_cond1 i = 1#1) (hc1 : k0_cond2 i = 1#1) (hc2 : ¬k0_cond3 i = 1#1)
    (x0 : Vec F S1024x4096 .bf16) (x1 : Vec F S128x4096 .f32) (D0 D1 : Vec F S1024x4096 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D0) ∗ owns c arg5 fullShare D0 ∗ owns c arg6 fullShare (staged (k0_off2 i) (k0_off2_inb i hc1) x1 D1) ∗ (∃ d, owns c arg7 fullShare d)) -∗ K ⟨⟩))
          ⊢ wp frame (wpE (defs₀ (F := F)) Variants.none c none) E (cc0_proj_gates i arg2 harg2 arg3 harg3 arg4 harg4 arg5 harg5 arg6 harg6 arg7 harg7) K := by
  intro E K
  simp only [cc0_proj_gates_eq_skeleton]; unfold cc0_proj_gates_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![256, 256] _ (by rfl) ?_
    simp only [View.readAt_eq_ld, harg2.read_unread, harg5.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D0 _ _ (by decide) (by decide) _ _ (by decide) x
  isplitl [HS0]
  · iexists _; isplitr; · ipureintro; exact harg5.read_unread _
    iexact HS0
  isplitl [HS1]
  · iexists _; isplitr; swap; · iexact HS1
    ipureintro
    rw [read_store harg6]
    unfold staged
    congr 2
    sl_unfold_words
    simp only [View.readAt_eq_ld, harg3.read_unread]
    exact View.ld_unit_zero (by decide) _ _
  iexists _, _; isplitr; swap; · iexact HS2
  ipureintro; rfl

set_option maxHeartbeats 4000000 in
/-- The body at an even outer step: the chunk goes into the first panel buffer while the output block is computed from the
    second one. -/
theorem run_even (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S1024x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x128 .f32) (harg7 : arg7.IsWhole) (hc0 : ¬k0_cond1 i = 1#1) (hc1 : ¬k0_cond2 i = 1#1) (hc2 : k0_cond3 i = 1#1)
    (x0 : Vec F S1024x4096 .bf16) (x1 : Vec F S128x4096 .f32) (D0 D1 : Vec F S1024x4096 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D1) ∗ owns c arg5 fullShare (staged (k0_off3 i) (k0_off3_inb i hc2) x1 D0) ∗ owns c arg6 fullShare D1 ∗ (∃ d, owns c arg7 fullShare d)) -∗ K ⟨⟩))
          ⊢ wp frame (wpE (defs₀ (F := F)) Variants.none c none) E (cc0_proj_gates i arg2 harg2 arg3 harg3 arg4 harg4 arg5 harg5 arg6 harg6 arg7 harg7) K := by
  intro E K
  simp only [cc0_proj_gates_eq_skeleton]; unfold cc0_proj_gates_skel
  simp only [k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![256, 256] _ (by rfl) ?_
    simp only [View.readAt_eq_ld, harg2.read_unread, harg6.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D1 _ _ (by decide) (by decide) _ _ (by decide) x
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

end Cert.GatesIdeal.Gates

end
-- ==== Proof.Gates.Run.lean ====
module

public import proofs.«01_k».proof.Proof.Gates.Body
public import proofs.«01_k».proof.Proof.Panels

@[expose] public section

set_option maxRecDepth 16384

noncomputable section

namespace Cert.GatesIdeal.Gates

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.GatesIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 72 points (outer step `t / 8`, inner step `t % 8`) -/

theorem cond_stage : ∀ t : Fin cfg0.N, k0_cond1 (grid0.coords t) = 1#1 ↔ t.val < 8 :=
  (by decide +kernel : ∀ t : Fin grid0.N, _)
theorem cond_odd : ∀ t : Fin cfg0.N, k0_cond2 (grid0.coords t) = 1#1 ↔ t.val / 8 % 2 = 1 :=
  (by decide +kernel : ∀ t : Fin grid0.N, _)
theorem cond_even : ∀ t : Fin cfg0.N, k0_cond3 (grid0.coords t) = 1#1 ↔ (8 ≤ t.val ∧ t.val / 8 % 2 = 0) :=
  (by decide +kernel : ∀ t : Fin grid0.N, _)
theorem off_stage : ∀ t : Fin cfg0.N, k0_off1 (grid0.coords t) = ![t.val % 8 * 128, 0] :=
  (by decide +kernel : ∀ t : Fin grid0.N, _)
theorem off_odd : ∀ t : Fin cfg0.N, k0_off2 (grid0.coords t) = ![t.val % 8 * 128, 0] :=
  (by decide +kernel : ∀ t : Fin grid0.N, _)
theorem off_even : ∀ t : Fin cfg0.N, k0_off3 (grid0.coords t) = ![t.val % 8 * 128, 0] :=
  (by decide +kernel : ∀ t : Fin grid0.N, _)
/-- In the first outer step nothing is written back. -/
theorem not_flush : ∀ t : Fin cfg0.N, t.val < 8 → (cfg0.win 2).flush t = false :=
  (by decide +kernel : ∀ t : Fin grid0.N, t.val < 8 → win0_2.flush t = false)

/-! ## The weight panels in the two buffers -/

/-- The weight panel that outer step `T` stages, chunk by chunk. -/
def panel (c : Dev nD) (T : ℕ) : Vec F S1024x4096 .bf16 := fun y =>
  k0_pay1 (iblk m c 1 (⟨(8 * T + (y 0).val / 128) % 72, Nat.mod_lt _ (by decide)⟩ : Fin grid0.N))
    (ix2 (⟨(y 0).val % 128, Nat.mod_lt _ (by decide)⟩ : Fin 128) (y 1))

/-- What the two buffers hold before point `n`, as `Panels.Inv` says. -/
abbrev Inv (c : Dev nD) (n : ℕ) (D0 D1 : Vec F S1024x4096 .bf16) : Prop := Panels.Inv 128 8 (panel m c) n D0 D1

/-- Staging point `t`'s chunk adds one chunk to what the buffer holds. -/
theorem holds_staged (c : Dev nD) (t : Fin cfg0.N) (off : Fin 2 → ℕ) (hoff : off = ![t.val % 8 * 128, 0])
    (inb : ∀ a, off a + S128x4096.size a ≤ S1024x4096.size a) (D : Vec F S1024x4096 .bf16)
    (h : Panels.Holds 128 (panel m c (t.val / 8)) (t.val % 8) D) :
    Panels.Holds 128 (panel m c (t.val / 8)) (t.val % 8 + 1) (staged off inb (iblk m c 1 t) D) := by
  have ht : t.val < 72 := lt_of_lt_of_eq t.isLt N_0
  refine h.stage off hoff inb _ fun z y e0 e1 => ?_
  have hz : (z 0).val < 128 := (z 0).isLt
  unfold panel
  rw [show (⟨(8 * (t.val / 8) + (y 0).val / 128) % 72, Nat.mod_lt _ (by decide)⟩ : Fin grid0.N) = t from Fin.ext (by
    show (8 * (t.val / 8) + (y 0).val / 128) % 72 = t.val; rw [e0]; omega)]
  refine congrArg _ (funext fun a => Fin.ext ?_)
  match a with
  | ⟨0, _⟩ => show (y 0).val % 128 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (panel m c (t.val / 8 - 1))
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_out (c : Dev nD) (t : Fin cfg0.N) :
    (dats m 0 c).after 2 t = outBlock (iblk m c 0 t) (panel m c (t.val / 8 - 1)) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d

/-- The staging memrefs of point `t`. -/
abbrev msRows (t : Fin cfg0.N) : Memref sig .tc .vmem S1024x4096 .bf16 := win0_0.stage (cfg0.slots t 0)
abbrev msChunk (t : Fin cfg0.N) : Memref sig .tc .vmem S128x4096 .f32 := win0_1.stage (cfg0.slots t 1)
abbrev msOut (t : Fin cfg0.N) : Memref sig .tc .vmem S1024x1024 .bf16 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t]]
  unfold PhiT
  by_cases h8 : t.val < 8
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 2 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%d2, H2⟩⟩
    iapply ((run_stage c (grid0.coords t) _ _ _ _ _ _ _ _ _ _ _ _ c1 c2 c3 (iblk m c 0 t) (iblk m c 1 t) ((dats m 0 c).before 2 t d2) D0 D1) Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    iexists _; iexact H2
  · have c1 : ¬k0_cond1 (grid0.coords t) = 1#1 := fun h => h8 ((cond_stage t).mp h)
    by_cases h1 : t.val / 8 % 2 = 1
    · have c2 := (cond_odd t).mpr h1
      have c3 : ¬k0_cond3 (grid0.coords t) = 1#1 := fun h => by have := (cond_even t).mp h; omega
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.2 (by omega) h1).eq_panel]
      iapply ((run_odd c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      iexact H2
    · have c3 := (cond_even t).mpr ⟨by omega, by omega⟩
      have c2 : ¬k0_cond2 (grid0.coords t) = 1#1 := fun h => h1 ((cond_odd t).mp h)
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.1 (by omega) (by omega)).eq_panel]
      iapply ((run_even c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GatesIdeal.Gates

end
-- ==== Proof.Gates.Value.lean ====
module

public import proofs.«01_k».proof.Proof.Gates.Run

@[expose] public section

set_option maxRecDepth 16384

noncomputable section

namespace Cert.GatesIdeal.Gates

open Idealize.ShloMosaic TcCoe Tactic
open Idealize.SL Idealize.SL.Sem
open Idealize.ShloMosaic.Pipeline (Dat Cfg Window)
open Cert.GatesIdeal.Gen

variable (m : (ℓ : Loc nD τ sig) → Buf (Elt Ideal) ℓ) (ρ : Dev nD → PrngReg)

/-- The column of the weights at which panel `j` begins: the gates are the last 8192 columns. -/
def panelCol (j : ℕ) : ℕ := 17440 + j * 1024

theorem panelCol_lt {j : ℕ} (h : j < 8) : panelCol j + 1024 ≤ 25632 := by unfold panelCol; omega

/-- The column of the weights that column `k` of the result is taken from. -/
def col (k : Fin 8192) : Fin 25632 := ⟨17440 + k.val, by omega⟩

/-- The activations and the weights as launched. -/
abbrev X (c : Dev nD) : Vec Ideal S8192x4096 .bf16 := m ((c : Thread nD τ).loc main_arg0)
abbrev W (c : Dev nD) : Vec Ideal S4096x25632 .f32 := m ((c : Thread nD τ).loc main_arg1)

/-- The logistic function, as both the kernel and the reference write it. -/
def sigm (a : EReal) : EReal := Ideal.div 1 (1 + Ideal.exp (0 - a))

/-- The result: the logistic function of the rows of the activations against the last columns of the weights. -/
def G (c : Dev nD) : Vec Ideal S8192x8192 .bf16 := fun i => sigm (∑ k : Fin 4096, X m c (ix2 (i 0) k) * W m c (ix2 k (col (i 1))))

theorem idx_rows : ∀ t : Fin cfg0.N, 8 ≤ t.val → win0_0.index t = ![t.val % 8, 0] :=
  (by decide +kernel : ∀ t : Fin grid0.N, _)
theorem idx_chunk : ∀ t : Fin cfg0.N, t.val < 64 → win0_1.index t = ![panelCol (t.val / 8) + t.val % 8 * 128, 0] :=
  (by decide +kernel : ∀ t : Fin grid0.N, _)
theorem idx_out : ∀ t : Fin cfg0.N, 8 ≤ t.val → win0_2.index t = ![t.val % 8, t.val / 8 - 1] :=
  (by decide +kernel : ∀ t : Fin grid0.N, _)

/-- The rows that a multiplying point reads. -/
theorem rows_apply (c : Dev nD) (t : Fin cfg0.N) (ht : 8 ≤ t.val) (y : S1024x4096.Idx) :
    iblk m c 0 t y = X m c (ix2 (⟨t.val % 8 * 1024 + (y 0).val, by have : (y 0).val < 1024 := (y 0).isLt; omega⟩ : Fin 8192) (y 1)) := by
  blk_ext [iblk, V, idx_rows t ht]

/-- The chunk of the weights that a staging point reads. -/
theorem chunk_apply (c : Dev nD) (t : Fin cfg0.N) (ht : t.val < 64) (y : S128x4096.Idx) :
    iblk m c 1 t y = W m c (ix2 (y 1) (⟨panelCol (t.val / 8) + t.val % 8 * 128 + (y 0).val, by
      have : (y 0).val < 128 := (y 0).isLt
      have h : t.val / 8 < 8 := by omega
      have := panelCol_lt h
      omega⟩ : Fin 25632)) := by
  have hV : ∀ j : S25632x4096.Idx, V m c main_v0 j = W m c (ix2 (j 1) (j 0)) := fun j => by entry_read; pointwise
  have e0 : ((((cfg0.win 1).blk t).view.emb y) 0).val = panelCol (t.val / 8) + t.val % 8 * 128 + (y 0).val := by
    have h := win0_1.rect_emb_val_off t y 0
    rw [idx_chunk t ht] at h
    exact h
  have e1 : ((((cfg0.win 1).blk t).view.emb y) 1).val = (y 1).val := by
    have h := win0_1.rect_emb_val_off t y 1
    rw [idx_chunk t ht] at h
    exact h.trans (Nat.zero_add _)
  refine (hV (((cfg0.win 1).blk t).view.emb y)).trans (congrArg (W m c) (funext fun a => Fin.ext ?_))
  match a with
  | ⟨0, _⟩ => exact e1
  | ⟨1, _⟩ => exact e0

/-- A staged panel is a block of the weights' columns, transposed. -/
theorem panel_apply (c : Dev nD) (T : ℕ) (hT : T < 8) (y : S1024x4096.Idx) :
    panel m c T y = W m c (ix2 (y 1) (⟨panelCol T + (y 0).val, by
      have : (y 0).val < 1024 := (y 0).isLt
      have := panelCol_lt hT
      omega⟩ : Fin 25632)) := by
  have hy : (y 0).val < 1024 := (y 0).isLt
  unfold panel k0_pay1
  pointwise
  rw [chunk_apply m c _ (by show (8 * T + (y 0).val / 128) % 72 < 64; omega)]
  refine congrArg (W m c) (funext fun a => Fin.ext ?_)
  match a with
  | ⟨0, _⟩ => rfl
  | ⟨1, _⟩ =>
    show panelCol ((8 * T + (y 0).val / 128) % 72 / 8) + (8 * T + (y 0).val / 128) % 72 % 8 * 128 + (y 0).val % 128 = panelCol T + (y 0).val
    rw [show (8 * T + (y 0).val / 128) % 72 / 8 = T by omega]
    omega

/-- What a multiplying point leaves in the output's block, at the element that is `j` of the output. -/
theorem out_point (c : Dev nD) (t : Fin cfg0.N) (ht : 8 ≤ t.val) (y : S1024x1024.Idx) (j : S8192x8192.Idx)
    (e0 : (j 0).val = t.val % 8 * 1024 + (y 0).val) (e1 : (j 1).val = (t.val / 8 - 1) * 1024 + (y 1).val) :
    outBlock (iblk m c 0 t) (panel m c (t.val / 8 - 1)) y = G m c j := by
  have hlt : t.val < 72 := lt_of_lt_of_eq t.isLt N_0
  have hy0 : (y 0).val < 1024 := (y 0).isLt
  have hy1 : (y 1).val < 1024 := (y 1).isLt
  unfold outBlock k0_pay5 G
  pointwise
  refine congrArg sigm (Finset.sum_congr rfl fun k _ => ?_)
  rw [rows_apply m c t ht, panel_apply m c _ (by omega)]
  refine congrArg₂ (· * ·) (congrArg (fun a => X m c (ix2 a k)) (Fin.ext ?_)) (congrArg (fun a => W m c (ix2 k a)) (Fin.ext ?_))
  · show t.val % 8 * 1024 + ((y 0).val / 256 * 256 + (y 0).val % 256) % 1024 = (j 0).val
    omega
  · show panelCol (t.val / 8 - 1) + ((y 1).val / 256 * 256 + (y 1).val % 256) % 1024 = 17440 + (j 1).val
    unfold panelCol
    omega

/-- The place in the output of an element of a multiplying point's block. -/
theorem out_place (t : Fin cfg0.N) (ht : 8 ≤ t.val) (y : S1024x1024.Idx) :
    ((((cfg0.win 2).blk t).view.emb y) 0).val = t.val % 8 * 1024 + (y 0).val
      ∧ ((((cfg0.win 2).blk t).view.emb y) 1).val = (t.val / 8 - 1) * 1024 + (y 1).val := by
  constructor <;> blk_simp [idx_out t ht]

/-- The output array after the run. -/
theorem final_out (c : Dev nD) : (dats m 0 c).arrAt 2 (cfgs 0).N = G m c := by
  refine (dats m 0 c).arrAt_eq_of_covers 2 _ (by decide +kernel) fun t hf y => ?_
  have ht : 8 ≤ t.val := by
    by_contra h
    have := not_flush t (by omega)
    exact absurd (this.symm.trans hf) (by decide)
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final_out m c), h.2.1 c⟩)
    (θ_run_and ((θ_run defs _ _).mono (fun _ h => h.1) (run_main m ρ)) (frame m ρ))

end Cert.GatesIdeal.Gates

end
-- ==== Proof.Gates.Reference.lean ====
module

public import proofs.«01_k».proof.Proof.Gates.Value
public import proofs.«01_k».proof.Proof.Gen.GatesRefIdeal.Read

@[expose] public section

set_option maxRecDepth 16384

noncomputable section

namespace Cert.GatesRefIdeal.Gates

open Idealize.ShloMosaic TcCoe Tactic
open Cert.GatesRefIdeal Cert.GatesRefIdeal.Gen Cert.GatesRefIdeal.Read
open Cert.GatesIdeal.Gates (sigm col)

variable (x0 : (⟨S8192x4096, .bf16⟩ : BufTy).Contents (Elt Ideal)) (x1 : (⟨S4096x25632, .f32⟩ : BufTy).Contents (Elt Ideal))

/-- The reference's product, at the element in row `r` and column `k` of all the projections. -/
theorem product_apply (j : S8192x25632.Idx) :
    val_main_v1 (F := Ideal) x0 x1 j = ∑ k : Fin 4096, x0 (ix2 (j 0) k) * x1 (ix2 k (j 1)) := by
  unfold val_main_v1 val_main_v0
  pointwise

/-- The first gate: the logistic function of its slice of the product. -/
theorem gate_a_apply (j : S8192x4096.Idx) :
    val_main_v16 (F := Ideal) x0 x1 j = sigm (val_main_v9 (F := Ideal) x0 x1 j) := by
  unfold val_main_v16 val_main_v15 val_main_cst_0 val_main_v14 val_main_v13 val_main_cst val_main_v12 val_main_v11 sigm
  generalize val_main_v9 (F := Ideal) x0 x1 = p
  pointwise
  rw [zero_sub]

/-- The second gate: the same of the next slice. -/
theorem gate_b_apply (j : S8192x4096.Idx) :
    val_main_v22 (F := Ideal) x0 x1 j = sigm (val_main_v10 (F := Ideal) x0 x1 j) := by
  unfold val_main_v22 val_main_v21 val_main_cst_2 val_main_v20 val_main_v19 val_main_cst_1 val_main_v18 val_main_v17 sigm
  generalize val_main_v10 (F := Ideal) x0 x1 = p
  pointwise
  rw [zero_sub]

/-- The reference's result at an index. -/
theorem result_apply (i : S8192x8192.Idx) :
    val_main_v24 (F := Ideal) x0 x1 i = sigm (∑ k : Fin 4096, x0 (ix2 (i 0) k) * x1 (ix2 k (col (i 1)))) := by
  have hi : (i 1).val < 8192 := (i 1).isLt
  rw [val_main_v24_apply]
  show val_main_v23 (F := Ideal) x0 x1 i = _
  unfold val_main_v23
  generalize h16 : val_main_v16 (F := Ideal) x0 x1 = p16
  generalize h22 : val_main_v22 (F := Ideal) x0 x1 = p22
  pointwise
  have key : ∀ (j : S8192x25632.Idx), (j 0).val = (i 0).val → (j 1).val = 17440 + (i 1).val →
      val_main_v1 (F := Ideal) x0 x1 j = ∑ k : Fin 4096, x0 (ix2 (i 0) k) * x1 (ix2 k (col (i 1))) := fun j e0 e1 => by
    rw [product_apply, show j 0 = i 0 from Fin.ext e0, show j 1 = col (i 1) from Fin.ext e1]
  by_cases h1 : (i 1).val < 4096
  · rw [dif_pos h1, ← h16, gate_a_apply, val_main_v9_apply]
    refine congrArg sigm (key _ rfl ?_)
    show 17440 + (i 1).val = 17440 + (i 1).val
    rfl
  · rw [dif_neg h1, ← h22, gate_b_apply, val_main_v10_apply]
    refine congrArg sigm (key _ rfl ?_)
    show 21536 + ((i 1).val - 4096) = 17440 + (i 1).val
    omega

end Cert.GatesRefIdeal.Gates

end
-- ==== Proof.Down.Body.lean ====
module

public import proofs.«01_k».proof.Proof.Gen.DownIdeal.Frame
public import proofs.«01_k».proof.Proof.Gen.DownIdeal.Skeleton
public import proofs.«01_k».proof.Proof.Stores

@[expose] public section

set_option maxRecDepth 16384

noncomputable section

namespace Cert.DownIdeal.Down

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.DownIdeal.Gen
open Cert.Stores (read_store read_tiled)

variable {F : FTy → Type} [FloatOps F]

local notation "𝕄" => MT nD τ sig Unit (Elt F) ℕ (UR sig nD τ) ℕ

/-! ## What the body computes -/

/-- The panel buffer after a chunk of 512 rows is staged into it at the row offset `off 0`: the chunk, its numbers cast to
    bf16, over the buffer's earlier contents. -/
def staged (off : Fin 2 → ℕ) (inb : ∀ a, off a + S512x512.size a ≤ S4096x512.size a) (x1 : Vec F S512x512 .f32)
    (D : Vec F S4096x512 .bf16) : Vec F S4096x512 .bf16 :=
  (Rect.unit (s := S4096x512) off S512x512.size inb).overlay D (k0_pay1 x1)

/-- The word arithmetic of an accumulator row: block `n`, slice `r`. -/
theorem word_row : ∀ (n : Fin 8) (r : Fin 4),
    (Scalar.indexCast (Scalar.addi (Scalar.muli (BitVec.ofNat 32 n.val) 1024#32) (BitVec.ofNat 32 (256 * r.val)))).toNat = n.val * 1024 + 256 * r.val := by
  decide +kernel

instance (i : grid0.Coords) : ClosedOff (k0_off3 i 0#32) := ⟨![(i 1).val * 1024 + 0, 0], by unfold k0_off3; exact congrArg (fun n => ![n, 0]) (word_row (i 1) 0)⟩
instance (i : grid0.Coords) : ClosedOff (k0_off3 i 256#32) := ⟨![(i 1).val * 1024 + 256, 0], by unfold k0_off3; exact congrArg (fun n => ![n, 0]) (word_row (i 1) 1)⟩
instance (i : grid0.Coords) : ClosedOff (k0_off3 i 512#32) := ⟨![(i 1).val * 1024 + 512, 0], by unfold k0_off3; exact congrArg (fun n => ![n, 0]) (word_row (i 1) 2)⟩
instance (i : grid0.Coords) : ClosedOff (k0_off3 i 768#32) := ⟨![(i 1).val * 1024 + 768, 0], by unfold k0_off3; exact congrArg (fun n => ![n, 0]) (word_row (i 1) 3)⟩
instance (i : grid0.Coords) : ClosedOff (k0_off4 i 0#32) := ⟨![(i 1).val * 1024 + 0, 256], by unfold k0_off4; exact congrArg (fun n => ![n, 256]) (word_row (i 1) 0)⟩
instance (i : grid0.Coords) : ClosedOff (k0_off4 i 256#32) := ⟨![(i 1).val * 1024 + 256, 256], by unfold k0_off4; exact congrArg (fun n => ![n, 256]) (word_row (i 1) 1)⟩
instance (i : grid0.Coords) : ClosedOff (k0_off4 i 512#32) := ⟨![(i 1).val * 1024 + 512, 256], by unfold k0_off4; exact congrArg (fun n => ![n, 256]) (word_row (i 1) 2)⟩
instance (i : grid0.Coords) : ClosedOff (k0_off4 i 768#32) := ⟨![(i 1).val * 1024 + 768, 256], by unfold k0_off4; exact congrArg (fun n => ![n, 256]) (word_row (i 1) 3)⟩
instance (i : grid0.Coords) : ClosedOff (k0_off6 i 0#32) := ⟨![(i 1).val * 1024 + 0, 0], by unfold k0_off6; exact congrArg (fun n => ![n, 0]) (word_row (i 1) 0)⟩
instance (i : grid0.Coords) : ClosedOff (k0_off6 i 256#32) := ⟨![(i 1).val * 1024 + 256, 0], by unfold k0_off6; exact congrArg (fun n => ![n, 0]) (word_row (i 1) 1)⟩
instance (i : grid0.Coords) : ClosedOff (k0_off6 i 512#32) := ⟨![(i 1).val * 1024 + 512, 0], by unfold k0_off6; exact congrArg (fun n => ![n, 0]) (word_row (i 1) 2)⟩
instance (i : grid0.Coords) : ClosedOff (k0_off6 i 768#32) := ⟨![(i 1).val * 1024 + 768, 0], by unfold k0_off6; exact congrArg (fun n => ![n, 0]) (word_row (i 1) 3)⟩
instance (i : grid0.Coords) : ClosedOff (k0_off7 i 0#32) := ⟨![(i 1).val * 1024 + 0, 256], by unfold k0_off7; exact congrArg (fun n => ![n, 256]) (word_row (i 1) 0)⟩
instance (i : grid0.Coords) : ClosedOff (k0_off7 i 256#32) := ⟨![(i 1).val * 1024 + 256, 256], by unfold k0_off7; exact congrArg (fun n => ![n, 256]) (word_row (i 1) 1)⟩
instance (i : grid0.Coords) : ClosedOff (k0_off7 i 512#32) := ⟨![(i 1).val * 1024 + 512, 256], by unfold k0_off7; exact congrArg (fun n => ![n, 256]) (word_row (i 1) 2)⟩
instance (i : grid0.Coords) : ClosedOff (k0_off7 i 768#32) := ⟨![(i 1).val * 1024 + 768, 256], by unfold k0_off7; exact congrArg (fun n => ![n, 256]) (word_row (i 1) 3)⟩

/-- The block of partial sums after a step, from its block of rows `x`, its weight panel `W` and the partial sums `P` before it:
    eight products of 256 rows of `x` with 256 columns of `W`, side by side, each added to `P` there (to zero, in a step that is
    the first of its four). -/
def accBlock (a0 : BitVec 32) (x : Vec F S1024x4096 .bf16) (W : Vec F S4096x512 .bf16) (P : Vec F S1024x512 .f32) : Vec F S1024x512 .f32 := fun y =>
  k0_pay9 a0 (fun j => x (ix2 (⟨((y 0).val / 256 * 256 + (j 0).val) % 1024, Nat.mod_lt _ (by decide)⟩ : Fin 1024) (j 1)))
    (fun j => W (ix2 (j 0) (⟨((y 1).val / 256 * 256 + (j 1).val) % 512, Nat.mod_lt _ (by decide)⟩ : Fin 512)))
    (fun j => P (ix2 (⟨((y 0).val / 256 * 256 + (j 0).val) % 1024, Nat.mod_lt _ (by decide)⟩ : Fin 1024) (⟨((y 1).val / 256 * 256 + (j 1).val) % 512, Nat.mod_lt _ (by decide)⟩ : Fin 512)))
    (ix2 (⟨(y 0).val % 256, Nat.mod_lt _ (by decide)⟩ : Fin 256) (⟨(y 1).val % 256, Nat.mod_lt _ (by decide)⟩ : Fin 256))

/-- Block `b` of the accumulator: 1024 of its rows. -/
def accRows (A : Vec F S8192x512 .f32) (b : ℕ) : Vec F S1024x512 .f32 := fun y =>
  A (ix2 (⟨(b * 1024 + (y 0).val) % 8192, Nat.mod_lt _ (by decide)⟩ : Fin 8192) (y 1))

/-- The accumulator with block `b` replaced by `B`. -/
def setRows (A : Vec F S8192x512 .f32) (b : ℕ) (B : Vec F S1024x512 .f32) : Vec F S8192x512 .f32 := fun y =>
  if (y 0).val / 1024 = b then B (ix2 (⟨(y 0).val % 1024, Nat.mod_lt _ (by decide)⟩ : Fin 1024) (y 1)) else A y

/-- The output block: what is added, plus the partial sums. -/
def outBlock (r : Vec F S1024x512 .f32) (B : Vec F S1024x512 .f32) : Vec F S1024x512 .f32 := fun y => FloatOps.addf (r y) (B y)

/-- One of the eight products with its sum is the part of `accBlock` under its rectangle. -/
theorem tile_eq (a0 : BitVec 32) (x : Vec F S1024x4096 .bf16) (W : Vec F S4096x512 .bf16) (A : Vec F S8192x512 .f32) (b : ℕ) (hb : b < 8)
    (o1 o2 : ℕ) (h1 : o1 % 256 = 0) (h2 : o2 % 256 = 0) (off : Fin 2 → ℕ) (hoff : off = ![b * 1024 + o1, o2])
    (i1 : ∀ a, (![o1, 0] : Fin 2 → ℕ) a + S256x4096.size a ≤ S1024x4096.size a)
    (i2 : ∀ a, (![0, o2] : Fin 2 → ℕ) a + S4096x256.size a ≤ S4096x512.size a)
    (i3 : ∀ a, (![o1, o2] : Fin 2 → ℕ) a + S256x256.size a ≤ S1024x512.size a)
    (i4 : ∀ a, off a + S256x256.size a ≤ S8192x512.size a) (y : S256x256.Idx) :
    k0_pay9 a0 (View.ld x (Rect.unit (s := S1024x4096) ![o1, 0] S256x4096.size i1))
        (View.ld W (Rect.unit (s := S4096x512) ![0, o2] S4096x256.size i2)) (View.ld A (Rect.unit (s := S8192x512) off S256x256.size i4)) y
      = accBlock a0 x W (accRows A b) ((Rect.unit (s := S1024x512) ![o1, o2] S256x256.size i3).emb y) := by
  subst hoff
  have b0 : (y 0).val < 256 := (y 0).isLt
  have b1 : (y 1).val < 256 := (y 1).isLt
  have l1 : o1 + 256 ≤ 1024 := i1 0
  have l2 : o2 + 256 ≤ 512 := i2 1
  have e0 : (((Rect.unit (s := S1024x512) ![o1, o2] S256x256.size i3).emb y) 0).val = o1 + (y 0).val := by
    show o1 + 1 * (y 0).val = _; omega
  have e1 : (((Rect.unit (s := S1024x512) ![o1, o2] S256x256.size i3).emb y) 1).val = o2 + (y 1).val := by
    show o2 + 1 * (y 1).val = _; omega
  have hx : View.ld x (Rect.unit (s := S1024x4096) ![o1, 0] S256x4096.size i1) = fun j : S256x4096.Idx =>
      x (ix2 (⟨((((Rect.unit (s := S1024x512) ![o1, o2] S256x256.size i3).emb y) 0).val / 256 * 256 + (j 0).val) % 1024, Nat.mod_lt _ (by decide)⟩ : Fin 1024) (j 1)) := by
    funext j
    have bj : (j 0).val < 256 := (j 0).isLt
    refine congrArg x (funext fun a => Fin.ext ?_)
    match a with
    | ⟨0, _⟩ =>
      show o1 + 1 * (j 0).val = ((((Rect.unit (s := S1024x512) ![o1, o2] S256x256.size i3).emb y) 0).val / 256 * 256 + (j 0).val) % 1024
      rw [e0]; omega
    | ⟨1, _⟩ => show 0 + 1 * (j 1).val = (j 1).val; omega
  have hW : View.ld W (Rect.unit (s := S4096x512) ![0, o2] S4096x256.size i2) = fun j : S4096x256.Idx =>
      W (ix2 (j 0) (⟨((((Rect.unit (s := S1024x512) ![o1, o2] S256x256.size i3).emb y) 1).val / 256 * 256 + (j 1).val) % 512, Nat.mod_lt _ (by decide)⟩ : Fin 512)) := by
    funext j
    have bj : (j 1).val < 256 := (j 1).isLt
    refine congrArg W (funext fun a => Fin.ext ?_)
    match a with
    | ⟨0, _⟩ => show 0 + 1 * (j 0).val = (j 0).val; omega
    | ⟨1, _⟩ =>
      show o2 + 1 * (j 1).val = ((((Rect.unit (s := S1024x512) ![o1, o2] S256x256.size i3).emb y) 1).val / 256 * 256 + (j 1).val) % 512
      rw [e1]; omega
  have hA : View.ld A (Rect.unit (s := S8192x512) ![b * 1024 + o1, o2] S256x256.size i4) = fun j : S256x256.Idx =>
      accRows A b (ix2 (⟨((((Rect.unit (s := S1024x512) ![o1, o2] S256x256.size i3).emb y) 0).val / 256 * 256 + (j 0).val) % 1024, Nat.mod_lt _ (by decide)⟩ : Fin 1024) (⟨((((Rect.unit (s := S1024x512) ![o1, o2] S256x256.size i3).emb y) 1).val / 256 * 256 + (j 1).val) % 512, Nat.mod_lt _ (by decide)⟩ : Fin 512)) := by
    funext j
    have bj0 : (j 0).val < 256 := (j 0).isLt
    have bj1 : (j 1).val < 256 := (j 1).isLt
    unfold accRows
    refine congrArg A (funext fun a => Fin.ext ?_)
    match a with
    | ⟨0, _⟩ =>
      show b * 1024 + o1 + 1 * (j 0).val = (b * 1024 + ((((Rect.unit (s := S1024x512) ![o1, o2] S256x256.size i3).emb y) 0).val / 256 * 256 + (j 0).val) % 1024) % 8192
      rw [e0]; omega
    | ⟨1, _⟩ =>
      show o2 + 1 * (j 1).val = ((((Rect.unit (s := S1024x512) ![o1, o2] S256x256.size i3).emb y) 1).val / 256 * 256 + (j 1).val) % 512
      rw [e1]; omega
  have hy : y = (ix2 (⟨(((Rect.unit (s := S1024x512) ![o1, o2] S256x256.size i3).emb y) 0).val % 256, Nat.mod_lt _ (by decide)⟩ : Fin 256)
      (⟨(((Rect.unit (s := S1024x512) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S1024x512) ![o1, o2] S256x256.size i3).emb y) 0).val % 256; rw [e0]; omega
    | ⟨1, _⟩ => show (y 1).val = (((Rect.unit (s := S1024x512) ![o1, o2] S256x256.size i3).emb y) 1).val % 256; rw [e1]; omega
  rw [hx, hW, hA]
  unfold accBlock
  exact congrArg _ hy

/-- What is stored into the accumulator at one of the rectangles is the part of the new accumulator under it. -/
theorem acc_tile (a0 : BitVec 32) (x : Vec F S1024x4096 .bf16) (W : Vec F S4096x512 .bf16) (A : Vec F S8192x512 .f32) (b : ℕ) (hb : b < 8)
    (o1 o2 : ℕ) (h1 : o1 % 256 = 0) (h2 : o2 % 256 = 0) (off : Fin 2 → ℕ) (hoff : off = ![b * 1024 + o1, o2])
    (i1 : ∀ a, (![o1, 0] : Fin 2 → ℕ) a + S256x4096.size a ≤ S1024x4096.size a)
    (i2 : ∀ a, (![0, o2] : Fin 2 → ℕ) a + S4096x256.size a ≤ S4096x512.size a)
    (i3 : ∀ a, (![o1, o2] : Fin 2 → ℕ) a + S256x256.size a ≤ S1024x512.size a)
    (i4 : ∀ a, off a + S256x256.size a ≤ S8192x512.size a) (hs : S256x256.ShapeCasts S256x256) (y : S256x256.Idx) :
    shapeCast S256x256 (k0_pay9 a0 (View.ld x (Rect.unit (s := S1024x4096) ![o1, 0] S256x4096.size i1))
        (View.ld W (Rect.unit (s := S4096x512) ![0, o2] S4096x256.size i2)) (View.ld A (Rect.unit (s := S8192x512) off S256x256.size i4))) hs y
      = setRows A b (accBlock a0 x W (accRows A b)) ((Rect.unit (s := S8192x512) off S256x256.size i4).emb y) := by
  rw [shapeCast_self, tile_eq a0 x W A b hb o1 o2 h1 h2 off hoff i1 i2 i3 i4 y]
  subst hoff
  have b0 : (y 0).val < 256 := (y 0).isLt
  have l1 : o1 + 256 ≤ 1024 := i1 0
  have e0 : (((Rect.unit (s := S8192x512) ![b * 1024 + o1, o2] S256x256.size i4).emb y) 0).val = b * 1024 + o1 + (y 0).val := by
    show b * 1024 + o1 + 1 * (y 0).val = _; omega
  unfold setRows
  rw [if_pos (by rw [e0]; omega)]
  refine congrArg (accBlock a0 x W (accRows A b)) (funext fun a => Fin.ext ?_)
  match a with
  | ⟨0, _⟩ =>
    show o1 + 1 * (y 0).val = (((Rect.unit (s := S8192x512) ![b * 1024 + o1, o2] S256x256.size i4).emb y) 0).val % 1024
    rw [e0]; omega
  | ⟨1, _⟩ => rfl

/-- What is stored into the output block at one of the rectangles is the part of `outBlock` under it. -/
theorem out_tile (a0 : BitVec 32) (x : Vec F S1024x4096 .bf16) (W : Vec F S4096x512 .bf16) (r : Vec F S1024x512 .f32)
    (A : Vec F S8192x512 .f32) (b : ℕ) (hb : b < 8)
    (o1 o2 : ℕ) (h1 : o1 % 256 = 0) (h2 : o2 % 256 = 0) (off : Fin 2 → ℕ) (hoff : off = ![b * 1024 + o1, o2])
    (i1 : ∀ a, (![o1, 0] : Fin 2 → ℕ) a + S256x4096.size a ≤ S1024x4096.size a)
    (i2 : ∀ a, (![0, o2] : Fin 2 → ℕ) a + S4096x256.size a ≤ S4096x512.size a)
    (i3 : ∀ a, (![o1, o2] : Fin 2 → ℕ) a + S256x256.size a ≤ S1024x512.size a)
    (i4 : ∀ a, off a + S256x256.size a ≤ S8192x512.size a) (y : S256x256.Idx) :
    addf (View.ld r (Rect.unit (s := S1024x512) ![o1, o2] S256x256.size i3)) (k0_pay9 a0 (View.ld x (Rect.unit (s := S1024x4096) ![o1, 0] S256x4096.size i1))
        (View.ld W (Rect.unit (s := S4096x512) ![0, o2] S4096x256.size i2)) (View.ld A (Rect.unit (s := S8192x512) off S256x256.size i4))) y
      = outBlock r (accBlock a0 x W (accRows A b)) ((Rect.unit (s := S1024x512) ![o1, o2] S256x256.size i3).emb y) := by
  unfold outBlock
  rw [← tile_eq a0 x W A b hb o1 o2 h1 h2 off hoff i1 i2 i3 i4 y]
  rfl

/-- Stores of tiles, each the part of `G` under it, over contents that are `G` wherever no tile lies, leave `G`. -/
theorem read_part {κ : Kind} {sp : Space} {s : Shape} {e : EltTy} (v : View sig κ sp s e) (f : v.ty.Contents (Elt F))
    (L : List (View.Piece (Elt F) s e)) (G : s.Idx → Elt F e)
    (hp : ∀ p ∈ L, ∀ x : p.1.shape.Idx, p.2 x = G (p.1.emb x)) (hr : ∀ y, (∀ p ∈ L, y ∉ p.1.set) → v.read (Elt F) f y = G y) :
    v.read (Elt F) (v.writes (Elt F) f L) = G := by
  funext y
  by_cases h : ∃ p ∈ L, y ∈ p.1.set
  · exact (View.read_writes_apply_eq_canon v f y L h).trans (View.canon_apply_of_pieces G L hp y h)
  · have h' : ∀ p ∈ L, y ∉ p.1.set := fun p hp hy => h ⟨p, hp, hy⟩
    exact (View.read_writes_apply_of_forall_not_mem v f y L h').trans (hr y h')

/-- A place of the block's rows and the tile's columns lies in the tile. -/
theorem mem_tile (off : Fin 2 → ℕ) (b o1 o2 : ℕ) (hoff : off = ![b * 1024 + o1, o2]) (inb : ∀ a, off a + S256x256.size a ≤ S8192x512.size a)
    (y : S8192x512.Idx) (h : b * 1024 + o1 ≤ (y 0).val ∧ (y 0).val < b * 1024 + o1 + 256 ∧ o2 ≤ (y 1).val ∧ (y 1).val < o2 + 256) :
    y ∈ (Rect.unit (s := S8192x512) off S256x256.size inb).set := by
  subst hoff
  refine Rect.mem_set_unit.mpr fun a => ?_
  match a with
  | ⟨0, _⟩ => exact ⟨h.1, h.2.1⟩
  | ⟨1, _⟩ => exact ⟨h.2.2.1, h.2.2.2⟩

set_option maxHeartbeats 1000000 in
/-- The body while only staging (the first outer step): the chunk goes into the first panel buffer, all else is as it was. -/
theorem run_stage (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S8192x512 .f32) (harg8 : arg8.IsWhole) (hc0 : k0_cond1 i = 1#1) (hc1 : ¬k0_cond2 i = 1#1) (hc2 : ¬k0_cond3 i = 1#1)
    (x0 : Vec F S1024x4096 .bf16) (x1 : Vec F S512x512 .f32) (r : Vec F S1024x512 .f32) (x2 : Vec F S1024x512 .f32) (D0 D1 : Vec F S4096x512 .bf16) (A : Vec F S8192x512 .f32) :
      ∀ (E : Set ℕ) (K : PUnit → sProp 𝕄),
        iprop(owns c arg2 fullShare x0 ∗ owns c arg3 fullShare x1 ∗ owns c arg4 fullShare r ∗ owns c arg5 fullShare x2 ∗ owns c arg6 fullShare D0 ∗ owns c arg7 fullShare D1 ∗ owns c arg8 fullShare A
            ∗ (iprop(owns c arg2 fullShare x0 ∗ owns c arg3 fullShare x1 ∗ owns c arg4 fullShare r ∗ owns c arg5 fullShare x2 ∗ owns c arg6 fullShare (staged (k0_off1 i) (k0_off1_inb i hc0) x1 D0) ∗ owns c arg7 fullShare D1 ∗ owns c arg8 fullShare A) -∗ K ⟨⟩))
          ⊢ wp frame (wpE (defs₀ (F := F)) Variants.none c none) E (cc0_mlp_down i arg2 harg2 arg3 harg3 arg4 harg4 arg5 harg5 arg6 harg6 arg7 harg7 arg8 harg8) K := by
  intro E K
  simp only [cc0_mlp_down_eq_skeleton]; unfold cc0_mlp_down_skel
  unfold owns
  iintro ⟨⟨%f0, %hf0, H0⟩, ⟨%f1, %hf1, H1⟩, ⟨%fxr, %hxr, Xr⟩, ⟨%f2, %hf2, H2⟩, ⟨%fs0, %hs0, HS0⟩, ⟨%fs1, %hs1, HS1⟩, ⟨%fs2, %hs2, HS2⟩, Hk⟩
  obtain rfl := harg2.eq_unread hf0; obtain rfl := harg3.eq_unread hf1; obtain rfl := harg4.eq_unread hxr; obtain rfl := harg5.eq_unread hf2
  obtain rfl := harg6.eq_unread hs0; obtain rfl := harg7.eq_unread hs1; obtain rfl := harg8.eq_unread hs2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [H2]
  · iexists _; isplitr; · ipureintro; exact harg5.read_unread _
    iexact H2
  isplitl [HS0]
  · iexists _; isplitr; swap; · iexact HS0
    ipureintro
    rw [read_store harg6]
    unfold staged
    congr 2
    sl_unfold_words
    simp only [View.readAt_eq_ld, harg3.read_unread]
    exact View.ld_unit_zero (by decide) _ _
  isplitl [HS1]
  · iexists _; isplitr; · ipureintro; exact harg7.read_unread _
    iexact HS1
  iexists _; isplitr; swap; · iexact HS2
  ipureintro; exact harg8.read_unread _

set_option maxHeartbeats 4000000 in
/-- The body at an odd outer step: the chunk goes into the second panel buffer while the output block is computed from the
    first one. -/
theorem run_odd (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S8192x512 .f32) (harg8 : arg8.IsWhole) (hc0 : ¬k0_cond1 i = 1#1) (hc1 : k0_cond2 i = 1#1) (hc2 : ¬k0_cond3 i = 1#1)
    (x0 : Vec F S1024x4096 .bf16) (x1 : Vec F S512x512 .f32) (r : Vec F S1024x512 .f32) (D0 D1 : Vec F S4096x512 .bf16) (A : Vec F S8192x512 .f32) :
      ∀ (E : Set ℕ) (K : PUnit → sProp 𝕄),
        iprop(owns c arg2 fullShare x0 ∗ owns c arg3 fullShare x1 ∗ owns c arg4 fullShare r ∗ (∃ d, owns c arg5 fullShare d) ∗ owns c arg6 fullShare D0 ∗ owns c arg7 fullShare D1 ∗ owns c arg8 fullShare A
            ∗ (iprop(owns c arg2 fullShare x0 ∗ owns c arg3 fullShare x1 ∗ owns c arg4 fullShare r ∗ owns c arg5 fullShare (outBlock r (accBlock (BitVec.ofNat 32 (i 0).val) x0 D0 (accRows A (i 1).val))) ∗ owns c arg6 fullShare D0 ∗ owns c arg7 fullShare (staged (k0_off2 i) (k0_off2_inb i hc1) x1 D1) ∗ owns c arg8 fullShare (setRows A (i 1).val (accBlock (BitVec.ofNat 32 (i 0).val) x0 D0 (accRows A (i 1).val)))) -∗ K ⟨⟩))
          ⊢ wp frame (wpE (defs₀ (F := F)) Variants.none c none) E (cc0_mlp_down i arg2 harg2 arg3 harg3 arg4 harg4 arg5 harg5 arg6 harg6 arg7 harg7 arg8 harg8) K := by
  intro E K
  simp only [cc0_mlp_down_eq_skeleton]; unfold cc0_mlp_down_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%fxr, %hxr, Xr⟩, ⟨%d2, %f2, -, H2⟩, ⟨%fs0, %hs0, HS0⟩, ⟨%fs1, %hs1, HS1⟩, ⟨%fs2, %hs2, HS2⟩, Hk⟩
  obtain rfl := harg2.eq_unread hf0; obtain rfl := harg3.eq_unread hf1; obtain rfl := harg4.eq_unread hxr
  obtain rfl := harg6.eq_unread hs0; obtain rfl := harg7.eq_unread hs1; obtain rfl := harg8.eq_unread hs2
  have hb : (i 1).val < 8 := (i 1).isLt
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [H2]
  · iexists _; isplitr; swap; · iexact H2
    ipureintro
    sl_unfold_words
    refine read_tiled _ _ _ ![256, 256] _ (by rfl) ?_
    simp only [View.readAt_eq_ld, harg2.read_unread, harg4.read_unread, harg6.read_unread, harg8.read_unread]
    intro p hp x
    simp only [List.mem_cons, List.not_mem_nil, or_false] at hp
    rcases hp with rfl | rfl | rfl | rfl | rfl | rfl | rfl | rfl
    · exact out_tile (BitVec.ofNat 32 (i 0).val) x0 D0 r A (i 1).val hb 768 256 (by decide) (by decide) _ (ClosedOff.eq (off := k0_off4 i 768#32)) (by decide) (by decide) (by decide) _ x
    · exact out_tile (BitVec.ofNat 32 (i 0).val) x0 D0 r A (i 1).val hb 768 0 (by decide) (by decide) _ (ClosedOff.eq (off := k0_off3 i 768#32)) (by decide) (by decide) (by decide) _ x
    · exact out_tile (BitVec.ofNat 32 (i 0).val) x0 D0 r A (i 1).val hb 512 256 (by decide) (by decide) _ (ClosedOff.eq (off := k0_off4 i 512#32)) (by decide) (by decide) (by decide) _ x
    · exact out_tile (BitVec.ofNat 32 (i 0).val) x0 D0 r A (i 1).val hb 512 0 (by decide) (by decide) _ (ClosedOff.eq (off := k0_off3 i 512#32)) (by decide) (by decide) (by decide) _ x
    · exact out_tile (BitVec.ofNat 32 (i 0).val) x0 D0 r A (i 1).val hb 256 256 (by decide) (by decide) _ (ClosedOff.eq (off := k0_off4 i 256#32)) (by decide) (by decide) (by decide) _ x
    · exact out_tile (BitVec.ofNat 32 (i 0).val) x0 D0 r A (i 1).val hb 256 0 (by decide) (by decide) _ (ClosedOff.eq (off := k0_off3 i 256#32)) (by decide) (by decide) (by decide) _ x
    · exact out_tile (BitVec.ofNat 32 (i 0).val) x0 D0 r A (i 1).val hb 0 256 (by decide) (by decide) _ (ClosedOff.eq (off := k0_off4 i 0#32)) (by decide) (by decide) (by decide) _ x
    · exact out_tile (BitVec.ofNat 32 (i 0).val) x0 D0 r A (i 1).val hb 0 0 (by decide) (by decide) _ (ClosedOff.eq (off := k0_off3 i 0#32)) (by decide) (by decide) (by decide) _ x
  isplitl [HS0]
  · iexists _; isplitr; · ipureintro; exact harg6.read_unread _
    iexact HS0
  isplitl [HS1]
  · iexists _; isplitr; swap; · iexact HS1
    ipureintro
    rw [read_store harg7]
    unfold staged
    congr 2
    sl_unfold_words
    simp only [View.readAt_eq_ld, harg3.read_unread]
    exact View.ld_unit_zero (by decide) _ _
  iexists _; isplitr; swap; · iexact HS2
  ipureintro
  sl_unfold_words
  refine read_part _ _ _ _ ?_ ?_
  · simp only [View.readAt_eq_ld, harg2.read_unread, harg4.read_unread, harg6.read_unread, harg8.read_unread]
    intro p hp x
    simp only [List.mem_cons, List.not_mem_nil, or_false] at hp
    rcases hp with rfl | rfl | rfl | rfl | rfl | rfl | rfl | rfl
    · exact acc_tile (BitVec.ofNat 32 (i 0).val) x0 D0 A (i 1).val hb 768 256 (by decide) (by decide) _ (ClosedOff.eq (off := k0_off4 i 768#32)) (by decide) (by decide) (by decide) _ _ x
    · exact acc_tile (BitVec.ofNat 32 (i 0).val) x0 D0 A (i 1).val hb 768 0 (by decide) (by decide) _ (ClosedOff.eq (off := k0_off3 i 768#32)) (by decide) (by decide) (by decide) _ _ x
    · exact acc_tile (BitVec.ofNat 32 (i 0).val) x0 D0 A (i 1).val hb 512 256 (by decide) (by decide) _ (ClosedOff.eq (off := k0_off4 i 512#32)) (by decide) (by decide) (by decide) _ _ x
    · exact acc_tile (BitVec.ofNat 32 (i 0).val) x0 D0 A (i 1).val hb 512 0 (by decide) (by decide) _ (ClosedOff.eq (off := k0_off3 i 512#32)) (by decide) (by decide) (by decide) _ _ x
    · exact acc_tile (BitVec.ofNat 32 (i 0).val) x0 D0 A (i 1).val hb 256 256 (by decide) (by decide) _ (ClosedOff.eq (off := k0_off4 i 256#32)) (by decide) (by decide) (by decide) _ _ x
    · exact acc_tile (BitVec.ofNat 32 (i 0).val) x0 D0 A (i 1).val hb 256 0 (by decide) (by decide) _ (ClosedOff.eq (off := k0_off3 i 256#32)) (by decide) (by decide) (by decide) _ _ x
    · exact acc_tile (BitVec.ofNat 32 (i 0).val) x0 D0 A (i 1).val hb 0 256 (by decide) (by decide) _ (ClosedOff.eq (off := k0_off4 i 0#32)) (by decide) (by decide) (by decide) _ _ x
    · exact acc_tile (BitVec.ofNat 32 (i 0).val) x0 D0 A (i 1).val hb 0 0 (by decide) (by decide) _ (ClosedOff.eq (off := k0_off3 i 0#32)) (by decide) (by decide) (by decide) _ _ x
  · intro y hy
    rw [harg8.read_unread]
    unfold setRows
    split
    · rename_i hyb
      exfalso
      have y1 : (y 1).val < 512 := (y 1).isLt
      simp only [List.mem_cons, List.not_mem_nil, or_false, forall_eq_or_imp, forall_eq] at hy
      obtain ⟨n0, n1, n2, n3, n4, n5, n6, n7⟩ := hy
      have m0 := mt (mem_tile (k0_off4 i 768#32) (i 1).val 768 256 (ClosedOff.eq (off := k0_off4 i 768#32)) _ y) n0
      have m1 := mt (mem_tile (k0_off3 i 768#32) (i 1).val 768 0 (ClosedOff.eq (off := k0_off3 i 768#32)) _ y) n1
      have m2 := mt (mem_tile (k0_off4 i 512#32) (i 1).val 512 256 (ClosedOff.eq (off := k0_off4 i 512#32)) _ y) n2
      have m3 := mt (mem_tile (k0_off3 i 512#32) (i 1).val 512 0 (ClosedOff.eq (off := k0_off3 i 512#32)) _ y) n3
      have m4 := mt (mem_tile (k0_off4 i 256#32) (i 1).val 256 256 (ClosedOff.eq (off := k0_off4 i 256#32)) _ y) n4
      have m5 := mt (mem_tile (k0_off3 i 256#32) (i 1).val 256 0 (ClosedOff.eq (off := k0_off3 i 256#32)) _ y) n5
      have m6 := mt (mem_tile (k0_off4 i 0#32) (i 1).val 0 256 (ClosedOff.eq (off := k0_off4 i 0#32)) _ y) n6
      have m7 := mt (mem_tile (k0_off3 i 0#32) (i 1).val 0 0 (ClosedOff.eq (off := k0_off3 i 0#32)) _ y) n7
      omega
    · rfl

set_option maxHeartbeats 4000000 in
/-- The body at an even outer step: the chunk goes into the first panel buffer while the output block is computed from the
    second one. -/
theorem run_even (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S8192x512 .f32) (harg8 : arg8.IsWhole) (hc0 : ¬k0_cond1 i = 1#1) (hc1 : ¬k0_cond2 i = 1#1) (hc2 : k0_cond3 i = 1#1)
    (x0 : Vec F S1024x4096 .bf16) (x1 : Vec F S512x512 .f32) (r : Vec F S1024x512 .f32) (D0 D1 : Vec F S4096x512 .bf16) (A : Vec F S8192x512 .f32) :
      ∀ (E : Set ℕ) (K : PUnit → sProp 𝕄),
        iprop(owns c arg2 fullShare x0 ∗ owns c arg3 fullShare x1 ∗ owns c arg4 fullShare r ∗ (∃ d, owns c arg5 fullShare d) ∗ owns c arg6 fullShare D0 ∗ owns c arg7 fullShare D1 ∗ owns c arg8 fullShare A
            ∗ (iprop(owns c arg2 fullShare x0 ∗ owns c arg3 fullShare x1 ∗ owns c arg4 fullShare r ∗ owns c arg5 fullShare (outBlock r (accBlock (BitVec.ofNat 32 (i 0).val) x0 D1 (accRows A (i 1).val))) ∗ owns c arg6 fullShare (staged (k0_off5 i) (k0_off5_inb i hc2) x1 D0) ∗ owns c arg7 fullShare D1 ∗ owns c arg8 fullShare (setRows A (i 1).val (accBlock (BitVec.ofNat 32 (i 0).val) x0 D1 (accRows A (i 1).val)))) -∗ K ⟨⟩))
          ⊢ wp frame (wpE (defs₀ (F := F)) Variants.none c none) E (cc0_mlp_down i arg2 harg2 arg3 harg3 arg4 harg4 arg5 harg5 arg6 harg6 arg7 harg7 arg8 harg8) K := by
  intro E K
  simp only [cc0_mlp_down_eq_skeleton]; unfold cc0_mlp_down_skel
  simp only [k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%fxr, %hxr, Xr⟩, ⟨%d2, %f2, -, H2⟩, ⟨%fs0, %hs0, HS0⟩, ⟨%fs1, %hs1, HS1⟩, ⟨%fs2, %hs2, HS2⟩, Hk⟩
  obtain rfl := harg2.eq_unread hf0; obtain rfl := harg3.eq_unread hf1; obtain rfl := harg4.eq_unread hxr
  obtain rfl := harg6.eq_unread hs0; obtain rfl := harg7.eq_unread hs1; obtain rfl := harg8.eq_unread hs2
  have hb : (i 1).val < 8 := (i 1).isLt
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [H2]
  · iexists _; isplitr; swap; · iexact H2
    ipureintro
    sl_unfold_words
    refine read_tiled _ _ _ ![256, 256] _ (by rfl) ?_
    simp only [View.readAt_eq_ld, harg2.read_unread, harg4.read_unread, harg7.read_unread, harg8.read_unread]
    intro p hp x
    simp only [List.mem_cons, List.not_mem_nil, or_false] at hp
    rcases hp with rfl | rfl | rfl | rfl | rfl | rfl | rfl | rfl
    · exact out_tile (BitVec.ofNat 32 (i 0).val) x0 D1 r A (i 1).val hb 768 256 (by decide) (by decide) _ (ClosedOff.eq (off := k0_off7 i 768#32)) (by decide) (by decide) (by decide) _ x
    · exact out_tile (BitVec.ofNat 32 (i 0).val) x0 D1 r A (i 1).val hb 768 0 (by decide) (by decide) _ (ClosedOff.eq (off := k0_off6 i 768#32)) (by decide) (by decide) (by decide) _ x
    · exact out_tile (BitVec.ofNat 32 (i 0).val) x0 D1 r A (i 1).val hb 512 256 (by decide) (by decide) _ (ClosedOff.eq (off := k0_off7 i 512#32)) (by decide) (by decide) (by decide) _ x
    · exact out_tile (BitVec.ofNat 32 (i 0).val) x0 D1 r A (i 1).val hb 512 0 (by decide) (by decide) _ (ClosedOff.eq (off := k0_off6 i 512#32)) (by decide) (by decide) (by decide) _ x
    · exact out_tile (BitVec.ofNat 32 (i 0).val) x0 D1 r A (i 1).val hb 256 256 (by decide) (by decide) _ (ClosedOff.eq (off := k0_off7 i 256#32)) (by decide) (by decide) (by decide) _ x
    · exact out_tile (BitVec.ofNat 32 (i 0).val) x0 D1 r A (i 1).val hb 256 0 (by decide) (by decide) _ (ClosedOff.eq (off := k0_off6 i 256#32)) (by decide) (by decide) (by decide) _ x
    · exact out_tile (BitVec.ofNat 32 (i 0).val) x0 D1 r A (i 1).val hb 0 256 (by decide) (by decide) _ (ClosedOff.eq (off := k0_off7 i 0#32)) (by decide) (by decide) (by decide) _ x
    · exact out_tile (BitVec.ofNat 32 (i 0).val) x0 D1 r A (i 1).val hb 0 0 (by decide) (by decide) _ (ClosedOff.eq (off := k0_off6 i 0#32)) (by decide) (by decide) (by decide) _ x
  isplitl [HS0]
  · iexists _; isplitr; swap; · iexact HS0
    ipureintro
    rw [read_store harg6]
    unfold staged
    congr 2
    sl_unfold_words
    simp only [View.readAt_eq_ld, harg3.read_unread]
    exact View.ld_unit_zero (by decide) _ _
  isplitl [HS1]
  · iexists _; isplitr; · ipureintro; exact harg7.read_unread _
    iexact HS1
  iexists _; isplitr; swap; · iexact HS2
  ipureintro
  sl_unfold_words
  refine read_part _ _ _ _ ?_ ?_
  · simp only [View.readAt_eq_ld, harg2.read_unread, harg4.read_unread, harg7.read_unread, harg8.read_unread]
    intro p hp x
    simp only [List.mem_cons, List.not_mem_nil, or_false] at hp
    rcases hp with rfl | rfl | rfl | rfl | rfl | rfl | rfl | rfl
    · exact acc_tile (BitVec.ofNat 32 (i 0).val) x0 D1 A (i 1).val hb 768 256 (by decide) (by decide) _ (ClosedOff.eq (off := k0_off7 i 768#32)) (by decide) (by decide) (by decide) _ _ x
    · exact acc_tile (BitVec.ofNat 32 (i 0).val) x0 D1 A (i 1).val hb 768 0 (by decide) (by decide) _ (ClosedOff.eq (off := k0_off6 i 768#32)) (by decide) (by decide) (by decide) _ _ x
    · exact acc_tile (BitVec.ofNat 32 (i 0).val) x0 D1 A (i 1).val hb 512 256 (by decide) (by decide) _ (ClosedOff.eq (off := k0_off7 i 512#32)) (by decide) (by decide) (by decide) _ _ x
    · exact acc_tile (BitVec.ofNat 32 (i 0).val) x0 D1 A (i 1).val hb 512 0 (by decide) (by decide) _ (ClosedOff.eq (off := k0_off6 i 512#32)) (by decide) (by decide) (by decide) _ _ x
    · exact acc_tile (BitVec.ofNat 32 (i 0).val) x0 D1 A (i 1).val hb 256 256 (by decide) (by decide) _ (ClosedOff.eq (off := k0_off7 i 256#32)) (by decide) (by decide) (by decide) _ _ x
    · exact acc_tile (BitVec.ofNat 32 (i 0).val) x0 D1 A (i 1).val hb 256 0 (by decide) (by decide) _ (ClosedOff.eq (off := k0_off6 i 256#32)) (by decide) (by decide) (by decide) _ _ x
    · exact acc_tile (BitVec.ofNat 32 (i 0).val) x0 D1 A (i 1).val hb 0 256 (by decide) (by decide) _ (ClosedOff.eq (off := k0_off7 i 0#32)) (by decide) (by decide) (by decide) _ _ x
    · exact acc_tile (BitVec.ofNat 32 (i 0).val) x0 D1 A (i 1).val hb 0 0 (by decide) (by decide) _ (ClosedOff.eq (off := k0_off6 i 0#32)) (by decide) (by decide) (by decide) _ _ x
  · intro y hy
    rw [harg8.read_unread]
    unfold setRows
    split
    · rename_i hyb
      exfalso
      have y1 : (y 1).val < 512 := (y 1).isLt
      simp only [List.mem_cons, List.not_mem_nil, or_false, forall_eq_or_imp, forall_eq] at hy
      obtain ⟨n0, n1, n2, n3, n4, n5, n6, n7⟩ := hy
      have m0 := mt (mem_tile (k0_off7 i 768#32) (i 1).val 768 256 (ClosedOff.eq (off := k0_off7 i 768#32)) _ y) n0
      have m1 := mt (mem_tile (k0_off6 i 768#32) (i 1).val 768 0 (ClosedOff.eq (off := k0_off6 i 768#32)) _ y) n1
      have m2 := mt (mem_tile (k0_off7 i 512#32) (i 1).val 512 256 (ClosedOff.eq (off := k0_off7 i 512#32)) _ y) n2
      have m3 := mt (mem_tile (k0_off6 i 512#32) (i 1).val 512 0 (ClosedOff.eq (off := k0_off6 i 512#32)) _ y) n3
      have m4 := mt (mem_tile (k0_off7 i 256#32) (i 1).val 256 256 (ClosedOff.eq (off := k0_off7 i 256#32)) _ y) n4
      have m5 := mt (mem_tile (k0_off6 i 256#32) (i 1).val 256 0 (ClosedOff.eq (off := k0_off6 i 256#32)) _ y) n5
      have m6 := mt (mem_tile (k0_off7 i 0#32) (i 1).val 0 256 (ClosedOff.eq (off := k0_off7 i 0#32)) _ y) n6
      have m7 := mt (mem_tile (k0_off6 i 0#32) (i 1).val 0 0 (ClosedOff.eq (off := k0_off6 i 0#32)) _ y) n7
      omega
    · rfl

end Cert.DownIdeal.Down

end
-- ==== Proof.Down.Run.lean ====
module

public import proofs.«01_k».proof.Proof.Down.Body
public import proofs.«01_k».proof.Proof.Panels

@[expose] public section

set_option maxRecDepth 16384

noncomputable section

namespace Cert.DownIdeal.Down

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 264 points (outer step `t / 8`, inner step `t % 8`) -/

theorem cond_stage : ∀ t : Fin cfg0.N, k0_cond1 (grid0.coords t) = 1#1 ↔ t.val < 8 :=
  (by decide +kernel : ∀ t : Fin grid0.N, _)
theorem cond_odd : ∀ t : Fin cfg0.N, k0_cond2 (grid0.coords t) = 1#1 ↔ t.val / 8 % 2 = 1 :=
  (by decide +kernel : ∀ t : Fin grid0.N, _)
theorem cond_even : ∀ t : Fin cfg0.N, k0_cond3 (grid0.coords t) = 1#1 ↔ (8 ≤ t.val ∧ t.val / 8 % 2 = 0) :=
  (by decide +kernel : ∀ t : Fin grid0.N, _)
theorem off_stage : ∀ t : Fin cfg0.N, k0_off1 (grid0.coords t) = ![t.val % 8 * 512, 0] :=
  (by decide +kernel : ∀ t : Fin grid0.N, _)
theorem off_odd : ∀ t : Fin cfg0.N, k0_off2 (grid0.coords t) = ![t.val % 8 * 512, 0] :=
  (by decide +kernel : ∀ t : Fin grid0.N, _)
theorem off_even : ∀ t : Fin cfg0.N, k0_off5 (grid0.coords t) = ![t.val % 8 * 512, 0] :=
  (by decide +kernel : ∀ t : Fin grid0.N, _)
/-- In the first outer step nothing is written back. -/
theorem not_flush : ∀ t : Fin cfg0.N, t.val < 8 → (cfg0.win 3).flush t = false :=
  (by decide +kernel : ∀ t : Fin grid0.N, t.val < 8 → win0_3.flush t = false)

/-! ## The weight panels in the two buffers -/

/-- The weight panel that outer step `T` stages, chunk by chunk. -/
def panel (c : Dev nD) (T : ℕ) : Vec F S4096x512 .bf16 := fun y =>
  k0_pay1 (iblk m c 1 (⟨(8 * T + (y 0).val / 512) % 264, Nat.mod_lt _ (by decide)⟩ : Fin grid0.N))
    (ix2 (⟨(y 0).val % 512, Nat.mod_lt _ (by decide)⟩ : Fin 512) (y 1))

/-- What the two buffers hold before point `n`, as `Panels.Inv` says. -/
abbrev Inv (c : Dev nD) (n : ℕ) (D0 D1 : Vec F S4096x512 .bf16) : Prop := Panels.Inv 512 8 (panel m c) n D0 D1

/-- Staging point `t`'s chunk adds one chunk to what the buffer holds. -/
theorem holds_staged (c : Dev nD) (t : Fin cfg0.N) (off : Fin 2 → ℕ) (hoff : off = ![t.val % 8 * 512, 0])
    (inb : ∀ a, off a + S512x512.size a ≤ S4096x512.size a) (D : Vec F S4096x512 .bf16)
    (h : Panels.Holds 512 (panel m c (t.val / 8)) (t.val % 8) D) :
    Panels.Holds 512 (panel m c (t.val / 8)) (t.val % 8 + 1) (staged off inb (iblk m c 1 t) D) := by
  have ht : t.val < 264 := lt_of_lt_of_eq t.isLt N_0
  refine h.stage off hoff inb _ fun z y e0 e1 => ?_
  have hz : (z 0).val < 512 := (z 0).isLt
  unfold panel
  rw [show (⟨(8 * (t.val / 8) + (y 0).val / 512) % 264, Nat.mod_lt _ (by decide)⟩ : Fin grid0.N) = t from Fin.ext (by
    show (8 * (t.val / 8) + (y 0).val / 512) % 264 = t.val; rw [e0]; omega)]
  refine congrArg _ (funext fun a => Fin.ext ?_)
  match a with
  | ⟨0, _⟩ => show (y 0).val % 512 = (z 0).val; rw [e0]; omega
  | ⟨1, _⟩ => exact e1

/-! ## The accumulator -/

theorem coord_outer : ∀ t : Fin cfg0.N, ((grid0.coords t) 0).val = t.val / 8 :=
  (by decide +kernel : ∀ t : Fin grid0.N, _)
theorem coord_inner : ∀ t : Fin cfg0.N, ((grid0.coords t) 1).val = t.val % 8 :=
  (by decide +kernel : ∀ t : Fin grid0.N, _)

/-- The kernel's own bit for "this outer step's panel is the first of four". -/
def firstBit (a0 : BitVec 32) : BitVec 1 :=
  let width := Scalar.select (Scalar.cmpi .eq 4#32 0#32) 1#32 4#32
  let rem := Scalar.remsi (Scalar.subi a0 1#32) width
  Scalar.cmpi .eq (Scalar.select (Scalar.andi (Scalar.xori (Scalar.cmpi .slt rem 0#32) (Scalar.cmpi .slt width 0#32))
    (Scalar.cmpi .ne rem 0#32)) (Scalar.addi rem width) rem) 0#32

theorem firstBit_eq : ∀ T : Fin 32, firstBit (BitVec.ofNat 32 (T.val + 1)) = if T.val % 4 = 0 then 1#1 else 0#1 := by decide +kernel

/-- One product with its partial sum: the sum counts only where the panel is not the first of four. -/
theorem pay9_eq (a0 : BitVec 32) (x : Vec F S256x4096 .bf16) (w : Vec F S4096x256 .bf16) (p : Vec F S256x256 .f32) :
    k0_pay9 a0 x w p = addf (matmul dot_S256x4096_S4096x256_S256x256_1_0_0_1_n_n none x w (constant S256x256 .f32 0x00000000#32))
      (if firstBit a0 = 1#1 then broadcast S256x256 (Scalar.ofBits .f32 0x00000000#32) else p) := rfl

/-- With the first of four panels the new partial sums do not depend on the old ones. -/
theorem accBlock_first (T : ℕ) (hT : T < 32) (h4 : T % 4 = 0) (x : Vec F S1024x4096 .bf16) (w : Vec F S4096x512 .bf16) (p q : Vec F S1024x512 .f32) :
    accBlock (BitVec.ofNat 32 (T + 1)) x w p = accBlock (BitVec.ofNat 32 (T + 1)) x w q := by
  have hb : firstBit (BitVec.ofNat 32 (T + 1)) = 1#1 := (firstBit_eq ⟨T, hT⟩).trans (if_pos h4)
  funext y
  unfold accBlock
  rw [pay9_eq, pay9_eq, if_pos hb, if_pos hb]

/-- Row block `b`'s partial sums after outer step `T`. Step 0 multiplies nothing, and nothing reads its value. -/
def partialSum (c : Dev nD) : ℕ → ℕ → Vec F S1024x512 .f32
  | 0, _ => constant S1024x512 .f32 0x00000000#32
  | T + 1, b => accBlock (BitVec.ofNat 32 (T + 1)) (iblk m c 0 (⟨(8 * (T + 1) + b) % 264, Nat.mod_lt _ (by decide)⟩ : Fin grid0.N))
      (panel m c T) (partialSum c T b)

/-- What the accumulator holds before point `n`: each row block's partial sums of the last outer step that visited it, where
    that step's number is not a multiple of four. -/
def AccInv (c : Dev nD) (n : ℕ) (A : Vec F S8192x512 .f32) : Prop :=
  ∀ b T, b < 8 → 8 * T + b < n → n ≤ 8 * T + b + 8 → T % 4 ≠ 0 → accRows A b = partialSum m c T b

/-- What a multiplying point computes are its step's partial sums. -/
theorem acc_step {c : Dev nD} {t : Fin cfg0.N} {A : Vec F S8192x512 .f32} (h : AccInv m c t.val A) (h8 : 8 ≤ t.val) :
    accBlock (BitVec.ofNat 32 ((grid0.coords t) 0).val) (iblk m c 0 t) (panel m c (t.val / 8 - 1)) (accRows A ((grid0.coords t) 1).val)
      = partialSum m c (t.val / 8) (t.val % 8) := by
  have ht : t.val < 264 := lt_of_lt_of_eq t.isLt N_0
  rw [coord_outer, coord_inner]
  obtain ⟨T, hT⟩ : ∃ T, t.val / 8 = T + 1 := ⟨t.val / 8 - 1, by omega⟩
  rw [hT, Nat.add_sub_cancel]
  have hp : (⟨(8 * (T + 1) + t.val % 8) % 264, Nat.mod_lt _ (by decide)⟩ : Fin grid0.N) = t := Fin.ext (by
    show (8 * (T + 1) + t.val % 8) % 264 = t.val; omega)
  unfold partialSum
  rw [hp]
  by_cases h4 : T % 4 = 0
  · exact accBlock_first T (by omega) h4 _ _ _ _
  · rw [h (t.val % 8) T (by omega) (by omega) (by omega) h4]

/-- The replaced block is the new one, -/
theorem accRows_same (A : Vec F S8192x512 .f32) (b : ℕ) (hb : b < 8) (B : Vec F S1024x512 .f32) : accRows (setRows A b B) b = B := by
  funext y
  have hy : (y 0).val < 1024 := (y 0).isLt
  unfold accRows setRows
  refine (if_pos (show (b * 1024 + (y 0).val) % 8192 / 1024 = b by omega)).trans (congrArg B (funext fun a => Fin.ext ?_))
  match a with
  | ⟨0, _⟩ => show (b * 1024 + (y 0).val) % 8192 % 1024 = (y 0).val; omega
  | ⟨1, _⟩ => rfl

/-- and the others stay. -/
theorem accRows_other (A : Vec F S8192x512 .f32) (b d : ℕ) (hb : b < 8) (hd : d < 8) (h : d ≠ b) (B : Vec F S1024x512 .f32) :
    accRows (setRows A b B) d = accRows A d := by
  funext y
  have hy : (y 0).val < 1024 := (y 0).isLt
  unfold accRows setRows
  exact if_neg (show ¬(d * 1024 + (y 0).val) % 8192 / 1024 = b by omega)

/-- A multiplying point keeps the accumulator's invariant. -/
theorem acc_keep {c : Dev nD} {t : Fin cfg0.N} {A : Vec F S8192x512 .f32} (h : AccInv m c t.val A) (h8 : 8 ≤ t.val) :
    AccInv m c (t.val + 1) (setRows A ((grid0.coords t) 1).val (accBlock (BitVec.ofNat 32 ((grid0.coords t) 0).val) (iblk m c 0 t)
      (panel m c (t.val / 8 - 1)) (accRows A ((grid0.coords t) 1).val))) := by
  rw [acc_step m h h8, coord_inner]
  intro b T hb hlt hle h4
  by_cases e : b = t.val % 8
  · have hT : T = t.val / 8 := by omega
    subst e hT
    exact accRows_same _ _ (by omega) _
  · rw [accRows_other _ _ _ (by omega) hb e]
    exact h b T hb (by omega) (by omega) h4

/-- The first outer step does not touch it. -/
theorem acc_early {c : Dev nD} {n : ℕ} {A : Vec F S8192x512 .f32} (hn : n ≤ 8) : AccInv m c n A := fun b T hb hlt hle h4 => by omega

/-! ## The pipeline's proof data -/

/-- The scratch before point `n`: the two panel buffers as `Inv` says, the accumulator as `AccInv` says; and the generator register. -/
def PhiT (c : Dev nD) (n : ℕ) : sProp 𝕄 :=
  iprop((∃ D0 D1 A, ⌜Inv m c n D0 D1 ∧ AccInv m c n A⌝ ∗ owns c (Memref.whole cc0_scratch0) fullShare D0
      ∗ owns c (Memref.whole cc0_scratch1) fullShare D1 ∗ owns c (Memref.whole cc0_scratch2) fullShare A)
    ∗ (∃ r, prngReg c r))

/-- The proof data: the inputs' blocks stay; the output block is the residual's block plus the row block's partial sums
    after this outer step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 2 t) (partialSum m c (t.val / 8) (t.val % 8))
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_res (c : Dev nD) (t : Fin cfg0.N) : (dats m 0 c).after 2 t = iblk m c 2 t := by dsimp only [dats]
theorem after_out (c : Dev nD) (t : Fin cfg0.N) :
    (dats m 0 c).after 3 t = outBlock (iblk m c 2 t) (partialSum m c (t.val / 8) (t.val % 8)) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d
theorem before_res (c : Dev nD) (t : Fin cfg0.N) (d) : (dats m 0 c).before 2 t d = iblk m c 2 t :=
  before0_2_of m (dats m 0 c) (A_eq m c 2) (after_res m c) t d

/-- The staging memrefs of point `t`. -/
abbrev msRows (t : Fin cfg0.N) : Memref sig .tc .vmem S1024x4096 .bf16 := win0_0.stage (cfg0.slots t 0)
abbrev msChunk (t : Fin cfg0.N) : Memref sig .tc .vmem S512x512 .f32 := win0_1.stage (cfg0.slots t 1)
abbrev msRes (t : Fin cfg0.N) : Memref sig .tc .vmem S1024x512 .f32 := win0_2.stage (cfg0.slots t 2)
abbrev msOut (t : Fin cfg0.N) : Memref sig .tc .vmem S1024x512 .f32 := win0_3.stage (cfg0.slots t 3)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msRes t) fullShare ((dats m 0 c).before 2 t d))
    ∗ (∃ d, owns c (msOut t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk, before_res]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t],
    show (dats m 0 c).leavesExact 2 t = owns c (msRes t) fullShare (iblk m c 2 t) from by
      unfold Dat.leavesExact; rw [show cfg0.idle 2 (grid0.coords t) = false from rfl, ← after_res m c t]]
  unfold PhiT
  by_cases h8 : t.val < 8
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 3 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %A, %hI, HS0, HS1, HS2⟩, Hg⟩, Ho, ⟨%d0, H0⟩, ⟨%d1, H1⟩, ⟨%dx0, X0⟩, ⟨%d2, H2⟩⟩
    iapply ((run_stage c (grid0.coords t) _ _ _ _ _ _ _ _ _ _ _ _ _ _ c1 c2 c3 (iblk m c 0 t) (iblk m c 1 t) (iblk m c 2 t) ((dats m 0 c).before 3 t d2) D0 D1 A) Set.univ _)
    isplitl [H0]; · iexact H0
    isplitl [H1]; · iexact H1
    isplitl [X0]; · iexact X0
    isplitl [H2]; · iexact H2
    isplitl [HS0]; · iexact HS0
    isplitl [HS1]; · iexact HS1
    isplitl [HS2]; · iexact HS2
    iintro ⟨H0, H1, X0, H2, HS0, HS1, HS2⟩
    isplitl [HS0 HS1 HS2 Hg]
    · isplitl [HS0 HS1 HS2]
      · iexists _, _, A; isplitr; · ipureintro; exact ⟨hI.1.even (by decide) (by omega) (holds_staged m c t _ (off_stage t) (k0_off1_inb _ c1) _ (hI.1.1 (by omega))), acc_early m (by omega)⟩
        isplitl [HS0]; · iexact HS0
        isplitl [HS1]; · iexact HS1
        iexact HS2
      iexact Hg
    isplitl [Ho]; · iexact Ho
    isplitl [H0]; · iexact H0
    isplitl [H1]; · iexact H1
    isplitl [X0]; · iexact X0
    iexists _; iexact H2
  · have c1 : ¬k0_cond1 (grid0.coords t) = 1#1 := fun h => h8 ((cond_stage t).mp h)
    by_cases h1 : t.val / 8 % 2 = 1
    · have c2 := (cond_odd t).mpr h1
      have c3 : ¬k0_cond3 (grid0.coords t) = 1#1 := fun h => by have := (cond_even t).mp h; omega
      rw [show (dats m 0 c).leavesExact 3 t = owns c (msOut t) fullShare (outBlock (iblk m c 2 t) (partialSum m c (t.val / 8) (t.val % 8))) from by
        unfold Dat.leavesExact
        rw [show cfg0.idle 3 (grid0.coords t) = false from by
          show (!(k0_cond2 (grid0.coords t) == 1#1) && !(k0_cond3 (grid0.coords t) == 1#1)) = false
          rw [c2]; rfl, ← after_out m c t]]
      iintro ⟨⟨⟨%D0, %D1, %A, %hI, HS0, HS1, HS2⟩, Hg⟩, Ho, ⟨%d0, H0⟩, ⟨%d1, H1⟩, ⟨%dx0, X0⟩, ⟨%d2, H2⟩⟩
      have hD := (hI.1.2.2.2 (by omega) h1).eq_panel
      subst hD
      rw [← acc_step m hI.2 (by omega)]
      iapply ((run_odd c (grid0.coords t) _ _ _ _ _ _ _ _ _ _ _ _ _ _ c1 c2 c3 (iblk m c 0 t) (iblk m c 1 t) (iblk m c 2 t) _ D1 A) Set.univ _)
      isplitl [H0]; · iexact H0
      isplitl [H1]; · iexact H1
      isplitl [X0]; · iexact X0
      isplitl [H2]; · iexists _; iexact H2
      isplitl [HS0]; · iexact HS0
      isplitl [HS1]; · iexact HS1
      isplitl [HS2]; · iexact HS2
      iintro ⟨H0, H1, X0, H2, HS0, HS1, HS2⟩
      isplitl [HS0 HS1 HS2 Hg]
      · isplitl [HS0 HS1 HS2]
        · iexists _, _, _; isplitr; · ipureintro; exact ⟨hI.1.odd (by decide) (by omega) (holds_staged m c t _ (off_odd t) (k0_off2_inb _ c2) _ (hI.1.2.1 h1)), acc_keep m hI.2 (by omega)⟩
          isplitl [HS0]; · iexact HS0
          isplitl [HS1]; · iexact HS1
          iexact HS2
        iexact Hg
      isplitl [Ho]; · iexact Ho
      isplitl [H0]; · iexact H0
      isplitl [H1]; · iexact H1
      isplitl [X0]; · iexact X0
      iexact H2
    · have c3 := (cond_even t).mpr ⟨by omega, by omega⟩
      have c2 : ¬k0_cond2 (grid0.coords t) = 1#1 := fun h => h1 ((cond_odd t).mp h)
      rw [show (dats m 0 c).leavesExact 3 t = owns c (msOut t) fullShare (outBlock (iblk m c 2 t) (partialSum m c (t.val / 8) (t.val % 8))) from by
        unfold Dat.leavesExact
        rw [show cfg0.idle 3 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %A, %hI, HS0, HS1, HS2⟩, Hg⟩, Ho, ⟨%d0, H0⟩, ⟨%d1, H1⟩, ⟨%dx0, X0⟩, ⟨%d2, H2⟩⟩
      have hD := (hI.1.2.2.1 (by omega) (by omega)).eq_panel
      subst hD
      rw [← acc_step m hI.2 (by omega)]
      iapply ((run_even c (grid0.coords t) _ _ _ _ _ _ _ _ _ _ _ _ _ _ c1 c2 c3 (iblk m c 0 t) (iblk m c 1 t) (iblk m c 2 t) D0 _ A) Set.univ _)
      isplitl [H0]; · iexact H0
      isplitl [H1]; · iexact H1
      isplitl [X0]; · iexact X0
      isplitl [H2]; · iexists _; iexact H2
      isplitl [HS0]; · iexact HS0
      isplitl [HS1]; · iexact HS1
      isplitl [HS2]; · iexact HS2
      iintro ⟨H0, H1, X0, H2, HS0, HS1, HS2⟩
      isplitl [HS0 HS1 HS2 Hg]
      · isplitl [HS0 HS1 HS2]
        · iexists _, _, _; isplitr; · ipureintro; exact ⟨hI.1.even (by decide) (by omega) (holds_staged m c t _ (off_even t) (k0_off5_inb _ c3) _ (hI.1.1 (by omega))), acc_keep m hI.2 (by omega)⟩
          isplitl [HS0]; · iexact HS0
          isplitl [HS1]; · iexact HS1
          iexact HS2
        iexact Hg
      isplitl [Ho]; · iexact Ho
      isplitl [H0]; · iexact H0
      isplitl [H1]; · iexact H1
      isplitl [X0]; · iexact X0
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, ⟨%d2, H2⟩⟩, Hg⟩
  isplitl [H0 H1 H2]
  · iexists d0, d1, d2
    isplitr
    · ipureintro
      exact ⟨⟨fun _ y hy => by omega, fun h => by omega, fun h => by omega, fun h => by omega⟩, acc_early m (by omega)⟩
    isplitl [H0]; · iexact H0
    isplitl [H1]; · iexact H1
    iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, %d2, -, H0, H1, H2⟩, Hg⟩
  isplitl [H0 H1 H2]
  · isplitl [H0]; · iexists d0; iexact H0
    isplitl [H1]; · iexists d1; iexact H1
    iexists d2; iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.DownIdeal.Down

end
-- ==== Proof.Down.Value.lean ====
module

public import proofs.«01_k».proof.Proof.Down.Run

@[expose] public section

set_option maxRecDepth 16384

noncomputable section

namespace Cert.DownIdeal.Down

open Idealize.ShloMosaic TcCoe Tactic
open Idealize.SL Idealize.SL.Sem
open Idealize.ShloMosaic.Pipeline (Dat Cfg Window)
open Cert.DownIdeal.Gen

variable (m : (ℓ : Loc nD τ sig) → Buf (Elt Ideal) ℓ) (ρ : Dev nD → PrngReg)

/-- The activations, the weights and the residual stream as launched. -/
abbrev X (c : Dev nD) : Vec Ideal S8192x16384 .bf16 := m ((c : Thread nD τ).loc main_arg0)
abbrev W (c : Dev nD) : Vec Ideal S16384x4096 .f32 := m ((c : Thread nD τ).loc main_arg1)
abbrev Rs (c : Dev nD) : Vec Ideal S8192x4096 .f32 := m ((c : Thread nD τ).loc main_arg2)

/-- The result: the residual stream plus the activations' product with the weights. -/
def G (c : Dev nD) : Vec Ideal S8192x4096 .f32 := fun i => Rs m c i + (∑ k : Fin 16384, X m c (ix2 (i 0) k) * W m c (ix2 k (i 1)))

theorem idx_rows : ∀ t : Fin cfg0.N, 8 ≤ t.val → win0_0.index t = ![t.val % 8, (t.val / 8 - 1) % 4] :=
  (by decide +kernel : ∀ t : Fin grid0.N, _)
theorem idx_chunk : ∀ t : Fin cfg0.N, t.val < 256 → win0_1.index t = ![t.val / 8 % 4 * 8 + t.val % 8, t.val / 32] :=
  (by decide +kernel : ∀ t : Fin grid0.N, _)
theorem idx_res : ∀ t : Fin cfg0.N, 8 ≤ t.val ∧ t.val / 8 % 4 = 0 → win0_2.index t = ![t.val % 8, t.val / 32 - 1] :=
  (by decide +kernel : ∀ t : Fin grid0.N, _)
theorem idx_out : ∀ t : Fin cfg0.N, 8 ≤ t.val ∧ t.val / 8 % 4 = 0 → win0_3.index t = ![t.val % 8, t.val / 32 - 1] :=
  (by decide +kernel : ∀ t : Fin grid0.N, _)
/-- The output is written back with the last of four panels only. -/
theorem flush_last : ∀ t : Fin cfg0.N, (cfg0.win 3).flush t = true → 8 ≤ t.val ∧ t.val / 8 % 4 = 0 :=
  (by decide +kernel : ∀ t : Fin grid0.N, win0_3.flush t = true → 8 ≤ t.val ∧ t.val / 8 % 4 = 0)

/-- The rows that a multiplying point reads: a quarter of their columns. -/
theorem rows_apply (c : Dev nD) (t : Fin cfg0.N) (ht : 8 ≤ t.val) (y : S1024x4096.Idx) :
    iblk m c 0 t y = X m c (ix2 (⟨t.val % 8 * 1024 + (y 0).val, by have : (y 0).val < 1024 := (y 0).isLt; omega⟩ : Fin 8192)
      (⟨(t.val / 8 - 1) % 4 * 4096 + (y 1).val, by have : (y 1).val < 4096 := (y 1).isLt; omega⟩ : Fin 16384)) := by
  blk_ext [iblk, V, idx_rows t ht]

/-- The chunk of the weights that a staging point reads. -/
theorem chunk_apply (c : Dev nD) (t : Fin cfg0.N) (ht : t.val < 256) (y : S512x512.Idx) :
    iblk m c 1 t y = W m c (ix2 (⟨(t.val / 8 % 4 * 8 + t.val % 8) * 512 + (y 0).val, by have : (y 0).val < 512 := (y 0).isLt; omega⟩ : Fin 16384)
      (⟨t.val / 32 * 512 + (y 1).val, by have : (y 1).val < 512 := (y 1).isLt; omega⟩ : Fin 4096)) := by
  blk_ext [iblk, V, idx_chunk t ht]

/-- The block of the residual stream that a point with the last of four panels reads. -/
theorem res_apply (c : Dev nD) (t : Fin cfg0.N) (ht : 8 ≤ t.val ∧ t.val / 8 % 4 = 0) (y : S1024x512.Idx) :
    iblk m c 2 t y = Rs m c (ix2 (⟨t.val % 8 * 1024 + (y 0).val, by have : (y 0).val < 1024 := (y 0).isLt; omega⟩ : Fin 8192)
      (⟨(t.val / 32 - 1) * 512 + (y 1).val, by have : (y 1).val < 512 := (y 1).isLt; have : t.val < 264 := lt_of_lt_of_eq t.isLt N_0; omega⟩ : Fin 4096)) := by
  blk_ext [iblk, V, idx_res t ht]

/-- A staged panel is a block of the weights: a quarter of the rows of 512 columns. -/
theorem panel_apply (c : Dev nD) (T : ℕ) (hT : T < 32) (y : S4096x512.Idx) :
    panel m c T y = W m c (ix2 (⟨T % 4 * 4096 + (y 0).val, by have : (y 0).val < 4096 := (y 0).isLt; omega⟩ : Fin 16384)
      (⟨T / 4 * 512 + (y 1).val, by have : (y 1).val < 512 := (y 1).isLt; omega⟩ : Fin 4096)) := by
  have hy : (y 0).val < 4096 := (y 0).isLt
  unfold panel k0_pay1
  pointwise
  rw [chunk_apply m c _ (by show (8 * T + (y 0).val / 512) % 264 < 256; omega)]
  refine congrArg (W m c) (funext fun a => Fin.ext ?_)
  have e8 : (8 * T + (y 0).val / 512) % 264 / 8 = T := by omega
  have e32 : (8 * T + (y 0).val / 512) % 264 / 32 = T / 4 := by omega
  match a with
  | ⟨0, _⟩ =>
    show ((8 * T + (y 0).val / 512) % 264 / 8 % 4 * 8 + (8 * T + (y 0).val / 512) % 264 % 8) * 512 + (y 0).val % 512 = T % 4 * 4096 + (y 0).val
    rw [e8]
    omega
  | ⟨1, _⟩ =>
    show (8 * T + (y 0).val / 512) % 264 / 32 * 512 + (y 1).val = T / 4 * 512 + (y 1).val
    rw [e32]

/-! ## The partial sums over the four panels -/

/-- A sum over 16384 terms, in four runs of 4096. -/
theorem sum_quarters {M : Type} [AddCommMonoid M] (f : Fin 16384 → M) :
    (∑ p ∈ Finset.range 4, ∑ k : Fin 4096, f ⟨(p * 4096 + k.val) % 16384, Nat.mod_lt _ (by decide)⟩) = ∑ n, f n := by
  rw [Finset.sum_range, ← Fintype.sum_prod_type' (fun (p : Fin 4) (k : Fin 4096) => f ⟨(p.val * 4096 + k.val) % 16384, Nat.mod_lt _ (by decide)⟩)]
  refine Fintype.sum_equiv (finProdFinEquiv : Fin 4 × Fin 4096 ≃ Fin (4 * 4096)) _ (fun n => f n) fun x => congrArg f (Fin.ext ?_)
  have h0 := x.1.isLt
  have h1 := x.2.isLt
  show (x.1.val * 4096 + x.2.val) % 16384 = x.2.val + 4096 * x.1.val
  omega

/-- One term of an element's product. -/
def term (c : Dev nD) (r : Fin 8192) (q : Fin 4096) (n : Fin 16384) := X m c (ix2 r n) * W m c (ix2 n q)

/-- The part of it that falls to the panel `p` of four. -/
def quarter (c : Dev nD) (r : Fin 8192) (q : Fin 4096) (p : ℕ) :=
  ∑ k : Fin 4096, term m c r q ⟨(p * 4096 + k.val) % 16384, Nat.mod_lt _ (by decide)⟩

/-- A block's element as the kernel's tiles name it. -/
theorem tile_place (y : S1024x512.Idx) : (ix2 (⟨((y 0).val / 256 * 256 + (y 0).val % 256) % 1024, Nat.mod_lt _ (by decide)⟩ : Fin 1024)
    (⟨((y 1).val / 256 * 256 + (y 1).val % 256) % 512, Nat.mod_lt _ (by decide)⟩ : Fin 512) : S1024x512.Idx) = y := by
  have h0 : (y 0).val < 1024 := (y 0).isLt
  have h1 : (y 1).val < 512 := (y 1).isLt
  funext a
  refine Fin.ext ?_
  match a with
  | ⟨0, _⟩ => show ((y 0).val / 256 * 256 + (y 0).val % 256) % 1024 = (y 0).val; omega
  | ⟨1, _⟩ => show ((y 1).val / 256 * 256 + (y 1).val % 256) % 512 = (y 1).val; omega

/-- One outer step's contribution to an element. -/
theorem accBlock_apply (c : Dev nD) (T : ℕ) (hT : T < 32) (t : Fin cfg0.N) (ht : t.val / 8 = T + 1) (p : Vec Ideal S1024x512 .f32) (y : S1024x512.Idx)
    (r : Fin 8192) (q : Fin 4096) (hr : r.val = t.val % 8 * 1024 + (y 0).val) (hq : q.val = T / 4 * 512 + (y 1).val) :
    accBlock (BitVec.ofNat 32 (T + 1)) (iblk m c 0 t) (panel m c T) p y = quarter m c r q (T % 4) + (if T % 4 = 0 then 0 else p y) := by
  have h0 : (y 0).val < 1024 := (y 0).isLt
  have h1 : (y 1).val < 512 := (y 1).isLt
  have hx : ∀ k : Fin 4096, iblk m c 0 t (ix2 (⟨((y 0).val / 256 * 256 + (y 0).val % 256) % 1024, Nat.mod_lt _ (by decide)⟩ : Fin 1024) k)
      = X m c (ix2 r ⟨(T % 4 * 4096 + k.val) % 16384, Nat.mod_lt _ (by decide)⟩) := by
    intro k
    have hk := k.isLt
    rw [rows_apply m c t (by omega)]
    refine congrArg (X m c) (funext fun a => Fin.ext ?_)
    match a with
    | ⟨0, _⟩ => show t.val % 8 * 1024 + ((y 0).val / 256 * 256 + (y 0).val % 256) % 1024 = r.val; omega
    | ⟨1, _⟩ => show (t.val / 8 - 1) % 4 * 4096 + k.val = (T % 4 * 4096 + k.val) % 16384; rw [ht, Nat.add_sub_cancel]; omega
  have hw : ∀ k : Fin 4096, panel m c T (ix2 k (⟨((y 1).val / 256 * 256 + (y 1).val % 256) % 512, Nat.mod_lt _ (by decide)⟩ : Fin 512))
      = W m c (ix2 ⟨(T % 4 * 4096 + k.val) % 16384, Nat.mod_lt _ (by decide)⟩ q) := by
    intro k
    have hk := k.isLt
    rw [panel_apply m c T hT]
    refine congrArg (W m c) (funext fun a => Fin.ext ?_)
    match a with
    | ⟨0, _⟩ => show T % 4 * 4096 + k.val = (T % 4 * 4096 + k.val) % 16384; omega
    | ⟨1, _⟩ => show T / 4 * 512 + ((y 1).val / 256 * 256 + (y 1).val % 256) % 512 = q.val; omega
  have hb := firstBit_eq ⟨T, hT⟩
  unfold accBlock quarter term
  rw [pay9_eq]
  by_cases h4 : T % 4 = 0
  · rw [if_pos h4] at hb ⊢
    rw [if_pos hb]
    pointwise
    exact Finset.sum_congr rfl fun k _ => congrArg₂ (· * ·) (hx k) (hw k)
  · rw [if_neg h4] at hb ⊢
    rw [if_neg (by rw [hb]; decide)]
    pointwise
    exact congrArg₂ (· + ·) (Finset.sum_congr rfl fun k _ => congrArg₂ (· * ·) (hx k) (hw k)) (congrArg p (tile_place y))

theorem partialSum_succ (c : Dev nD) (T b : ℕ) : partialSum m c (T + 1) b
    = accBlock (BitVec.ofNat 32 (T + 1)) (iblk m c 0 (⟨(8 * (T + 1) + b) % 264, Nat.mod_lt _ (by decide)⟩ : Fin grid0.N)) (panel m c T) (partialSum m c T b) := rfl

/-- A row block's partial sums: the quarters of the panels so far. -/
theorem partial_apply (c : Dev nD) (b : ℕ) (hb : b < 8) (y : S1024x512.Idx) (r : Fin 8192) (q : Fin 4096) (hr : r.val = b * 1024 + (y 0).val) (T : ℕ) :
    T < 32 → q.val = T / 4 * 512 + (y 1).val → partialSum m c (T + 1) b y = ∑ p ∈ Finset.range (T % 4 + 1), quarter m c r q p := by
  have place : ∀ T, T < 32 → (8 * (T + 1) + b) % 264 / 8 = T + 1 ∧ (8 * (T + 1) + b) % 264 % 8 = b := fun T hT => by omega
  induction T with
  | zero =>
    intro hT hq
    rw [partialSum_succ]
    refine (accBlock_apply m c 0 hT _ (place 0 hT).1 _ y r q (hr.trans (congrArg (· * 1024 + (y 0).val) (place 0 hT).2.symm)) hq).trans ?_
    rw [if_pos (by decide), Finset.sum_range_one, add_zero]
  | succ T ih =>
    intro hT hq
    rw [partialSum_succ]
    refine (accBlock_apply m c (T + 1) hT _ (place (T + 1) hT).1 _ y r q
      (hr.trans (congrArg (· * 1024 + (y 0).val) (place (T + 1) hT).2.symm)) hq).trans ?_
    by_cases h4 : (T + 1) % 4 = 0
    · rw [if_pos h4, h4, Finset.sum_range_one, add_zero]
    · rw [if_neg h4, ih (by omega) (by omega), Finset.sum_range_succ _ ((T + 1) % 4), show T % 4 + 1 = (T + 1) % 4 by omega, add_comm]

/-- What a point with the last of four panels leaves in the output's block, at the element that is `j` of the output. -/
theorem out_point (c : Dev nD) (t : Fin cfg0.N) (ht : 8 ≤ t.val ∧ t.val / 8 % 4 = 0) (y : S1024x512.Idx) (j : S8192x4096.Idx)
    (e0 : (j 0).val = t.val % 8 * 1024 + (y 0).val) (e1 : (j 1).val = (t.val / 32 - 1) * 512 + (y 1).val) :
    outBlock (iblk m c 2 t) (partialSum m c (t.val / 8) (t.val % 8)) y = G m c j := by
  have hlt : t.val < 264 := lt_of_lt_of_eq t.isLt N_0
  obtain ⟨T, hT⟩ : ∃ T, t.val / 8 = T + 1 := ⟨t.val / 8 - 1, by omega⟩
  have hs := partial_apply m c (t.val % 8) (by omega) y (j 0) (j 1) e0 T (by omega) (by omega)
  rw [show T % 4 + 1 = 4 by omega] at hs
  have hs' : partialSum m c (T + 1) (t.val % 8) y = ∑ k : Fin 16384, X m c (ix2 (j 0) k) * W m c (ix2 k (j 1)) :=
    hs.trans (sum_quarters (term m c (j 0) (j 1)))
  unfold outBlock G
  rw [hT, hs', res_apply m c t ht]
  refine congrArg (· + _) (congrArg (Rs m c) (funext fun a => Fin.ext ?_))
  match a with
  | ⟨0, _⟩ => exact e0.symm
  | ⟨1, _⟩ => exact e1.symm

/-- The place in the output of an element of such a point's block. -/
theorem out_place (t : Fin cfg0.N) (ht : 8 ≤ t.val ∧ t.val / 8 % 4 = 0) (y : S1024x512.Idx) :
    ((((cfg0.win 3).blk t).view.emb y) 0).val = t.val % 8 * 1024 + (y 0).val
      ∧ ((((cfg0.win 3).blk t).view.emb y) 1).val = (t.val / 32 - 1) * 512 + (y 1).val := by
  constructor <;> blk_simp [idx_out t ht]

/-- The output array after the run. -/
theorem final_out (c : Dev nD) : (dats m 0 c).arrAt 3 (cfgs 0).N = G m c := by
  refine (dats m 0 c).arrAt_eq_of_covers 3 _ (by decide +kernel) fun t hf y => ?_
  have ht := flush_last t hf
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final_out m c), h.2.1 c⟩)
    (θ_run_and ((θ_run defs _ _).mono (fun _ h => h.1) (run_main m ρ)) (frame m ρ))

end Cert.DownIdeal.Down

end
-- ==== Proof.Down.Reference.lean ====
module

public import proofs.«01_k».proof.Proof.Down.Value
public import proofs.«01_k».proof.Proof.Gen.DownRefIdeal.Read

@[expose] public section

set_option maxRecDepth 16384

noncomputable section

namespace Cert.DownRefIdeal.Down

open Idealize.ShloMosaic TcCoe Tactic
open Cert.DownRefIdeal Cert.DownRefIdeal.Gen Cert.DownRefIdeal.Read

variable (x0 : (⟨S8192x16384, .bf16⟩ : BufTy).Contents (Elt Ideal)) (x1 : (⟨S16384x4096, .f32⟩ : BufTy).Contents (Elt Ideal)) (x2 : (⟨S8192x4096, .f32⟩ : BufTy).Contents (Elt Ideal))

/-- The reference's product at an element. -/
theorem product_apply (j : S8192x4096.Idx) :
    val_main_v1 (F := Ideal) x0 x1 j = ∑ k : Fin 16384, x0 (ix2 (j 0) k) * x1 (ix2 k (j 1)) := by
  unfold val_main_v1 val_main_v0
  pointwise

/-- The reference's result at an element: the residual stream plus the product. -/
theorem result_apply (i : S8192x4096.Idx) :
    val_main_v2 (F := Ideal) x0 x1 x2 i = x2 i + (∑ k : Fin 16384, x0 (ix2 (i 0) k) * x1 (ix2 k (i 1))) := by
  rw [← product_apply]
  rfl

end Cert.DownRefIdeal.Down

end
-- ==== Proof.Out.Body.lean ====
module

public import proofs.«01_k».proof.Proof.Gen.OutIdeal.Frame
public import proofs.«01_k».proof.Proof.Gen.OutIdeal.Skeleton
public import proofs.«01_k».proof.Proof.Stores

@[expose] public section

set_option maxRecDepth 16384

noncomputable section

namespace Cert.OutIdeal.Out

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.OutIdeal.Gen
open Cert.Stores (read_store read_tiled)

variable {F : FTy → Type} [FloatOps F]

local notation "𝕄" => MT nD τ sig Unit (Elt F) ℕ (UR sig nD τ) ℕ

/-! ## What the body computes -/

/-- The panel buffer after a chunk of 512 rows is staged into it at the row offset `off 0`: the chunk, its numbers cast to
    bf16, over the buffer's earlier contents. -/
def staged (off : Fin 2 → ℕ) (inb : ∀ a, off a + S512x1024.size a ≤ S4096x1024.size a) (x1 : Vec F S512x1024 .f32)
    (D : Vec F S4096x1024 .bf16) : Vec F S4096x1024 .bf16 :=
  (Rect.unit (s := S4096x1024) off S512x1024.size inb).overlay D (k0_pay1 x1)

/-- The output block from a block of rows `x`, a weight panel `W` and a block `r` of what is added: sixteen products of 256
    rows of `x` with 256 columns of `W`, side by side, each added to `r` there. -/
def outBlock (x : Vec F S1024x4096 .bf16) (W : Vec F S4096x1024 .bf16) (r : Vec F S1024x1024 .f32) : Vec F S1024x1024 .f32 := fun y =>
  k0_pay9 (fun j => x (ix2 (⟨((y 0).val / 256 * 256 + (j 0).val) % 1024, Nat.mod_lt _ (by decide)⟩ : Fin 1024) (j 1)))
    (fun j => W (ix2 (j 0) (⟨((y 1).val / 256 * 256 + (j 1).val) % 1024, Nat.mod_lt _ (by decide)⟩ : Fin 1024)))
    (fun j => r (ix2 (⟨((y 0).val / 256 * 256 + (j 0).val) % 1024, Nat.mod_lt _ (by decide)⟩ : Fin 1024) (⟨((y 1).val / 256 * 256 + (j 1).val) % 1024, Nat.mod_lt _ (by decide)⟩ : Fin 1024)))
    (ix2 (⟨(y 0).val % 256, Nat.mod_lt _ (by decide)⟩ : Fin 256) (⟨(y 1).val % 256, Nat.mod_lt _ (by decide)⟩ : Fin 256))

/-- What is stored at one of the rectangles is the part of `outBlock` under it. -/
theorem tile_eq (x : Vec F S1024x4096 .bf16) (W : Vec F S4096x1024 .bf16) (r : Vec F S1024x1024 .f32) (o1 o2 : ℕ) (h1 : o1 % 256 = 0) (h2 : o2 % 256 = 0)
    (i1 : ∀ a, (![o1, 0] : Fin 2 → ℕ) a + S256x4096.size a ≤ S1024x4096.size a)
    (i2 : ∀ a, (![0, o2] : Fin 2 → ℕ) a + S4096x256.size a ≤ S4096x1024.size a)
    (i3 : ∀ a, (![o1, o2] : Fin 2 → ℕ) a + S256x256.size a ≤ S1024x1024.size a) (y : S256x256.Idx) :
    k0_pay9 (View.ld x (Rect.unit (s := S1024x4096) ![o1, 0] S256x4096.size i1))
        (View.ld W (Rect.unit (s := S4096x1024) ![0, o2] S4096x256.size i2))
        (View.ld r (Rect.unit (s := S1024x1024) ![o1, o2] S256x256.size i3)) y
      = outBlock x W r ((Rect.unit (s := S1024x1024) ![o1, o2] S256x256.size i3).emb y) := by
  have b0 : (y 0).val < 256 := (y 0).isLt
  have b1 : (y 1).val < 256 := (y 1).isLt
  have l1 : o1 + 256 ≤ 1024 := i1 0
  have l2 : o2 + 256 ≤ 1024 := i2 1
  have e0 : (((Rect.unit (s := S1024x1024) ![o1, o2] S256x256.size i3).emb y) 0).val = o1 + (y 0).val := by
    show o1 + 1 * (y 0).val = _; omega
  have e1 : (((Rect.unit (s := S1024x1024) ![o1, o2] S256x256.size i3).emb y) 1).val = o2 + (y 1).val := by
    show o2 + 1 * (y 1).val = _; omega
  have hx : View.ld x (Rect.unit (s := S1024x4096) ![o1, 0] S256x4096.size i1) = fun j : S256x4096.Idx =>
      x (ix2 (⟨((((Rect.unit (s := S1024x1024) ![o1, o2] S256x256.size i3).emb y) 0).val / 256 * 256 + (j 0).val) % 1024, Nat.mod_lt _ (by decide)⟩ : Fin 1024) (j 1)) := by
    funext j
    have bj : (j 0).val < 256 := (j 0).isLt
    refine congrArg x (funext fun a => Fin.ext ?_)
    match a with
    | ⟨0, _⟩ =>
      show o1 + 1 * (j 0).val = ((((Rect.unit (s := S1024x1024) ![o1, o2] S256x256.size i3).emb y) 0).val / 256 * 256 + (j 0).val) % 1024
      rw [e0]; omega
    | ⟨1, _⟩ => show 0 + 1 * (j 1).val = (j 1).val; omega
  have hW : View.ld W (Rect.unit (s := S4096x1024) ![0, o2] S4096x256.size i2) = fun j : S4096x256.Idx =>
      W (ix2 (j 0) (⟨((((Rect.unit (s := S1024x1024) ![o1, o2] S256x256.size i3).emb y) 1).val / 256 * 256 + (j 1).val) % 1024, Nat.mod_lt _ (by decide)⟩ : Fin 1024)) := by
    funext j
    have bj : (j 1).val < 256 := (j 1).isLt
    refine congrArg W (funext fun a => Fin.ext ?_)
    match a with
    | ⟨0, _⟩ => show 0 + 1 * (j 0).val = (j 0).val; omega
    | ⟨1, _⟩ =>
      show o2 + 1 * (j 1).val = ((((Rect.unit (s := S1024x1024) ![o1, o2] S256x256.size i3).emb y) 1).val / 256 * 256 + (j 1).val) % 1024
      rw [e1]; omega
  have hr : View.ld r (Rect.unit (s := S1024x1024) ![o1, o2] S256x256.size i3) = fun j : S256x256.Idx =>
      r (ix2 (⟨((((Rect.unit (s := S1024x1024) ![o1, o2] S256x256.size i3).emb y) 0).val / 256 * 256 + (j 0).val) % 1024, Nat.mod_lt _ (by decide)⟩ : Fin 1024) (⟨((((Rect.unit (s := S1024x1024) ![o1, o2] S256x256.size i3).emb y) 1).val / 256 * 256 + (j 1).val) % 1024, Nat.mod_lt _ (by decide)⟩ : Fin 1024)) := by
    funext j
    have bj0 : (j 0).val < 256 := (j 0).isLt
    have bj1 : (j 1).val < 256 := (j 1).isLt
    refine congrArg r (funext fun a => Fin.ext ?_)
    match a with
    | ⟨0, _⟩ =>
      show o1 + 1 * (j 0).val = ((((Rect.unit (s := S1024x1024) ![o1, o2] S256x256.size i3).emb y) 0).val / 256 * 256 + (j 0).val) % 1024
      rw [e0]; omega
    | ⟨1, _⟩ =>
      show o2 + 1 * (j 1).val = ((((Rect.unit (s := S1024x1024) ![o1, o2] S256x256.size i3).emb y) 1).val / 256 * 256 + (j 1).val) % 1024
      rw [e1]; omega
  have hy : y = (ix2 (⟨(((Rect.unit (s := S1024x1024) ![o1, o2] S256x256.size i3).emb y) 0).val % 256, Nat.mod_lt _ (by decide)⟩ : Fin 256)
      (⟨(((Rect.unit (s := S1024x1024) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S1024x1024) ![o1, o2] S256x256.size i3).emb y) 0).val % 256; rw [e0]; omega
    | ⟨1, _⟩ => show (y 1).val = (((Rect.unit (s := S1024x1024) ![o1, o2] S256x256.size i3).emb y) 1).val % 256; rw [e1]; omega
  rw [hx, hW, hr]
  unfold outBlock
  exact congrArg _ hy

set_option maxHeartbeats 1000000 in
/-- The body while only staging (the first outer step): the chunk goes into the first panel buffer, all else is as it was. -/
theorem run_stage (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S8x128 .f32) (harg8 : arg8.IsWhole) (hc0 : k0_cond1 i = 1#1) (hc1 : ¬k0_cond2 i = 1#1) (hc2 : ¬k0_cond3 i = 1#1)
    (x0 : Vec F S1024x4096 .bf16) (x1 : Vec F S512x1024 .f32) (r : Vec F S1024x1024 .f32) (x2 : Vec F S1024x1024 .f32) (D0 D1 : Vec F S4096x1024 .bf16) :
      ∀ (E : Set ℕ) (K : PUnit → sProp 𝕄),
        iprop(owns c arg2 fullShare x0 ∗ owns c arg3 fullShare x1 ∗ owns c arg4 fullShare r ∗ owns c arg5 fullShare x2 ∗ owns c arg6 fullShare D0 ∗ owns c arg7 fullShare D1 ∗ (∃ d, owns c arg8 fullShare d)
            ∗ (iprop(owns c arg2 fullShare x0 ∗ owns c arg3 fullShare x1 ∗ owns c arg4 fullShare r ∗ owns c arg5 fullShare x2 ∗ owns c arg6 fullShare (staged (k0_off1 i) (k0_off1_inb i hc0) x1 D0) ∗ owns c arg7 fullShare D1 ∗ (∃ d, owns c arg8 fullShare d)) -∗ K ⟨⟩))
          ⊢ wp frame (wpE (defs₀ (F := F)) Variants.none c none) E (cc0_out_proj i arg2 harg2 arg3 harg3 arg4 harg4 arg5 harg5 arg6 harg6 arg7 harg7 arg8 harg8) K := by
  intro E K
  simp only [cc0_out_proj_eq_skeleton]; unfold cc0_out_proj_skel
  unfold owns
  iintro ⟨⟨%f0, %hf0, H0⟩, ⟨%f1, %hf1, H1⟩, ⟨%fxr, %hxr, Xr⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxr; obtain rfl := harg5.eq_unread hf2
  obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [H2]
  · iexists _; isplitr; · ipureintro; exact harg5.read_unread _
    iexact H2
  isplitl [HS0]
  · iexists _; isplitr; swap; · iexact HS0
    ipureintro
    rw [read_store harg6]
    unfold staged
    congr 2
    sl_unfold_words
    simp only [View.readAt_eq_ld, harg3.read_unread]
    exact View.ld_unit_zero (by decide) _ _
  isplitl [HS1]
  · iexists _; isplitr; · ipureintro; exact harg7.read_unread _
    iexact HS1
  iexists _, _; isplitr; swap; · iexact HS2
  ipureintro; rfl

set_option maxHeartbeats 4000000 in
/-- The body at an odd outer step: the chunk goes into the second panel buffer while the output block is computed from the
    first one. -/
theorem run_odd (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S8x128 .f32) (harg8 : arg8.IsWhole) (hc0 : ¬k0_cond1 i = 1#1) (hc1 : k0_cond2 i = 1#1) (hc2 : ¬k0_cond3 i = 1#1)
    (x0 : Vec F S1024x4096 .bf16) (x1 : Vec F S512x1024 .f32) (r : Vec F S1024x1024 .f32) (D0 D1 : Vec F S4096x1024 .bf16) :
      ∀ (E : Set ℕ) (K : PUnit → sProp 𝕄),
        iprop(owns c arg2 fullShare x0 ∗ owns c arg3 fullShare x1 ∗ owns c arg4 fullShare r ∗ (∃ d, owns c arg5 fullShare d) ∗ owns c arg6 fullShare D0 ∗ owns c arg7 fullShare D1 ∗ (∃ d, owns c arg8 fullShare d)
            ∗ (iprop(owns c arg2 fullShare x0 ∗ owns c arg3 fullShare x1 ∗ owns c arg4 fullShare r ∗ owns c arg5 fullShare (outBlock x0 D0 r) ∗ owns c arg6 fullShare D0 ∗ owns c arg7 fullShare (staged (k0_off2 i) (k0_off2_inb i hc1) x1 D1) ∗ (∃ d, owns c arg8 fullShare d)) -∗ K ⟨⟩))
          ⊢ wp frame (wpE (defs₀ (F := F)) Variants.none c none) E (cc0_out_proj i arg2 harg2 arg3 harg3 arg4 harg4 arg5 harg5 arg6 harg6 arg7 harg7 arg8 harg8) K := by
  intro E K
  simp only [cc0_out_proj_eq_skeleton]; unfold cc0_out_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%fxr, %hxr, Xr⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxr
  obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [H2]
  · iexists _; isplitr; swap; · iexact H2
    ipureintro
    sl_unfold_words
    refine read_tiled _ _ _ ![256, 256] _ (by rfl) ?_
    simp only [View.readAt_eq_ld, harg2.read_unread, harg4.read_unread, harg6.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D0 r _ _ (by decide) (by decide) _ _ (by decide) x
  isplitl [HS0]
  · iexists _; isplitr; · ipureintro; exact harg6.read_unread _
    iexact HS0
  isplitl [HS1]
  · iexists _; isplitr; swap; · iexact HS1
    ipureintro
    rw [read_store harg7]
    unfold staged
    congr 2
    sl_unfold_words
    simp only [View.readAt_eq_ld, harg3.read_unread]
    exact View.ld_unit_zero (by decide) _ _
  iexists _, _; isplitr; swap; · iexact HS2
  ipureintro; rfl

set_option maxHeartbeats 4000000 in
/-- The body at an even outer step: the chunk goes into the first panel buffer while the output block is computed from the
    second one. -/
theorem run_even (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S8x128 .f32) (harg8 : arg8.IsWhole) (hc0 : ¬k0_cond1 i = 1#1) (hc1 : ¬k0_cond2 i = 1#1) (hc2 : k0_cond3 i = 1#1)
    (x0 : Vec F S1024x4096 .bf16) (x1 : Vec F S512x1024 .f32) (r : Vec F S1024x1024 .f32) (D0 D1 : Vec F S4096x1024 .bf16) :
      ∀ (E : Set ℕ) (K : PUnit → sProp 𝕄),
        iprop(owns c arg2 fullShare x0 ∗ owns c arg3 fullShare x1 ∗ owns c arg4 fullShare r ∗ (∃ d, owns c arg5 fullShare d) ∗ owns c arg6 fullShare D0 ∗ owns c arg7 fullShare D1 ∗ (∃ d, owns c arg8 fullShare d)
            ∗ (iprop(owns c arg2 fullShare x0 ∗ owns c arg3 fullShare x1 ∗ owns c arg4 fullShare r ∗ owns c arg5 fullShare (outBlock x0 D1 r) ∗ owns c arg6 fullShare (staged (k0_off3 i) (k0_off3_inb i hc2) x1 D0) ∗ owns c arg7 fullShare D1 ∗ (∃ d, owns c arg8 fullShare d)) -∗ K ⟨⟩))
          ⊢ wp frame (wpE (defs₀ (F := F)) Variants.none c none) E (cc0_out_proj i arg2 harg2 arg3 harg3 arg4 harg4 arg5 harg5 arg6 harg6 arg7 harg7 arg8 harg8) K := by
  intro E K
  simp only [cc0_out_proj_eq_skeleton]; unfold cc0_out_proj_skel
  simp only [k0_part5_eq_skeleton, k0_part6_eq_skeleton, k0_part7_eq_skeleton, k0_part8_eq_skeleton]
  unfold owns
  iintro ⟨⟨%f0, %hf0, H0⟩, ⟨%f1, %hf1, H1⟩, ⟨%fxr, %hxr, Xr⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxr
  obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [H2]
  · iexists _; isplitr; swap; · iexact H2
    ipureintro
    sl_unfold_words
    refine read_tiled _ _ _ ![256, 256] _ (by rfl) ?_
    simp only [View.readAt_eq_ld, harg2.read_unread, harg4.read_unread, harg7.read_unread]
    intro p hp x
    simp only [List.mem_cons, List.not_mem_nil, or_false] at hp
    rcases hp with rfl | rfl | rfl | rfl | rfl | rfl | rfl | rfl | rfl | rfl | rfl | rfl | rfl | rfl | rfl | rfl
    all_goals exact tile_eq x0 D1 r _ _ (by decide) (by decide) _ _ (by decide) x
  isplitl [HS0]
  · iexists _; isplitr; swap; · iexact HS0
    ipureintro
    rw [read_store harg6]
    unfold staged
    congr 2
    sl_unfold_words
    simp only [View.readAt_eq_ld, harg3.read_unread]
    exact View.ld_unit_zero (by decide) _ _
  isplitl [HS1]
  · iexists _; isplitr; · ipureintro; exact harg7.read_unread _
    iexact HS1
  iexists _, _; isplitr; swap; · iexact HS2
  ipureintro; rfl

end Cert.OutIdeal.Out

end
-- ==== Proof.Out.Run.lean ====
module

public import proofs.«01_k».proof.Proof.Out.Body
public import proofs.«01_k».proof.Proof.Panels

@[expose] public section

set_option maxRecDepth 16384

noncomputable section

namespace Cert.OutIdeal.Out

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.OutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 40 points (outer step `t / 8`, inner step `t % 8`) -/

theorem cond_stage : ∀ t : Fin cfg0.N, k0_cond1 (grid0.coords t) = 1#1 ↔ t.val < 8 :=
  (by decide +kernel : ∀ t : Fin grid0.N, _)
theorem cond_odd : ∀ t : Fin cfg0.N, k0_cond2 (grid0.coords t) = 1#1 ↔ t.val / 8 % 2 = 1 :=
  (by decide +kernel : ∀ t : Fin grid0.N, _)
theorem cond_even : ∀ t : Fin cfg0.N, k0_cond3 (grid0.coords t) = 1#1 ↔ (8 ≤ t.val ∧ t.val / 8 % 2 = 0) :=
  (by decide +kernel : ∀ t : Fin grid0.N, _)
theorem off_stage : ∀ t : Fin cfg0.N, k0_off1 (grid0.coords t) = ![t.val % 8 * 512, 0] :=
  (by decide +kernel : ∀ t : Fin grid0.N, _)
theorem off_odd : ∀ t : Fin cfg0.N, k0_off2 (grid0.coords t) = ![t.val % 8 * 512, 0] :=
  (by decide +kernel : ∀ t : Fin grid0.N, _)
theorem off_even : ∀ t : Fin cfg0.N, k0_off3 (grid0.coords t) = ![t.val % 8 * 512, 0] :=
  (by decide +kernel : ∀ t : Fin grid0.N, _)
/-- In the first outer step nothing is written back. -/
theorem not_flush : ∀ t : Fin cfg0.N, t.val < 8 → (cfg0.win 3).flush t = false :=
  (by decide +kernel : ∀ t : Fin grid0.N, t.val < 8 → win0_3.flush t = false)

/-! ## The weight panels in the two buffers -/

/-- The weight panel that outer step `T` stages, chunk by chunk. -/
def panel (c : Dev nD) (T : ℕ) : Vec F S4096x1024 .bf16 := fun y =>
  k0_pay1 (iblk m c 1 (⟨(8 * T + (y 0).val / 512) % 40, Nat.mod_lt _ (by decide)⟩ : Fin grid0.N))
    (ix2 (⟨(y 0).val % 512, Nat.mod_lt _ (by decide)⟩ : Fin 512) (y 1))

/-- What the two buffers hold before point `n`, as `Panels.Inv` says. -/
abbrev Inv (c : Dev nD) (n : ℕ) (D0 D1 : Vec F S4096x1024 .bf16) : Prop := Panels.Inv 512 8 (panel m c) n D0 D1

/-- Staging point `t`'s chunk adds one chunk to what the buffer holds. -/
theorem holds_staged (c : Dev nD) (t : Fin cfg0.N) (off : Fin 2 → ℕ) (hoff : off = ![t.val % 8 * 512, 0])
    (inb : ∀ a, off a + S512x1024.size a ≤ S4096x1024.size a) (D : Vec F S4096x1024 .bf16)
    (h : Panels.Holds 512 (panel m c (t.val / 8)) (t.val % 8) D) :
    Panels.Holds 512 (panel m c (t.val / 8)) (t.val % 8 + 1) (staged off inb (iblk m c 1 t) D) := by
  have ht : t.val < 40 := lt_of_lt_of_eq t.isLt N_0
  refine h.stage off hoff inb _ fun z y e0 e1 => ?_
  have hz : (z 0).val < 512 := (z 0).isLt
  unfold panel
  rw [show (⟨(8 * (t.val / 8) + (y 0).val / 512) % 40, Nat.mod_lt _ (by decide)⟩ : Fin grid0.N) = t from Fin.ext (by
    show (8 * (t.val / 8) + (y 0).val / 512) % 40 = t.val; rw [e0]; omega)]
  refine congrArg _ (funext fun a => Fin.ext ?_)
  match a with
  | ⟨0, _⟩ => show (y 0).val % 512 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (panel m c (t.val / 8 - 1)) (iblk m c 2 t)
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_res (c : Dev nD) (t : Fin cfg0.N) : (dats m 0 c).after 2 t = iblk m c 2 t := by dsimp only [dats]
theorem after_out (c : Dev nD) (t : Fin cfg0.N) :
    (dats m 0 c).after 3 t = outBlock (iblk m c 0 t) (panel m c (t.val / 8 - 1)) (iblk m c 2 t) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d
theorem before_res (c : Dev nD) (t : Fin cfg0.N) (d) : (dats m 0 c).before 2 t d = iblk m c 2 t :=
  before0_2_of m (dats m 0 c) (A_eq m c 2) (after_res m c) t d

/-- The staging memrefs of point `t`. -/
abbrev msRows (t : Fin cfg0.N) : Memref sig .tc .vmem S1024x4096 .bf16 := win0_0.stage (cfg0.slots t 0)
abbrev msChunk (t : Fin cfg0.N) : Memref sig .tc .vmem S512x1024 .f32 := win0_1.stage (cfg0.slots t 1)
abbrev msRes (t : Fin cfg0.N) : Memref sig .tc .vmem S1024x1024 .f32 := win0_2.stage (cfg0.slots t 2)
abbrev msOut (t : Fin cfg0.N) : Memref sig .tc .vmem S1024x1024 .f32 := win0_3.stage (cfg0.slots t 3)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msRes t) fullShare ((dats m 0 c).before 2 t d))
    ∗ (∃ d, owns c (msOut t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk, before_res]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t],
    show (dats m 0 c).leavesExact 2 t = owns c (msRes t) fullShare (iblk m c 2 t) from by
      unfold Dat.leavesExact; rw [show cfg0.idle 2 (grid0.coords t) = false from rfl, ← after_res m c t]]
  unfold PhiT
  by_cases h8 : t.val < 8
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 3 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%dx0, X0⟩, ⟨%d2, H2⟩⟩
    iapply ((run_stage c (grid0.coords t) _ _ _ _ _ _ _ _ _ _ _ _ _ _ c1 c2 c3 (iblk m c 0 t) (iblk m c 1 t) (iblk m c 2 t) ((dats m 0 c).before 3 t d2) D0 D1) Set.univ _)
    isplitl [H0]; · iexact H0
    isplitl [H1]; · iexact H1
    isplitl [X0]; · iexact X0
    isplitl [H2]; · iexact H2
    isplitl [HS0]; · iexact HS0
    isplitl [HS1]; · iexact HS1
    isplitl [HS2]; · iexact HS2
    iintro ⟨H0, H1, X0, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    isplitl [X0]; · iexact X0
    iexists _; iexact H2
  · have c1 : ¬k0_cond1 (grid0.coords t) = 1#1 := fun h => h8 ((cond_stage t).mp h)
    by_cases h1 : t.val / 8 % 2 = 1
    · have c2 := (cond_odd t).mpr h1
      have c3 : ¬k0_cond3 (grid0.coords t) = 1#1 := fun h => by have := (cond_even t).mp h; omega
      rw [show (dats m 0 c).leavesExact 3 t = owns c (msOut t) fullShare (outBlock (iblk m c 0 t) (panel m c (t.val / 8 - 1)) (iblk m c 2 t)) from by
        unfold Dat.leavesExact
        rw [show cfg0.idle 3 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%dx0, X0⟩, ⟨%d2, H2⟩⟩
      rw [← (hI.2.2.2 (by omega) h1).eq_panel]
      iapply ((run_odd c (grid0.coords t) _ _ _ _ _ _ _ _ _ _ _ _ _ _ c1 c2 c3 (iblk m c 0 t) (iblk m c 1 t) (iblk m c 2 t) D0 D1) Set.univ _)
      isplitl [H0]; · iexact H0
      isplitl [H1]; · iexact H1
      isplitl [X0]; · iexact X0
      isplitl [H2]; · iexists _; iexact H2
      isplitl [HS0]; · iexact HS0
      isplitl [HS1]; · iexact HS1
      isplitl [HS2]; · iexact HS2
      iintro ⟨H0, H1, X0, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      iexact H2
    · have c3 := (cond_even t).mpr ⟨by omega, by omega⟩
      have c2 : ¬k0_cond2 (grid0.coords t) = 1#1 := fun h => h1 ((cond_odd t).mp h)
      rw [show (dats m 0 c).leavesExact 3 t = owns c (msOut t) fullShare (outBlock (iblk m c 0 t) (panel m c (t.val / 8 - 1)) (iblk m c 2 t)) from by
        unfold Dat.leavesExact
        rw [show cfg0.idle 3 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%dx0, X0⟩, ⟨%d2, H2⟩⟩
      rw [← (hI.2.2.1 (by omega) (by omega)).eq_panel]
      iapply ((run_even c (grid0.coords t) _ _ _ _ _ _ _ _ _ _ _ _ _ _ c1 c2 c3 (iblk m c 0 t) (iblk m c 1 t) (iblk m c 2 t) D0 D1) Set.univ _)
      isplitl [H0]; · iexact H0
      isplitl [H1]; · iexact H1
      isplitl [X0]; · iexact X0
      isplitl [H2]; · iexists _; iexact H2
      isplitl [HS0]; · iexact HS0
      isplitl [HS1]; · iexact HS1
      isplitl [HS2]; · iexact HS2
      iintro ⟨H0, H1, X0, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.OutIdeal.Out

end
-- ==== Proof.Out.Value.lean ====
module

public import proofs.«01_k».proof.Proof.Out.Run

@[expose] public section

set_option maxRecDepth 16384

noncomputable section

namespace Cert.OutIdeal.Out

open Idealize.ShloMosaic TcCoe Tactic
open Idealize.SL Idealize.SL.Sem
open Idealize.ShloMosaic.Pipeline (Dat Cfg Window)
open Cert.OutIdeal.Gen

variable (m : (ℓ : Loc nD τ sig) → Buf (Elt Ideal) ℓ) (ρ : Dev nD → PrngReg)

/-- The activations, the weights and the residual stream as launched. -/
abbrev X (c : Dev nD) : Vec Ideal S8192x4096 .bf16 := m ((c : Thread nD τ).loc main_arg0)
abbrev W (c : Dev nD) : Vec Ideal S4096x4096 .f32 := m ((c : Thread nD τ).loc main_arg1)
abbrev Rs (c : Dev nD) : Vec Ideal S8192x4096 .f32 := m ((c : Thread nD τ).loc main_arg2)

/-- The result: the residual stream plus the activations' product with the weights. -/
def G (c : Dev nD) : Vec Ideal S8192x4096 .f32 := fun i => Rs m c i + (∑ k : Fin 4096, X m c (ix2 (i 0) k) * W m c (ix2 k (i 1)))

theorem idx_rows : ∀ t : Fin cfg0.N, 8 ≤ t.val → win0_0.index t = ![t.val % 8, 0] :=
  (by decide +kernel : ∀ t : Fin grid0.N, _)
theorem idx_chunk : ∀ t : Fin cfg0.N, t.val < 32 → win0_1.index t = ![t.val % 8, t.val / 8] :=
  (by decide +kernel : ∀ t : Fin grid0.N, _)
theorem idx_res : ∀ t : Fin cfg0.N, 8 ≤ t.val → win0_2.index t = ![t.val % 8, t.val / 8 - 1] :=
  (by decide +kernel : ∀ t : Fin grid0.N, _)
theorem idx_out : ∀ t : Fin cfg0.N, 8 ≤ t.val → win0_3.index t = ![t.val % 8, t.val / 8 - 1] :=
  (by decide +kernel : ∀ t : Fin grid0.N, _)

/-- The rows that a multiplying point reads. -/
theorem rows_apply (c : Dev nD) (t : Fin cfg0.N) (ht : 8 ≤ t.val) (y : S1024x4096.Idx) :
    iblk m c 0 t y = X m c (ix2 (⟨t.val % 8 * 1024 + (y 0).val, by have : (y 0).val < 1024 := (y 0).isLt; omega⟩ : Fin 8192) (y 1)) := by
  blk_ext [iblk, V, idx_rows t ht]

/-- The chunk of the weights that a staging point reads. -/
theorem chunk_apply (c : Dev nD) (t : Fin cfg0.N) (ht : t.val < 32) (y : S512x1024.Idx) :
    iblk m c 1 t y = W m c (ix2 (⟨t.val % 8 * 512 + (y 0).val, by have : (y 0).val < 512 := (y 0).isLt; omega⟩ : Fin 4096)
      (⟨t.val / 8 * 1024 + (y 1).val, by have : (y 1).val < 1024 := (y 1).isLt; omega⟩ : Fin 4096)) := by
  blk_ext [iblk, V, idx_chunk t ht]

/-- The block of the residual stream that a multiplying point reads. -/
theorem res_apply (c : Dev nD) (t : Fin cfg0.N) (ht : 8 ≤ t.val) (y : S1024x1024.Idx) :
    iblk m c 2 t y = Rs m c (ix2 (⟨t.val % 8 * 1024 + (y 0).val, by have : (y 0).val < 1024 := (y 0).isLt; omega⟩ : Fin 8192)
      (⟨(t.val / 8 - 1) * 1024 + (y 1).val, by have : (y 1).val < 1024 := (y 1).isLt; have : t.val < 40 := lt_of_lt_of_eq t.isLt N_0; omega⟩ : Fin 4096)) := by
  blk_ext [iblk, V, idx_res t ht]

/-- A staged panel is a block of the weights' columns. -/
theorem panel_apply (c : Dev nD) (T : ℕ) (hT : T < 4) (y : S4096x1024.Idx) :
    panel m c T y = W m c (ix2 (y 0) (⟨T * 1024 + (y 1).val, by have : (y 1).val < 1024 := (y 1).isLt; omega⟩ : Fin 4096)) := by
  have hy : (y 0).val < 4096 := (y 0).isLt
  unfold panel k0_pay1
  pointwise
  rw [chunk_apply m c _ (by show (8 * T + (y 0).val / 512) % 40 < 32; omega)]
  refine congrArg (W m c) (funext fun a => Fin.ext ?_)
  match a with
  | ⟨0, _⟩ =>
    show (8 * T + (y 0).val / 512) % 40 % 8 * 512 + (y 0).val % 512 = (y 0).val
    omega
  | ⟨1, _⟩ =>
    show (8 * T + (y 0).val / 512) % 40 / 8 * 1024 + (y 1).val = T * 1024 + (y 1).val
    rw [show (8 * T + (y 0).val / 512) % 40 / 8 = T by omega]

/-- What a multiplying point leaves in the output's block, at the element that is `j` of the output. -/
theorem out_point (c : Dev nD) (t : Fin cfg0.N) (ht : 8 ≤ t.val) (y : S1024x1024.Idx) (j : S8192x4096.Idx)
    (e0 : (j 0).val = t.val % 8 * 1024 + (y 0).val) (e1 : (j 1).val = (t.val / 8 - 1) * 1024 + (y 1).val) :
    outBlock (iblk m c 0 t) (panel m c (t.val / 8 - 1)) (iblk m c 2 t) y = G m c j := by
  have hlt : t.val < 40 := lt_of_lt_of_eq t.isLt N_0
  have hy0 : (y 0).val < 1024 := (y 0).isLt
  have hy1 : (y 1).val < 1024 := (y 1).isLt
  unfold outBlock k0_pay9 G
  pointwise
  refine congrArg₂ (· + ·) ((res_apply m c t ht _).trans (congrArg (Rs m c) (funext fun a => Fin.ext ?_))) (Finset.sum_congr rfl fun k _ => ?_)
  · match a with
    | ⟨0, _⟩ =>
      show t.val % 8 * 1024 + ((y 0).val / 256 * 256 + (y 0).val % 256) % 1024 = (j 0).val
      omega
    | ⟨1, _⟩ =>
      show (t.val / 8 - 1) * 1024 + ((y 1).val / 256 * 256 + (y 1).val % 256) % 1024 = (j 1).val
      omega
  · rw [rows_apply m c t ht, panel_apply m c _ (by omega)]
    refine congrArg₂ (· * ·) (congrArg (fun a => X m c (ix2 a k)) (Fin.ext ?_)) (congrArg (fun a => W m c (ix2 k a)) (Fin.ext ?_))
    · show t.val % 8 * 1024 + ((y 0).val / 256 * 256 + (y 0).val % 256) % 1024 = (j 0).val
      omega
    · show (t.val / 8 - 1) * 1024 + ((y 1).val / 256 * 256 + (y 1).val % 256) % 1024 = (j 1).val
      omega

/-- The place in the output of an element of a multiplying point's block. -/
theorem out_place (t : Fin cfg0.N) (ht : 8 ≤ t.val) (y : S1024x1024.Idx) :
    ((((cfg0.win 3).blk t).view.emb y) 0).val = t.val % 8 * 1024 + (y 0).val
      ∧ ((((cfg0.win 3).blk t).view.emb y) 1).val = (t.val / 8 - 1) * 1024 + (y 1).val := by
  constructor <;> blk_simp [idx_out t ht]

/-- The output array after the run. -/
theorem final_out (c : Dev nD) : (dats m 0 c).arrAt 3 (cfgs 0).N = G m c := by
  refine (dats m 0 c).arrAt_eq_of_covers 3 _ (by decide +kernel) fun t hf y => ?_
  have ht : 8 ≤ t.val := by
    by_contra h
    have := not_flush t (by omega)
    exact absurd (this.symm.trans hf) (by decide)
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final_out m c), h.2.1 c⟩)
    (θ_run_and ((θ_run defs _ _).mono (fun _ h => h.1) (run_main m ρ)) (frame m ρ))

end Cert.OutIdeal.Out

end
-- ==== Proof.Out.Reference.lean ====
module

public import proofs.«01_k».proof.Proof.Out.Value
public import proofs.«01_k».proof.Proof.Gen.OutRefIdeal.Read

@[expose] public section

set_option maxRecDepth 16384

noncomputable section

namespace Cert.OutRefIdeal.Out

open Idealize.ShloMosaic TcCoe Tactic
open Cert.OutRefIdeal Cert.OutRefIdeal.Gen Cert.OutRefIdeal.Read

variable (x0 : (⟨S8192x4096, .bf16⟩ : BufTy).Contents (Elt Ideal)) (x1 : (⟨S4096x4096, .f32⟩ : BufTy).Contents (Elt Ideal)) (x2 : (⟨S8192x4096, .f32⟩ : BufTy).Contents (Elt Ideal))

/-- The reference's product at an element. -/
theorem product_apply (j : S8192x4096.Idx) :
    val_main_v1 (F := Ideal) x0 x1 j = ∑ k : Fin 4096, x0 (ix2 (j 0) k) * x1 (ix2 k (j 1)) := by
  unfold val_main_v1 val_main_v0
  pointwise

/-- The reference's result at an element: the residual stream plus the product. -/
theorem result_apply (i : S8192x4096.Idx) :
    val_main_v2 (F := Ideal) x0 x1 x2 i = x2 i + (∑ k : Fin 4096, x0 (ix2 (i 0) k) * x1 (ix2 k (i 1))) := by
  rw [← product_apply]
  rfl

end Cert.OutRefIdeal.Out

end
-- ==== Proof.Ple.Body.lean ====
module

public import proofs.«01_k».proof.Proof.Gen.PleIdeal.Frame
public import proofs.«01_k».proof.Proof.Gen.PleIdeal.Skeleton
public import proofs.«01_k».proof.Proof.Stores

@[expose] public section

set_option maxRecDepth 16384

noncomputable section

namespace Cert.PleIdeal.Ple

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.PleIdeal.Gen
open Cert.Stores (read_store read_tiled)

variable {F : FTy → Type} [FloatOps F]

local notation "𝕄" => MT nD τ sig Unit (Elt F) ℕ (UR sig nD τ) ℕ

/-! ## What the body computes -/

/-- The panel buffer after a chunk of 256 rows is staged into it at the row offset `off 0`: the chunk, its numbers cast to
    bf16, over the buffer's earlier contents. -/
def staged (off : Fin 2 → ℕ) (inb : ∀ a, off a + S256x1024.size a ≤ S4096x1024.size a) (x1 : Vec F S256x1024 .f32)
    (D : Vec F S4096x1024 .bf16) : Vec F S4096x1024 .bf16 :=
  (Rect.unit (s := S4096x1024) off S256x1024.size inb).overlay D (k0_pay1 x1)

/-- The output block from a block of rows `x`, a weight panel `W`, a block `r` of what is added and a block `g` of what is
    gated: eight products of 256 rows of `x` with 256 columns of `W`, side by side, the logistic function of each times `g`
    there, added to `r`. -/
def outBlock (x : Vec F S512x4096 .bf16) (W : Vec F S4096x1024 .bf16) (r : Vec F S512x1024 .f32) (g : Vec F S512x1024 .bf16) : Vec F S512x1024 .f32 := fun y =>
  k0_pay5 (fun j => x (ix2 (⟨((y 0).val / 256 * 256 + (j 0).val) % 512, Nat.mod_lt _ (by decide)⟩ : Fin 512) (j 1)))
    (fun j => W (ix2 (j 0) (⟨((y 1).val / 256 * 256 + (j 1).val) % 1024, Nat.mod_lt _ (by decide)⟩ : Fin 1024)))
    (fun j => r (ix2 (⟨((y 0).val / 256 * 256 + (j 0).val) % 512, Nat.mod_lt _ (by decide)⟩ : Fin 512) (⟨((y 1).val / 256 * 256 + (j 1).val) % 1024, Nat.mod_lt _ (by decide)⟩ : Fin 1024)))
    (fun j => g (ix2 (⟨((y 0).val / 256 * 256 + (j 0).val) % 512, Nat.mod_lt _ (by decide)⟩ : Fin 512) (⟨((y 1).val / 256 * 256 + (j 1).val) % 1024, Nat.mod_lt _ (by decide)⟩ : Fin 1024)))
    (ix2 (⟨(y 0).val % 256, Nat.mod_lt _ (by decide)⟩ : Fin 256) (⟨(y 1).val % 256, Nat.mod_lt _ (by decide)⟩ : Fin 256))

/-- What is stored at one of the rectangles is the part of `outBlock` under it. -/
theorem tile_eq (x : Vec F S512x4096 .bf16) (W : Vec F S4096x1024 .bf16) (r : Vec F S512x1024 .f32) (g : Vec F S512x1024 .bf16) (o1 o2 : ℕ) (h1 : o1 % 256 = 0) (h2 : o2 % 256 = 0)
    (i1 : ∀ a, (![o1, 0] : Fin 2 → ℕ) a + S256x4096.size a ≤ S512x4096.size a)
    (i2 : ∀ a, (![0, o2] : Fin 2 → ℕ) a + S4096x256.size a ≤ S4096x1024.size a)
    (i3 : ∀ a, (![o1, o2] : Fin 2 → ℕ) a + S256x256.size a ≤ S512x1024.size a) (y : S256x256.Idx) :
    k0_pay5 (View.ld x (Rect.unit (s := S512x4096) ![o1, 0] S256x4096.size i1))
        (View.ld W (Rect.unit (s := S4096x1024) ![0, o2] S4096x256.size i2))
        (View.ld r (Rect.unit (s := S512x1024) ![o1, o2] S256x256.size i3))
        (View.ld g (Rect.unit (s := S512x1024) ![o1, o2] S256x256.size i3)) y
      = outBlock x W r g ((Rect.unit (s := S512x1024) ![o1, o2] S256x256.size i3).emb y) := by
  have b0 : (y 0).val < 256 := (y 0).isLt
  have b1 : (y 1).val < 256 := (y 1).isLt
  have l1 : o1 + 256 ≤ 512 := i1 0
  have l2 : o2 + 256 ≤ 1024 := i2 1
  have e0 : (((Rect.unit (s := S512x1024) ![o1, o2] S256x256.size i3).emb y) 0).val = o1 + (y 0).val := by
    show o1 + 1 * (y 0).val = _; omega
  have e1 : (((Rect.unit (s := S512x1024) ![o1, o2] S256x256.size i3).emb y) 1).val = o2 + (y 1).val := by
    show o2 + 1 * (y 1).val = _; omega
  have hx : View.ld x (Rect.unit (s := S512x4096) ![o1, 0] S256x4096.size i1) = fun j : S256x4096.Idx =>
      x (ix2 (⟨((((Rect.unit (s := S512x1024) ![o1, o2] S256x256.size i3).emb y) 0).val / 256 * 256 + (j 0).val) % 512, Nat.mod_lt _ (by decide)⟩ : Fin 512) (j 1)) := by
    funext j
    have bj : (j 0).val < 256 := (j 0).isLt
    refine congrArg x (funext fun a => Fin.ext ?_)
    match a with
    | ⟨0, _⟩ =>
      show o1 + 1 * (j 0).val = ((((Rect.unit (s := S512x1024) ![o1, o2] S256x256.size i3).emb y) 0).val / 256 * 256 + (j 0).val) % 512
      rw [e0]; omega
    | ⟨1, _⟩ => show 0 + 1 * (j 1).val = (j 1).val; omega
  have hW : View.ld W (Rect.unit (s := S4096x1024) ![0, o2] S4096x256.size i2) = fun j : S4096x256.Idx =>
      W (ix2 (j 0) (⟨((((Rect.unit (s := S512x1024) ![o1, o2] S256x256.size i3).emb y) 1).val / 256 * 256 + (j 1).val) % 1024, Nat.mod_lt _ (by decide)⟩ : Fin 1024)) := by
    funext j
    have bj : (j 1).val < 256 := (j 1).isLt
    refine congrArg W (funext fun a => Fin.ext ?_)
    match a with
    | ⟨0, _⟩ => show 0 + 1 * (j 0).val = (j 0).val; omega
    | ⟨1, _⟩ =>
      show o2 + 1 * (j 1).val = ((((Rect.unit (s := S512x1024) ![o1, o2] S256x256.size i3).emb y) 1).val / 256 * 256 + (j 1).val) % 1024
      rw [e1]; omega
  have hr : View.ld r (Rect.unit (s := S512x1024) ![o1, o2] S256x256.size i3) = fun j : S256x256.Idx =>
      r (ix2 (⟨((((Rect.unit (s := S512x1024) ![o1, o2] S256x256.size i3).emb y) 0).val / 256 * 256 + (j 0).val) % 512, Nat.mod_lt _ (by decide)⟩ : Fin 512) (⟨((((Rect.unit (s := S512x1024) ![o1, o2] S256x256.size i3).emb y) 1).val / 256 * 256 + (j 1).val) % 1024, Nat.mod_lt _ (by decide)⟩ : Fin 1024)) := by
    funext j
    have bj0 : (j 0).val < 256 := (j 0).isLt
    have bj1 : (j 1).val < 256 := (j 1).isLt
    refine congrArg r (funext fun a => Fin.ext ?_)
    match a with
    | ⟨0, _⟩ =>
      show o1 + 1 * (j 0).val = ((((Rect.unit (s := S512x1024) ![o1, o2] S256x256.size i3).emb y) 0).val / 256 * 256 + (j 0).val) % 512
      rw [e0]; omega
    | ⟨1, _⟩ =>
      show o2 + 1 * (j 1).val = ((((Rect.unit (s := S512x1024) ![o1, o2] S256x256.size i3).emb y) 1).val / 256 * 256 + (j 1).val) % 1024
      rw [e1]; omega
  have hg : View.ld g (Rect.unit (s := S512x1024) ![o1, o2] S256x256.size i3) = fun j : S256x256.Idx =>
      g (ix2 (⟨((((Rect.unit (s := S512x1024) ![o1, o2] S256x256.size i3).emb y) 0).val / 256 * 256 + (j 0).val) % 512, Nat.mod_lt _ (by decide)⟩ : Fin 512) (⟨((((Rect.unit (s := S512x1024) ![o1, o2] S256x256.size i3).emb y) 1).val / 256 * 256 + (j 1).val) % 1024, Nat.mod_lt _ (by decide)⟩ : Fin 1024)) := by
    funext j
    have bj0 : (j 0).val < 256 := (j 0).isLt
    have bj1 : (j 1).val < 256 := (j 1).isLt
    refine congrArg g (funext fun a => Fin.ext ?_)
    match a with
    | ⟨0, _⟩ =>
      show o1 + 1 * (j 0).val = ((((Rect.unit (s := S512x1024) ![o1, o2] S256x256.size i3).emb y) 0).val / 256 * 256 + (j 0).val) % 512
      rw [e0]; omega
    | ⟨1, _⟩ =>
      show o2 + 1 * (j 1).val = ((((Rect.unit (s := S512x1024) ![o1, o2] S256x256.size i3).emb y) 1).val / 256 * 256 + (j 1).val) % 1024
      rw [e1]; omega
  have hy : y = (ix2 (⟨(((Rect.unit (s := S512x1024) ![o1, o2] S256x256.size i3).emb y) 0).val % 256, Nat.mod_lt _ (by decide)⟩ : Fin 256)
      (⟨(((Rect.unit (s := S512x1024) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S512x1024) ![o1, o2] S256x256.size i3).emb y) 0).val % 256; rw [e0]; omega
    | ⟨1, _⟩ => show (y 1).val = (((Rect.unit (s := S512x1024) ![o1, o2] S256x256.size i3).emb y) 1).val % 256; rw [e1]; omega
  rw [hx, hW, hr, hg]
  unfold outBlock
  exact congrArg _ hy

set_option maxHeartbeats 1000000 in
/-- The body while only staging (the first outer step): the chunk goes into the first panel buffer, all else is as it was. -/
theorem run_stage (c : Dev nD) (i : grid0.Coords) (arg2 : Memref sig .tc .vmem S512x4096 .bf16) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S8x128 .f32) (harg9 : arg9.IsWhole) (hc0 : k0_cond1 i = 1#1) (hc1 : ¬k0_cond2 i = 1#1) (hc2 : ¬k0_cond3 i = 1#1)
    (x0 : Vec F S512x4096 .bf16) (x1 : Vec F S256x1024 .f32) (r : Vec F S512x1024 .f32) (g : Vec F S512x1024 .bf16) (x2 : Vec F S512x1024 .f32) (D0 D1 : Vec F S4096x1024 .bf16) :
      ∀ (E : Set ℕ) (K : PUnit → sProp 𝕄),
        iprop(owns c arg2 fullShare x0 ∗ owns c arg3 fullShare x1 ∗ owns c arg4 fullShare r ∗ owns c arg5 fullShare g ∗ owns c arg6 fullShare x2 ∗ owns c arg7 fullShare D0 ∗ owns c arg8 fullShare D1 ∗ (∃ d, owns c arg9 fullShare d)
            ∗ (iprop(owns c arg2 fullShare x0 ∗ owns c arg3 fullShare x1 ∗ owns c arg4 fullShare r ∗ owns c arg5 fullShare g ∗ owns c arg6 fullShare x2 ∗ owns c arg7 fullShare (staged (k0_off1 i) (k0_off1_inb i hc0) x1 D0) ∗ owns c arg8 fullShare D1 ∗ (∃ d, owns c arg9 fullShare d)) -∗ K ⟨⟩))
          ⊢ wp frame (wpE (defs₀ (F := F)) Variants.none c none) E (cc0_ple_gate i arg2 harg2 arg3 harg3 arg4 harg4 arg5 harg5 arg6 harg6 arg7 harg7 arg8 harg8 arg9 harg9) K := by
  intro E K
  simp only [cc0_ple_gate_eq_skeleton]; unfold cc0_ple_gate_skel
  unfold owns
  iintro ⟨⟨%f0, %hf0, H0⟩, ⟨%f1, %hf1, H1⟩, ⟨%fxr, %hxr, Xr⟩, ⟨%fxg, %hxg, Xg⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxr; obtain rfl := harg5.eq_unread hxg; obtain rfl := harg6.eq_unread hf2
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [Xg]
  · iexists _; isplitr; · ipureintro; exact harg5.read_unread _
    iexact Xg
  isplitl [H2]
  · iexists _; isplitr; · ipureintro; exact harg6.read_unread _
    iexact H2
  isplitl [HS0]
  · iexists _; isplitr; swap; · iexact HS0
    ipureintro
    rw [read_store harg7]
    unfold staged
    congr 2
    sl_unfold_words
    simp only [View.readAt_eq_ld, harg3.read_unread]
    exact View.ld_unit_zero (by decide) _ _
  isplitl [HS1]
  · iexists _; isplitr; · ipureintro; exact harg8.read_unread _
    iexact HS1
  iexists _, _; isplitr; swap; · iexact HS2
  ipureintro; rfl

set_option maxHeartbeats 4000000 in
/-- The body at an odd outer step: the chunk goes into the second panel buffer while the output block is computed from the
    first one. -/
theorem run_odd (c : Dev nD) (i : grid0.Coords) (arg2 : Memref sig .tc .vmem S512x4096 .bf16) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S8x128 .f32) (harg9 : arg9.IsWhole) (hc0 : ¬k0_cond1 i = 1#1) (hc1 : k0_cond2 i = 1#1) (hc2 : ¬k0_cond3 i = 1#1)
    (x0 : Vec F S512x4096 .bf16) (x1 : Vec F S256x1024 .f32) (r : Vec F S512x1024 .f32) (g : Vec F S512x1024 .bf16) (D0 D1 : Vec F S4096x1024 .bf16) :
      ∀ (E : Set ℕ) (K : PUnit → sProp 𝕄),
        iprop(owns c arg2 fullShare x0 ∗ owns c arg3 fullShare x1 ∗ owns c arg4 fullShare r ∗ owns c arg5 fullShare g ∗ (∃ d, owns c arg6 fullShare d) ∗ owns c arg7 fullShare D0 ∗ owns c arg8 fullShare D1 ∗ (∃ d, owns c arg9 fullShare d)
            ∗ (iprop(owns c arg2 fullShare x0 ∗ owns c arg3 fullShare x1 ∗ owns c arg4 fullShare r ∗ owns c arg5 fullShare g ∗ owns c arg6 fullShare (outBlock x0 D0 r g) ∗ owns c arg7 fullShare D0 ∗ owns c arg8 fullShare (staged (k0_off2 i) (k0_off2_inb i hc1) x1 D1) ∗ (∃ d, owns c arg9 fullShare d)) -∗ K ⟨⟩))
          ⊢ wp frame (wpE (defs₀ (F := F)) Variants.none c none) E (cc0_ple_gate i arg2 harg2 arg3 harg3 arg4 harg4 arg5 harg5 arg6 harg6 arg7 harg7 arg8 harg8 arg9 harg9) K := by
  intro E K
  simp only [cc0_ple_gate_eq_skeleton]; unfold cc0_ple_gate_skel
  simp only [k0_part1_eq_skeleton, k0_part2_eq_skeleton, k0_part3_eq_skeleton, k0_part4_eq_skeleton]
  unfold owns
  iintro ⟨⟨%f0, %hf0, H0⟩, ⟨%f1, %hf1, H1⟩, ⟨%fxr, %hxr, Xr⟩, ⟨%fxg, %hxg, Xg⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxr; obtain rfl := harg5.eq_unread hxg
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [Xg]
  · iexists _; isplitr; · ipureintro; exact harg5.read_unread _
    iexact Xg
  isplitl [H2]
  · iexists _; isplitr; swap; · iexact H2
    ipureintro
    sl_unfold_words
    refine read_tiled _ _ _ ![256, 256] _ (by rfl) ?_
    simp only [View.readAt_eq_ld, harg2.read_unread, harg4.read_unread, harg5.read_unread, harg7.read_unread]
    intro p hp x
    simp only [List.mem_cons, List.not_mem_nil, or_false] at hp
    rcases hp with rfl | rfl | rfl | rfl | rfl | rfl | rfl | rfl
    all_goals exact tile_eq x0 D0 r g _ _ (by decide) (by decide) _ _ (by decide) x
  isplitl [HS0]
  · iexists _; isplitr; · ipureintro; exact harg7.read_unread _
    iexact HS0
  isplitl [HS1]
  · iexists _; isplitr; swap; · iexact HS1
    ipureintro
    rw [read_store harg8]
    unfold staged
    congr 2
    sl_unfold_words
    simp only [View.readAt_eq_ld, harg3.read_unread]
    exact View.ld_unit_zero (by decide) _ _
  iexists _, _; isplitr; swap; · iexact HS2
  ipureintro; rfl

set_option maxHeartbeats 4000000 in
/-- The body at an even outer step: the chunk goes into the first panel buffer while the output block is computed from the
    second one. -/
theorem run_even (c : Dev nD) (i : grid0.Coords) (arg2 : Memref sig .tc .vmem S512x4096 .bf16) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S4096x1024 .bf16) (harg7 : arg7.IsWhole) (arg8 : Memref sig .tc .vmem S4096x1024 .bf16) (harg8 : arg8.IsWhole) (arg9 : Memref sig .tc .vmem S8x128 .f32) (harg9 : arg9.IsWhole) (hc0 : ¬k0_cond1 i = 1#1) (hc1 : ¬k0_cond2 i = 1#1) (hc2 : k0_cond3 i = 1#1)
    (x0 : Vec F S512x4096 .bf16) (x1 : Vec F S256x1024 .f32) (r : Vec F S512x1024 .f32) (g : Vec F S512x1024 .bf16) (D0 D1 : Vec F S4096x1024 .bf16) :
      ∀ (E : Set ℕ) (K : PUnit → sProp 𝕄),
        iprop(owns c arg2 fullShare x0 ∗ owns c arg3 fullShare x1 ∗ owns c arg4 fullShare r ∗ owns c arg5 fullShare g ∗ (∃ d, owns c arg6 fullShare d) ∗ owns c arg7 fullShare D0 ∗ owns c arg8 fullShare D1 ∗ (∃ d, owns c arg9 fullShare d)
            ∗ (iprop(owns c arg2 fullShare x0 ∗ owns c arg3 fullShare x1 ∗ owns c arg4 fullShare r ∗ owns c arg5 fullShare g ∗ owns c arg6 fullShare (outBlock x0 D1 r g) ∗ owns c arg7 fullShare (staged (k0_off3 i) (k0_off3_inb i hc2) x1 D0) ∗ owns c arg8 fullShare D1 ∗ (∃ d, owns c arg9 fullShare d)) -∗ K ⟨⟩))
          ⊢ wp frame (wpE (defs₀ (F := F)) Variants.none c none) E (cc0_ple_gate i arg2 harg2 arg3 harg3 arg4 harg4 arg5 harg5 arg6 harg6 arg7 harg7 arg8 harg8 arg9 harg9) K := by
  intro E K
  simp only [cc0_ple_gate_eq_skeleton]; unfold cc0_ple_gate_skel
  simp only [k0_part5_eq_skeleton, k0_part6_eq_skeleton, k0_part7_eq_skeleton, k0_part8_eq_skeleton]
  unfold owns
  iintro ⟨⟨%f0, %hf0, H0⟩, ⟨%f1, %hf1, H1⟩, ⟨%fxr, %hxr, Xr⟩, ⟨%fxg, %hxg, Xg⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxr; obtain rfl := harg5.eq_unread hxg
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xr]
  · iexists _; isplitr; · ipureintro; exact harg4.read_unread _
    iexact Xr
  isplitl [Xg]
  · iexists _; isplitr; · ipureintro; exact harg5.read_unread _
    iexact Xg
  isplitl [H2]
  · iexists _; isplitr; swap; · iexact H2
    ipureintro
    sl_unfold_words
    refine read_tiled _ _ _ ![256, 256] _ (by rfl) ?_
    simp only [View.readAt_eq_ld, harg2.read_unread, harg4.read_unread, harg5.read_unread, harg8.read_unread]
    intro p hp x
    simp only [List.mem_cons, List.not_mem_nil, or_false] at hp
    rcases hp with rfl | rfl | rfl | rfl | rfl | rfl | rfl | rfl
    all_goals exact tile_eq x0 D1 r g _ _ (by decide) (by decide) _ _ (by decide) x
  isplitl [HS0]
  · iexists _; isplitr; swap; · iexact HS0
    ipureintro
    rw [read_store harg7]
    unfold staged
    congr 2
    sl_unfold_words
    simp only [View.readAt_eq_ld, harg3.read_unread]
    exact View.ld_unit_zero (by decide) _ _
  isplitl [HS1]
  · iexists _; isplitr; · ipureintro; exact harg8.read_unread _
    iexact HS1
  iexists _, _; isplitr; swap; · iexact HS2
  ipureintro; rfl

end Cert.PleIdeal.Ple

end
-- ==== Proof.Ple.Run.lean ====
module

public import proofs.«01_k».proof.Proof.Ple.Body
public import proofs.«01_k».proof.Proof.Panels

@[expose] public section

set_option maxRecDepth 16384

noncomputable section

namespace Cert.PleIdeal.Ple

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.PleIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 80 points (outer step `t / 16`, inner step `t % 16`) -/

theorem cond_stage : ∀ t : Fin cfg0.N, k0_cond1 (grid0.coords t) = 1#1 ↔ t.val < 16 :=
  (by decide +kernel : ∀ t : Fin grid0.N, _)
theorem cond_odd : ∀ t : Fin cfg0.N, k0_cond2 (grid0.coords t) = 1#1 ↔ t.val / 16 % 2 = 1 :=
  (by decide +kernel : ∀ t : Fin grid0.N, _)
theorem cond_even : ∀ t : Fin cfg0.N, k0_cond3 (grid0.coords t) = 1#1 ↔ (16 ≤ t.val ∧ t.val / 16 % 2 = 0) :=
  (by decide +kernel : ∀ t : Fin grid0.N, _)
theorem off_stage : ∀ t : Fin cfg0.N, k0_off1 (grid0.coords t) = ![t.val % 16 * 256, 0] :=
  (by decide +kernel : ∀ t : Fin grid0.N, _)
theorem off_odd : ∀ t : Fin cfg0.N, k0_off2 (grid0.coords t) = ![t.val % 16 * 256, 0] :=
  (by decide +kernel : ∀ t : Fin grid0.N, _)
theorem off_even : ∀ t : Fin cfg0.N, k0_off3 (grid0.coords t) = ![t.val % 16 * 256, 0] :=
  (by decide +kernel : ∀ t : Fin grid0.N, _)
/-- In the first outer step nothing is written back. -/
theorem not_flush : ∀ t : Fin cfg0.N, t.val < 16 → (cfg0.win 4).flush t = false :=
  (by decide +kernel : ∀ t : Fin grid0.N, t.val < 16 → win0_4.flush t = false)

/-! ## The weight panels in the two buffers -/

/-- The weight panel that outer step `T` stages, chunk by chunk. -/
def panel (c : Dev nD) (T : ℕ) : Vec F S4096x1024 .bf16 := fun y =>
  k0_pay1 (iblk m c 1 (⟨(16 * T + (y 0).val / 256) % 80, Nat.mod_lt _ (by decide)⟩ : Fin grid0.N))
    (ix2 (⟨(y 0).val % 256, Nat.mod_lt _ (by decide)⟩ : Fin 256) (y 1))

/-- What the two buffers hold before point `n`, as `Panels.Inv` says. -/
abbrev Inv (c : Dev nD) (n : ℕ) (D0 D1 : Vec F S4096x1024 .bf16) : Prop := Panels.Inv 256 16 (panel m c) n D0 D1

/-- Staging point `t`'s chunk adds one chunk to what the buffer holds. -/
theorem holds_staged (c : Dev nD) (t : Fin cfg0.N) (off : Fin 2 → ℕ) (hoff : off = ![t.val % 16 * 256, 0])
    (inb : ∀ a, off a + S256x1024.size a ≤ S4096x1024.size a) (D : Vec F S4096x1024 .bf16)
    (h : Panels.Holds 256 (panel m c (t.val / 16)) (t.val % 16) D) :
    Panels.Holds 256 (panel m c (t.val / 16)) (t.val % 16 + 1) (staged off inb (iblk m c 1 t) D) := by
  have ht : t.val < 80 := lt_of_lt_of_eq t.isLt N_0
  refine h.stage off hoff inb _ fun z y e0 e1 => ?_
  have hz : (z 0).val < 256 := (z 0).isLt
  unfold panel
  rw [show (⟨(16 * (t.val / 16) + (y 0).val / 256) % 80, Nat.mod_lt _ (by decide)⟩ : Fin grid0.N) = t from Fin.ext (by
    show (16 * (t.val / 16) + (y 0).val / 256) % 80 = t.val; rw [e0]; omega)]
  refine congrArg _ (funext fun a => Fin.ext ?_)
  match a with
  | ⟨0, _⟩ => show (y 0).val % 256 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (panel m c (t.val / 16 - 1)) (iblk m c 2 t) (iblk m c 3 t)
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_res (c : Dev nD) (t : Fin cfg0.N) : (dats m 0 c).after 2 t = iblk m c 2 t := by dsimp only [dats]
theorem after_gated (c : Dev nD) (t : Fin cfg0.N) : (dats m 0 c).after 3 t = iblk m c 3 t := by dsimp only [dats]
theorem after_out (c : Dev nD) (t : Fin cfg0.N) :
    (dats m 0 c).after 4 t = outBlock (iblk m c 0 t) (panel m c (t.val / 16 - 1)) (iblk m c 2 t) (iblk m c 3 t) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d
theorem before_res (c : Dev nD) (t : Fin cfg0.N) (d) : (dats m 0 c).before 2 t d = iblk m c 2 t :=
  before0_2_of m (dats m 0 c) (A_eq m c 2) (after_res m c) t d
theorem before_gated (c : Dev nD) (t : Fin cfg0.N) (d) : (dats m 0 c).before 3 t d = iblk m c 3 t :=
  before0_3_of m (dats m 0 c) (A_eq m c 3) (after_gated m c) t d

/-- The staging memrefs of point `t`. -/
abbrev msRows (t : Fin cfg0.N) : Memref sig .tc .vmem S512x4096 .bf16 := win0_0.stage (cfg0.slots t 0)
abbrev msChunk (t : Fin cfg0.N) : Memref sig .tc .vmem S256x1024 .f32 := win0_1.stage (cfg0.slots t 1)
abbrev msRes (t : Fin cfg0.N) : Memref sig .tc .vmem S512x1024 .f32 := win0_2.stage (cfg0.slots t 2)
abbrev msGated (t : Fin cfg0.N) : Memref sig .tc .vmem S512x1024 .bf16 := win0_3.stage (cfg0.slots t 3)
abbrev msOut (t : Fin cfg0.N) : Memref sig .tc .vmem S512x1024 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msRes t) fullShare ((dats m 0 c).before 2 t d))
    ∗ (∃ d, owns c (msGated t) fullShare ((dats m 0 c).before 3 t d))
    ∗ (∃ d, owns c (msOut t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk, before_res, before_gated]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t],
    show (dats m 0 c).leavesExact 2 t = owns c (msRes t) fullShare (iblk m c 2 t) from by
      unfold Dat.leavesExact; rw [show cfg0.idle 2 (grid0.coords t) = false from rfl, ← after_res m c t],
    show (dats m 0 c).leavesExact 3 t = owns c (msGated t) fullShare (iblk m c 3 t) from by
      unfold Dat.leavesExact; rw [show cfg0.idle 3 (grid0.coords t) = false from rfl, ← after_gated m c t]]
  unfold PhiT
  by_cases h8 : t.val < 16
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 4 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%dx0, X0⟩, ⟨%dx1, X1⟩, ⟨%d2, H2⟩⟩
    iapply ((run_stage c (grid0.coords t) _ _ _ _ _ _ _ _ _ _ _ _ _ _ _ _ c1 c2 c3 (iblk m c 0 t) (iblk m c 1 t) (iblk m c 2 t) (iblk m c 3 t) ((dats m 0 c).before 4 t d2) D0 D1) Set.univ _)
    isplitl [H0]; · iexact H0
    isplitl [H1]; · iexact H1
    isplitl [X0]; · iexact X0
    isplitl [X1]; · iexact X1
    isplitl [H2]; · iexact H2
    isplitl [HS0]; · iexact HS0
    isplitl [HS1]; · iexact HS1
    isplitl [HS2]; · iexact HS2
    iintro ⟨H0, H1, X0, X1, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    isplitl [X0]; · iexact X0
    isplitl [X1]; · iexact X1
    iexists _; iexact H2
  · have c1 : ¬k0_cond1 (grid0.coords t) = 1#1 := fun h => h8 ((cond_stage t).mp h)
    by_cases h1 : t.val / 16 % 2 = 1
    · have c2 := (cond_odd t).mpr h1
      have c3 : ¬k0_cond3 (grid0.coords t) = 1#1 := fun h => by have := (cond_even t).mp h; omega
      rw [show (dats m 0 c).leavesExact 4 t = owns c (msOut t) fullShare (outBlock (iblk m c 0 t) (panel m c (t.val / 16 - 1)) (iblk m c 2 t) (iblk m c 3 t)) from by
        unfold Dat.leavesExact
        rw [show cfg0.idle 4 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%dx0, X0⟩, ⟨%dx1, X1⟩, ⟨%d2, H2⟩⟩
      rw [← (hI.2.2.2 (by omega) h1).eq_panel]
      iapply ((run_odd c (grid0.coords t) _ _ _ _ _ _ _ _ _ _ _ _ _ _ _ _ c1 c2 c3 (iblk m c 0 t) (iblk m c 1 t) (iblk m c 2 t) (iblk m c 3 t) D0 D1) Set.univ _)
      isplitl [H0]; · iexact H0
      isplitl [H1]; · iexact H1
      isplitl [X0]; · iexact X0
      isplitl [X1]; · iexact X1
      isplitl [H2]; · iexists _; iexact H2
      isplitl [HS0]; · iexact HS0
      isplitl [HS1]; · iexact HS1
      isplitl [HS2]; · iexact HS2
      iintro ⟨H0, H1, X0, X1, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      isplitl [X1]; · iexact X1
      iexact H2
    · have c3 := (cond_even t).mpr ⟨by omega, by omega⟩
      have c2 : ¬k0_cond2 (grid0.coords t) = 1#1 := fun h => h1 ((cond_odd t).mp h)
      rw [show (dats m 0 c).leavesExact 4 t = owns c (msOut t) fullShare (outBlock (iblk m c 0 t) (panel m c (t.val / 16 - 1)) (iblk m c 2 t) (iblk m c 3 t)) from by
        unfold Dat.leavesExact
        rw [show cfg0.idle 4 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%dx0, X0⟩, ⟨%dx1, X1⟩, ⟨%d2, H2⟩⟩
      rw [← (hI.2.2.1 (by omega) (by omega)).eq_panel]
      iapply ((run_even c (grid0.coords t) _ _ _ _ _ _ _ _ _ _ _ _ _ _ _ _ c1 c2 c3 (iblk m c 0 t) (iblk m c 1 t) (iblk m c 2 t) (iblk m c 3 t) D0 D1) Set.univ _)
      isplitl [H0]; · iexact H0
      isplitl [H1]; · iexact H1
      isplitl [X0]; · iexact X0
      isplitl [X1]; · iexact X1
      isplitl [H2]; · iexists _; iexact H2
      isplitl [HS0]; · iexact HS0
      isplitl [HS1]; · iexact HS1
      isplitl [HS2]; · iexact HS2
      iintro ⟨H0, H1, X0, X1, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      isplitl [X1]; · iexact X1
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.PleIdeal.Ple

end
-- ==== Proof.Ple.Value.lean ====
module

public import proofs.«01_k».proof.Proof.Ple.Run

@[expose] public section

set_option maxRecDepth 16384

noncomputable section

namespace Cert.PleIdeal.Ple

open Idealize.ShloMosaic TcCoe Tactic
open Idealize.SL Idealize.SL.Sem
open Idealize.ShloMosaic.Pipeline (Dat Cfg Window)
open Cert.PleIdeal.Gen

variable (m : (ℓ : Loc nD τ sig) → Buf (Elt Ideal) ℓ) (ρ : Dev nD → PrngReg)

/-- The activations, the weights, the residual stream and the gated values as launched. -/
abbrev X (c : Dev nD) : Vec Ideal S8192x4096 .bf16 := m ((c : Thread nD τ).loc main_arg0)
abbrev W (c : Dev nD) : Vec Ideal S4096x4096 .f32 := m ((c : Thread nD τ).loc main_arg1)
abbrev Rs (c : Dev nD) : Vec Ideal S8192x4096 .f32 := m ((c : Thread nD τ).loc main_arg2)
abbrev Gt (c : Dev nD) : Vec Ideal S8192x4096 .bf16 := m ((c : Thread nD τ).loc main_arg3)

/-- The logistic function. -/
def sigm (a : EReal) : EReal := Ideal.div 1 (1 + Ideal.exp (0 - a))

/-- The result: the residual stream plus the gated values times the logistic function of the activations' product with the
    weights. -/
def G (c : Dev nD) : Vec Ideal S8192x4096 .f32 := fun i => Rs m c i + sigm (∑ k : Fin 4096, X m c (ix2 (i 0) k) * W m c (ix2 k (i 1))) * Gt m c i

theorem idx_rows : ∀ t : Fin cfg0.N, 16 ≤ t.val → win0_0.index t = ![t.val % 16, 0] :=
  (by decide +kernel : ∀ t : Fin grid0.N, _)
theorem idx_chunk : ∀ t : Fin cfg0.N, t.val < 64 → win0_1.index t = ![t.val % 16, t.val / 16] :=
  (by decide +kernel : ∀ t : Fin grid0.N, _)
theorem idx_res : ∀ t : Fin cfg0.N, 16 ≤ t.val → win0_2.index t = ![t.val % 16, t.val / 16 - 1] :=
  (by decide +kernel : ∀ t : Fin grid0.N, _)
theorem idx_gated : ∀ t : Fin cfg0.N, 16 ≤ t.val → win0_3.index t = ![t.val % 16, t.val / 16 - 1] :=
  (by decide +kernel : ∀ t : Fin grid0.N, _)
theorem idx_out : ∀ t : Fin cfg0.N, 16 ≤ t.val → win0_4.index t = ![t.val % 16, t.val / 16 - 1] :=
  (by decide +kernel : ∀ t : Fin grid0.N, _)

/-- The rows that a multiplying point reads. -/
theorem rows_apply (c : Dev nD) (t : Fin cfg0.N) (ht : 16 ≤ t.val) (y : S512x4096.Idx) :
    iblk m c 0 t y = X m c (ix2 (⟨t.val % 16 * 512 + (y 0).val, by have : (y 0).val < 512 := (y 0).isLt; omega⟩ : Fin 8192) (y 1)) := by
  blk_ext [iblk, V, idx_rows t ht]

/-- The chunk of the weights that a staging point reads. -/
theorem chunk_apply (c : Dev nD) (t : Fin cfg0.N) (ht : t.val < 64) (y : S256x1024.Idx) :
    iblk m c 1 t y = W m c (ix2 (⟨t.val % 16 * 256 + (y 0).val, by have : (y 0).val < 256 := (y 0).isLt; omega⟩ : Fin 4096)
      (⟨t.val / 16 * 1024 + (y 1).val, by have : (y 1).val < 1024 := (y 1).isLt; omega⟩ : Fin 4096)) := by
  blk_ext [iblk, V, idx_chunk t ht]

/-- The block of the residual stream that a multiplying point reads. -/
theorem res_apply (c : Dev nD) (t : Fin cfg0.N) (ht : 16 ≤ t.val) (y : S512x1024.Idx) :
    iblk m c 2 t y = Rs m c (ix2 (⟨t.val % 16 * 512 + (y 0).val, by have : (y 0).val < 512 := (y 0).isLt; omega⟩ : Fin 8192)
      (⟨(t.val / 16 - 1) * 1024 + (y 1).val, by have : (y 1).val < 1024 := (y 1).isLt; have : t.val < 80 := lt_of_lt_of_eq t.isLt N_0; omega⟩ : Fin 4096)) := by
  blk_ext [iblk, V, idx_res t ht]

/-- The block of the gated values that a multiplying point reads. -/
theorem gated_apply (c : Dev nD) (t : Fin cfg0.N) (ht : 16 ≤ t.val) (y : S512x1024.Idx) :
    iblk m c 3 t y = Gt m c (ix2 (⟨t.val % 16 * 512 + (y 0).val, by have : (y 0).val < 512 := (y 0).isLt; omega⟩ : Fin 8192)
      (⟨(t.val / 16 - 1) * 1024 + (y 1).val, by have : (y 1).val < 1024 := (y 1).isLt; have : t.val < 80 := lt_of_lt_of_eq t.isLt N_0; omega⟩ : Fin 4096)) := by
  blk_ext [iblk, V, idx_gated t ht]

/-- A staged panel is a block of the weights' columns. -/
theorem panel_apply (c : Dev nD) (T : ℕ) (hT : T < 4) (y : S4096x1024.Idx) :
    panel m c T y = W m c (ix2 (y 0) (⟨T * 1024 + (y 1).val, by have : (y 1).val < 1024 := (y 1).isLt; omega⟩ : Fin 4096)) := by
  have hy : (y 0).val < 4096 := (y 0).isLt
  unfold panel k0_pay1
  pointwise
  rw [chunk_apply m c _ (by show (16 * T + (y 0).val / 256) % 80 < 64; omega)]
  refine congrArg (W m c) (funext fun a => Fin.ext ?_)
  match a with
  | ⟨0, _⟩ =>
    show (16 * T + (y 0).val / 256) % 80 % 16 * 256 + (y 0).val % 256 = (y 0).val
    omega
  | ⟨1, _⟩ =>
    show (16 * T + (y 0).val / 256) % 80 / 16 * 1024 + (y 1).val = T * 1024 + (y 1).val
    rw [show (16 * T + (y 0).val / 256) % 80 / 16 = T by omega]

/-- What a multiplying point leaves in the output's block, at the element that is `j` of the output. -/
theorem out_point (c : Dev nD) (t : Fin cfg0.N) (ht : 16 ≤ t.val) (y : S512x1024.Idx) (j : S8192x4096.Idx)
    (e0 : (j 0).val = t.val % 16 * 512 + (y 0).val) (e1 : (j 1).val = (t.val / 16 - 1) * 1024 + (y 1).val) :
    outBlock (iblk m c 0 t) (panel m c (t.val / 16 - 1)) (iblk m c 2 t) (iblk m c 3 t) y = G m c j := by
  have hlt : t.val < 80 := lt_of_lt_of_eq t.isLt N_0
  have hy0 : (y 0).val < 512 := (y 0).isLt
  have hy1 : (y 1).val < 1024 := (y 1).isLt
  unfold outBlock k0_pay5 G
  pointwise
  refine congrArg₂ (· + ·) ((res_apply m c t ht _).trans (congrArg (Rs m c) (funext fun a => Fin.ext ?_)))
    (congrArg₂ (· * ·) (congrArg sigm (Finset.sum_congr rfl fun k _ => ?_)) ((gated_apply m c t ht _).trans (congrArg (Gt m c) (funext fun a => Fin.ext ?_))))
  · match a with
    | ⟨0, _⟩ =>
      show t.val % 16 * 512 + ((y 0).val / 256 * 256 + (y 0).val % 256) % 512 = (j 0).val
      omega
    | ⟨1, _⟩ =>
      show (t.val / 16 - 1) * 1024 + ((y 1).val / 256 * 256 + (y 1).val % 256) % 1024 = (j 1).val
      omega
  · rw [rows_apply m c t ht, panel_apply m c _ (by omega)]
    refine congrArg₂ (· * ·) (congrArg (fun a => X m c (ix2 a k)) (Fin.ext ?_)) (congrArg (fun a => W m c (ix2 k a)) (Fin.ext ?_))
    · show t.val % 16 * 512 + ((y 0).val / 256 * 256 + (y 0).val % 256) % 512 = (j 0).val
      omega
    · show (t.val / 16 - 1) * 1024 + ((y 1).val / 256 * 256 + (y 1).val % 256) % 1024 = (j 1).val
      omega
  · match a with
    | ⟨0, _⟩ =>
      show t.val % 16 * 512 + ((y 0).val / 256 * 256 + (y 0).val % 256) % 512 = (j 0).val
      omega
    | ⟨1, _⟩ =>
      show (t.val / 16 - 1) * 1024 + ((y 1).val / 256 * 256 + (y 1).val % 256) % 1024 = (j 1).val
      omega

/-- The place in the output of an element of a multiplying point's block. -/
theorem out_place (t : Fin cfg0.N) (ht : 16 ≤ t.val) (y : S512x1024.Idx) :
    ((((cfg0.win 4).blk t).view.emb y) 0).val = t.val % 16 * 512 + (y 0).val
      ∧ ((((cfg0.win 4).blk t).view.emb y) 1).val = (t.val / 16 - 1) * 1024 + (y 1).val := by
  constructor <;> blk_simp [idx_out t ht]

/-- The output array after the run. -/
theorem final_out (c : Dev nD) : (dats m 0 c).arrAt 4 (cfgs 0).N = G m c := by
  refine (dats m 0 c).arrAt_eq_of_covers 4 _ (by decide +kernel) fun t hf y => ?_
  have ht : 16 ≤ t.val := by
    by_contra h
    have := not_flush t (by omega)
    exact absurd (this.symm.trans hf) (by decide)
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final_out m c), h.2.1 c⟩)
    (θ_run_and ((θ_run defs _ _).mono (fun _ h => h.1) (run_main m ρ)) (frame m ρ))

end Cert.PleIdeal.Ple

end
-- ==== Proof.Ple.Reference.lean ====
module

public import proofs.«01_k».proof.Proof.Ple.Value
public import proofs.«01_k».proof.Proof.Gen.PleRefIdeal.Read

@[expose] public section

set_option maxRecDepth 16384

noncomputable section

namespace Cert.PleRefIdeal.Ple

open Idealize.ShloMosaic TcCoe Tactic
open Cert.PleRefIdeal Cert.PleRefIdeal.Gen Cert.PleRefIdeal.Read
open Cert.PleIdeal.Ple (sigm)

variable (x0 : (⟨S8192x4096, .bf16⟩ : BufTy).Contents (Elt Ideal)) (x1 : (⟨S4096x4096, .f32⟩ : BufTy).Contents (Elt Ideal)) (x2 : (⟨S8192x4096, .f32⟩ : BufTy).Contents (Elt Ideal)) (x3 : (⟨S8192x4096, .bf16⟩ : BufTy).Contents (Elt Ideal))

/-- The reference's product at an element. -/
theorem product_apply (j : S8192x4096.Idx) :
    val_main_v1 (F := Ideal) x0 x1 j = ∑ k : Fin 4096, x0 (ix2 (j 0) k) * x1 (ix2 k (j 1)) := by
  unfold val_main_v1 val_main_v0
  pointwise

/-- The reference's result at an element: the residual stream plus the logistic function of the product times the gated
    values. -/
theorem result_apply (i : S8192x4096.Idx) :
    val_main_v10 (F := Ideal) x0 x1 x2 x3 i = x2 i + sigm (∑ k : Fin 4096, x0 (ix2 (i 0) k) * x1 (ix2 k (i 1))) * x3 i := by
  rw [← product_apply]
  unfold val_main_v10 val_main_v9 val_main_v8 val_main_v7 val_main_v6 val_main_cst_0 val_main_v5 val_main_v4 val_main_cst val_main_v3 val_main_v2 sigm
  generalize val_main_v1 (F := Ideal) x0 x1 = p
  pointwise
  rw [zero_sub]

end Cert.PleRefIdeal.Ple

end
-- ==== Proof.Attn.Row.lean ====
module

public import Idealize.ShloMosaic.PureOps.Ideal.Laws

@[expose] public section

noncomputable section

namespace Cert.AttnRow

open Idealize.ShloMosaic

/-! One row of scores: its maximum, its exponentials, their sum. A score that is `⊥` is a masked one. -/

section Row
variable {ι : Type} [Fintype ι]

/-- The greatest score of a row. -/
def top (s : ι → EReal) : EReal := Finset.univ.fold max ⊥ s
/-- The exponential of a score less the greatest. -/
def ex (s : ι → EReal) (j : ι) : EReal := Ideal.exp (s j - top s)
/-- The sum of a row's exponentials. -/
def tot (s : ι → EReal) : EReal := ∑ j, ex s j
/-- The row's weighted sum of `v`, divided by the sum of its weights. -/
def mean (s v : ι → EReal) : EReal := Ideal.div (∑ j, ex s j * v j) (tot s)
/-- The logarithm of the sum of the exponentials of a row's scores. -/
def lse (s : ι → EReal) : EReal := top s + Ideal.log (tot s)

theorem top_eq_sup (s : ι → EReal) : top s = Finset.univ.sup s := rfl

/-- A masked score has weight zero. -/
theorem ex_masked (s : ι → EReal) (j : ι) (h : s j = ⊥) : ex s j = 0 := by
  unfold ex
  rw [h, sub_eq_add_neg, EReal.bot_add]
  rfl

theorem ex_nonneg (s : ι → EReal) (j : ι) : 0 ≤ ex s j := by
  unfold ex
  generalize s j - top s = x
  induction x using EReal.rec with
  | bot => exact le_refl _
  | top => exact le_top
  | coe r =>
    rw [show Ideal.exp (r : EReal) = ((Real.exp r : ℝ) : EReal) from rfl]
    exact_mod_cast (Real.exp_pos r).le

theorem tot_nonneg (s : ι → EReal) : 0 ≤ tot s := Finset.sum_nonneg fun j _ => ex_nonneg s j

/-- A row with a score that is not masked, and none that is `⊤`, has a sum that is not zero. -/
theorem tot_ne_zero (s : ι → EReal) (j : ι) (hj : s j ≠ ⊥) (ht : ∀ i, s i ≠ ⊤) : tot s ≠ 0 := by
  have hm : top s ≠ ⊤ := by
    rw [top_eq_sup]
    exact ((Finset.sup_lt_iff bot_lt_top).mpr fun i _ => lt_top_iff_ne_top.mpr (ht i)).ne
  have hb : top s ≠ ⊥ := by
    rw [top_eq_sup]
    exact fun h => hj (le_bot_iff.mp (h ▸ Finset.le_sup (f := s) (Finset.mem_univ j)))
  have hpos : 0 < ex s j := by
    unfold ex
    lift top s to ℝ using ⟨hm, hb⟩ with b
    lift s j to ℝ using ⟨ht j, hj⟩ with a
    rw [← EReal.coe_sub, show Ideal.exp ((a - b : ℝ) : EReal) = ((Real.exp (a - b) : ℝ) : EReal) from rfl]
    exact_mod_cast Real.exp_pos _
  exact (lt_of_lt_of_le hpos (Finset.single_le_sum (f := ex s) (fun i _ => ex_nonneg s i) (Finset.mem_univ j))).ne'

/-- Multiplication by a number that is not negative and not `⊤` distributes over a sum. -/
theorem mul_sum_of_nonneg {c : EReal} (h0 : 0 ≤ c) (ht : c ≠ ⊤) (S : Finset ι) (f : ι → EReal) :
    c * ∑ j ∈ S, f j = ∑ j ∈ S, c * f j := by
  classical
  induction S using Finset.induction_on with
  | empty => simp
  | insert a S ha ih => rw [Finset.sum_insert ha, Finset.sum_insert ha, EReal.left_distrib_of_nonneg_of_ne_top h0 ht, ih]

theorem inv_ne_top {l : EReal} (h : l ≠ 0) (h0 : 0 ≤ l) : l⁻¹ ≠ ⊤ := by
  induction l using EReal.rec with
  | bot => simp
  | top => simp
  | coe r => rw [← EReal.coe_inv]; exact EReal.coe_ne_top _

/-- Where the sum of the weights is not zero, the mean divides each weight by it. -/
theorem mean_eq (s v : ι → EReal) (h : tot s ≠ 0) : mean s v = ∑ j, v j * Ideal.div (ex s j) (tot s) := by
  have hd : ∀ x, Ideal.div x (tot s) = x * (tot s)⁻¹ := fun x => by unfold Ideal.div; rw [if_neg h]
  unfold mean
  rw [hd, mul_comm, mul_sum_of_nonneg (EReal.inv_nonneg_of_nonneg (tot_nonneg s)) (inv_ne_top h (tot_nonneg s))]
  refine Finset.sum_congr rfl fun j _ => ?_
  rw [hd, mul_comm, mul_comm (v j), mul_assoc, mul_comm (v j), ← mul_assoc]

end Row

/-! The same row over two sets of places: the scores that are not masked correspond, so maximum, weights and sums are equal. -/

section Transfer
variable {ι κ : Type} [Fintype ι] [Fintype κ]

/-- Two sums whose terms correspond where they do not vanish. -/
theorem sum_transfer (f : ι → EReal) (g : κ → EReal) (P : κ → Prop) (Q : ι → Prop) (φ : κ → ι) (ψ : ι → κ)
    (hP : ∀ k, P k → Q (φ k) ∧ ψ (φ k) = k) (hQ : ∀ j, Q j → P (ψ j) ∧ φ (ψ j) = j)
    (hg : ∀ k, P k → g k = f (φ k)) (h0 : ∀ k, ¬ P k → g k = 0) (h1 : ∀ j, ¬ Q j → f j = 0) : ∑ k, g k = ∑ j, f j := by
  classical
  rw [← Finset.sum_filter_add_sum_filter_not Finset.univ P g, ← Finset.sum_filter_add_sum_filter_not Finset.univ Q f,
    Finset.sum_eq_zero (s := Finset.univ.filter fun k => ¬ P k) fun k hk => h0 k (Finset.mem_filter.mp hk).2,
    Finset.sum_eq_zero (s := Finset.univ.filter fun j => ¬ Q j) fun j hj => h1 j (Finset.mem_filter.mp hj).2, add_zero, add_zero]
  refine Finset.sum_nbij' φ ψ ?_ ?_ ?_ ?_ ?_
  · exact fun k hk => Finset.mem_filter.mpr ⟨Finset.mem_univ _, (hP k (Finset.mem_filter.mp hk).2).1⟩
  · exact fun j hj => Finset.mem_filter.mpr ⟨Finset.mem_univ _, (hQ j (Finset.mem_filter.mp hj).2).1⟩
  · exact fun k hk => (hP k (Finset.mem_filter.mp hk).2).2
  · exact fun j hj => (hQ j (Finset.mem_filter.mp hj).2).2
  · exact fun k hk => hg k (Finset.mem_filter.mp hk).2

variable (s : ι → EReal) (s' : κ → EReal) (P : κ → Prop) (Q : ι → Prop) (φ : κ → ι) (ψ : ι → κ)
    (hP : ∀ k, P k → Q (φ k) ∧ ψ (φ k) = k) (hQ : ∀ j, Q j → P (ψ j) ∧ φ (ψ j) = j)
    (hs : ∀ k, P k → s' k = s (φ k)) (h0 : ∀ k, ¬ P k → s' k = ⊥) (h1 : ∀ j, ¬ Q j → s j = ⊥)
include hP hQ hs h0 h1

theorem top_transfer : top s' = top s := by
  classical
  rw [top_eq_sup, top_eq_sup]
  refine le_antisymm (Finset.sup_le fun k _ => ?_) (Finset.sup_le fun j _ => ?_)
  · by_cases h : P k
    · rw [hs k h]
      exact Finset.le_sup (f := s) (Finset.mem_univ _)
    · rw [h0 k h]
      exact bot_le
  · by_cases h : Q j
    · have e : s j = s' (ψ j) := by rw [hs _ (hQ j h).1, (hQ j h).2]
      rw [e]
      exact Finset.le_sup (f := s') (Finset.mem_univ _)
    · rw [h1 j h]
      exact bot_le

theorem ex_transfer (k : κ) (h : P k) : ex s' k = ex s (φ k) := by
  unfold ex
  rw [top_transfer s s' P Q φ ψ hP hQ hs h0 h1, hs k h]

theorem tot_transfer : tot s' = tot s :=
  sum_transfer (ex s) (ex s') P Q φ ψ hP hQ (ex_transfer s s' P Q φ ψ hP hQ hs h0 h1)
    (fun k h => ex_masked s' k (h0 k h)) (fun j h => ex_masked s j (h1 j h))

theorem lse_transfer : lse s' = lse s := by
  unfold lse
  rw [top_transfer s s' P Q φ ψ hP hQ hs h0 h1, tot_transfer s s' P Q φ ψ hP hQ hs h0 h1]

theorem mean_transfer (v : ι → EReal) (v' : κ → EReal) (hv : ∀ k, P k → v' k = v (φ k)) : mean s' v' = mean s v := by
  unfold mean
  rw [tot_transfer s s' P Q φ ψ hP hQ hs h0 h1]
  refine congrArg (fun x => Ideal.div x (tot s)) (sum_transfer _ _ P Q φ ψ hP hQ (fun k h => ?_) (fun k h => ?_) (fun j h => ?_))
  · rw [ex_transfer s s' P Q φ ψ hP hQ hs h0 h1 k h, hv k h]
  · rw [ex_masked s' k (h0 k h), zero_mul]
  · rw [ex_masked s j (h1 j h), zero_mul]

end Transfer

end Cert.AttnRow

end
-- ==== Proof.Attn.Blocks.lean ====
module

public import proofs.«01_k».proof.Proof.Gen.AttnIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.AttnIdeal.Attn

open Idealize.ShloMosaic TcCoe Tactic
open Idealize.SL Idealize.SL.Sem
open Idealize.ShloMosaic.Pipeline (Dat Cfg Window)
open Cert.AttnIdeal.Gen

variable (m : (ℓ : Loc nD τ sig) → Buf (Elt Ideal) ℓ) (ρ : Dev nD → PrngReg)

/-- The array of queries, keys and values as launched. -/
abbrev Z (c : Dev nD) : Vec Ideal S8192x5120 .bf16 := m ((c : Thread nD τ).loc main_arg0)

theorem idx_q : ∀ t : Fin cfg0.N, win0_0.index t = ![0, 0, t.val, 2] :=
  (by decide +kernel : ∀ t : Fin grid0.N, _)
theorem idx_kp : ∀ t : Fin cfg0.N, win0_1.index t = ![0, 0, t.val - 1, 3] :=
  (by decide +kernel : ∀ t : Fin grid0.N, _)
theorem idx_kc : ∀ t : Fin cfg0.N, win0_2.index t = ![0, 0, t.val, 3] :=
  (by decide +kernel : ∀ t : Fin grid0.N, _)
theorem idx_vp : ∀ t : Fin cfg0.N, win0_3.index t = ![0, 0, t.val - 1, 4] :=
  (by decide +kernel : ∀ t : Fin grid0.N, _)
theorem idx_vc : ∀ t : Fin cfg0.N, win0_4.index t = ![0, 0, t.val, 4] :=
  (by decide +kernel : ∀ t : Fin grid0.N, _)
theorem idx_o : ∀ t : Fin cfg0.N, win0_5.index t = ![0, 0, t.val, 0] :=
  (by decide +kernel : ∀ t : Fin grid0.N, _)
theorem idx_l : ∀ t : Fin cfg0.N, win0_6.index t = ![0, 0, t.val, 0] :=
  (by decide +kernel : ∀ t : Fin grid0.N, _)

/-- The array that the windows read: the launched one under two leading axes of size one. -/
theorem array_apply (c : Dev nD) (j : S1x1x8192x5120.Idx) : V m c main_v0 j = Z m c (ix2 (j 2) (j 3)) := by
  unfold V hostOps0
  after_reads_at

/-- The queries of a step. -/
theorem q_apply (c : Dev nD) (t : Fin cfg0.N) (y : S1x1x128x1024.Idx) :
    iblk m c 0 t y = Z m c (ix2 (⟨t.val * 128 + (y 2).val, by have : (y 2).val < 128 := (y 2).isLt; have : t.val < 64 := lt_of_lt_of_eq t.isLt N_0; omega⟩ : Fin 8192)
      (⟨2 * 1024 + (y 3).val, by have : (y 3).val < 1024 := (y 3).isLt; omega⟩ : Fin 5120)) := by
  refine (array_apply m c _).trans (congrArg (Z m c) (funext fun a => Fin.ext ?_))
  match a with
  | ⟨0, _⟩ =>
    show ((((cfg0.win 0).blk t).view.emb y) 2).val = _
    blk_simp [idx_q t]
  | ⟨1, _⟩ =>
    show ((((cfg0.win 0).blk t).view.emb y) 3).val = _
    blk_simp [idx_q t]

/-- The keys of the step before. -/
theorem kp_apply (c : Dev nD) (t : Fin cfg0.N) (y : S1x1x128x1024.Idx) :
    iblk m c 1 t y = Z m c (ix2 (⟨(t.val - 1) * 128 + (y 2).val, by have : (y 2).val < 128 := (y 2).isLt; have : t.val < 64 := lt_of_lt_of_eq t.isLt N_0; omega⟩ : Fin 8192)
      (⟨3 * 1024 + (y 3).val, by have : (y 3).val < 1024 := (y 3).isLt; omega⟩ : Fin 5120)) := by
  refine (array_apply m c _).trans (congrArg (Z m c) (funext fun a => Fin.ext ?_))
  match a with
  | ⟨0, _⟩ =>
    show ((((cfg0.win 1).blk t).view.emb y) 2).val = _
    blk_simp [idx_kp t]
  | ⟨1, _⟩ =>
    show ((((cfg0.win 1).blk t).view.emb y) 3).val = _
    blk_simp [idx_kp t]

/-- The keys of a step. -/
theorem kc_apply (c : Dev nD) (t : Fin cfg0.N) (y : S1x1x128x1024.Idx) :
    iblk m c 2 t y = Z m c (ix2 (⟨t.val * 128 + (y 2).val, by have : (y 2).val < 128 := (y 2).isLt; have : t.val < 64 := lt_of_lt_of_eq t.isLt N_0; omega⟩ : Fin 8192)
      (⟨3 * 1024 + (y 3).val, by have : (y 3).val < 1024 := (y 3).isLt; omega⟩ : Fin 5120)) := by
  refine (array_apply m c _).trans (congrArg (Z m c) (funext fun a => Fin.ext ?_))
  match a with
  | ⟨0, _⟩ =>
    show ((((cfg0.win 2).blk t).view.emb y) 2).val = _
    blk_simp [idx_kc t]
  | ⟨1, _⟩ =>
    show ((((cfg0.win 2).blk t).view.emb y) 3).val = _
    blk_simp [idx_kc t]

/-- The values of the step before. -/
theorem vp_apply (c : Dev nD) (t : Fin cfg0.N) (y : S1x1x128x1024.Idx) :
    iblk m c 3 t y = Z m c (ix2 (⟨(t.val - 1) * 128 + (y 2).val, by have : (y 2).val < 128 := (y 2).isLt; have : t.val < 64 := lt_of_lt_of_eq t.isLt N_0; omega⟩ : Fin 8192)
      (⟨4 * 1024 + (y 3).val, by have : (y 3).val < 1024 := (y 3).isLt; omega⟩ : Fin 5120)) := by
  refine (array_apply m c _).trans (congrArg (Z m c) (funext fun a => Fin.ext ?_))
  match a with
  | ⟨0, _⟩ =>
    show ((((cfg0.win 3).blk t).view.emb y) 2).val = _
    blk_simp [idx_vp t]
  | ⟨1, _⟩ =>
    show ((((cfg0.win 3).blk t).view.emb y) 3).val = _
    blk_simp [idx_vp t]

/-- The values of a step. -/
theorem vc_apply (c : Dev nD) (t : Fin cfg0.N) (y : S1x1x128x1024.Idx) :
    iblk m c 4 t y = Z m c (ix2 (⟨t.val * 128 + (y 2).val, by have : (y 2).val < 128 := (y 2).isLt; have : t.val < 64 := lt_of_lt_of_eq t.isLt N_0; omega⟩ : Fin 8192)
      (⟨4 * 1024 + (y 3).val, by have : (y 3).val < 1024 := (y 3).isLt; omega⟩ : Fin 5120)) := by
  refine (array_apply m c _).trans (congrArg (Z m c) (funext fun a => Fin.ext ?_))
  match a with
  | ⟨0, _⟩ =>
    show ((((cfg0.win 4).blk t).view.emb y) 2).val = _
    blk_simp [idx_vc t]
  | ⟨1, _⟩ =>
    show ((((cfg0.win 4).blk t).view.emb y) 3).val = _
    blk_simp [idx_vc t]

end Cert.AttnIdeal.Attn

end
-- ==== Proof.Attn.Mask.lean ====
module

public import proofs.«01_k».proof.Proof.Gen.AttnIdeal.Frame
public import Idealize.ShloMosaic.Lib.Pointwise
public import Idealize.ShloMosaic.Lib.Tactic.WordOmega

@[expose] public section

set_option maxRecDepth 16384

noncomputable section

namespace Cert.AttnIdeal.Attn

open Idealize.ShloMosaic TcCoe Tactic
open Idealize.SL Idealize.SL.Sem
open Idealize.ShloMosaic.Pipeline (Dat Cfg Window)
open Cert.AttnIdeal.Gen

/-- A word divided by 128, rounded down, as printed. -/
def fdiv (w : BitVec 32) : BitVec 32 :=
  Scalar.select
      (IntOp.andi
        (IntOp.cmpi .ne
          (IntOp.subi (BitVec.setWidth 32 (IntOp.cmpi .sgt w 0#32)) (BitVec.setWidth 32 (IntOp.cmpi .slt w 0#32)))
          (Scalar.subi (Scalar.extui (Scalar.cmpi .sgt 128#32 0#32)) (Scalar.extui (Scalar.cmpi .slt 128#32 0#32))))
        (IntOp.cmpi .ne (IntOp.remsi ArithUnit.vector w 128#32) 0#32))
      (IntOp.subi (IntOp.divsi ArithUnit.vector w 128#32) 1#32)
      (IntOp.divsi ArithUnit.vector w 128#32)

theorem fdiv_eq : ∀ k : Fin 256, fdiv (BitVec.ofNat 32 k.val) = BitVec.ofNat 32 (k.val / 128) := by decide +kernel

/-- The remainder of a word by 128, brought to the sign of 128, as printed. -/
def fmod (w : BitVec 32) : BitVec 32 :=
  Scalar.select
      (IntOp.andi
        (IntOp.xori
          (IntOp.cmpi .slt (IntOp.remsi ArithUnit.vector w (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi ArithUnit.vector w (Scalar.select (Scalar.cmpi .eq 128#32 0#32) 1#32 128#32)) 0#32))
      (IntOp.addi (IntOp.remsi ArithUnit.vector w (Scalar.select (Scalar.cmpi .eq 128#32 0#32) 1#32 128#32))
        (Scalar.select (Scalar.cmpi .eq 128#32 0#32) 1#32 128#32))
      (IntOp.remsi ArithUnit.vector w (Scalar.select (Scalar.cmpi .eq 128#32 0#32) 1#32 128#32))

theorem fmod_eq : ∀ k : Fin 256, fmod (BitVec.ofNat 32 k.val) = BitVec.ofNat 32 (k.val % 128) := by decide +kernel

theorem plane_apply (y : S128x256.Idx) : k0_pay2 y = fdiv (BitVec.ofNat 32 (y 1).val) := by
  unfold k0_pay2 fdiv
  pointwise

theorem pay3_apply (y : S128x256.Idx) :
    k0_pay3 y = IntOp.muli 128#32 (IntOp.subi 1#32 (fdiv (BitVec.ofNat 32 (y 1).val))) := by
  rw [← plane_apply y]
  unfold k0_pay3
  generalize k0_pay2 = a
  pointwise

theorem pay6_apply (a : IVec S128x256 32) (y : S128x256.Idx) :
    k0_pay6 (iota .tc S128x256 32 [1] iota_S128x256_d1_w32) a (Scalar.select (Scalar.cmpi .eq 128#32 0#32) 1#32 128#32)
        k0_pay4 k0_pay5 y
      = IntOp.muli 1#32 (IntOp.subi (IntOp.addi (a y) (fmod (BitVec.ofNat 32 (y 0).val))) (fmod (BitVec.ofNat 32 (y 1).val))) := by
  unfold k0_pay6 k0_pay5 k0_pay4 fmod
  pointwise

theorem row_plane_apply (y : S128x256.Idx) :
    Scalar.select (k0_pay8 (iota .tc S128x256 32 [0] iota_S128x256_d0_w32) y)
        (k0_pay9 (iota .tc S128x256 32 [0] iota_S128x256_d0_w32) y)
        (k0_pay7 (iota .tc S128x256 32 [0] iota_S128x256_d0_w32) y)
      = fdiv (BitVec.ofNat 32 (y 0).val) := by
  unfold k0_pay9 k0_pay8 k0_pay7 fdiv
  pointwise

theorem pay10_apply (a b d : IVec S128x256 32) (c : IVec S128x256 1) (y : S128x256.Idx) :
    k0_pay10 (iota .tc S128x256 32 [1] iota_S128x256_d1_w32) a b c d y
      = IntOp.subi (IntOp.addi (a y) (Scalar.select (c y) (d y) (b y))) (fdiv (fmod (BitVec.ofNat 32 (y 1).val))) := by
  unfold k0_pay10 fdiv fmod
  pointwise

theorem pay12_apply (a e : BitVec 32) (b c : IVec S128x256 32) (d : IVec S128x256 1) (y : S128x256.Idx) :
    k0_pay12 a b c d e y
      = IntOp.andi (IntOp.andi (d y) (IntOp.cmpi CmpIPredicate.sle (c y) e))
          (IntOp.ori (IntOp.cmpi CmpIPredicate.eq (b y) 1#32) (Scalar.cmpi CmpIPredicate.sgt a 0#32)) := by
  unfold k0_pay12
  pointwise

/-- How far the key of a lane lies before the query of a row. -/
def dist (r k : Nat) : BitVec 32 :=
  IntOp.subi
    (IntOp.addi
      (IntOp.muli 1#32
        (IntOp.subi
          (IntOp.addi (IntOp.muli 128#32 (IntOp.subi 1#32 (fdiv (BitVec.ofNat 32 k)))) (fmod (BitVec.ofNat 32 r)))
          (fmod (BitVec.ofNat 32 k))))
      (fdiv (BitVec.ofNat 32 r)))
    (fdiv (fmod (BitVec.ofNat 32 k)))

theorem dist_apply (y : S128x256.Idx) :
    k0_pay10 (iota .tc S128x256 32 [1] iota_S128x256_d1_w32)
        (k0_pay6 (iota .tc S128x256 32 [1] iota_S128x256_d1_w32) k0_pay3
          (Scalar.select (Scalar.cmpi .eq 128#32 0#32) 1#32 128#32) k0_pay4 k0_pay5)
        (k0_pay7 (iota .tc S128x256 32 [0] iota_S128x256_d0_w32))
        (k0_pay8 (iota .tc S128x256 32 [0] iota_S128x256_d0_w32))
        (k0_pay9 (iota .tc S128x256 32 [0] iota_S128x256_d0_w32)) y
      = dist (y 0).val (y 1).val := by
  refine (pay10_apply _ _ _ _ y).trans ?_
  rw [row_plane_apply, pay6_apply, pay3_apply]
  rfl

theorem dist_eq (r : Fin 128) (k : Fin 256) :
    dist r.val k.val = BitVec.ofNat 32 (128 + r.val) - BitVec.ofNat 32 k.val := by
  have hr : fmod (BitVec.ofNat 32 r.val) = BitVec.ofNat 32 r.val := by
    have h := fmod_eq ⟨r.val, by omega⟩
    simpa [Nat.mod_eq_of_lt r.isLt] using h
  have hr' : fdiv (BitVec.ofNat 32 r.val) = 0#32 := by
    have h := fdiv_eq ⟨r.val, by omega⟩
    simpa [Nat.div_eq_of_lt r.isLt] using h
  have hk' : fdiv (BitVec.ofNat 32 (k.val % 128)) = 0#32 := by
    have h := fdiv_eq ⟨k.val % 128, by omega⟩
    simpa using h
  unfold dist
  rw [fmod_eq k, fdiv_eq k, hr, hr', hk']
  simp only [IntOp.subi, IntOp.addi, IntOp.muli]
  have hk := k.isLt
  have hr := r.isLt
  rcases Nat.lt_or_ge k.val 128 with h | h
  · rw [Nat.div_eq_of_lt h, Nat.mod_eq_of_lt h]
    bv_omega
  · have e1 : k.val / 128 = 1 := by omega
    have e2 : k.val % 128 = k.val - 128 := by omega
    rw [e1, e2]
    bv_omega

theorem window_up : ∀ n : Fin 257,
    IntOp.andi (IntOp.cmpi .sge (BitVec.ofNat 32 n.val) 0#32) (IntOp.cmpi .sle (BitVec.ofNat 32 n.val) 128#32)
      = if n.val ≤ 128 then 1#1 else 0#1 := by decide +kernel
theorem window_down : ∀ n : Fin 128,
    IntOp.andi (IntOp.cmpi .sge (-BitVec.ofNat 32 (n.val + 1)) 0#32) (IntOp.cmpi .sle (-BitVec.ofNat 32 (n.val + 1)) 128#32)
      = 0#1 := by decide +kernel
theorem plane_word : ∀ k : Fin 256,
    IntOp.cmpi .eq (BitVec.ofNat 32 (k.val / 128)) 1#32 = if 128 ≤ k.val then 1#1 else 0#1 := by decide +kernel
theorem step_word : ∀ n : Fin 64,
    Scalar.cmpi .sgt (BitVec.ofNat 32 n.val) 0#32 = if 0 < n.val then 1#1 else 0#1 := by decide +kernel

theorem window_word (r : Fin 128) (k : Fin 256) :
    IntOp.andi (IntOp.cmpi .sge (dist r.val k.val) 0#32) (IntOp.cmpi .sle (dist r.val k.val) 128#32)
      = if r.val ≤ k.val ∧ k.val ≤ 128 + r.val then 1#1 else 0#1 := by
  have hk := k.isLt
  have hr := r.isLt
  rw [dist_eq]
  rcases Nat.lt_or_ge (128 + r.val) k.val with h | h
  · have e : BitVec.ofNat 32 (128 + r.val) - BitVec.ofNat 32 k.val = -BitVec.ofNat 32 ((k.val - 129 - r.val) + 1) := by
      bv_omega
    rw [e, window_down ⟨k.val - 129 - r.val, by omega⟩, if_neg (by omega)]
  · have e : BitVec.ofNat 32 (128 + r.val) - BitVec.ofNat 32 k.val = BitVec.ofNat 32 (128 + r.val - k.val) := by
      bv_omega
    rw [e, window_up ⟨128 + r.val - k.val, by omega⟩]
    exact if_congr (show 128 + r.val - k.val ≤ 128 ↔ r.val ≤ k.val ∧ k.val ≤ 128 + r.val by omega) rfl rfl

theorem mask_word (i : grid0.Coords) (x0 x1 x2 x3 x4 : Vec Ideal S1x1x128x1024 .bf16) (y : S128x256.Idx) :
    k0_pay85 i x0 x1 x2 x3 x4 y
      = if ((y 0).val ≤ (y 1).val ∧ (y 1).val ≤ 128 + (y 0).val) ∧ (128 ≤ (y 1).val ∨ 0 < (i 1).val) then 1#1 else 0#1 := by
  refine (pay12_apply _ _ _ _ _ y).trans ?_
  have hd : k0_pay82 i x0 x1 x2 x3 x4 y = dist (y 0).val (y 1).val := dist_apply y
  have hs : k0_pay83 i x0 x1 x2 x3 x4 y = IntOp.cmpi .sge (dist (y 0).val (y 1).val) 0#32 := by
    rw [← hd]
    show k0_pay11 _ _ _ _ _ y = _
    unfold k0_pay11
    rfl
  have hp : k0_pay77 i x0 x1 x2 x3 x4 y = BitVec.ofNat 32 ((y 1).val / 128) := (plane_apply y).trans (fdiv_eq (y 1))
  have hi : (i 1).val < 64 := (i 1).isLt
  rw [hd, hs, hp, window_word (y 0) (y 1), plane_word (y 1), step_word ⟨(i 1).val, hi⟩]
  by_cases h1 : (y 0).val ≤ (y 1).val ∧ (y 1).val ≤ 128 + (y 0).val <;>
    by_cases h2 : 128 ≤ (y 1).val <;> by_cases h3 : 0 < (i 1).val <;> simp [h1, h2, h3, IntOp.andi, IntOp.ori]

end Cert.AttnIdeal.Attn

end
-- ==== Proof.Attn.Heads.lean ====
module

public import proofs.«01_k».proof.Proof.Attn.Row
public import proofs.«01_k».proof.Proof.Attn.Blocks
public import proofs.«01_k».proof.Proof.Attn.Mask
public import Idealize.ShloMosaic.PureOps.Ideal.Laws

@[expose] public section

set_option maxRecDepth 16384

noncomputable section

namespace Cert.AttnIdeal.Attn

open Idealize.ShloMosaic TcCoe Tactic
open Idealize.SL Idealize.SL.Sem
open Idealize.ShloMosaic.Pipeline (Dat Cfg Window)
open Cert.AttnIdeal.Gen

open Cert

/-- A row of one head's masked scores in a step: over the keys of the step before, then over those of the step. -/
def srow (V : IVec S128x256 1) (q kp kc : Vec Ideal S1x1x128x128 .bf16) (r : Fin 128) : Fin 256 → EReal :=
  fun k => k0_pay45 V q kp kc (ix2 r k)

theorem ninf : Ideal.ofBits .f32 4286578688#32 = ⊥ := by simp [Ideal.ofBits, Ideal.ieee]

theorem srow_apply (V : IVec S128x256 1) (q kp kc : Vec Ideal S1x1x128x128 .bf16) (r : Fin 128) (k : Fin 256) :
    srow V q kp kc r k
      = Scalar.select (V (ix2 r k)) ((∑ x : Fin 128, q (ix4 0 0 r x) *
          if h : k.val < 128 then kp (ix4 0 0 (⟨k.val, h⟩ : Fin 128) x)
          else kc (ix4 0 0 (⟨k.val - 128, by have := k.isLt; omega⟩ : Fin 128) x)) * Ideal.ofBits .f32 0x3DB504F3#32) ⊥ := by
  rw [← ninf]
  unfold srow k0_pay45
  pointwise

theorem max_apply (V : IVec S128x256 1) (q kp kc : Vec Ideal S1x1x128x128 .bf16) (y : S128x1.Idx) :
    k0_pay46 V q kp kc y = AttnRow.top (srow V q kp kc (y 0)) := by
  unfold AttnRow.top srow k0_pay46
  rw [← ninf]
  generalize k0_pay45 V q kp kc = s
  pointwise

theorem exp_apply (V : IVec S128x256 1) (q kp kc : Vec Ideal S1x1x128x128 .bf16) (r : Fin 128) (k : Fin 256) :
    k0_pay47 V q kp kc (ix2 r k) = AttnRow.ex (srow V q kp kc r) k := by
  unfold AttnRow.ex
  rw [show AttnRow.top (srow V q kp kc r) = k0_pay46 V q kp kc (ix2 r 0) from (max_apply V q kp kc (ix2 r 0)).symm]
  unfold k0_pay47 srow
  generalize k0_pay45 V q kp kc = s
  generalize k0_pay46 V q kp kc = a
  pointwise

theorem sum_apply (V : IVec S128x256 1) (q kp kc : Vec Ideal S1x1x128x128 .bf16) (y : S128x1.Idx) :
    k0_pay48 V q kp kc y = AttnRow.tot (srow V q kp kc (y 0)) := by
  unfold AttnRow.tot
  refine Eq.trans ?_ (Finset.sum_congr rfl fun k _ => exp_apply V q kp kc (y 0) k)
  unfold k0_pay48
  generalize k0_pay47 V q kp kc = s
  pointwise

/-- One head's output block. -/
theorem head_apply (V : IVec S128x256 1) (q kp kc vp vc : Vec Ideal S1x1x128x128 .bf16) (y : S1x1x128x128.Idx) :
    k0_pay49 V q kp kc vp vc y
      = AttnRow.mean (srow V q kp kc (y 2)) (fun k => if h : k.val < 128 then vp (ix4 0 0 (⟨k.val, h⟩ : Fin 128) (y 3))
          else vc (ix4 0 0 (⟨k.val - 128, by have := k.isLt; omega⟩ : Fin 128) (y 3))) := by
  refine Eq.trans (b := Ideal.div (∑ k : Fin 256, k0_pay47 V q kp kc (ix2 (y 2) k) *
      if h : k.val < 128 then vp (ix4 0 0 (⟨k.val, h⟩ : Fin 128) (y 3))
        else vc (ix4 0 0 (⟨k.val - 128, by have := k.isLt; omega⟩ : Fin 128) (y 3))) (k0_pay48 V q kp kc (ix2 (y 2) 0))) ?_
    (congrArg₂ Ideal.div (Finset.sum_congr rfl fun k _ => congrArg (· * _) (exp_apply V q kp kc (y 2) k))
      (sum_apply V q kp kc (ix2 (y 2) 0)))
  have hs : ∀ f : Fin 256 → EReal, ∑ k, f k = ∑ k : Fin 128, f ⟨k.val, by omega⟩ + ∑ k : Fin 128, f ⟨128 + k.val, by omega⟩ :=
    fun f => Fin.sum_univ_add (a := 128) (b := 128) f
  rw [hs]
  unfold k0_pay49
  generalize k0_pay47 V q kp kc = s
  generalize k0_pay48 V q kp kc = l
  pointwise

/-- One head's logarithms. -/
def lhead (V : IVec S128x256 1) (q kp kc : Vec Ideal S1x1x128x128 .bf16) : FVec Ideal S128x1 .f32 :=
  addf (k0_pay46 V q kp kc) (log (k0_pay48 V q kp kc))

theorem lhead_apply (V : IVec S128x256 1) (q kp kc : Vec Ideal S1x1x128x128 .bf16) (y : S128x1.Idx) :
    lhead V q kp kc y = AttnRow.lse (srow V q kp kc (y 0)) := by
  unfold AttnRow.lse
  rw [← max_apply V q kp kc y, ← sum_apply V q kp kc y]
  rfl

/-- A column written in one lane of a block. -/
def lane (k : BitVec 32) (p : FVec Ideal S128x128 .f32) (l : FVec Ideal S128x1 .f32) : FVec Ideal S128x128 .f32 :=
  select (cmpi .eq (iota .tc S128x128 32 [1] iota_S128x128_d1_w32) (broadcast S128x128 k))
    (broadcastTo S128x128 (shapeCast S128x1 l shapeCasts_S128x1_S128x1) broadcasts_S128x1_S128x128) p

theorem lane_apply (k : BitVec 32) (p : FVec Ideal S128x128 .f32) (l : FVec Ideal S128x1 .f32) (y : S128x128.Idx) :
    lane k p l y = Scalar.select (IntOp.cmpi .eq (BitVec.ofNat 32 (y 1).val) k) (l (ix2 (y 0) 0)) (p y) := by
  unfold lane
  pointwise

/-- The part of a block that belongs to a head. -/
theorem part_apply (x : Vec Ideal S1x1x128x1024 .bf16) (h : Fin 8) (inb) (y : S1x1x128x128.Idx) :
    View.ld x (Rect.unit (s := S1x1x128x1024) ![0, 0, 0, 128 * h.val] S1x1x128x128.size inb) y
      = x (ix4 0 0 (y 2) (⟨128 * h.val + (y 3).val, by have : (y 3).val < 128 := (y 3).isLt; omega⟩ : Fin 1024)) := by
  have h0 : (y 0).val < 1 := (y 0).isLt
  have h1 : (y 1).val < 1 := (y 1).isLt
  refine congrArg x (funext fun a => Fin.ext ?_)
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show 128 * h.val + 1 * (y 3).val = 128 * h.val + (y 3).val; omega

/-- The rectangle of a head in a block. -/
abbrev rect (h : Fin 8) : Rect S1x1x128x1024 :=
  Rect.unit (s := S1x1x128x1024) ![0, 0, 0, 128 * h.val] S1x1x128x128.size (by revert h; decide)

/-- The block of outputs is made of eight heads alike. -/
theorem out_heads (i : grid0.Coords) (x0 x1 x2 x3 x4 : Vec Ideal S1x1x128x1024 .bf16) :
    out0_5 i x0 x1 x2 x3 x4 = View.canon (List.ofFn fun j : Fin 8 =>
      (⟨rect (Fin.rev j), k0_pay49 (k0_pay85 i x0 x1 x2 x3 x4) (View.ld x0 (rect (Fin.rev j))) (View.ld x1 (rect (Fin.rev j)))
        (View.ld x2 (rect (Fin.rev j))) (View.ld x3 (rect (Fin.rev j))) (View.ld x4 (rect (Fin.rev j)))⟩ :
        View.Piece (Elt Ideal) S1x1x128x1024 .bf16)) := by
  rfl

/-- The block of logarithms has one lane for each head. -/
theorem lse_heads (i : grid0.Coords) (x0 x1 x2 x3 x4 : Vec Ideal S1x1x128x1024 .bf16) :
    out0_6 i x0 x1 x2 x3 x4 = View.canon [⟨r0_8, k0_pay1
      (lane 7#32 (lane 6#32 (lane 5#32 (lane 4#32 (lane 3#32 (lane 2#32 (lane 1#32 (lane 0#32 k0_pay13
        (lhead (k0_pay85 i x0 x1 x2 x3 x4) (View.ld x0 (rect 0)) (View.ld x1 (rect 0)) (View.ld x2 (rect 0))))
        (lhead (k0_pay85 i x0 x1 x2 x3 x4) (View.ld x0 (rect 1)) (View.ld x1 (rect 1)) (View.ld x2 (rect 1))))
        (lhead (k0_pay85 i x0 x1 x2 x3 x4) (View.ld x0 (rect 2)) (View.ld x1 (rect 2)) (View.ld x2 (rect 2))))
        (lhead (k0_pay85 i x0 x1 x2 x3 x4) (View.ld x0 (rect 3)) (View.ld x1 (rect 3)) (View.ld x2 (rect 3))))
        (lhead (k0_pay85 i x0 x1 x2 x3 x4) (View.ld x0 (rect 4)) (View.ld x1 (rect 4)) (View.ld x2 (rect 4))))
        (lhead (k0_pay85 i x0 x1 x2 x3 x4) (View.ld x0 (rect 5)) (View.ld x1 (rect 5)) (View.ld x2 (rect 5))))
        (lhead (k0_pay85 i x0 x1 x2 x3 x4) (View.ld x0 (rect 6)) (View.ld x1 (rect 6)) (View.ld x2 (rect 6))))
        (lhead (k0_pay85 i x0 x1 x2 x3 x4) (View.ld x0 (rect 7)) (View.ld x1 (rect 7)) (View.ld x2 (rect 7))))⟩] := by
  rfl

end Cert.AttnIdeal.Attn

end
-- ==== Proof.Attn.Step.lean ====
module

public import proofs.«01_k».proof.Proof.Attn.Heads

@[expose] public section

set_option maxRecDepth 16384

noncomputable section

namespace Cert.AttnIdeal.Attn

open Idealize.ShloMosaic TcCoe Tactic
open Idealize.SL Idealize.SL.Sem
open Idealize.ShloMosaic.Pipeline (Dat Cfg Window)
open Cert.AttnIdeal.Gen

open Cert

variable (m : (ℓ : Loc nD τ sig) → Buf (Elt Ideal) ℓ) (ρ : Dev nD → PrngReg)

/-- The scores of a query's row for a head: against the keys at most 128 before it, `⊥` against the others. -/
def score (Z : Vec Ideal S8192x5120 .bf16) (h : Fin 8) (t : Fin 8192) : Fin 8192 → EReal := fun j =>
  if j.val ≤ t.val ∧ t.val ≤ j.val + 128 then
    (∑ x : Fin 128, Z (ix2 t (⟨2048 + 128 * h.val + x.val, by omega⟩ : Fin 5120))
      * Z (ix2 j (⟨3072 + 128 * h.val + x.val, by omega⟩ : Fin 5120))) * Ideal.ofBits .f32 0x3DB504F3#32
  else ⊥

theorem score_masked (Z : Vec Ideal S8192x5120 .bf16) (h : Fin 8) (t j : Fin 8192)
    (hj : ¬(j.val ≤ t.val ∧ t.val ≤ j.val + 128)) : score Z h t j = ⊥ := if_neg hj

/-- A head's values in one lane. -/
def vals (Z : Vec Ideal S8192x5120 .bf16) (l : Fin 1024) : Fin 8192 → EReal := fun j =>
  Z (ix2 j (⟨4096 + l.val, by omega⟩ : Fin 5120))

/-- The row of the array that lane `k` of step `n` holds. -/
def key (n : Fin 64) (k : Fin 256) : Fin 8192 := ⟨n.val * 128 + k.val - 128, by omega⟩
/-- The lane of step `n` that holds a row, where it holds it. -/
def slot (n : Fin 64) (j : Fin 8192) : Fin 256 := ⟨(j.val + 128 - n.val * 128) % 256, by omega⟩

/-- The lanes that a row of a step keeps. -/
abbrev Keeps (n : Fin 64) (r : Fin 128) (k : Fin 256) : Prop := (r.val ≤ k.val ∧ k.val ≤ 128 + r.val) ∧ (128 ≤ k.val ∨ 0 < n.val)

/-- The query of a row of a step. -/
abbrev query (n : Fin 64) (r : Fin 128) : Fin 8192 := ⟨n.val * 128 + r.val, by omega⟩

section
variable (c : Dev nD) (t : Fin cfg0.N) (n : Fin 64) (hn : n.val = t.val) (h : Fin 8) (r : Fin 128)

theorem keeps_key (k : Fin 256) (hk : Keeps n r k) :
    ((key n k).val ≤ (query n r).val ∧ (query n r).val ≤ (key n k).val + 128) ∧ slot n (key n k) = k := by
  have := k.isLt
  have := r.isLt
  have := n.isLt
  refine ⟨?_, Fin.ext ?_⟩
  · show n.val * 128 + k.val - 128 ≤ n.val * 128 + r.val ∧ n.val * 128 + r.val ≤ n.val * 128 + k.val - 128 + 128
    omega
  · show (n.val * 128 + k.val - 128 + 128 - n.val * 128) % 256 = k.val
    omega

theorem slot_keeps (j : Fin 8192) (hj : j.val ≤ (query n r).val ∧ (query n r).val ≤ j.val + 128) :
    Keeps n r (slot n j) ∧ key n (slot n j) = j := by
  have hj : j.val ≤ n.val * 128 + r.val ∧ n.val * 128 + r.val ≤ j.val + 128 := hj
  have := j.isLt
  have := r.isLt
  have := n.isLt
  have e : (slot n j).val = j.val + 128 - n.val * 128 := by
    show (j.val + 128 - n.val * 128) % 256 = _
    omega
  refine ⟨?_, Fin.ext ?_⟩
  · show ((r.val ≤ (slot n j).val ∧ (slot n j).val ≤ 128 + r.val) ∧ (128 ≤ (slot n j).val ∨ 0 < n.val))
    omega
  · show n.val * 128 + (slot n j).val - 128 = j.val
    omega

include hn

theorem mask_step (r : Fin 128) (k : Fin 256) (i : grid0.Coords) (hi : (i 1).val = t.val)
    (x0 x1 x2 x3 x4 : Vec Ideal S1x1x128x1024 .bf16) :
    k0_pay85 i x0 x1 x2 x3 x4 (ix2 r k) = if Keeps n r k then 1#1 else 0#1 := by
  refine (mask_word i x0 x1 x2 x3 x4 (ix2 r k)).trans ?_
  show (if (r.val ≤ k.val ∧ k.val ≤ 128 + r.val) ∧ (128 ≤ k.val ∨ 0 < (i 1).val) then 1#1 else 0#1) = _
  rw [hi, ← hn]

/-- The keys that lane `k` of a step reads. -/
theorem key_read (k : Fin 256) (hk : 128 ≤ k.val ∨ 0 < n.val) (x : Fin 128) :
    (if h' : k.val < 128 then View.ld (iblk m c 1 t) (rect h) (ix4 0 0 (⟨k.val, h'⟩ : Fin 128) x)
      else View.ld (iblk m c 2 t) (rect h) (ix4 0 0 (⟨k.val - 128, by have := k.isLt; omega⟩ : Fin 128) x))
      = Z m c (ix2 (key n k) (⟨3072 + 128 * h.val + x.val, by omega⟩ : Fin 5120)) := by
  split
  · refine (part_apply _ h _ _).trans ((kp_apply m c t _).trans (congrArg (Z m c) (funext fun a => Fin.ext ?_)))
    match a with
    | ⟨0, _⟩ => show (t.val - 1) * 128 + k.val = n.val * 128 + k.val - 128; omega
    | ⟨1, _⟩ => show 3 * 1024 + (128 * h.val + x.val) = 3072 + 128 * h.val + x.val; omega
  · refine (part_apply _ h _ _).trans ((kc_apply m c t _).trans (congrArg (Z m c) (funext fun a => Fin.ext ?_)))
    match a with
    | ⟨0, _⟩ => show t.val * 128 + (k.val - 128) = n.val * 128 + k.val - 128; omega
    | ⟨1, _⟩ => show 3 * 1024 + (128 * h.val + x.val) = 3072 + 128 * h.val + x.val; omega

/-- The values that lane `k` of a step reads. -/
theorem val_read (k : Fin 256) (hk : 128 ≤ k.val ∨ 0 < n.val) (x : Fin 128) :
    (if h' : k.val < 128 then View.ld (iblk m c 3 t) (rect h) (ix4 0 0 (⟨k.val, h'⟩ : Fin 128) x)
      else View.ld (iblk m c 4 t) (rect h) (ix4 0 0 (⟨k.val - 128, by have := k.isLt; omega⟩ : Fin 128) x))
      = vals (Z m c) (⟨128 * h.val + x.val, by omega⟩ : Fin 1024) (key n k) := by
  split
  · refine (part_apply _ h _ _).trans ((vp_apply m c t _).trans (congrArg (Z m c) (funext fun a => Fin.ext ?_)))
    match a with
    | ⟨0, _⟩ => show (t.val - 1) * 128 + k.val = n.val * 128 + k.val - 128; omega
    | ⟨1, _⟩ => show 4 * 1024 + (128 * h.val + x.val) = 4096 + (128 * h.val + x.val); omega
  · refine (part_apply _ h _ _).trans ((vc_apply m c t _).trans (congrArg (Z m c) (funext fun a => Fin.ext ?_)))
    match a with
    | ⟨0, _⟩ => show t.val * 128 + (k.val - 128) = n.val * 128 + k.val - 128; omega
    | ⟨1, _⟩ => show 4 * 1024 + (128 * h.val + x.val) = 4096 + (128 * h.val + x.val); omega

variable (i : grid0.Coords) (hi : (i 1).val = t.val)

/-- The masked scores of a row of a step. -/
abbrev stepRow : Fin 256 → EReal :=
  srow (k0_pay85 i (iblk m c 0 t) (iblk m c 1 t) (iblk m c 2 t) (iblk m c 3 t) (iblk m c 4 t))
    (View.ld (iblk m c 0 t) (rect h)) (View.ld (iblk m c 1 t) (rect h)) (View.ld (iblk m c 2 t) (rect h)) r

include hi

theorem row_kept (k : Fin 256) (hk : Keeps n r k) : stepRow m c t h r i k = score (Z m c) h (query n r) (key n k) := by
  refine (srow_apply _ _ _ _ r k).trans ?_
  rw [mask_step t n hn r k i hi, if_pos hk]
  unfold score
  rw [if_pos (keeps_key n r k hk).1]
  refine (show Scalar.select 1#1 _ _ = _ from rfl).trans (congrArg (· * _) (Finset.sum_congr rfl fun x _ => congrArg₂ (· * ·) ?_ (key_read m c t n hn h k hk.2 x)))
  refine (part_apply _ h _ _).trans ((q_apply m c t _).trans (congrArg (Z m c) (funext fun a => Fin.ext ?_)))
  match a with
  | ⟨0, _⟩ => show t.val * 128 + r.val = n.val * 128 + r.val; omega
  | ⟨1, _⟩ => show 2 * 1024 + (128 * h.val + x.val) = 2048 + 128 * h.val + x.val; omega

theorem row_dropped (k : Fin 256) (hk : ¬ Keeps n r k) : stepRow m c t h r i k = ⊥ := by
  refine (srow_apply _ _ _ _ r k).trans ?_
  rw [mask_step t n hn r k i hi, if_neg hk]
  rfl

theorem step_lse : AttnRow.lse (stepRow m c t h r i) = AttnRow.lse (score (Z m c) h (query n r)) :=
  AttnRow.lse_transfer _ _ (Keeps n r) (fun j => j.val ≤ (query n r).val ∧ (query n r).val ≤ j.val + 128) (key n) (slot n)
    (keeps_key n r) (slot_keeps n r) (row_kept m c t n hn h r i hi) (row_dropped m c t n hn h r i hi) (fun j hj => score_masked (Z m c) h (query n r) j hj)

theorem step_mean (x : Fin 128) : AttnRow.mean (stepRow m c t h r i)
      (fun k => if h' : k.val < 128 then View.ld (iblk m c 3 t) (rect h) (ix4 0 0 (⟨k.val, h'⟩ : Fin 128) x)
        else View.ld (iblk m c 4 t) (rect h) (ix4 0 0 (⟨k.val - 128, by have := k.isLt; omega⟩ : Fin 128) x))
      = AttnRow.mean (score (Z m c) h (query n r)) (vals (Z m c) (⟨128 * h.val + x.val, by omega⟩ : Fin 1024)) :=
  AttnRow.mean_transfer _ _ (Keeps n r) (fun j => j.val ≤ (query n r).val ∧ (query n r).val ≤ j.val + 128) (key n) (slot n)
    (keeps_key n r) (slot_keeps n r) (row_kept m c t n hn h r i hi) (row_dropped m c t n hn h r i hi) (fun j hj => score_masked (Z m c) h (query n r) j hj)
    _ _ (fun k hk => val_read m c t n hn h k hk.2 x)

end

end Cert.AttnIdeal.Attn

end
-- ==== Proof.Attn.Value.lean ====
module

public import proofs.«01_k».proof.Proof.Attn.Step

@[expose] public section

set_option maxRecDepth 16384

noncomputable section

namespace Cert.AttnIdeal.Attn

open Idealize.ShloMosaic TcCoe Tactic
open Idealize.SL Idealize.SL.Sem
open Idealize.ShloMosaic.Pipeline (Dat Cfg Window)
open Cert.AttnIdeal.Gen

open Cert

variable (m : (ℓ : Loc nD τ sig) → Buf (Elt Ideal) ℓ) (ρ : Dev nD → PrngReg)

/-- The head of a lane of the outputs. -/
abbrev headOf (l : Fin 1024) : Fin 8 := ⟨l.val / 128, by omega⟩

/-- The attention's output: at each query and lane, the mean of the lane's values under the softmax of the head's scores. -/
def O (Z : Vec Ideal S8192x5120 .bf16) : Vec Ideal S1x1x8192x1024 .bf16 := fun i =>
  AttnRow.mean (score Z (headOf (i 3)) (i 2)) (vals Z (i 3))

/-- The logarithms: at each query, one lane for each head, and zero in the others. -/
def L (Z : Vec Ideal S8192x5120 .bf16) : Vec Ideal S1x1x8192x128 .f32 := fun i =>
  if (i 3).val < 8 then AttnRow.lse (score Z ⟨(i 3).val % 8, by omega⟩ (i 2)) else 0

theorem coord (t : Fin cfg0.N) : (grid0.coords t 1).val = t.val :=
  (by decide +kernel : ∀ t : Fin grid0.N, (grid0.coords t 1).val = t.val) t

/-- The number of a step. -/
abbrev step (t : Fin cfg0.N) : Fin 64 := ⟨t.val, lt_of_lt_of_eq t.isLt N_0⟩

/-- The block of outputs at an element: the head that holds the lane. -/
theorem out_at (i : grid0.Coords) (x0 x1 x2 x3 x4 : Vec Ideal S1x1x128x1024 .bf16) (y : S1x1x128x1024.Idx) (v : EReal)
    (hv : ∀ (j : Fin 8) (x : S1x1x128x128.Idx), (y 2).val = (x 2).val → (y 3).val = 128 * j.val + (x 3).val →
      k0_pay49 (k0_pay85 i x0 x1 x2 x3 x4) (View.ld x0 (rect j)) (View.ld x1 (rect j))
        (View.ld x2 (rect j)) (View.ld x3 (rect j)) (View.ld x4 (rect j)) x = v) :
    out0_5 i x0 x1 x2 x3 x4 y = v := by
  have hy0 : (y 0).val < 1 := (y 0).isLt
  have hy1 : (y 1).val < 1 := (y 1).isLt
  have hy2 : (y 2).val < 128 := (y 2).isLt
  have hy3 : (y 3).val < 1024 := (y 3).isLt
  rw [out_heads]
  refine View.canon_ofFn_eq_of_forall (Val := Elt Ideal) (e := .bf16) (fun j : Fin 8 => rect (Fin.rev j)) _ y v ⟨Fin.rev (headOf (y 3)), ?_⟩ fun j x hx => ?_
  · rw [Fin.rev_rev]
    refine Rect.mem_set_unit.mpr fun a => ?_
    match a with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 128; omega
    | ⟨3, _⟩ => show 128 * ((y 3).val / 128) ≤ (y 3).val ∧ (y 3).val < 128 * ((y 3).val / 128) + 128; omega
  · refine hv (Fin.rev j) x ?_ ?_
    · rw [← hx]
      show 0 + 1 * (x 2).val = (x 2).val
      omega
    · rw [← hx]
      show 128 * (Fin.rev j).val + 1 * (x 3).val = 128 * (Fin.rev j).val + (x 3).val
      omega

/-- A step's outputs at an element. -/
theorem out_point (c : Dev nD) (t : Fin cfg0.N) (y : S1x1x128x1024.Idx) :
    out0_5 (grid0.coords t) (iblk m c 0 t) (iblk m c 1 t) (iblk m c 2 t) (iblk m c 3 t) (iblk m c 4 t) y
      = O (Z m c) (ix4 0 0 (query (step t) (y 2)) (y 3)) := by
  refine out_at _ _ _ _ _ _ y _ fun j x h2 h3 => ?_
  have hx3 : (x 3).val < 128 := (x 3).isLt
  have hy3 : (y 3).val < 1024 := (y 3).isLt
  refine (head_apply _ _ _ _ _ _ x).trans ((step_mean m c t (step t) rfl j (x 2) (grid0.coords t) (coord t) (x 3)).trans ?_)
  have e2 : x 2 = y 2 := Fin.ext h2.symm
  have e3 : (⟨128 * j.val + (x 3).val, by omega⟩ : Fin 1024) = y 3 := Fin.ext h3.symm
  have eh : j = headOf (y 3) := Fin.ext (by show j.val = (y 3).val / 128; omega)
  show AttnRow.mean (score (Z m c) j (query (step t) (x 2))) (vals (Z m c) (⟨128 * j.val + (x 3).val, by omega⟩ : Fin 1024))
    = AttnRow.mean (score (Z m c) (headOf (y 3)) (query (step t) (y 2))) (vals (Z m c) (y 3))
  exact congrArg₂ AttnRow.mean (congrArg₂ (score (Z m c)) eh (congrArg (query (step t)) e2)) (congrArg (vals (Z m c)) e3)

theorem lane_word : ∀ l : Fin 128, ∀ k : Fin 8,
    IntOp.cmpi .eq (BitVec.ofNat 32 l.val) (BitVec.ofNat 32 k.val) = if l.val = k.val then 1#1 else 0#1 := by decide +kernel

theorem zero_block (y : S128x128.Idx) : k0_pay13 (F := Ideal) y = 0 := by
  unfold k0_pay13
  pointwise

theorem lane_head (c : Dev nD) (t : Fin cfg0.N) (k : Fin 8) (p : FVec Ideal S128x128 .f32) (r : Fin 128) (l : Fin 128) :
    lane (BitVec.ofNat 32 k.val) p (lhead (k0_pay85 (grid0.coords t) (iblk m c 0 t) (iblk m c 1 t) (iblk m c 2 t) (iblk m c 3 t) (iblk m c 4 t))
        (View.ld (iblk m c 0 t) (rect k)) (View.ld (iblk m c 1 t) (rect k)) (View.ld (iblk m c 2 t) (rect k))) (ix2 r l)
      = if l.val = k.val then AttnRow.lse (score (Z m c) k (query (step t) r)) else p (ix2 r l) := by
  refine (lane_apply _ _ _ _).trans ?_
  rw [lhead_apply]
  have e := step_lse m c t (step t) rfl k r (grid0.coords t) (coord t)
  refine (congrArg₂ (fun a b => Scalar.select a b (p (ix2 r l))) (lane_word l k) e).trans ?_
  split <;> rfl

/-- One more head's lane. -/
theorem lanes_succ (c : Dev nD) (t : Fin cfg0.N) (k : Fin 8) (p : FVec Ideal S128x128 .f32) (r : Fin 128)
    (hp : ∀ l : Fin 128, p (ix2 r l)
      = if l.val < k.val then AttnRow.lse (score (Z m c) ⟨l.val % 8, by omega⟩ (query (step t) r)) else 0) (l : Fin 128) :
    lane (BitVec.ofNat 32 k.val) p (lhead (k0_pay85 (grid0.coords t) (iblk m c 0 t) (iblk m c 1 t) (iblk m c 2 t) (iblk m c 3 t) (iblk m c 4 t))
        (View.ld (iblk m c 0 t) (rect k)) (View.ld (iblk m c 1 t) (rect k)) (View.ld (iblk m c 2 t) (rect k))) (ix2 r l)
      = if l.val < k.val + 1 then AttnRow.lse (score (Z m c) ⟨l.val % 8, by omega⟩ (query (step t) r)) else 0 := by
  have hk := k.isLt
  refine (lane_head m c t k p r l).trans ?_
  by_cases h : l.val = k.val
  · rw [if_pos h, if_pos (by omega), show (⟨l.val % 8, by omega⟩ : Fin 8) = k from Fin.ext (by show l.val % 8 = k.val; omega)]
  · rw [if_neg h, hp l]
    exact if_congr (by omega) rfl rfl

/-- A step's logarithms at an element. -/
theorem lse_point (c : Dev nD) (t : Fin cfg0.N) (y : S1x1x128x128.Idx) :
    out0_6 (grid0.coords t) (iblk m c 0 t) (iblk m c 1 t) (iblk m c 2 t) (iblk m c 3 t) (iblk m c 4 t) y
      = L (Z m c) (ix4 0 0 (query (step t) (y 2)) (y 3)) := by
  rw [lse_heads, View.canon_cons_unit_lit _ _ _ (by decide)]
  have one : ∀ p : FVec Ideal S128x128 .f32, k0_pay1 p y = p (ix2 (y 2) (y 3)) := fun p => by
    unfold k0_pay1
    pointwise
  refine (one _).trans ?_
  exact lanes_succ m c t 7 _ (y 2) (lanes_succ m c t 6 _ (y 2) (lanes_succ m c t 5 _ (y 2) (lanes_succ m c t 4 _ (y 2)
    (lanes_succ m c t 3 _ (y 2) (lanes_succ m c t 2 _ (y 2) (lanes_succ m c t 1 _ (y 2) (lanes_succ m c t 0 _ (y 2)
      (fun l => zero_block (ix2 (y 2) l))))))))) (y 3)

/-- The place in an output of an element of a step's block. -/
theorem out_place (t : Fin cfg0.N) (y : S1x1x128x1024.Idx) :
    ((cfg0.win 5).blk t).view.emb y = ix4 0 0 (query (step t) (y 2)) (y 3) := by
  refine funext fun a => Fin.ext ?_
  have hy0 : (y 0).val < 1 := (y 0).isLt
  have hy1 : (y 1).val < 1 := (y 1).isLt
  match a with
  | ⟨0, _⟩ =>
    show ((((cfg0.win 5).blk t).view.emb y) 0).val = 0
    blk_simp [idx_o t]
  | ⟨1, _⟩ =>
    show ((((cfg0.win 5).blk t).view.emb y) 1).val = 0
    blk_simp [idx_o t]
  | ⟨2, _⟩ =>
    show ((((cfg0.win 5).blk t).view.emb y) 2).val = t.val * 128 + (y 2).val
    blk_simp [idx_o t]
  | ⟨3, _⟩ =>
    show ((((cfg0.win 5).blk t).view.emb y) 3).val = (y 3).val
    blk_simp [idx_o t]

theorem lse_place (t : Fin cfg0.N) (y : S1x1x128x128.Idx) :
    ((cfg0.win 6).blk t).view.emb y = ix4 0 0 (query (step t) (y 2)) (y 3) := by
  refine funext fun a => Fin.ext ?_
  have hy0 : (y 0).val < 1 := (y 0).isLt
  have hy1 : (y 1).val < 1 := (y 1).isLt
  match a with
  | ⟨0, _⟩ =>
    show ((((cfg0.win 6).blk t).view.emb y) 0).val = 0
    blk_simp [idx_l t]
  | ⟨1, _⟩ =>
    show ((((cfg0.win 6).blk t).view.emb y) 1).val = 0
    blk_simp [idx_l t]
  | ⟨2, _⟩ =>
    show ((((cfg0.win 6).blk t).view.emb y) 2).val = t.val * 128 + (y 2).val
    blk_simp [idx_l t]
  | ⟨3, _⟩ =>
    show ((((cfg0.win 6).blk t).view.emb y) 3).val = (y 3).val
    blk_simp [idx_l t]

/-- The outputs after the run. -/
theorem final_out (c : Dev nD) : (dats m 0 c).arrAt 5 (cfgs 0).N = O (Z m c) :=
  (dats m 0 c).arrAt_eq_of_covers 5 _ (by decide +kernel) fun t hf y =>
    (congrFun (after0_5 m c t) y).trans ((out_point m c t y).trans (congrArg (O (Z m c)) (out_place t y).symm))

/-- The logarithms after the run. -/
theorem final_lse (c : Dev nD) : (dats m 0 c).arrAt 6 (cfgs 0).N = L (Z m c) :=
  (dats m 0 c).arrAt_eq_of_covers 6 _ (by decide +kernel) fun t hf y =>
    (congrFun (after0_6 m c t) y).trans ((lse_point m c t y).trans (congrArg (L (Z m c)) (lse_place t y).symm))

/-- The run: the results are `O` and `L` of the argument, and this is unchanged. -/
theorem run : θ_run defs (onTc (τ := τ) (main (F := Ideal))) ⟨m, fun _ => 0, ρ⟩ fun r => ∀ c : Dev nD,
      r.2.mem ((c.tc : Thread nD τ).loc main_v1_0) = O (Z m c)
      ∧ r.2.mem ((c.tc : Thread nD τ).loc main_v1_1) = L (Z m c)
      ∧ r.2.mem ((c.tc : Thread nD τ).loc main_arg0) = m ((c.tc : Thread nD τ).loc main_arg0) :=
  (θ_run defs _ _).mono (fun r h c => ⟨((h.1 c).1 5).trans (final_out m c), ((h.1 c).1 6).trans (final_lse m c), h.2.1 c⟩)
    (θ_run_and (run_main m ρ) (frame m ρ))

end Cert.AttnIdeal.Attn

end
-- ==== Proof.Attn.Reference.lean ====
module

public import proofs.«01_k».proof.Proof.Attn.Value
public import proofs.«01_k».proof.Proof.Gen.AttnRefIdeal.Read
public import proofs.«01_k».proof.Pre_finite_qk
public import Idealize.ShloMosaic.Lib.KernelVsHost

@[expose] public section

set_option maxRecDepth 16384

noncomputable section

namespace Cert.AttnRefIdeal.Attn

open Idealize.ShloMosaic TcCoe Tactic
open Cert
open Cert.AttnRefIdeal Cert.AttnRefIdeal.Gen Cert.AttnRefIdeal.Read
open Cert.AttnIdeal.Attn (score vals O L headOf score_masked ninf)

variable (x0 : (⟨S8192x5120, .bf16⟩ : BufTy).Contents (Elt Ideal))

theorem near_up : ∀ n : Fin 8192,
    IntOp.andi (IntOp.cmpi .sge (BitVec.ofNat 32 n.val) 0#32) (IntOp.cmpi .sle (BitVec.ofNat 32 n.val) 128#32)
      = if n.val ≤ 128 then 1#1 else 0#1 := by decide +kernel
theorem near_down : ∀ n : Fin 8192,
    IntOp.andi (IntOp.cmpi .sge (-BitVec.ofNat 32 (n.val + 1)) 0#32) (IntOp.cmpi .sle (-BitVec.ofNat 32 (n.val + 1)) 128#32)
      = 0#1 := by decide +kernel

/-- Which keys a query sees. -/
theorem near (t j : Fin 8192) :
    IntOp.andi (IntOp.cmpi .sge (IntOp.subi (BitVec.ofNat 32 t.val) (BitVec.ofNat 32 j.val)) 0#32)
        (IntOp.cmpi .sle (IntOp.subi (BitVec.ofNat 32 t.val) (BitVec.ofNat 32 j.val)) 128#32)
      = if j.val ≤ t.val ∧ t.val ≤ j.val + 128 then 1#1 else 0#1 := by
  have ht := t.isLt
  have hj := j.isLt
  simp only [IntOp.subi]
  rcases Nat.lt_or_ge t.val j.val with h | h
  · have e : BitVec.ofNat 32 t.val - BitVec.ofNat 32 j.val = -BitVec.ofNat 32 ((j.val - 1 - t.val) + 1) := by bv_omega
    rw [e, near_down ⟨j.val - 1 - t.val, by omega⟩, if_neg (by omega)]
  · have e : BitVec.ofNat 32 t.val - BitVec.ofNat 32 j.val = BitVec.ofNat 32 (t.val - j.val) := by bv_omega
    rw [e, near_up ⟨t.val - j.val, by omega⟩]
    exact if_congr (show t.val - j.val ≤ 128 ↔ j.val ≤ t.val ∧ t.val ≤ j.val + 128 by omega) rfl rfl

/-- The reference's queries, keys and values at an element. -/
theorem q_apply (t : Fin 8192) (h : Fin 8) (x : Fin 128) :
    val_main_v2 (F := Ideal) x0 (ix3 t h x) = x0 (ix2 t (⟨2048 + 128 * h.val + x.val, by omega⟩ : Fin 5120)) := by
  rw [val_main_v2_apply, val_main_v1_apply, val_main_v0_apply]
  refine congrArg x0 (funext fun a => Fin.ext ?_)
  match a with
  | ⟨0, _⟩ => show ((t.val * 8 + h.val) * 128 + x.val) / 1024 = t.val; omega
  | ⟨1, _⟩ => show 2048 + ((t.val * 8 + h.val) * 128 + x.val) % 1024 = 2048 + 128 * h.val + x.val; omega

theorem k_apply (t : Fin 8192) (h : Fin 8) (x : Fin 128) :
    val_main_v5 (F := Ideal) x0 (ix3 t h x) = x0 (ix2 t (⟨3072 + 128 * h.val + x.val, by omega⟩ : Fin 5120)) := by
  rw [val_main_v5_apply, val_main_v4_apply, val_main_v3_apply]
  refine congrArg x0 (funext fun a => Fin.ext ?_)
  match a with
  | ⟨0, _⟩ => show ((t.val * 8 + h.val) * 128 + x.val) / 1024 = t.val; omega
  | ⟨1, _⟩ => show 3072 + ((t.val * 8 + h.val) * 128 + x.val) % 1024 = 3072 + 128 * h.val + x.val; omega

theorem v_apply (t : Fin 8192) (h : Fin 8) (x : Fin 128) :
    val_main_v8 (F := Ideal) x0 (ix3 t h x) = vals x0 (⟨128 * h.val + x.val, by omega⟩ : Fin 1024) t := by
  rw [val_main_v8_apply, val_main_v7_apply, val_main_v6_apply]
  refine congrArg x0 (funext fun a => Fin.ext ?_)
  match a with
  | ⟨0, _⟩ => show ((t.val * 8 + h.val) * 128 + x.val) / 1024 = t.val; omega
  | ⟨1, _⟩ => show 4096 + ((t.val * 8 + h.val) * 128 + x.val) % 1024 = 4096 + (128 * h.val + x.val); omega

/-- The reference's masked scores. -/
theorem score_apply (h : Fin 8) (t j : Fin 8192) : val_main_v24 (F := Ideal) x0 (ix3 h t j) = score x0 h t j := by
  have hm : val_main_call0_v1 (F := Ideal) (ix3 h t j) = if j.val ≤ t.val ∧ t.val ≤ j.val + 128 then 1#1 else 0#1 := by
    rw [val_main_call0_v1_apply, val_main_v23_apply, val_main_v20_apply, val_main_v22_apply, val_main_v18_apply,
      val_main_v16_apply, val_main_v17_apply, val_main_v13_apply, val_main_v15_apply, val_main_v12_apply, val_main_v14_apply,
      val_main_v19_apply, val_main_v21_apply, val_main_c_apply, val_main_c_0_apply]
    exact near t j
  have hs : val_main_v11 (F := Ideal) x0 (ix3 h t j) = (∑ x : Fin 128, x0 (ix2 t (⟨2048 + 128 * h.val + x.val, by omega⟩ : Fin 5120))
      * x0 (ix2 j (⟨3072 + 128 * h.val + x.val, by omega⟩ : Fin 5120))) * Ideal.ofBits .f32 0x3DB504F3#32 := by
    rw [val_main_v11_apply, val_main_v10_apply, val_main_cst_apply, val_main_v9_apply]
    refine congrArg (· * _) (Finset.sum_congr rfl fun x _ => congrArg₂ (· * ·) ?_ ?_)
    · refine Eq.trans (congrArg (val_main_v2 (F := Ideal) x0) ?_) (q_apply x0 t h x)
      exact funext fun a => match a with | ⟨0, _⟩ => rfl | ⟨1, _⟩ => rfl | ⟨2, _⟩ => rfl
    · refine Eq.trans (congrArg (val_main_v5 (F := Ideal) x0) ?_) (k_apply x0 j h x)
      exact funext fun a => match a with | ⟨0, _⟩ => rfl | ⟨1, _⟩ => rfl | ⟨2, _⟩ => rfl
  have hb : val_main_call0_v2 (F := Ideal) (ix3 h t j) = ⊥ := by
    rw [val_main_call0_v2_apply, val_main_call0_v0_apply, val_main_cst_1_apply]
    exact ninf
  rw [val_main_v24_apply, hm, hs, hb]
  unfold score
  split <;> rfl

/-- The reference's greatest scores. -/
theorem top_apply (h : Fin 8) (t : Fin 8192) : val_main_v25 (F := Ideal) x0 (ix2 h t) = AttnRow.top (score x0 h t) := by
  unfold val_main_v25 val_main_cst_2 AttnRow.top
  rw [← ninf]
  have e : (score x0 h t) = fun j => val_main_v24 (F := Ideal) x0 (ix3 h t j) := funext fun j => (score_apply x0 h t j).symm
  rw [e]
  generalize val_main_v24 (F := Ideal) x0 = s
  refine (Host.reduce_eq_fold_single (FloatOps.maximumf (F := Ideal) (φ := .f32)) s _ _ (by decide) h_S_ (ix2 h t)).trans ?_
  refine Finset.fold_congr fun j _ => congrArg s ?_
  exact funext fun a => match a with | ⟨0, _⟩ => rfl | ⟨1, _⟩ => rfl | ⟨2, _⟩ => rfl

/-- The reference's exponentials. -/
theorem ex_apply (h : Fin 8) (t j : Fin 8192) : val_main_v29 (F := Ideal) x0 (ix3 h t j) = AttnRow.ex (score x0 h t) j := by
  rw [val_main_v29_apply, val_main_v28_apply, score_apply, val_main_v27_apply, val_main_v26_apply]
  unfold AttnRow.ex
  rw [← top_apply]
  refine congrArg (fun i => Ideal.exp (score x0 h t j - val_main_v25 (F := Ideal) x0 i)) ?_
  exact funext fun a => match a with | ⟨0, _⟩ => rfl | ⟨1, _⟩ => rfl

/-- The reference's sums of exponentials. -/
theorem tot_apply (h : Fin 8) (t : Fin 8192) : val_main_v30 (F := Ideal) x0 (ix2 h t) = AttnRow.tot (score x0 h t) := by
  rw [val_main_v30_apply, val_main_cst_3_apply]
  unfold AttnRow.tot
  refine (congrArg₂ (· + ·) (show FloatOps.ofBits (F := Ideal) .f32 0x00000000#32 = 0 from ?_)
    (Finset.sum_congr rfl fun j _ => Eq.trans (congrArg (val_main_v29 (F := Ideal) x0) ?_) (ex_apply x0 h t j))).trans (zero_add _)
  · simp [Ideal.ofBits_def, Ideal.ofBits, Ideal.ieee]
  · exact funext fun a => match a with | ⟨0, _⟩ => rfl | ⟨1, _⟩ => rfl | ⟨2, _⟩ => rfl

/-- The reference's weights. -/
theorem weight_apply (h : Fin 8) (t j : Fin 8192) :
    val_main_v33 (F := Ideal) x0 (ix3 h t j) = Ideal.div (AttnRow.ex (score x0 h t) j) (AttnRow.tot (score x0 h t)) := by
  rw [val_main_v33_apply, ex_apply, val_main_v32_apply, val_main_v31_apply, ← tot_apply]
  refine congrArg (fun i => Ideal.div (AttnRow.ex (score x0 h t) j) (val_main_v30 (F := Ideal) x0 i)) ?_
  exact funext fun a => match a with | ⟨0, _⟩ => rfl | ⟨1, _⟩ => rfl

/-- The reference's output, where no row's sum of exponentials is zero. -/
theorem out_apply (hx : ∀ h t, AttnRow.tot (score x0 h t) ≠ 0) (i : S1x1x8192x1024.Idx) :
    val_main_v41 (F := Ideal) x0 i = O x0 i := by
  have h0 : (i 0).val < 1 := (i 0).isLt
  have h1 : (i 1).val < 1 := (i 1).isLt
  have h2 : (i 2).val < 8192 := (i 2).isLt
  have h3 : (i 3).val < 1024 := (i 3).isLt
  rw [val_main_v41_apply, val_main_v40_apply, val_main_v35_apply]
  refine (val_main_v34_apply x0 _).trans ?_
  refine Eq.trans ?_ (AttnRow.mean_eq (score x0 (headOf (i 3)) (i 2)) (vals x0 (i 3)) (hx _ _)).symm
  refine Finset.sum_congr rfl fun j _ => congrArg₂ (· * ·) ?_ ?_
  · refine Eq.trans (congrArg (val_main_v8 (F := Ideal) x0) ?_) ((v_apply x0 j (headOf (i 3)) (⟨(i 3).val % 128, by omega⟩ : Fin 128)).trans ?_)
    · refine funext fun a => Fin.ext ?_
      match a with
      | ⟨0, _⟩ => rfl
      | ⟨1, _⟩ => show ((((i 0).val * 1 + (i 1).val) * 8192 + (i 2).val) * 1024 + (i 3).val) / 128 % 8 = (i 3).val / 128; omega
      | ⟨2, _⟩ => show ((((i 0).val * 1 + (i 1).val) * 8192 + (i 2).val) * 1024 + (i 3).val) % 128 = (i 3).val % 128; omega
    · refine congrArg (fun l => vals x0 l j) (Fin.ext ?_)
      show 128 * ((i 3).val / 128) + (i 3).val % 128 = (i 3).val
      omega
  · refine Eq.trans (congrArg (val_main_v33 (F := Ideal) x0) ?_) (weight_apply x0 (headOf (i 3)) (i 2) j)
    refine funext fun a => Fin.ext ?_
    match a with
    | ⟨0, _⟩ => show ((((i 0).val * 1 + (i 1).val) * 8192 + (i 2).val) * 1024 + (i 3).val) / 128 % 8 = (i 3).val / 128; omega
    | ⟨1, _⟩ => show ((((i 0).val * 1 + (i 1).val) * 8192 + (i 2).val) * 1024 + (i 3).val) / 1024 = (i 2).val; omega
    | ⟨2, _⟩ => rfl

/-- The reference's logarithms. -/
theorem lse_apply (i : S1x1x8192x128.Idx) : val_main_v43 (F := Ideal) x0 i = L x0 i := by
  have h0 : (i 0).val < 1 := (i 0).isLt
  have h1 : (i 1).val < 1 := (i 1).isLt
  have h2 : (i 2).val < 8192 := (i 2).isLt
  have h3 : (i 3).val < 128 := (i 3).isLt
  have row : ∀ h t, val_main_v39 (F := Ideal) x0 (ix2 t h) = AttnRow.lse (score x0 h t) := fun h t => by
    rw [val_main_v39_apply, val_main_v38_apply, val_main_v37_apply, val_main_v36_apply, val_main_v26_apply, val_main_v31_apply]
    unfold AttnRow.lse
    rw [← top_apply, ← tot_apply]
    refine congrArg₂ (fun a b => val_main_v25 (F := Ideal) x0 a + Ideal.log (val_main_v30 (F := Ideal) x0 b)) ?_ ?_ <;>
    · refine funext fun a => Fin.ext ?_
      match a with
      | ⟨0, _⟩ => show (h.val * 8192 + t.val) / 8192 = h.val; omega
      | ⟨1, _⟩ => show (h.val * 8192 + t.val) / 1 % 8192 = t.val; omega
  rw [val_main_v43_apply]
  unfold L val_main_v42
  by_cases h : (i 3).val < 8
  · refine Eq.trans ?_ ((row ⟨(i 3).val % 8, by omega⟩ (i 2)).trans (if_pos h).symm)
    refine pad_apply_of_inside _ _ _ _ _ _ _ _ _ fun a => ?_
    match a with
    | ⟨0, _⟩ => show ((((i 0).val * 1 + (i 1).val) * 8192 + (i 2).val) * 128 + (i 3).val) / 128 = 0 + (i 2).val * (0 + 1); omega
    | ⟨1, _⟩ => show ((((i 0).val * 1 + (i 1).val) * 8192 + (i 2).val) * 128 + (i 3).val) % 128 = 0 + (i 3).val % 8 * (0 + 1); omega
  · rw [if_neg h]
    refine (pad_apply_of_not_inside _ _ _ _ _ _ _ _ 1 ?_).trans ?_
    · rintro ⟨-, -, h'⟩
      have h' : (((((i 0).val * 1 + (i 1).val) * 8192 + (i 2).val) * 128 + (i 3).val) % 128 - 0) / (0 + 1) < 8 := h'
      omega
    · rw [val_main_call1_v0_apply, val_main_c_4_apply]
      show ((((0#32 : BitVec 32).toInt : ℤ) : ℝ) : EReal) = 0
      simp

/-- With finite queries and keys no row's sum of exponentials is zero. -/
theorem finite_tot [Cert.Pre_finite_qk.Facts] (hp : Cert.Pre_finite_qk.fn (F := Ideal) x0 = fun _ => 1#1) (h : Fin 8) (t : Fin 8192) :
    AttnRow.tot (score x0 h t) ≠ 0 := by
  have fin : ∀ (r : Fin 8192) (k : Fin 2048), ∃ a : ℝ, x0 (ix2 r (⟨2048 + k.val, by omega⟩ : Fin 5120)) = (a : EReal) := fun r k => by
    have e := congrFun hp (ix2 r k)
    unfold Cert.Pre_finite_qk.fn at e
    dsimp only at e
    have e' : Ideal.cmp .olt (max (x0 (ix2 r (⟨2048 + k.val, by omega⟩ : Fin 5120))) (-x0 (ix2 r (⟨2048 + k.val, by omega⟩ : Fin 5120)))) (Ideal.ofBits .f32 2139095040#32) = 1#1 := by
      refine Eq.trans (congrArg (fun z => Ideal.cmp .olt (max z (-z)) (Ideal.ofBits .f32 2139095040#32)) (congrArg x0 ?_)) e
      refine funext fun a => Fin.ext ?_
      match a with
      | ⟨0, _⟩ => exact (Nat.zero_add r.val).symm
      | ⟨1, _⟩ => rfl
    rw [show Ideal.ofBits .f32 2139095040#32 = ⊤ by simp [Ideal.ofBits, Ideal.ieee]] at e'
    revert e'
    generalize (x0 (ix2 r (⟨2048 + k.val, by omega⟩ : Fin 5120)) : EReal) = z
    intro e'
    induction z using EReal.rec with
    | bot => simp [Ideal.cmp] at e'
    | top => simp [Ideal.cmp] at e'
    | coe a => exact ⟨a, rfl⟩
  have sc : ∀ j : Fin 8192, (j.val ≤ t.val ∧ t.val ≤ j.val + 128) → ∃ a : ℝ, score x0 h t j = (a : EReal) := fun j hj => by
    have scale : ∃ c : ℝ, Ideal.ofBits .f32 0x3DB504F3#32 = (c : EReal) := ⟨_, by simp [Ideal.ofBits, Ideal.ieee]; rfl⟩
    obtain ⟨c, hc⟩ := scale
    have sums : ∀ (g : Fin 128 → EReal), (∀ x, ∃ a : ℝ, g x = (a : EReal)) → ∃ a : ℝ, ∑ x, g x = (a : EReal) := fun g hg => by
      choose f hf using hg
      refine ⟨∑ x, f x, ?_⟩
      rw [Finset.sum_congr rfl fun x _ => hf x]
      induction (Finset.univ : Finset (Fin 128)) using Finset.cons_induction with
      | empty => simp
      | cons a S ha ih => rw [Finset.sum_cons, Finset.sum_cons, ih, EReal.coe_add]
    obtain ⟨a, ha⟩ := sums (fun x => x0 (ix2 t (⟨2048 + 128 * h.val + x.val, by omega⟩ : Fin 5120)) * x0 (ix2 j (⟨3072 + 128 * h.val + x.val, by omega⟩ : Fin 5120))) fun x => by
      obtain ⟨a, ha⟩ := fin t ⟨128 * h.val + x.val, by omega⟩
      obtain ⟨b, hb⟩ := fin j ⟨1024 + 128 * h.val + x.val, by omega⟩
      refine ⟨a * b, ?_⟩
      rw [EReal.coe_mul]
      refine congrArg₂ (· * ·) (Eq.trans (congrArg x0 ?_) ha) (Eq.trans (congrArg x0 ?_) hb)
      · refine funext fun r => Fin.ext ?_
        match r with
        | ⟨0, _⟩ => rfl
        | ⟨1, _⟩ => show 2048 + 128 * h.val + x.val = 2048 + (128 * h.val + x.val); omega
      · refine funext fun r => Fin.ext ?_
        match r with
        | ⟨0, _⟩ => rfl
        | ⟨1, _⟩ => show 3072 + 128 * h.val + x.val = 2048 + (1024 + 128 * h.val + x.val); omega
    refine ⟨a * c, ?_⟩
    unfold score
    rw [if_pos hj, EReal.coe_mul]
    exact congrArg₂ (· * ·) ha hc
  refine AttnRow.tot_ne_zero _ t ?_ fun j => ?_
  · obtain ⟨a, ha⟩ := sc t ⟨le_refl _, by omega⟩
    rw [ha]
    exact EReal.coe_ne_bot a
  · by_cases hj : j.val ≤ t.val ∧ t.val ≤ j.val + 128
    · obtain ⟨a, ha⟩ := sc j hj
      rw [ha]
      exact EReal.coe_ne_top a
    · rw [score_masked x0 h t j hj]
      exact bot_ne_top

end Cert.AttnRefIdeal.Attn

end
-- ==== Proof.Norm.Slots.lean ====
/-
  The final norm's ring: the names of its blocks, slots and semaphores, the words its loop carries before each trip, and the
  facts that the kernel's slices are those names. The stream of `x` has three VMEM slots, the stream of the result two, and
  each slot one DMA semaphore; there are sixteen blocks of 512 rows.
-/
module

public import proofs.«01_k».proof.Proof.Gen.NormIdeal.Launch
public import proofs.«01_k».proof.Proof.Gen.NormIdeal.Frame
public import proofs.«01_k».proof.Proof.Gen.NormIdeal.Skeleton
public import proofs.«01_k».proof.Proof.Gen.NormIdeal.Loops
public import proofs.«01_k».proof.Proof.Gen.NormIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.NormIdeal.Ring

open Cert.NormIdeal Cert.NormIdeal.Gen
open Idealize.ShloMosaic
open Idealize.ShloMosaic.TcCoe Idealize.ShloMosaic.Tactic

/-! ## Blocks, slots, semaphores -/

/-- The rows of the residual stream, the kernel's output, and the two slot buffers. -/
abbrev xM : Memref sig .tc .hbm S8192x4096 .f32 := Memref.whole main_arg0
abbrev yM : Memref sig .tc .hbm S8192x4096 .f32 := Memref.whole main_v1
abbrev inM : Memref sig .tc .vmem S3x512x4096 .f32 := Memref.whole cc0_scoped0
abbrev outM : Memref sig .tc .vmem S2x512x4096 .f32 := Memref.whole cc0_scoped2

abbrev blkOff (b : Fin 16) : Fin 2 → Nat := ![512 * b.val, 0]
theorem blkOff_inb (b : Fin 16) : ∀ a, blkOff b a + S512x4096.size a ≤ S8192x4096.size a := by
  have := b.isLt; intro a; fin_cases a
  · show 512 * b.val + 512 ≤ 8192; omega
  · show 0 + 4096 ≤ 4096; omega
abbrev inOff (s : Fin 3) : Fin 3 → Nat := ![s.val, 0, 0]
theorem inOff_inb (s : Fin 3) : ∀ a, inOff s a + S1x512x4096.size a ≤ S3x512x4096.size a := by
  have := s.isLt; intro a; fin_cases a
  · show s.val + 1 ≤ 3; omega
  · show 0 + 512 ≤ 512; omega
  · show 0 + 4096 ≤ 4096; omega
abbrev outOff (s : Fin 2) : Fin 3 → Nat := ![s.val, 0, 0]
theorem outOff_inb (s : Fin 2) : ∀ a, outOff s a + S1x512x4096.size a ≤ S2x512x4096.size a := by
  have := s.isLt; intro a; fin_cases a
  · show s.val + 1 ≤ 2; omega
  · show 0 + 512 ≤ 512; omega
  · show 0 + 4096 ≤ 4096; omega
abbrev insOff (s : Fin 3) : Fin 1 → Nat := ![s.val]
theorem insOff_inb (s : Fin 3) : ∀ a, insOff s a + S1.size a ≤ S3.size a := by
  have := s.isLt; intro a; fin_cases a; show s.val + 1 ≤ 3; omega
abbrev outsOff (s : Fin 2) : Fin 1 → Nat := ![s.val]
theorem outsOff_inb (s : Fin 2) : ∀ a, outsOff s a + S1.size a ≤ S2.size a := by
  have := s.isLt; intro a; fin_cases a; show s.val + 1 ≤ 2; omega

/-- Block `b` of `x`. -/
def xblk (b : Fin 16) : Memref sig .tc .hbm S512x4096 .f32 :=
  xM.slice (Rect.unit (s := S8192x4096) (blkOff b) S512x4096.size (blkOff_inb b)) (fun _ => rfl)
/-- Block `b` of the output. -/
def yblk (b : Fin 16) : Memref sig .tc .hbm S512x4096 .f32 :=
  yM.slice (Rect.unit (s := S8192x4096) (blkOff b) S512x4096.size (blkOff_inb b)) (fun _ => rfl)
/-- Slot `s` of the input stream. -/
def islot (s : Fin 3) : Memref sig .tc .vmem S512x4096 .f32 :=
  (inM.slice (Rect.unit (s := S3x512x4096) (inOff s) S1x512x4096.size (inOff_inb s)) (fun _ => rfl)).squeeze S512x4096 squeezes_S1x512x4096_S512x4096
/-- Slot `s` of the output stream. -/
def oslot (s : Fin 2) : Memref sig .tc .vmem S512x4096 .f32 :=
  (outM.slice (Rect.unit (s := S2x512x4096) (outOff s) S1x512x4096.size (outOff_inb s)) (fun _ => rfl)).squeeze S512x4096 squeezes_S1x512x4096_S512x4096
/-- The DMA semaphore of input slot `s`. -/
def isem (s : Fin 3) : DmaSems sig S_ := (cc0_scoped1.slice (Rect.unit (s := S3) (insOff s) S1.size (insOff_inb s))).squeeze S_ squeezes_S1_S_
/-- The DMA semaphore of output slot `s`. -/
def osem (s : Fin 2) : DmaSems sig S_ := (cc0_scoped3.slice (Rect.unit (s := S2) (outsOff s) S1.size (outsOff_inb s))).squeeze S_ squeezes_S1_S_

/-! ## The words the loop carries before trip `k` -/

/-- Input blocks issued, -/
def w4 (k : ℕ) : BitVec 32 := BitVec.ofNat 32 (min (k + 2) 16)
/-- input blocks waited for, -/
def w5 (k : ℕ) : BitVec 32 := BitVec.ofNat 32 k
/-- output blocks issued, -/
def w6 (k : ℕ) : BitVec 32 := BitVec.ofNat 32 k
/-- output blocks waited for, -/
def w7 (k : ℕ) : BitVec 32 := BitVec.ofNat 32 (k - 1)
/-- and the block number, back at zero after the last. -/
def w8 (k : ℕ) : BitVec 32 := BitVec.ofNat 32 (k % 16)
/-- The five together. -/
def carry (k : ℕ) : BitVec 32 × BitVec 32 × BitVec 32 × BitVec 32 × BitVec 32 := (w4 k, w5 k, w6 k, w7 k, w8 k)

/-- The loop makes sixteen trips. -/
theorem trips_eq : k0_t1_loop.trips = 16 := by decide +kernel

/-! ## The checks, the conditions and the offsets at each trip -/

theorem chk1_at : ∀ k : Fin k0_t1_loop.trips, k0_chk1 k (w4 k) (w5 k) (w6 k) (w7 k) (w8 k) := by decide +kernel
theorem chk2_at : ∀ k : Fin k0_t1_loop.trips, k0_chk2 (w5 k) := by decide +kernel
theorem chk3_at : ∀ k : Fin k0_t1_loop.trips, k0_chk3 (w6 k) := by decide +kernel
theorem chk4_end : k0_chk4 (w7 16) := by decide +kernel
theorem chk5_end : k0_chk5 (w8 16) := by decide +kernel

/-- A block is issued exactly while there is one two ahead; -/
theorem cond2_lt : ∀ k : Fin k0_t1_loop.trips, k.val < 14 → k0_cond2 k (w8 k) = 1#1 := by decide +kernel
theorem cond2_ge : ∀ k : Fin k0_t1_loop.trips, 14 ≤ k.val → ¬k0_cond2 k (w8 k) = 1#1 := by decide +kernel
/-- every trip waits for its input block and issues its output block; -/
theorem cond3_at : ∀ k : Fin k0_t1_loop.trips, k0_cond3 k (w8 k) = 1#1 := by decide +kernel
theorem cond6_at : ∀ k : Fin k0_t1_loop.trips, k0_cond6 k (w8 k) = 1#1 := by decide +kernel
/-- every trip but the first waits for the output block before. -/
theorem cond8_pos : ∀ k : Fin k0_t1_loop.trips, 0 < k.val → k0_cond8 k (w8 k) = 1#1 := by decide +kernel
theorem cond8_zero : ∀ k : Fin k0_t1_loop.trips, k.val = 0 → ¬k0_cond8 k (w8 k) = 1#1 := by decide +kernel

theorem off6_at : ∀ k : Fin k0_t1_loop.trips, k.val < 14 → k0_off6 (w4 k) = insOff (Ring.sl 3 (k.val + 2)) := by decide +kernel
theorem off7_at : ∀ k : Fin k0_t1_loop.trips, k.val < 14 → k0_off7 (w4 k) = inOff (Ring.sl 3 (k.val + 2)) := by decide +kernel
theorem off8_at : ∀ k : Fin k0_t1_loop.trips, k.val < 14 → k0_off8 (w8 k) = blkOff (Ring.bk 16 (k.val + 2)) := by decide +kernel
theorem off9_at : ∀ k : Fin k0_t1_loop.trips, k0_off9 (w5 k) = insOff (Ring.sl 3 k.val) := by decide +kernel
theorem off10_at : ∀ k : Fin k0_t1_loop.trips, k0_off10 (w5 k) = inOff (Ring.sl 3 k.val) := by decide +kernel
theorem off11_at : ∀ k : Fin k0_t1_loop.trips, k0_off11 (w8 k) = blkOff (Ring.bk 16 k.val) := by decide +kernel
theorem off12_at : ∀ k : Fin k0_t1_loop.trips, k0_off12 (w5 k) = inOff (Ring.sl 3 k.val) := by decide +kernel
theorem off13_at : ∀ k : Fin k0_t1_loop.trips, k0_off13 (w6 k) = outOff (Ring.sl 2 k.val) := by decide +kernel
theorem off14_at : ∀ k : Fin k0_t1_loop.trips, k0_off14 (w6 k) = outsOff (Ring.sl 2 k.val) := by decide +kernel
theorem off15_at : ∀ k : Fin k0_t1_loop.trips, k0_off15 (w8 k) = blkOff (Ring.bk 16 k.val) := by decide +kernel
theorem off16_at : ∀ k : Fin k0_t1_loop.trips, k0_off16 (w6 k) = outOff (Ring.sl 2 k.val) := by decide +kernel
theorem off17_at : ∀ k : Fin k0_t1_loop.trips, 0 < k.val → k0_off17 (w7 k) = outsOff (Ring.sl 2 (k.val + 1)) := by decide +kernel
theorem off18_at : ∀ k : Fin k0_t1_loop.trips, 0 < k.val → k0_off18 (w8 k) = blkOff (Ring.bk 16 (k.val - 1)) := by decide +kernel
theorem off19_at : ∀ k : Fin k0_t1_loop.trips, 0 < k.val → k0_off19 (w7 k) = outOff (Ring.sl 2 (k.val + 1)) := by decide +kernel

instance (b : Fin 16) : ClosedOff (blkOff b) := ⟨blkOff b, rfl⟩
instance (s : Fin 3) : ClosedOff (inOff s) := ⟨inOff s, rfl⟩
instance (s : Fin 2) : ClosedOff (outOff s) := ⟨outOff s, rfl⟩
instance (k : Fin k0_t1_loop.trips) : ClosedOff (k0_off12 (w5 k)) := ⟨inOff (Ring.sl 3 k.val), off12_at k⟩
instance (k : Fin k0_t1_loop.trips) : ClosedOff (k0_off13 (w6 k)) := ⟨outOff (Ring.sl 2 k.val), off13_at k⟩

/-! ## The kernel's slices are those names -/

private theorem isem_congr {off : Fin 1 → Nat} {s : Fin 3} (e : off = insOff s) (hh) :
    (cc0_scoped1.slice (Rect.unit (s := S3) off S1.size hh)).squeeze S_ squeezes_S1_S_ = isem s :=
  congrArg (fun A : DmaSems sig S1 => A.squeeze S_ squeezes_S1_S_) (SemArray.slice_unit_congr _ e _ _)
private theorem osem_congr {off : Fin 1 → Nat} {s : Fin 2} (e : off = outsOff s) (hh) :
    (cc0_scoped3.slice (Rect.unit (s := S2) off S1.size hh)).squeeze S_ squeezes_S1_S_ = osem s :=
  congrArg (fun A : DmaSems sig S1 => A.squeeze S_ squeezes_S1_S_) (SemArray.slice_unit_congr _ e _ _)
private theorem islot_congr {off : Fin 3 → Nat} {s : Fin 3} (e : off = inOff s) (hh hs) :
    (inM.slice (Rect.unit (s := S3x512x4096) off S1x512x4096.size hh) hs).squeeze S512x4096 squeezes_S1x512x4096_S512x4096 = islot s :=
  congrArg (fun M : Memref sig .tc .vmem S1x512x4096 .f32 => M.squeeze S512x4096 squeezes_S1x512x4096_S512x4096) (Memref.slice_unit_congr _ e _ _ _ _)
private theorem oslot_congr {off : Fin 3 → Nat} {s : Fin 2} (e : off = outOff s) (hh hs) :
    (outM.slice (Rect.unit (s := S2x512x4096) off S1x512x4096.size hh) hs).squeeze S512x4096 squeezes_S1x512x4096_S512x4096 = oslot s :=
  congrArg (fun M : Memref sig .tc .vmem S1x512x4096 .f32 => M.squeeze S512x4096 squeezes_S1x512x4096_S512x4096) (Memref.slice_unit_congr _ e _ _ _ _)
private theorem xblk_congr {off : Fin 2 → Nat} {b : Fin 16} (e : off = blkOff b) (hh hs) :
    xM.slice (Rect.unit (s := S8192x4096) off S512x4096.size hh) hs = xblk b := Memref.slice_unit_congr _ e _ _ hs (fun _ => rfl)
private theorem yblk_congr {off : Fin 2 → Nat} {b : Fin 16} (e : off = blkOff b) (hh hs) :
    yM.slice (Rect.unit (s := S8192x4096) off S512x4096.size hh) hs = yblk b := Memref.slice_unit_congr _ e _ _ hs (fun _ => rfl)

/-- The two issues before the loop: blocks 0 and 1 into slots 0 and 1. -/
@[sl_canon] theorem sem_pre0 (hh) : (cc0_scoped1.slice (Rect.unit (s := S3) k0_off1 S1.size hh)).squeeze S_ squeezes_S1_S_ = isem 0 :=
  isem_congr (by decide +kernel) _
@[sl_canon] theorem slot_pre0 (hh hs) : (inM.slice (Rect.unit (s := S3x512x4096) k0_off2 S1x512x4096.size hh) hs).squeeze S512x4096 squeezes_S1x512x4096_S512x4096 = islot 0 :=
  islot_congr (by decide +kernel) _ _
@[sl_canon] theorem blk_pre0 (hh hs) : xM.slice (Rect.unit (s := S8192x4096) ![0, 0] S512x4096.size hh) hs = xblk 0 := xblk_congr (by decide) _ _
@[sl_canon] theorem sem_pre1 (hh) : (cc0_scoped1.slice (Rect.unit (s := S3) k0_off3 S1.size hh)).squeeze S_ squeezes_S1_S_ = isem 1 :=
  isem_congr (by decide +kernel) _
@[sl_canon] theorem slot_pre1 (hh hs) : (inM.slice (Rect.unit (s := S3x512x4096) k0_off4 S1x512x4096.size hh) hs).squeeze S512x4096 squeezes_S1x512x4096_S512x4096 = islot 1 :=
  islot_congr (by decide +kernel) _ _
@[sl_canon] theorem blk_pre1 (hh hs) : xM.slice (Rect.unit (s := S8192x4096) k0_off5 S512x4096.size hh) hs = xblk 1 := xblk_congr (by decide +kernel) _ _

section Trip
variable (k : Fin k0_t1_loop.trips)

/-- Trip `k`'s issue of block `k + 2`; -/
@[sl_canon] theorem sem_issue (h : k.val < 14) (hh) : (cc0_scoped1.slice (Rect.unit (s := S3) (k0_off6 (w4 k)) S1.size hh)).squeeze S_ squeezes_S1_S_ = isem (Ring.sl 3 (k.val + 2)) :=
  isem_congr (off6_at k h) _
@[sl_canon] theorem slot_issue (h : k.val < 14) (hh hs) : (inM.slice (Rect.unit (s := S3x512x4096) (k0_off7 (w4 k)) S1x512x4096.size hh) hs).squeeze S512x4096 squeezes_S1x512x4096_S512x4096 = islot (Ring.sl 3 (k.val + 2)) :=
  islot_congr (off7_at k h) _ _
@[sl_canon] theorem blk_issue (h : k.val < 14) (hh hs) : xM.slice (Rect.unit (s := S8192x4096) (k0_off8 (w8 k)) S512x4096.size hh) hs = xblk (Ring.bk 16 (k.val + 2)) :=
  xblk_congr (off8_at k h) _ _
/-- its wait for block `k`; -/
@[sl_canon] theorem sem_wait (hh) : (cc0_scoped1.slice (Rect.unit (s := S3) (k0_off9 (w5 k)) S1.size hh)).squeeze S_ squeezes_S1_S_ = isem (Ring.sl 3 k.val) :=
  isem_congr (off9_at k) _
@[sl_canon] theorem slot_wait (hh hs) : (inM.slice (Rect.unit (s := S3x512x4096) (k0_off10 (w5 k)) S1x512x4096.size hh) hs).squeeze S512x4096 squeezes_S1x512x4096_S512x4096 = islot (Ring.sl 3 k.val) :=
  islot_congr (off10_at k) _ _
@[sl_canon] theorem blk_wait (hh hs) : xM.slice (Rect.unit (s := S8192x4096) (k0_off11 (w8 k)) S512x4096.size hh) hs = xblk (Ring.bk 16 k.val) :=
  xblk_congr (off11_at k) _ _
/-- its issue of output block `k`; -/
@[sl_canon] theorem osem_issue (hh) : (cc0_scoped3.slice (Rect.unit (s := S2) (k0_off14 (w6 k)) S1.size hh)).squeeze S_ squeezes_S1_S_ = osem (Ring.sl 2 k.val) :=
  osem_congr (off14_at k) _
@[sl_canon] theorem oblk_issue (hh hs) : yM.slice (Rect.unit (s := S8192x4096) (k0_off15 (w8 k)) S512x4096.size hh) hs = yblk (Ring.bk 16 k.val) :=
  yblk_congr (off15_at k) _ _
@[sl_canon] theorem oslot_issue (hh hs) : (outM.slice (Rect.unit (s := S2x512x4096) (k0_off16 (w6 k)) S1x512x4096.size hh) hs).squeeze S512x4096 squeezes_S1x512x4096_S512x4096 = oslot (Ring.sl 2 k.val) :=
  oslot_congr (off16_at k) _ _
/-- its wait for output block `k - 1`. -/
@[sl_canon] theorem osem_wait (h : 0 < k.val) (hh) : (cc0_scoped3.slice (Rect.unit (s := S2) (k0_off17 (w7 k)) S1.size hh)).squeeze S_ squeezes_S1_S_ = osem (Ring.sl 2 (k.val + 1)) :=
  osem_congr (off17_at k h) _
@[sl_canon] theorem oblk_wait (h : 0 < k.val) (hh hs) : yM.slice (Rect.unit (s := S8192x4096) (k0_off18 (w8 k)) S512x4096.size hh) hs = yblk (Ring.bk 16 (k.val - 1)) :=
  yblk_congr (off18_at k h) _ _
@[sl_canon] theorem oslot_wait (h : 0 < k.val) (hh hs) : (outM.slice (Rect.unit (s := S2x512x4096) (k0_off19 (w7 k)) S1x512x4096.size hh) hs).squeeze S512x4096 squeezes_S1x512x4096_S512x4096 = oslot (Ring.sl 2 (k.val + 1)) :=
  oslot_congr (off19_at k h) _ _

end Trip

/-- The wait after the loop: output block 15 from slot 1. -/
@[sl_canon] theorem osem_last (hh) : (cc0_scoped3.slice (Rect.unit (s := S2) (k0_off20 (w7 16)) S1.size hh)).squeeze S_ squeezes_S1_S_ = osem 1 :=
  osem_congr (by decide +kernel) _
@[sl_canon] theorem oblk_last (hh hs) : yM.slice (Rect.unit (s := S8192x4096) (k0_off21 (w8 16)) S512x4096.size hh) hs = yblk 15 := yblk_congr (by decide +kernel) _ _
@[sl_canon] theorem oslot_last (hh hs) : (outM.slice (Rect.unit (s := S2x512x4096) (k0_off22 (w7 16)) S1x512x4096.size hh) hs).squeeze S512x4096 squeezes_S1x512x4096_S512x4096 = oslot 1 :=
  oslot_congr (by decide +kernel) _ _

end Cert.NormIdeal.Ring

end
-- ==== Proof.Norm.Vals.lean ====
/-
  What is held of the final norm's blocks, slots and semaphores, and the values its transfers carry.
-/
module

public import proofs.«01_k».proof.Proof.Norm.Slots
public import Idealize.ShloMosaic.Lib.ViewIndex
public import Idealize.ShloMosaic.Lib.Pointwise.Index

@[expose] public section

set_option maxRecDepth 16384

noncomputable section

namespace Cert.NormIdeal.Ring

open Cert.NormIdeal Cert.NormIdeal.Gen
open Idealize.ShloMosaic
open Idealize.ShloMosaic.TcCoe Idealize.ShloMosaic.Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)

variable {F : FTy → Type} [FloatOps F]

/-- The pipeline library's algebra beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## What is held of a block, a slot and a semaphore -/

section Pieces
variable (c : Dev nD) (X : Buf (Elt F) (xM.view.loc (c : Thread nD τ))) (Y : Buf (Elt F) (yM.view.loc (c : Thread nD τ)))

/-- Block `b` of `x`, held; -/
abbrev homeX (b : Fin 16) : sProp 𝕄 := (xblk b).view.loc (c : Thread nD τ) ↦[(xblk b).view.set]{fullShare} X
/-- block `b` of the output, held at anything; -/
abbrev openY (b : Fin 16) : sProp 𝕄 := iprop(∃ f, (yblk b).view.loc (c : Thread nD τ) ↦[(yblk b).view.set]{fullShare} f)
/-- block `b` of the output, held at the contents `Y`. -/
abbrev doneY (b : Fin 16) : sProp 𝕄 := (yblk b).view.loc (c : Thread nD τ) ↦[(yblk b).view.set]{fullShare} Y

abbrev slotI (s : Fin 3) (f : Buf (Elt F) ((islot s).view.loc (c : Thread nD τ))) : sProp 𝕄 :=
  (islot s).view.loc (c : Thread nD τ) ↦[(islot s).view.set]{fullShare} f
abbrev slotO (s : Fin 2) (f : Buf (Elt F) ((oslot s).view.loc (c : Thread nD τ))) : sProp 𝕄 :=
  (oslot s).view.loc (c : Thread nD τ) ↦[(oslot s).view.set]{fullShare} f
abbrev cellI (s : Fin 3) : sProp 𝕄 := semVal ((c : Thread nD τ), SemLoc.dma (isem s).sem) 0
abbrev cellO (s : Fin 2) : sProp 𝕄 := semVal ((c : Thread nD τ), SemLoc.dma (osem s).sem) 0

/-- An input slot with nothing in flight, -/
abbrev freeI (s : Fin 3) : sProp 𝕄 := iprop(cellI c s ∗ ∃ f, slotI c s f)
/-- and an output slot. -/
abbrev freeO (s : Fin 2) : sProp 𝕄 := iprop(cellO c s ∗ ∃ f, slotO c s f)

/-- What block `b`'s transfer leaves in input slot `s` over `f`. -/
abbrev landedI (s : Fin 3) (b : Fin 16) (f : Buf (Elt F) ((islot s).view.loc (c : Thread nD τ))) : Buf (Elt F) ((islot s).view.loc (c : Thread nD τ)) :=
  (islot s).view.writes (Elt F) f [⟨Rect.whole S512x4096, ReadAs.same.apply ((xblk b).view.read (Elt F) X)⟩]
/-- Input slot `s` in flight with block `b`. -/
abbrev flightI (s : Fin 3) (b : Fin 16) (f : Buf (Elt F) ((islot s).view.loc (c : Thread nD τ))) : sProp 𝕄 :=
  Transfers.Flight countersEmb (c : Thread nD τ) (SemLoc.dma (isem s).sem) () 262144 iprop(slotI c s (landedI c X s b f) ∗ homeX c X b)
abbrev inflI (s : Fin 3) (b : Fin 16) : sProp 𝕄 := iprop(∃ f, flightI c X s b f)

end Pieces

/-! ## The values -/

/-- What the kernel computes of one block of `x` and the weights. -/
def normBlk (p : S512x4096.Idx → Elt F .f32) (gv : Vec F S1x4096 .f32) : FVec F S512x4096 .f32 :=
  k0_pay1 (shapeCast S1x512x4096 p shapeCasts_S512x4096_S1x512x4096) gv

/-- The whole output: each block of rows computed from that block of `x`. -/
def Yof (c : Dev nD) (X : Buf (Elt F) (xM.view.loc (c : Thread nD τ))) (gv : Vec F S1x4096 .f32) : Buf (Elt F) (yM.view.loc (c : Thread nD τ)) :=
  fun i : S8192x4096.Idx => normBlk ((xblk (Ring.bk 16 ((i 0).val / 512))).view.read (Elt F) X) gv (ix2 ⟨(i 0).val % 512, Nat.mod_lt _ (by decide)⟩ (i 1))

/-- Block `b` of the output is computed from block `b` of `x`. -/
theorem read_Yof (c : Dev nD) (X : Buf (Elt F) (xM.view.loc (c : Thread nD τ))) (gv : Vec F S1x4096 .f32) (b : Fin 16) :
    (yblk b).view.read (Elt F) (Yof c X gv) = normBlk ((xblk b).view.read (Elt F) X) gv := by
  funext x
  have hx : (x 0).val < 512 := (x 0).isLt
  have e0 : ((Rect.unit (s := S8192x4096) (blkOff b) S512x4096.size (blkOff_inb b)).emb x 0).val = 512 * b.val + 1 * (x 0).val := rfl
  have e1 : ((Rect.unit (s := S8192x4096) (blkOff b) S512x4096.size (blkOff_inb b)).emb x 1).val = 0 + 1 * (x 1).val := rfl
  show Yof c X gv ((Rect.unit (s := S8192x4096) (blkOff b) S512x4096.size (blkOff_inb b)).emb x) = _
  unfold Yof
  have hb : Ring.bk 16 (((Rect.unit (s := S8192x4096) (blkOff b) S512x4096.size (blkOff_inb b)).emb x 0).val / 512) = b :=
    Fin.ext (by rw [Ring.bk_val (by have := b.isLt; omega), e0]; omega)
  rw [hb]
  have m0 : ((Rect.unit (s := S8192x4096) (blkOff b) S512x4096.size (blkOff_inb b)).emb x 0).val % 512 = (x 0).val := by rw [e0]; omega
  have m1 : ((Rect.unit (s := S8192x4096) (blkOff b) S512x4096.size (blkOff_inb b)).emb x 1).val = (x 1).val := by rw [e1]; omega
  refine congrArg (normBlk _ gv) (funext fun a => ?_)
  fin_cases a
  · exact Fin.ext m0
  · exact Fin.ext m1

omit [FloatOps F] in
/-- A slot of the input stream loaded through the whole buffer reads what the transfer landed there. -/
theorem load_slot (s : Fin 3) {off : Fin 3 → Nat} (e : off = inOff s) (hh : ∀ a, off a + S1x512x4096.size a ≤ S3x512x4096.size a)
    (f : (islot s).view.ty.Contents (Elt F)) (p : S512x4096.Idx → Elt F .f32) :
    inM.view.readAt (Elt F) (Rect.unit (s := S3x512x4096) off S1x512x4096.size hh).toLoadRect ((islot s).view.writes (Elt F) f [⟨Rect.whole S512x4096, p⟩])
      = shapeCast S1x512x4096 p shapeCasts_S512x4096_S1x512x4096 := by
  subst e
  funext j
  have h := View.read_writes_whole (islot s).view f p
  refine Eq.trans ?_ (congrFun h (Shape.reshapeEquiv shapeCasts_S512x4096_S1x512x4096 j))
  show _ = (inM.view.slice (Rect.unit (s := S3x512x4096) (inOff s) S1x512x4096.size hh)).read (Elt F) _
    (Shape.reshapeEquiv squeezes_S1x512x4096_S512x4096.numel_eq (Shape.reshapeEquiv shapeCasts_S512x4096_S1x512x4096 j))
  rw [Shape.reshapeEquiv_reshapeEquiv, Shape.reshapeEquiv_self]
  rfl

omit [FloatOps F] in
/-- A slot of the output stream reads what was stored there through the whole buffer. -/
theorem read_slot (s : Fin 2) {off : Fin 3 → Nat} (e : off = outOff s) (hh : ∀ a, off a + S1x512x4096.size a ≤ S2x512x4096.size a)
    (f : (outM.access (Rect.unit (s := S2x512x4096) off S1x512x4096.size hh)).ty.Contents (Elt F)) (p : S512x4096.Idx → Elt F .f32) (hc) :
    (oslot s).view.read (Elt F) ((outM.access (Rect.unit (s := S2x512x4096) off S1x512x4096.size hh)).write (Elt F) f (shapeCast S1x512x4096 p hc) Finset.univ) = p := by
  subst e
  funext x
  show (outM.access (Rect.unit (s := S2x512x4096) (outOff s) S1x512x4096.size hh)).read (Elt F) _ (Shape.reshapeEquiv squeezes_S1x512x4096_S512x4096.numel_eq x) = _
  rw [View.read_write_univ]
  unfold shapeCast
  rw [Shape.reshapeEquiv_reshapeEquiv, Shape.reshapeEquiv_self]

/-- Contents that a view reads alike agree on the view's elements. -/
theorem agree_of_read {κ : Kind} {sp : Space} {s : Shape} {e : EltTy} {Val : EltTy → Type} (v : View sig κ sp s e) (f f' : v.ty.Contents Val)
    (h : v.read Val f = v.read Val f') : ∀ i ∈ v.set, f i = f' i := fun i hi => by
  obtain ⟨x, -, rfl⟩ := Finset.mem_map.mp hi
  exact View.eq_of_read_eq (congrFun h x)

omit [FloatOps F] in
/-- Output block `b` after a transfer that carried the contents `Y` of it holds `Y`. -/
theorem done_of_landed (c : Dev nD) (Y : Buf (Elt F) (yM.view.loc (c : Thread nD τ))) (b : Fin 16) (p : S512x4096.Idx → Elt F .f32)
    (fo : Buf (Elt F) ((yblk b).view.loc (c : Thread nD τ))) (hp : p = (yblk b).view.read (Elt F) Y) :
    ((yblk b).view.loc (c : Thread nD τ) ↦[(yblk b).view.set]{fullShare} (yblk b).view.writes (Elt F) fo [⟨Rect.whole S512x4096, p⟩] : sProp 𝕄) = doneY c Y b :=
  pointsTo_congr (agree_of_read (yblk b).view _ _ ((View.read_writes_whole (yblk b).view fo p).trans hp))

section Out
variable (c : Dev nD) (Y : Buf (Elt F) (yM.view.loc (c : Thread nD τ)))

/-- Output slot `s` in flight to block `b`: what it carries is the contents `Y` of that block. -/
abbrev flightO (s : Fin 2) (b : Fin 16) (p : S512x4096.Idx → Elt F .f32) (fo : Buf (Elt F) ((yblk b).view.loc (c : Thread nD τ)))
    (fs : Buf (Elt F) ((oslot s).view.loc (c : Thread nD τ))) : sProp 𝕄 :=
  Transfers.Flight countersEmb (c : Thread nD τ) (SemLoc.dma (osem s).sem) () 262144
    iprop(((yblk b).view.loc (c : Thread nD τ) ↦[(yblk b).view.set]{fullShare} (yblk b).view.writes (Elt F) fo [⟨Rect.whole S512x4096, p⟩]) ∗ slotO c s fs)
abbrev inflO (s : Fin 2) (b : Fin 16) : sProp 𝕄 :=
  iprop(∃ fo, ∃ fs, ∃ p, ⌜p = (yblk b).view.read (Elt F) Y⌝ ∗ flightO c s b p fo fs)

end Out

end Cert.NormIdeal.Ring

end
-- ==== Proof.Norm.Trip.lean ====
/-
  One trip of the final norm's loop, and the invariant the loop runs under: before trip `k` the input blocks `k` and `k + 1` are
  in flight, the output block `k - 1` is in flight, the output blocks before it hold their values.
-/
module

public import proofs.«01_k».proof.Proof.Norm.Vals

@[expose] public section

set_option maxRecDepth 16384

noncomputable section

namespace Cert.NormIdeal.Ring

open Cert.NormIdeal Cert.NormIdeal.Gen
open Idealize.ShloMosaic
open Idealize.ShloMosaic.TcCoe Idealize.ShloMosaic.Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Before trip `k` -/

section Trip
variable (c : Dev nD) (X : Buf (Elt F) (xM.view.loc (c : Thread nD τ)))
  (arg1 : Memref sig .tc .vmem S1x4096 .f32) (harg1 : arg1.IsWhole) (g : Buf (Elt F) (arg1.view.loc (c : Thread nD τ)))
  (v9 v26 : BitVec 32) (v28 : BitVec 1)

/-- The weights as the body loads them. -/
abbrev gvec : Vec F S1x4096 .f32 := arg1.view.readAt (Elt F) (Rect.unit (s := S1x4096) ![0, 0] S1x4096.size inb_S1x4096_S1x4096_0_0).toLoadRect g
/-- The output the kernel leaves. -/
abbrev YY : Buf (Elt F) (yM.view.loc (c : Thread nD τ)) := Yof c X (gvec c arg1 g)
abbrev gP : sProp 𝕄 := arg1.view.loc (c : Thread nD τ) ↦[arg1.view.set]{fullShare} g

/-- What is held before trip `k`: the weights, the input ring with blocks `k` and `k + 1` in flight, the output ring with block
    `k - 1` in flight, the blocks before it done and those from `k` on open. -/
def resAt (k : ℕ) : sProp 𝕄 :=
  iprop(gP c arg1 g ∗ (∃ W, owes (c : Thread nD τ) 0 W)
    ∗ bigSep (Ring.homeSet 2 k) (homeX c X)
    ∗ Ring.roleAt (freeI c (Ring.sl 3 k)) (inflI c X (Ring.sl 3 k)) k
    ∗ Ring.roleAt (freeI c (Ring.sl 3 (k + 1))) (inflI c X (Ring.sl 3 (k + 1))) (k + 1)
    ∗ freeI c (Ring.sl 3 (k + 2))
    ∗ bigSep (Ring.aheadSet k) (openY (F := F) c) ∗ bigSep (Ring.behindSet 1 k) (doneY c (YY c X arg1 g))
    ∗ freeO c (Ring.sl 2 k)
    ∗ Ring.roleBAt 1 (freeO c (Ring.sl 2 (k + 1))) (inflO c (YY c X arg1 g) (Ring.sl 2 (k + 1))) k)

/-- Trip `k` of the loop on the carried words. -/
abbrev tripG (k : Fin k0_t1_loop.trips) :=
  k0_t1_body (F := F) xM (Memref.isWhole_whole _) arg1 harg1 yM (Memref.isWhole_whole _) inM (Memref.isWhole_whole _) cc0_scoped1 outM (Memref.isWhole_whole _) cc0_scoped3
    v9 v26 v28 k (carry k)

/-- What one trip must do. -/
abbrev TripGoal (k : Fin k0_t1_loop.trips) : Prop :=
  resAt c X arg1 g k ⊢ wp frame (wpE (defs₀ (F := F)) 𝒱₀ (c : Thread nD τ) none) Set.univ (tripG arg1 harg1 v9 v26 v28 k)
    (fun r => iprop(⌜r = carry (k.val + 1)⌝ ∗ resAt c X arg1 g (k.val + 1)))

/-- One block apart from the rest. -/
theorem bs_insert {I : Type} [DecidableEq I] {s : Finset I} {i : I} (hi : i ∉ s) (Φ : I → sProp 𝕄) :
    bigSep (insert i s) Φ = iprop(Φ i ∗ bigSep s Φ) := bigSep_insert hi
theorem sl3_next (k : ℕ) : Ring.sl 3 (k + 1 + 2) = Ring.sl 3 k := Ring.sl_succ_add 3 k 2 rfl
theorem sl2_next (k : ℕ) : Ring.sl 2 (k + 1 + 1) = Ring.sl 2 k := Ring.sl_succ_add 2 k 1 rfl

set_option maxHeartbeats 400000 in
/-- A trip with a block to issue and an output block to wait for. -/
theorem trip_mid (k : Fin k0_t1_loop.trips) (h0 : 0 < k.val) (h14 : k.val < 14) : TripGoal c X arg1 harg1 g v9 v26 v28 k := by
  have hc1 := chk1_at k
  have hc2 := chk2_at k
  have hc3 := chk3_at k
  have h2 := cond2_lt k h14
  have h3 := cond3_at k
  have h6 := cond6_at k
  have h8 := cond8_pos k h0
  have hk : k.val < 16 := by omega
  have hk1 : k.val + 1 < 16 := by omega
  have hk2 : k.val + 2 < 16 := by omega
  unfold TripGoal resAt
  rw [Ring.homeSet_out 2 k.val hk2, bs_insert (Ring.bkL_not_mem_erase 2 k.val), Ring.homeSet_succ 2 k.val hk2,
    bs_insert (Ring.bk_not_mem_erase 2 k.val hk (by decide)),
    Ring.roleAt_of_lt _ _ _ hk, Ring.roleAt_of_lt _ _ _ hk1, Ring.roleAt_of_lt _ _ (k.val + 1 + 1) hk2,
    Ring.roleBAt_of_le _ _ _ _ (show 1 ≤ k.val from h0), Ring.roleBAt_of_le _ _ _ _ (show 1 ≤ k.val + 1 by omega),
    Ring.aheadSet_open k.val hk, bs_insert (Ring.bk_not_mem_aheadSet_succ k.val hk),
    Ring.behindSet_close 1 k.val h0 hk, bs_insert (Ring.bk_not_mem_behindSet 1 k.val h0 hk),
    sl3_next, sl2_next, Nat.add_sub_cancel]
  iintro ⟨Hg, ⟨%W, HW⟩, ⟨HX, HXr⟩, ⟨%fI, HF⟩, HF1, ⟨Hc, ⟨%fI1, Hs⟩⟩, ⟨⟨%fo, HY⟩, HYr⟩, HD, ⟨HcO, ⟨%fO0, HsO⟩⟩, ⟨%fo1, %fO1, %p, %hp, HFO⟩⟩
  dsimp only [tripG, carry]
  sl_unfold [k0_t1_body]
  sl_exec
  sl_step
  have hcar : ∀ k : Fin k0_t1_loop.trips, (trip_mid.sl.v100_r0 k, trip_mid.sl.v169_r0 k, trip_mid.sl.v151_r0 k, trip_mid.sl.v165_r0 k, trip_mid.sl.v79_r0 k) = (w4 (k.val + 1), w5 (k.val + 1), w6 (k.val + 1), w7 (k.val + 1), w8 (k.val + 1)) := by
    sl_unfold_run_names
    decide +kernel
  have hpay : trip_mid.sl.dma4 c X arg1 g k hc2 hc3 fO0 = (yblk (Ring.bk 16 k.val)).view.read (Elt F) (YY c X arg1 g) := by
    sl_unfold_run_names
    rw [read_Yof]
    refine (read_slot _ (off13_at k) _ _ _ _).trans ?_
    rw [load_slot _ (off12_at k)]
    rfl
  generalize trip_mid.sl.dma4 c X arg1 g k hc2 hc3 fO0 = d at hpay ⊢
  generalize trip_mid.sl.HsO_w1 c X arg1 g k hc2 hc3 fO0 = fs
  isplitr; · ipureintro; exact hcar k
  isplitl [Hg]; · iexact Hg
  isplitl [HW]; · iexists _; iexact HW
  isplitl [HF_src HXr]
  · isplitl [HF_src]; · iexact HF_src
    iexact HXr
  isplitl [HF1]; · iexact HF1
  isplitl [Hc]; · iexists _; iexact Hc
  isplitl [HF HF_dst]
  · isplitl [HF]; · iexact HF
    iexists _; iexact HF_dst
  isplitl [HYr]; · iexact HYr
  isplitl [HFO_dst HD]
  · isplitl [HFO_dst]
    · iapply (entails_of_eq (done_of_landed c (YY c X arg1 g) _ p _ hp)); iexact HFO_dst
    iexact HD
  isplitl [HFO HFO_src]
  · isplitl [HFO]; · iexact HFO
    iexists _; iexact HFO_src
  iexists fo, fs, d
  isplitr; · ipureintro; exact hpay
  iexact HcO
set_option maxHeartbeats 400000 in
/-- The first trip: a block to issue, no output block to wait for. -/
theorem trip_zero (k : Fin k0_t1_loop.trips) (h0 : k.val = 0) : TripGoal c X arg1 harg1 g v9 v26 v28 k := by
  have hc1 := chk1_at k
  have hc2 := chk2_at k
  have hc3 := chk3_at k
  have h14 : k.val < 14 := by omega
  have h2 := cond2_lt k h14
  have h3 := cond3_at k
  have h6 := cond6_at k
  have h8 := cond8_zero k h0
  have hk : k.val < 16 := by omega
  have hk1 : k.val + 1 < 16 := by omega
  have hk2 : k.val + 2 < 16 := by omega
  unfold TripGoal resAt
  rw [Ring.homeSet_out 2 k.val hk2, bs_insert (Ring.bkL_not_mem_erase 2 k.val), Ring.homeSet_succ 2 k.val hk2,
    bs_insert (Ring.bk_not_mem_erase 2 k.val hk (by decide)),
    Ring.roleAt_of_lt _ _ _ hk, Ring.roleAt_of_lt _ _ _ hk1, Ring.roleAt_of_lt _ _ (k.val + 1 + 1) hk2,
    Ring.roleBAt_of_lt _ _ _ _ (show k.val < 1 by omega), Ring.roleBAt_of_le _ _ _ _ (show 1 ≤ k.val + 1 by omega),
    Ring.aheadSet_open k.val hk, bs_insert (Ring.bk_not_mem_aheadSet_succ k.val hk),
    Ring.behindSet_boot 1 k.val (by omega), Ring.behindSet_boot 1 (k.val + 1) (by omega),
    sl3_next, sl2_next, Nat.add_sub_cancel]
  iintro ⟨Hg, ⟨%W, HW⟩, ⟨HX, HXr⟩, ⟨%fI, HF⟩, HF1, ⟨Hc, ⟨%fI1, Hs⟩⟩, ⟨⟨%fo, HY⟩, HYr⟩, HD, ⟨HcO, ⟨%fO0, HsO⟩⟩, ⟨HFO, %fO1, HFO_src⟩⟩
  dsimp only [tripG, carry]
  sl_unfold [k0_t1_body]
  sl_exec
  sl_step
  have hcar : ∀ k : Fin k0_t1_loop.trips, (trip_zero.sl.v100_r0 k, trip_zero.sl.v169_r0 k, trip_zero.sl.v151_r0 k, trip_zero.sl.v165_r0 k, trip_zero.sl.v79_r0 k) = (w4 (k.val + 1), w5 (k.val + 1), w6 (k.val + 1), w7 (k.val + 1), w8 (k.val + 1)) := by
    sl_unfold_run_names
    decide +kernel
  have hpay : trip_zero.sl.dma4 c X arg1 g k hc2 hc3 fO0 = (yblk (Ring.bk 16 k.val)).view.read (Elt F) (YY c X arg1 g) := by
    sl_unfold_run_names
    rw [read_Yof]
    refine (read_slot _ (off13_at k) _ _ _ _).trans ?_
    rw [load_slot _ (off12_at k)]
    rfl
  generalize trip_zero.sl.dma4 c X arg1 g k hc2 hc3 fO0 = d at hpay ⊢
  generalize trip_zero.sl.HsO_w1 c X arg1 g k hc2 hc3 fO0 = fs
  isplitr; · ipureintro; exact hcar k
  isplitl [Hg]; · iexact Hg
  isplitl [HW]; · iexists _; iexact HW
  isplitl [HF_src HXr]
  · isplitl [HF_src]; · iexact HF_src
    iexact HXr
  isplitl [HF1]; · iexact HF1
  isplitl [Hc]; · iexists _; iexact Hc
  isplitl [HF HF_dst]
  · isplitl [HF]; · iexact HF
    iexists _; iexact HF_dst
  isplitl [HYr]; · iexact HYr
  isplitl [HD]; · iexact HD
  isplitl [HFO HFO_src]
  · isplitl [HFO]; · iexact HFO
    iexists _; iexact HFO_src
  iexists fo, fs, d
  isplitr; · ipureintro; exact hpay
  iexact HcO
set_option maxHeartbeats 400000 in
/-- The last two trips: no block to issue, an output block to wait for. -/
theorem trip_tail (k : Fin k0_t1_loop.trips) (h14 : 14 ≤ k.val) : TripGoal c X arg1 harg1 g v9 v26 v28 k := by
  have hc1 := chk1_at k
  have hc2 := chk2_at k
  have hc3 := chk3_at k
  have h2 := cond2_ge k h14
  have h3 := cond3_at k
  have h6 := cond6_at k
  have h0 : 0 < k.val := by omega
  have h8 := cond8_pos k h0
  have hk : k.val < 16 := by have := k.isLt; have := trips_eq; omega
  unfold TripGoal resAt
  rw [Ring.homeSet_succ_tail 2 k.val (by omega) hk, bs_insert (Ring.bk_not_mem_homeSet 2 k.val hk (by decide)),
    Ring.roleAt_of_lt _ _ _ hk, Ring.roleAt_of_le _ _ (k.val + 1 + 1) (by omega),
    Ring.roleBAt_of_le _ _ _ _ (show 1 ≤ k.val from h0), Ring.roleBAt_of_le _ _ _ _ (show 1 ≤ k.val + 1 by omega),
    Ring.aheadSet_open k.val hk, bs_insert (Ring.bk_not_mem_aheadSet_succ k.val hk),
    Ring.behindSet_close 1 k.val h0 hk, bs_insert (Ring.bk_not_mem_behindSet 1 k.val h0 hk),
    sl3_next, sl2_next, Nat.add_sub_cancel]
  iintro ⟨Hg, ⟨%W, HW⟩, HXr, ⟨%fI, HF⟩, HF1, Hc, ⟨⟨%fo, HY⟩, HYr⟩, HD, ⟨HcO, ⟨%fO0, HsO⟩⟩, ⟨%fo1, %fO1, %p, %hp, HFO⟩⟩
  dsimp only [tripG, carry]
  sl_unfold [k0_t1_body]
  sl_exec
  sl_step
  have hcar : ∀ k : Fin k0_t1_loop.trips, (trip_tail.sl.v100_r0 k, trip_tail.sl.v169_r0 k, trip_tail.sl.v151_r0 k, trip_tail.sl.v165_r0 k, trip_tail.sl.v79_r0 k) = (w4 (k.val + 1), w5 (k.val + 1), w6 (k.val + 1), w7 (k.val + 1), w8 (k.val + 1)) := by
    sl_unfold_run_names
    decide +kernel
  have hpay : trip_tail.sl.dma4 c X arg1 g k hc2 hc3 fO0 = (yblk (Ring.bk 16 k.val)).view.read (Elt F) (YY c X arg1 g) := by
    sl_unfold_run_names
    rw [read_Yof]
    refine (read_slot _ (off13_at k) _ _ _ _).trans ?_
    rw [load_slot _ (off12_at k)]
    rfl
  generalize trip_tail.sl.dma4 c X arg1 g k hc2 hc3 fO0 = d at hpay ⊢
  generalize trip_tail.sl.HsO_w1 c X arg1 g k hc2 hc3 fO0 = fs
  isplitr; · ipureintro; exact hcar k
  isplitl [Hg]; · iexact Hg
  isplitl [HW]; · iexists _; iexact HW
  isplitl [HF_src HXr]
  · isplitl [HF_src]; · iexact HF_src
    iexact HXr
  isplitl [HF1]; · iexact HF1
  isplitl [Hc]; · iexact Hc
  isplitl [HF HF_dst]
  · isplitl [HF]; · iexact HF
    iexists _; iexact HF_dst
  isplitl [HYr]; · iexact HYr
  isplitl [HFO_dst HD]
  · isplitl [HFO_dst]
    · iapply (entails_of_eq (done_of_landed c (YY c X arg1 g) _ p _ hp)); iexact HFO_dst
    iexact HD
  isplitl [HFO HFO_src]
  · isplitl [HFO]; · iexact HFO
    iexists _; iexact HFO_src
  iexists fo, fs, d
  isplitr; · ipureintro; exact hpay
  iexact HcO
end Trip

end Cert.NormIdeal.Ring

end
-- ==== Proof.Norm.Body.lean ====
/-
  The final norm's kernel body: its two issues, its loop by the invariant, its last wait; from the arrays' blocks and the
  slots at anything to every block of the output at its value.
-/
module

public import proofs.«01_k».proof.Proof.Norm.Trip

@[expose] public section

set_option maxRecDepth 16384

noncomputable section

namespace Cert.NormIdeal.Ring

open Cert.NormIdeal Cert.NormIdeal.Gen
open Idealize.ShloMosaic
open Idealize.ShloMosaic.TcCoe Idealize.ShloMosaic.Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Loop
variable (c : Dev nD) (X : Buf (Elt F) (xM.view.loc (c : Thread nD τ)))
  (arg1 : Memref sig .tc .vmem S1x4096 .f32) (harg1 : arg1.IsWhole) (g : Buf (Elt F) (arg1.view.loc (c : Thread nD τ)))

/-- One trip, whichever it is. -/
theorem trip_all (v9 v26 : BitVec 32) (v28 : BitVec 1) (k : Fin k0_t1_loop.trips) : TripGoal c X arg1 harg1 g v9 v26 v28 k := by
  rcases Nat.eq_zero_or_pos k.val with h | h
  · exact trip_zero c X arg1 harg1 g v9 v26 v28 k h
  · rcases Nat.lt_or_ge k.val 14 with h' | h'
    · exact trip_mid c X arg1 harg1 g v9 v26 v28 k h h'
    · exact trip_tail c X arg1 harg1 g v9 v26 v28 k h'

/-- The loop's invariant: the carried words are those of the trip, and the rings are as before it. -/
def invAt (k : ℕ) (acc : BitVec 32 × BitVec 32 × BitVec 32 × BitVec 32 × BitVec 32) : sProp 𝕄 := iprop(⌜acc = carry k⌝ ∗ resAt c X arg1 g k)

/-- The body on a given staging buffer of the weights. -/
abbrev bodyG : Prog (TpuEff nD τ sig (Elt F) Λ₀ .tc) PUnit :=
  cc0_rmsnorm xM (Memref.isWhole_whole _) arg1 harg1 yM (Memref.isWhole_whole _) inM (Memref.isWhole_whole _) cc0_scoped1 outM (Memref.isWhole_whole _) cc0_scoped3

/-- What the body is handed: the weights, the blocks of `x`, the blocks of the output at anything, the slots at anything, the
    semaphores at zero. -/
abbrev PRE (W : Waits sig Unit) : sProp 𝕄 :=
  iprop(gP c arg1 g ∗ owes (c : Thread nD τ) 0 W ∗ homeX c X 0 ∗ homeX c X 1 ∗ bigSep (Ring.homeSet 2 0) (homeX c X)
    ∗ bigSep (Ring.aheadSet 0) (openY (F := F) c) ∗ freeI c 0 ∗ freeI c 1 ∗ freeI c 2 ∗ freeO c 0 ∗ freeO c 1)
/-- What it hands back. -/
abbrev POST : sProp 𝕄 :=
  iprop(gP c arg1 g ∗ (∃ W, owes (c : Thread nD τ) 0 W) ∗ bigSep Finset.univ (homeX c X)
    ∗ bigSep Finset.univ (doneY c (YY c X arg1 g)) ∗ freeI c 0 ∗ freeI c 1 ∗ freeI c 2 ∗ freeO c 0 ∗ freeO c 1)

/-- The rings after the two issues are the rings before trip 0. -/
theorem res_zero (f0 f1) : iprop(gP c arg1 g ∗ (∃ W, owes (c : Thread nD τ) 0 W) ∗ bigSep (Ring.homeSet 2 0) (homeX c X)
    ∗ flightI c X 0 0 f0 ∗ flightI c X 1 1 f1 ∗ freeI c 2 ∗ bigSep (Ring.aheadSet 0) (openY (F := F) c) ∗ freeO c 0 ∗ freeO c 1)
      ⊢ resAt c X arg1 g 0 := by
  unfold resAt
  rw [Ring.roleAt_of_lt _ _ 0 (by decide), Ring.roleAt_of_lt _ _ (0 + 1) (by decide), Ring.roleBAt_of_lt 1 _ _ 0 (by decide),
    Ring.behindSet_boot 1 0 (by decide), bigSep_empty]
  iintro ⟨Hg, HW, HX, H0, H1, H2, HY, HO, HO1⟩
  isplitl [Hg]; · iexact Hg
  isplitl [HW]; · iexact HW
  isplitl [HX]; · iexact HX
  isplitl [H0]; · iexists f0; iexact H0
  isplitl [H1]; · iexists f1; iexact H1
  isplitl [H2]; · iexact H2
  isplitl [HY]; · iexact HY
  isplitr; · iempintro
  isplitl [HO]; · iexact HO
  iexact HO1

/-- The rings after the last trip: everything is home but output block 15, in flight. -/
theorem res_end : resAt c X arg1 g 16 ⊢
    iprop(gP c arg1 g ∗ (∃ W, owes (c : Thread nD τ) 0 W) ∗ bigSep Finset.univ (homeX c X) ∗ freeI c 0 ∗ freeI c 1 ∗ freeI c 2
      ∗ bigSep (Ring.behindSet 1 16) (doneY c (YY c X arg1 g)) ∗ freeO c 0 ∗ inflO c (YY c X arg1 g) 1 15) := by
  unfold resAt
  rw [Ring.roleAt_of_le _ _ 16 (by decide), Ring.roleAt_of_le _ _ (16 + 1) (by decide), Ring.roleBAt_of_le 1 _ _ 16 (by decide),
    Ring.homeSet_last 2 _ (le_refl 16)]
  iintro ⟨Hg, HW, HX, H1, H2, H0, -, HD, HO, HF⟩
  isplitl [Hg]; · iexact Hg
  isplitl [HW]; · iexact HW
  isplitl [HX]; · iexact HX
  isplitl [H0]; · iexact H0
  isplitl [H1]; · iexact H1
  isplitl [H2]; · iexact H2
  isplitl [HD]; · iexact HD
  isplitl [HO]; · iexact HO
  iexact HF

/-- The blocks done before the last and the last are all of them. -/
theorem done_all (Y : Buf (Elt F) (yM.view.loc (c : Thread nD τ))) :
    iprop(doneY c Y 15 ∗ bigSep (Ring.behindSet 1 16) (doneY c Y)) ⊢ bigSep Finset.univ (doneY c Y) := by
  have e : (Finset.univ : Finset (Fin 16)) = insert 15 (Ring.behindSet 1 16) := by decide
  rw [e, bs_insert (by decide)]

/-- The kernel's body: every block of `x` back, every block of the output at its value. -/
theorem bodyRun (W) (Q : PUnit → sProp 𝕄) :
    iprop(PRE c X arg1 g W ∗ (POST c X arg1 g -∗ Q ⟨⟩))
      ⊢ wp frame (wpE (defs₀ (F := F)) 𝒱₀ (c : Thread nD τ) none) Set.univ (bodyG arg1 harg1) Q := by
  iintro ⟨⟨Hg, HW, HX0, HX1, HX, HY, ⟨Hc0, ⟨%f0, Hs0⟩⟩, ⟨Hc1, ⟨%f1, Hs1⟩⟩, ⟨Hc2, ⟨%f2, Hs2⟩⟩, ⟨Hd0, ⟨%o0, Ho0⟩⟩, ⟨Hd1, ⟨%o1, Ho1⟩⟩⟩, Hk⟩
  sl_exec
  ihave HR := (res_zero c X arg1 g f0 f1) $$ [Hg HW HX HY Hc0 Hc1 Hc2 Hs2 Hd0 Ho0 Hd1 Ho1]
  · isplitl [Hg]; · iexact Hg
    isplitl [HW]; · iexists _; iexact HW
    isplitl [HX]; · iexact HX
    isplitl [Hc0]; · iexact Hc0
    isplitl [Hc1]; · iexact Hc1
    isplitl [Hc2 Hs2]
    · isplitl [Hc2]; · iexact Hc2
      iexists _; iexact Hs2
    isplitl [HY]; · iexact HY
    isplitl [Hd0 Ho0]
    · isplitl [Hd0]; · iexact Hd0
      iexists _; iexact Ho0
    isplitl [Hd1]; · iexact Hd1
    iexists _; iexact Ho1
  sl_for (invAt c X arg1 g) $$ [HR]
  case region =>
    intro k acc
    unfold invAt
    iintro ⟨%h, H⟩
    rw [h]
    iapply (trip_all c X arg1 harg1 g 1#32 1#32 1#1 k)
    iexact H
  · unfold invAt
    isplitr; · ipureintro; decide +kernel
    iexact HR
  iintro %acc HI
  rw [show Scf.trips k0_t1_loop.lb k0_t1_loop.ub k0_t1_loop.st = 16 from trips_eq]
  unfold invAt
  icases HI with ⟨%hacc, HR⟩
  subst hacc
  ihave HE := (res_end c X arg1 g) $$ HR
  icases HE with ⟨Hg, ⟨%W', HW⟩, HX, Hi0, Hi1, Hi2, HD, HO0, ⟨%fo, %fs, %p, %hp, HF⟩⟩
  have hc4 := chk4_end
  have hc5 := chk5_end
  dsimp only [carry]
  sl_exec
  sl_step
  iapply Hk
  isplitl [Hg]; · iexact Hg
  isplitl [HW]; · iexists _; iexact HW
  isplitl [HX]; · iexact HX
  isplitl [HF_dst HD]
  · iapply (done_all c (YY c X arg1 g))
    isplitl [HF_dst]
    · iapply (entails_of_eq (done_of_landed c (YY c X arg1 g) 15 p fo hp)); iexact HF_dst
    iexact HD
  isplitl [Hi0]; · iexact Hi0
  isplitl [Hi1]; · iexact Hi1
  isplitl [Hi2]; · iexact Hi2
  isplitl [HO0]; · iexact HO0
  isplitl [HF]; · iexact HF
  iexists _; iexact HF_src
end Loop

end Cert.NormIdeal.Ring

end
-- ==== Proof.Norm.Launch.lean ====
/-
  The final norm's launch: the arrays and the slot buffers split into blocks and slots, the body as the pipeline's one
  point, and the run of @main.
-/
module

public import proofs.«01_k».proof.Proof.Norm.Body

@[expose] public section

set_option maxRecDepth 16384

noncomputable section

namespace Cert.NormIdeal.Ring

open Cert.NormIdeal Cert.NormIdeal.Gen
open Idealize.ShloMosaic
open Idealize.ShloMosaic.TcCoe Idealize.ShloMosaic.Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch
variable (m : (ℓ : Loc nD τ sig) → Buf (Elt F) ℓ) (ρ : Dev nD → PrngReg)

/-! ## The kernel's own semaphores -/

/-- The five cells: the three input slots', the two output slots'. -/
abbrev own5 : Fin 5 → SemLoc sig := fun
  | 0 => .dma (isem 0).sem | 1 => .dma (isem 1).sem | 2 => .dma (isem 2).sem | 3 => .dma (osem 0).sem | 4 => .dma (osem 1).sem
theorem ownSemFacts : Pipeline.OwnSemFacts spec0 own5 := by decide

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
omit [FloatOps F] in
theorem bs_fin2 (Φ : Fin 2 → sProp 𝕄) : bigSep Finset.univ Φ = iprop(Φ 0 ∗ Φ 1) :=
  bigSep_univ_eq_bigSepL [(0 : Fin 2), 1] (by decide) (by decide) Φ
omit [FloatOps F] in
theorem bs_fin3 (Φ : Fin 3 → sProp 𝕄) : bigSep Finset.univ Φ = iprop(Φ 0 ∗ Φ 1 ∗ Φ 2) :=
  bigSep_univ_eq_bigSepL [(0 : Fin 3), 1, 2] (by decide) (by decide) Φ
omit [FloatOps F] in
/-- The kernel's own cells at zero are the slots' cells. -/
theorem ownSems0_eq (c : Dev nD) : (Pipeline.ownSems0 (Ix := Unit) (Name := ℕ) (U := UU nD τ) (Lvl := ℕ) (Val := Elt F) (τ := τ) own5 c : sProp 𝕄)
    = iprop(cellI c 0 ∗ cellI c 1 ∗ cellI c 2 ∗ cellO c 0 ∗ cellO c 1) := by
  unfold Pipeline.ownSems0; rw [bigSep_fin5]

/-! ## Element sets -/

abbrev B16 (b : Fin 16) : Finset S8192x4096.Idx := (Rect.unit (s := S8192x4096) (blkOff b) S512x4096.size (blkOff_inb b)).set
abbrev I3 (s : Fin 3) : Finset S3x512x4096.Idx := (Rect.unit (s := S3x512x4096) (inOff s) S1x512x4096.size (inOff_inb s)).set
abbrev O2 (s : Fin 2) : Finset S2x512x4096.Idx := (Rect.unit (s := S2x512x4096) (outOff s) S1x512x4096.size (outOff_inb s)).set

omit [FloatOps F] in
theorem xblk_set (b : Fin 16) : (xblk b).view.set = B16 b := View.set_slice_whole _ _
omit [FloatOps F] in
theorem yblk_set (b : Fin 16) : (yblk b).view.set = B16 b := View.set_slice_whole _ _
omit [FloatOps F] in
theorem islot_set (s : Fin 3) : (islot s).view.set = I3 s := (View.set_reshape _ _).trans (View.set_slice_whole _ _)
omit [FloatOps F] in
theorem oslot_set (s : Fin 2) : (oslot s).view.set = O2 s := (View.set_reshape _ _).trans (View.set_slice_whole _ _)

omit [FloatOps F] in
theorem mem_B16 (b : Fin 16) (y : S8192x4096.Idx) : y ∈ B16 b ↔ (y 0).val / 512 = b.val := by
  rw [Rect.mem_set_unit]
  have h1 : (y 1).val < 4096 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 4096; omega
omit [FloatOps F] in
theorem mem_I3 (s : Fin 3) (y : S3x512x4096.Idx) : y ∈ I3 s ↔ (y 0).val = s.val := by
  rw [Rect.mem_set_unit]
  have h1 : (y 1).val < 512 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 4096; omega
omit [FloatOps F] in
theorem mem_O2 (s : Fin 2) (y : S2x512x4096.Idx) : y ∈ O2 s ↔ (y 0).val = s.val := by
  rw [Rect.mem_set_unit]
  have h1 : (y 1).val < 512 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 4096; omega
theorem B16_disjoint : ∀ b b' : Fin 16, b ≠ b' → Disjoint (B16 b) (B16 b') := by
  intro b b' hne; rw [Finset.disjoint_left]; intro y hy hy'; rw [mem_B16] at hy hy'; exact hne (Fin.ext (hy.symm.trans hy'))
theorem B16_cover : (Finset.univ : Finset (Fin 16)).biUnion B16 = Finset.univ := by
  ext y; simp only [Finset.mem_biUnion, Finset.mem_univ, true_and, iff_true]
  have h : (y 0).val < 8192 := (y 0).isLt
  exact ⟨⟨(y 0).val / 512, by omega⟩, by rw [mem_B16]⟩
theorem I3_disjoint : ∀ s s' : Fin 3, s ≠ s' → Disjoint (I3 s) (I3 s') := by
  intro s s' hne; rw [Finset.disjoint_left]; intro y hy hy'; rw [mem_I3] at hy hy'; exact hne (Fin.ext (hy.symm.trans hy'))
theorem I3_cover : (Finset.univ : Finset (Fin 3)).biUnion I3 = Finset.univ := by
  ext y; simp only [Finset.mem_biUnion, Finset.mem_univ, true_and, iff_true]; exact ⟨(y 0).cast (by decide), by rw [mem_I3]; rfl⟩
theorem O2_disjoint : ∀ s s' : Fin 2, s ≠ s' → Disjoint (O2 s) (O2 s') := by
  intro s s' hne; rw [Finset.disjoint_left]; intro y hy hy'; rw [mem_O2] at hy hy'; exact hne (Fin.ext (hy.symm.trans hy'))
theorem O2_cover : (Finset.univ : Finset (Fin 2)).biUnion O2 = Finset.univ := by
  ext y; simp only [Finset.mem_biUnion, Finset.mem_univ, true_and, iff_true]; exact ⟨(y 0).cast (by decide), by rw [mem_O2]; rfl⟩

/-- `x` whole is its sixteen blocks; -/
theorem x_eq (c : Dev nD) (X : Buf (Elt F) (xM.view.loc (c : Thread nD τ))) :
    (((c : Thread nD τ).loc main_arg0) ↦{fullShare} X : sProp 𝕄) = bigSep Finset.univ (homeX c X) := by
  rw [Ring.pointsTo_blocks (ℓ := (c : Thread nD τ).loc main_arg0) B16 B16_disjoint B16_cover]
  exact bigSep_congr fun b _ => by rw [← xblk_set]; rfl
/-- so is the output, -/
theorem y_eq (c : Dev nD) (Y : Buf (Elt F) (yM.view.loc (c : Thread nD τ))) :
    (((c : Thread nD τ).loc main_v1) ↦{fullShare} Y : sProp 𝕄) = bigSep Finset.univ (doneY c Y) := by
  rw [Ring.pointsTo_blocks (ℓ := (c : Thread nD τ).loc main_v1) B16 B16_disjoint B16_cover]
  exact bigSep_congr fun b _ => by rw [← yblk_set]; rfl
/-- each block open. -/
theorem y_open (c : Dev nD) (Y : Buf (Elt F) (yM.view.loc (c : Thread nD τ))) :
    (((c : Thread nD τ).loc main_v1) ↦{fullShare} Y : sProp 𝕄) ⊢ bigSep Finset.univ (openY (F := F) c) := by
  rw [y_eq]
  exact bigSep_mono fun b _ => (show (doneY c Y b : sProp 𝕄) ⊢ openY (F := F) c b from by iintro H; iexists Y; iexact H)

/-- At the body's entry, blocks 0 and 1 apart from the rest. -/
theorem homes_zero (c : Dev nD) (X : Buf (Elt F) (xM.view.loc (c : Thread nD τ))) :
    bigSep Finset.univ (homeX c X) = iprop(homeX c X 0 ∗ homeX c X 1 ∗ bigSep (Ring.homeSet 2 0) (homeX c X)) := by
  have e : (Finset.univ : Finset (Fin 16)) = insert 0 (insert 1 (Ring.homeSet (NB := 16) 2 0)) := by decide
  rw [e, bs_insert (by decide), bs_insert (by decide)]

omit [FloatOps F] in
theorem slotI_eq (c : Dev nD) (s : Fin 3) (f) : slotI c s f = (((c : Thread nD τ).loc cc0_scoped0) ↦[I3 s]{fullShare} f : sProp 𝕄) :=
  congrArg (fun S => (_ ↦[S]{fullShare} f : sProp 𝕄)) (islot_set s)
omit [FloatOps F] in
theorem slotO_eq (c : Dev nD) (s : Fin 2) (f) : slotO c s f = (((c : Thread nD τ).loc cc0_scoped2) ↦[O2 s]{fullShare} f : sProp 𝕄) :=
  congrArg (fun S => (_ ↦[S]{fullShare} f : sProp 𝕄)) (oslot_set s)

/-- The input buffer whole is its three slots, -/
theorem bufI_split (c : Dev nD) :
    iprop(∃ f : Buf (Elt F) ((c : Thread nD τ).loc cc0_scoped0), ((c : Thread nD τ).loc cc0_scoped0) ↦{fullShare} f)
      ⊢ (iprop((∃ f, slotI c 0 f) ∗ (∃ f, slotI c 1 f) ∗ ∃ f, slotI c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) I3 I3_disjoint I3_cover f).trans (bs_fin3 _))) $$ H
  icases H2 with ⟨H0, H1, H2⟩
  isplitl [H0]
  · iexists f; iapply (entails_of_eq (slotI_eq c 0 f).symm); iexact H0
  isplitl [H1]
  · iexists f; iapply (entails_of_eq (slotI_eq c 1 f).symm); iexact H1
  · iexists f; iapply (entails_of_eq (slotI_eq c 2 f).symm); iexact H2
/-- and back; -/
theorem bufI_join (c : Dev nD) :
    iprop((∃ f, slotI c 0 f) ∗ (∃ f, slotI c 1 f) ∗ ∃ f, slotI c 2 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) I3 I3_disjoint I3_cover f0)
  irw [bs_fin3]
  isplitl [H0]
  · iexists f0; iapply (entails_of_eq (slotI_eq c 0 f0)); iexact H0
  isplitl [H1]
  · iexists f1; iapply (entails_of_eq (slotI_eq c 1 f1)); iexact H1
  · iexists f2; iapply (entails_of_eq (slotI_eq c 2 f2)); iexact H2
/-- the output buffer its two. -/
theorem bufO_split (c : Dev nD) :
    iprop(∃ f : Buf (Elt F) ((c : Thread nD τ).loc cc0_scoped2), ((c : Thread nD τ).loc cc0_scoped2) ↦{fullShare} f)
      ⊢ (iprop((∃ f, slotO c 0 f) ∗ ∃ f, slotO c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) O2 O2_disjoint O2_cover f).trans (bs_fin2 _))) $$ H
  icases H2 with ⟨H0, H1⟩
  isplitl [H0]
  · iexists f; iapply (entails_of_eq (slotO_eq c 0 f).symm); iexact H0
  · iexists f; iapply (entails_of_eq (slotO_eq c 1 f).symm); iexact H1
theorem bufO_join (c : Dev nD) :
    iprop((∃ f, slotO c 0 f) ∗ ∃ f, slotO c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) O2 O2_disjoint O2_cover f0)
  irw [bs_fin2]
  isplitl [H0]
  · iexists f0; iapply (entails_of_eq (slotO_eq c 0 f0)); iexact H0
  · iexists f1; iapply (entails_of_eq (slotO_eq c 1 f1)); iexact H1

/-! ## The pipeline's proof data -/

/-- `x` as the region finds it. -/
abbrev XA (c : Dev nD) : Buf (Elt F) (xM.view.loc (c : Thread nD τ)) := V m c main_arg0
abbrev st0 (t : Fin cfg0.N) : Memref sig .tc .vmem S1x4096 .f32 := win0_0.stage (cfg0.slots t 0)
abbrev hst0 (t : Fin cfg0.N) : (st0 t).IsWhole := hstage0_0 0
/-- The weights' staging buffer at the one point. -/
abbrev gA (c : Dev nD) (t : Fin cfg0.N) : Buf (Elt F) ((st0 t).view.loc (c : Thread nD τ)) := (st0 t).view.rep (iblk m c 0 t)
/-- The output the kernel leaves. -/
def YA (c : Dev nD) : Buf (Elt F) (yM.view.loc (c : Thread nD τ)) := YY c (XA m c) (st0 t0_0) (gA m c t0_0)

/-- Every slot at anything and every cell at zero. -/
abbrev slots (c : Dev nD) : sProp 𝕄 := iprop(freeI c 0 ∗ freeI c 1 ∗ freeI c 2 ∗ freeO c 0 ∗ freeO c 1)
/-- Before the point: `x`'s blocks, the output's open, the slots. -/
def Φ₀ (c : Dev nD) : sProp 𝕄 := iprop(bigSep Finset.univ (homeX c (XA m c)) ∗ bigSep Finset.univ (openY (F := F) c) ∗ slots c)
/-- After it: the output's blocks at their values. -/
def Φ₁ (c : Dev nD) : sProp 𝕄 := iprop(bigSep Finset.univ (homeX c (XA m c)) ∗ bigSep Finset.univ (doneY c (YA m c)) ∗ slots c)

def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := if t.val = 0 then Φ₀ m c else Φ₁ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem Φ_first (c : Dev nD) (t : Fin (cfg0.N + 1)) (h : t.val = 0) : (dats m 0 c).Φ t = Φ₀ m c := if_pos h
theorem Φ_rest (c : Dev nD) (t : Fin (cfg0.N + 1)) (h : t.val ≠ 0) : (dats m 0 c).Φ t = Φ₁ m c := if_neg h

/-! ## The body obligation -/

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0]
  rw [Φ_first m c _ rfl, Φ_rest m c _ (by decide)]
  unfold Dat.owesAt Pipeline.owesWithin
  rw [show (dats m 0 c).owed (Fin.castSucc t0_0) = 0 from rfl, show (dats m 0 c).owed (Fin.succ t0_0) = 0 from rfl]
  unfold owns Φ₀ Φ₁ slots
  iintro ⟨⟨Hx, Hy, Hi0, Hi1, Hi2, Ho0, Ho1⟩, ⟨%W, -, HW⟩, ⟨%d0, %g0, %hg0, Hg⟩⟩
  ihave Hx3 := (entails_of_eq (homes_zero c (XA m c))) $$ Hx
  icases Hx3 with ⟨Hx0, Hx1, Hxr⟩
  ihave Hg' := (pointsTo_rep_entails (c : Thread nD τ) (st0 t0_0) g0 fullShare) $$ Hg
  rw [hg0]
  sl_rw [prog_eq t0_0]
  iapply (bodyRun c (XA m c) (st0 t0_0) (hst0 t0_0) _ W)
  isplitl [Hg' HW Hx0 Hx1 Hxr Hy Hi0 Hi1 Hi2 Ho0 Ho1]
  · isplitl [Hg']; · iexact Hg'
    isplitl [HW]; · iexact HW
    isplitl [Hx0]; · iexact Hx0
    isplitl [Hx1]; · iexact Hx1
    isplitl [Hxr]; · iexact Hxr
    isplitl [Hy]; · rw [Ring.aheadSet_zero]; iexact Hy
    isplitl [Hi0]; · iexact Hi0
    isplitl [Hi1]; · iexact Hi1
    isplitl [Hi2]; · iexact Hi2
    isplitl [Ho0]; · iexact Ho0
    iexact Ho1
  · iintro ⟨Hg, ⟨%W', HW⟩, Hx, HD, Hi0, Hi1, Hi2, Ho0, Ho1⟩
    isplitl [Hx HD Hi0 Hi1 Hi2 Ho0 Ho1]
    · isplitl [Hx]; · iexact Hx
      isplitl [HD]; · iexact HD
      isplitl [Hi0]; · iexact Hi0
      isplitl [Hi1]; · iexact Hi1
      isplitl [Hi2]; · iexact Hi2
      isplitl [Ho0]; · iexact Ho0
      iexact Ho1
    isplitl [HW]
    · iexists W'; isplitr; · ipureintro; exact fun _ _ => Or.inl trivial
      iexact HW
    iexists _; isplitr; · ipureintro; exact View.read_rep _ _
    iexact Hg

/-! ## The run -/

abbrev intoΦ (c : Dev nD) : sProp 𝕄 :=
  iprop((((c : Thread nD τ).loc main_arg0) ↦{fullShare} XA m c) ∗ (((c : Thread nD τ).loc main_v1) ↦{fullShare} V m c main_v1) ∗ Pipeline.ownSems0 own5 c)
abbrev outOfΦ (c : Dev nD) : sProp 𝕄 :=
  iprop((((c : Thread nD τ).loc main_arg0) ↦{fullShare} XA m c) ∗ (((c : Thread nD τ).loc main_v1) ↦{fullShare} YA m c))
def u₀ : UU nD τ := (initOf (Pipeline.cells cfgs Cert.NormIdeal.Gen.cellOf_inj) (Pipeline.launchToks cfgs Cert.NormIdeal.Gen.cellOf_inj), 1)
/-- What the run leaves on core `c`: the two arguments as they were, the result at the computed contents. -/
def QY (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = YA m c

set_option backward.isDefEq.respectTransparency.types false in
/-- Every weakly fair execution of the module's main program terminates with the arguments unchanged, the result at the
    computed contents and every semaphore at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := fun c => iprop(((c : Thread nD τ).loc main_arg1) ↦{fullShare} V m c main_arg1))
    (hX := fun c => by
      rw [unscopedRest0_eq]
      iintro ⟨⟨H0, H1, H2⟩, HS, -, -, -⟩; imodintro
      isplitl [H0 H2 HS]
      · isplitl [H0]; · iexact H0
        isplitl [H2]; · iexact H2
        iexact HS
      iexact H1)
    (hin := fun c => by
      unfold intoΦ
      rw [scopedRest0_eq, Φ_first m c 0 rfl, ownSems0_eq, x_eq]
      unfold Φ₀ slots
      iintro ⟨⟨H0, H2, Hc0, Hc1, Hc2, Hd0, Hd1⟩, HbI, HbO⟩
      ihave HI := (bufI_split c) $$ HbI
      icases HI with ⟨Hs0, Hs1, Hs2⟩
      ihave HO := (bufO_split c) $$ HbO
      icases HO with ⟨Ht0, Ht1⟩
      isplitl [H0]; · iexact H0
      isplitl [H2]; · iapply (y_open c (V m c main_v1)); iexact H2
      isplitl [Hc0 Hs0]
      · isplitl [Hc0]; · iexact Hc0
        iexact Hs0
      isplitl [Hc1 Hs1]
      · isplitl [Hc1]; · iexact Hc1
        iexact Hs1
      isplitl [Hc2 Hs2]
      · isplitl [Hc2]; · iexact Hc2
        iexact Hs2
      isplitl [Hd0 Ht0]
      · isplitl [Hd0]; · iexact Hd0
        iexact Ht0
      isplitl [Hd1]; · iexact Hd1
      iexact Ht1)
    (hout := fun c => by
      unfold outOfΦ
      rw [scopedRest0_eq, Φ_rest m c (Fin.last cfg0.N) (by decide), ownSems0_eq, x_eq, y_eq]
      unfold Φ₁ slots
      iintro ⟨H0, H2, ⟨Hc0, Hs0⟩, ⟨Hc1, Hs1⟩, ⟨Hc2, Hs2⟩, ⟨Hd0, Ht0⟩, ⟨Hd1, Ht1⟩⟩
      isplitl [H0 H2]
      · isplitl [H0]; · iexact H0
        iexact H2
      isplitl [Hc0 Hc1 Hc2 Hd0 Hd1]
      · isplitl [Hc0]; · iexact Hc0
        isplitl [Hc1]; · iexact Hc1
        isplitl [Hc2]; · iexact Hc2
        isplitl [Hd0]; · iexact Hd0
        iexact Hd1
      isplitl [Hs0 Hs1 Hs2]
      · iapply (bufI_join c)
        isplitl [Hs0]; · iexact Hs0
        isplitl [Hs1]; · iexact Hs1
        iexact Hs2
      · iapply (bufO_join c)
        isplitl [Ht0]; · iexact Ht0
        iexact Ht1)
    (QY := QY m)
    (hY := fun c s' => by
      iintro ⟨⟨H0, H2⟩, H1, HSI⟩
      icombine HSI H0 gives %h0
      icombine HSI H1 gives %h1
      icombine HSI H2 gives %h2
      imodintro
      isplitr
      · ipureintro
        exact ⟨(Buf.eq_of_forall_mem_univ h0).trans (V_main_arg0 m c), (Buf.eq_of_forall_mem_univ h1).trans (V_main_arg1 m c), Buf.eq_of_forall_mem_univ h2⟩
      iexact HSI)
    (hQ := fun _ hh hz => ⟨fun c => (hh c).2, hz⟩)

end Launch

end Cert.NormIdeal.Ring

end
-- ==== Proof.Norm.Value.lean ====
/-
  The final norm's value over the extended reals: each row of the result is the row of the residual stream over the square
  root of its mean square, times the weights; and the reference's result is the same.
-/
module

public import proofs.«01_k».proof.Proof.Norm.Launch
public import proofs.«01_k».proof.Proof.Gen.NormRefIdeal.Read
public import Idealize.ShloMosaic.Lib.Pipeline.ValueKit
public import Idealize.ShloMosaic.Lib.Pointwise.Index

@[expose] public section

set_option maxRecDepth 16384

noncomputable section

namespace Cert.NormIdeal.Ring

open Cert.NormIdeal Cert.NormIdeal.Gen
open Idealize.ShloMosaic TcCoe Tactic

variable (m : (ℓ : Loc nD τ sig) → Buf (Elt Ideal) ℓ) (ρ : Dev nD → PrngReg)

/-- The norm of rows: element `i` of `x` over the root of its row's mean square (plus the small constant), times the weight of
    its column. -/
def rowNorm (x : S8192x4096.Idx → EReal) (g : Fin 4096 → EReal) (i : S8192x4096.Idx) : EReal :=
  x i * Ideal.rsqrt (Ideal.div (∑ k : Fin 4096, x (ix2 (i 0) k) * x (ix2 (i 0) k)) (Ideal.ofBits FTy.f32 1166016512#32)
    + Ideal.ofBits FTy.f32 897988541#32) * g (i 1)

/-- One block's norm, element by element. -/
theorem normBlk_apply (p : S512x4096.Idx → Elt Ideal .f32) (gv : Vec Ideal S1x4096 .f32) (y : S512x4096.Idx) :
    normBlk (F := Ideal) p gv y
      = p y * Ideal.rsqrt (Ideal.div (∑ k : Fin 4096, p (ix2 (y 0) k) * p (ix2 (y 0) k)) (Ideal.ofBits FTy.f32 1166016512#32)
          + Ideal.ofBits FTy.f32 897988541#32) * gv (ix2 0 (y 1)) := by
  unfold normBlk k0_pay1
  pointwise

/-- The residual stream and the weights as launched. -/
abbrev X (c : Dev nD) : Vec Ideal S8192x4096 .f32 := m ((c : Thread nD τ).loc main_arg0)
abbrev Gw (c : Dev nD) : Vec Ideal S4096 .f32 := m ((c : Thread nD τ).loc main_arg1)

/-- The result: the norm of the rows of the residual stream. -/
def G (c : Dev nD) : Vec Ideal S8192x4096 .f32 := rowNorm (X m c) fun k => Gw m c (ix1 k)

/-- Block `b` of the residual stream is its rows from `512 b` on. -/
theorem xblk_apply (c : Dev nD) (b : Fin 16) (x : Buf (Elt Ideal) (xM.view.loc (c : Thread nD τ))) (y : S512x4096.Idx)
    (j : S8192x4096.Idx) (e0 : (j 0).val = 512 * b.val + (y 0).val) (e1 : (j 1).val = (y 1).val) :
    (xblk b).view.read (Elt Ideal) x y = x j := by
  have h0 : ((Rect.unit (s := S8192x4096) (blkOff b) S512x4096.size (blkOff_inb b)).emb y 0).val = 512 * b.val + 1 * (y 0).val := rfl
  have h1 : ((Rect.unit (s := S8192x4096) (blkOff b) S512x4096.size (blkOff_inb b)).emb y 1).val = 0 + 1 * (y 1).val := rfl
  show x ((Rect.unit (s := S8192x4096) (blkOff b) S512x4096.size (blkOff_inb b)).emb y) = x j
  refine congrArg x (funext fun a => Fin.ext ?_)
  match a with
  | ⟨0, _⟩ => exact h0.trans ((congrArg (512 * b.val + ·) (Nat.one_mul _)).trans e0.symm)
  | ⟨1, _⟩ => exact h1.trans (((Nat.zero_add _).trans (Nat.one_mul _)).trans e1.symm)

theorem idx_g : ∀ t : Fin cfg0.N, win0_0.index t = ![0, 0] := (by decide +kernel : ∀ t : Fin grid0.N, _)

/-- The weights' block at the one point is the whole vector as one row. -/
theorem iblk_g (c : Dev nD) (t : Fin cfg0.N) (k : Fin 4096) : iblk m c 0 t (ix2 0 k) = Gw m c (ix1 k) := by
  have hV : ∀ j : S1x4096.Idx, V m c main_v0 j = Gw m c (ix1 (j 1)) := fun j => by entry_read; pointwise
  have e1 : ((((cfg0.win 0).blk t).view.emb (ix2 0 k)) 1).val = k.val := by
    have h := win0_0.rect_emb_val_off t (ix2 0 k) 1
    rw [idx_g t] at h
    exact h.trans (Nat.zero_add _)
  exact (hV _).trans (congrArg (fun a => Gw m c (ix1 a)) (Fin.ext e1))

/-- The weights that the body loads. -/
theorem gvec_apply (c : Dev nD) (k : Fin 4096) : gvec c (st0 t0_0) (gA m c t0_0) (ix2 0 k) = Gw m c (ix1 k) := by
  unfold gvec
  rw [View.readAt_apply]
  refine Eq.trans ?_ (iblk_g m c t0_0 k)
  refine Eq.trans ?_ (congrFun (View.read_rep (st0 t0_0).view (iblk m c 0 t0_0)) (ix2 0 k))
  refine congrArg _ (funext fun a => Fin.ext ?_)
  match a with
  | ⟨0, _⟩ => rfl
  | ⟨1, _⟩ => exact (Nat.zero_add _).trans (Nat.one_mul _)

/-- The output array after the run. -/
theorem YA_eq (c : Dev nD) : YA m c = G m c := by
  funext i
  have hi : (i 0).val < 8192 := (i 0).isLt
  have hb : (Ring.bk 16 ((i 0).val / 512)).val = (i 0).val / 512 := Nat.mod_eq_of_lt (by omega)
  unfold YA YY Yof
  have hx : ∀ k : Fin 4096, (xblk (Ring.bk 16 ((i 0).val / 512))).view.read (Elt Ideal) (XA m c) (ix2 ⟨(i 0).val % 512, Nat.mod_lt _ (by decide)⟩ k)
      = X m c (ix2 (i 0) k) := fun k => (xblk_apply c _ (XA m c) _ (ix2 (i 0) k)
        (by rw [hb]; show (i 0).val = 512 * ((i 0).val / 512) + (i 0).val % 512; omega) rfl).trans (congrFun (V_main_arg0 m c) _)
  refine (normBlk_apply _ _ _).trans ?_
  have hi2 : X m c (ix2 (i 0) (i 1)) = X m c i := congrArg (X m c) (funext fun a => match a with | ⟨0, _⟩ => rfl | ⟨1, _⟩ => rfl)
  unfold G rowNorm
  refine congrArg₂ (· * ·) (congrArg₂ (· * ·) ((hx (i 1)).trans hi2) (congrArg Ideal.rsqrt (congrArg (· + _)
    (congrArg (Ideal.div · _) (Finset.sum_congr rfl fun k _ => congrArg₂ (· * ·) (hx k) (hx k)))))) (gvec_apply m c (i 1))

/-- The reference's result, element by element. -/
theorem ref_apply (x0 : (⟨S8192x4096, .f32⟩ : BufTy).Contents (Elt Ideal)) (x1 : (⟨S4096, .f32⟩ : BufTy).Contents (Elt Ideal))
    (i : S8192x4096.Idx) :
    Cert.NormRefIdeal.Read.val_main_v12 (F := Ideal) x0 x1 i = rowNorm x0 (fun k => x1 (ix1 k)) i := by
  unfold rowNorm
  open Cert.NormRefIdeal.Read in
  simp only [val_main_v12_apply, val_main_v11_apply, val_main_v10_apply, val_main_v9_apply, val_main_v8_apply, val_main_v7,
    val_main_v6, val_main_v5, val_main_v4, val_main_v3, val_main_v2, val_main_v1, val_main_v0, val_main_cst, val_main_cst_0,
    val_main_cst_1]
  pointwise
  have e : Cert.NormRefIdeal.Read.idx_main_v10 (Cert.NormRefIdeal.Read.idx_main_v11 i) = ix1 (i 1) :=
    funext fun a => match a with | ⟨0, _⟩ => rfl
  rw [e]
  rfl

end Cert.NormIdeal.Ring

end
-- ==== Proof.AttnUp.Body.lean ====
module

public import proofs.«01_k».proof.Proof.Gen.AttnUpIdeal.Frame
public import proofs.«01_k».proof.Proof.Gen.AttnUpIdeal.Skeleton
public import proofs.«01_k».proof.Proof.Stores

@[expose] public section

set_option maxRecDepth 65536

noncomputable section

namespace Cert.AttnUpIdeal.AttnUp

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.AttnUpIdeal.Gen
open Cert.Stores (read_store read_tiled)

variable {F : FTy → Type} [FloatOps F]

local notation "𝕄" => MT nD τ sig Unit (Elt F) ℕ (UR sig nD τ) ℕ

/-! ## What the body computes -/

/-- The panel buffer after a chunk of 256 rows is staged into it at the row offset `off 0`: the chunk, its numbers cast to
    bf16, over the buffer's earlier contents. -/
def staged (off : Fin 2 → ℕ) (inb : ∀ a, off a + S256x1024.size a ≤ S1024x1024.size a) (x1 : Vec F S256x1024 .f32)
    (D : Vec F S1024x1024 .bf16) : Vec F S1024x1024 .bf16 :=
  (Rect.unit (s := S1024x1024) off S256x1024.size inb).overlay D (k0_pay1 x1)

/-- The output block from a block of rows `x`, a weight panel `W` and a block `g` of gates: thirty-two products of 256 rows of
    `x` with 256 columns of `W`, side by side, each times `g` there. -/
def outBlock (x : Vec F S2048x1024 .bf16) (W : Vec F S1024x1024 .bf16) (g : Vec F S2048x1024 .bf16) : Vec F S2048x1024 .bf16 := fun y =>
  k0_pay2 (fun j => x (ix2 (⟨((y 0).val / 256 * 256 + (j 0).val) % 2048, Nat.mod_lt _ (by decide)⟩ : Fin 2048) (j 1)))
    (fun j => W (ix2 (j 0) (⟨((y 1).val / 256 * 256 + (j 1).val) % 1024, Nat.mod_lt _ (by decide)⟩ : Fin 1024)))
    (fun j => g (ix2 (⟨((y 0).val / 256 * 256 + (j 0).val) % 2048, Nat.mod_lt _ (by decide)⟩ : Fin 2048) (⟨((y 1).val / 256 * 256 + (j 1).val) % 1024, Nat.mod_lt _ (by decide)⟩ : Fin 1024)))
    (ix2 (⟨(y 0).val % 256, Nat.mod_lt _ (by decide)⟩ : Fin 256) (⟨(y 1).val % 256, Nat.mod_lt _ (by decide)⟩ : Fin 256))

/-- What is stored at one of the rectangles is the part of `outBlock` under it. -/
theorem tile_eq (x : Vec F S2048x1024 .bf16) (W : Vec F S1024x1024 .bf16) (g : Vec F S2048x1024 .bf16) (o1 o2 : ℕ) (h1 : o1 % 256 = 0) (h2 : o2 % 256 = 0)
    (i1 : ∀ a, (![o1, 0] : Fin 2 → ℕ) a + S256x1024.size a ≤ S2048x1024.size a)
    (i2 : ∀ a, (![0, o2] : Fin 2 → ℕ) a + S1024x256.size a ≤ S1024x1024.size a)
    (i3 : ∀ a, (![o1, o2] : Fin 2 → ℕ) a + S256x256.size a ≤ S2048x1024.size a) (y : S256x256.Idx) :
    k0_pay2 (View.ld x (Rect.unit (s := S2048x1024) ![o1, 0] S256x1024.size i1))
        (View.ld W (Rect.unit (s := S1024x1024) ![0, o2] S1024x256.size i2))
        (View.ld g (Rect.unit (s := S2048x1024) ![o1, o2] S256x256.size i3)) y
      = outBlock x W g ((Rect.unit (s := S2048x1024) ![o1, o2] S256x256.size i3).emb y) := by
  have b0 : (y 0).val < 256 := (y 0).isLt
  have b1 : (y 1).val < 256 := (y 1).isLt
  have l1 : o1 + 256 ≤ 2048 := i1 0
  have l2 : o2 + 256 ≤ 1024 := i2 1
  have e0 : (((Rect.unit (s := S2048x1024) ![o1, o2] S256x256.size i3).emb y) 0).val = o1 + (y 0).val := by
    show o1 + 1 * (y 0).val = _; omega
  have e1 : (((Rect.unit (s := S2048x1024) ![o1, o2] S256x256.size i3).emb y) 1).val = o2 + (y 1).val := by
    show o2 + 1 * (y 1).val = _; omega
  have hx : View.ld x (Rect.unit (s := S2048x1024) ![o1, 0] S256x1024.size i1) = fun j : S256x1024.Idx =>
      x (ix2 (⟨((((Rect.unit (s := S2048x1024) ![o1, o2] S256x256.size i3).emb y) 0).val / 256 * 256 + (j 0).val) % 2048, Nat.mod_lt _ (by decide)⟩ : Fin 2048) (j 1)) := by
    funext j
    have bj : (j 0).val < 256 := (j 0).isLt
    refine congrArg x (funext fun a => Fin.ext ?_)
    match a with
    | ⟨0, _⟩ =>
      show o1 + 1 * (j 0).val = ((((Rect.unit (s := S2048x1024) ![o1, o2] S256x256.size i3).emb y) 0).val / 256 * 256 + (j 0).val) % 2048
      rw [e0]; omega
    | ⟨1, _⟩ => show 0 + 1 * (j 1).val = (j 1).val; omega
  have hW : View.ld W (Rect.unit (s := S1024x1024) ![0, o2] S1024x256.size i2) = fun j : S1024x256.Idx =>
      W (ix2 (j 0) (⟨((((Rect.unit (s := S2048x1024) ![o1, o2] S256x256.size i3).emb y) 1).val / 256 * 256 + (j 1).val) % 1024, Nat.mod_lt _ (by decide)⟩ : Fin 1024)) := by
    funext j
    have bj : (j 1).val < 256 := (j 1).isLt
    refine congrArg W (funext fun a => Fin.ext ?_)
    match a with
    | ⟨0, _⟩ => show 0 + 1 * (j 0).val = (j 0).val; omega
    | ⟨1, _⟩ =>
      show o2 + 1 * (j 1).val = ((((Rect.unit (s := S2048x1024) ![o1, o2] S256x256.size i3).emb y) 1).val / 256 * 256 + (j 1).val) % 1024
      rw [e1]; omega
  have hg : View.ld g (Rect.unit (s := S2048x1024) ![o1, o2] S256x256.size i3) = fun j : S256x256.Idx =>
      g (ix2 (⟨((((Rect.unit (s := S2048x1024) ![o1, o2] S256x256.size i3).emb y) 0).val / 256 * 256 + (j 0).val) % 2048, Nat.mod_lt _ (by decide)⟩ : Fin 2048) (⟨((((Rect.unit (s := S2048x1024) ![o1, o2] S256x256.size i3).emb y) 1).val / 256 * 256 + (j 1).val) % 1024, Nat.mod_lt _ (by decide)⟩ : Fin 1024)) := by
    funext j
    have bj0 : (j 0).val < 256 := (j 0).isLt
    have bj1 : (j 1).val < 256 := (j 1).isLt
    refine congrArg g (funext fun a => Fin.ext ?_)
    match a with
    | ⟨0, _⟩ =>
      show o1 + 1 * (j 0).val = ((((Rect.unit (s := S2048x1024) ![o1, o2] S256x256.size i3).emb y) 0).val / 256 * 256 + (j 0).val) % 2048
      rw [e0]; omega
    | ⟨1, _⟩ =>
      show o2 + 1 * (j 1).val = ((((Rect.unit (s := S2048x1024) ![o1, o2] S256x256.size i3).emb y) 1).val / 256 * 256 + (j 1).val) % 1024
      rw [e1]; omega
  have hy : y = (ix2 (⟨(((Rect.unit (s := S2048x1024) ![o1, o2] S256x256.size i3).emb y) 0).val % 256, Nat.mod_lt _ (by decide)⟩ : Fin 256)
      (⟨(((Rect.unit (s := S2048x1024) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S2048x1024) ![o1, o2] S256x256.size i3).emb y) 0).val % 256; rw [e0]; omega
    | ⟨1, _⟩ => show (y 1).val = (((Rect.unit (s := S2048x1024) ![o1, o2] S256x256.size i3).emb y) 1).val % 256; rw [e1]; omega
  rw [hx, hW, hg]
  unfold outBlock
  exact congrArg _ hy

set_option maxHeartbeats 1000000 in
/-- The body while only staging (the first outer step): the chunk goes into the first panel buffer, all else is as it was. -/
theorem run_stage (c : Dev nD) (i : grid0.Coords) (arg2 : Memref sig .tc .vmem S2048x1024 .bf16) (harg2 : arg2.IsWhole) (arg3 : Memref sig .tc .vmem S256x1024 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S8x128 .f32) (harg8 : arg8.IsWhole) (hc0 : k0_cond1 i = 1#1) (hc1 : ¬k0_cond2 i = 1#1) (hc2 : ¬k0_cond3 i = 1#1)
    (x0 : Vec F S2048x1024 .bf16) (x1 : Vec F S256x1024 .f32) (g : Vec F S2048x1024 .bf16) (x2 : Vec F S2048x1024 .bf16) (D0 D1 : Vec F S1024x1024 .bf16) :
      ∀ (E : Set ℕ) (K : PUnit → sProp 𝕄),
        iprop(owns c arg2 fullShare x0 ∗ owns c arg3 fullShare x1 ∗ owns c arg4 fullShare g ∗ owns c arg5 fullShare x2 ∗ owns c arg6 fullShare D0 ∗ owns c arg7 fullShare D1 ∗ (∃ d, owns c arg8 fullShare d)
            ∗ (iprop(owns c arg2 fullShare x0 ∗ owns c arg3 fullShare x1 ∗ owns c arg4 fullShare g ∗ owns c arg5 fullShare x2 ∗ owns c arg6 fullShare (staged (k0_off1 i) (k0_off1_inb i hc0) x1 D0) ∗ owns c arg7 fullShare D1 ∗ (∃ d, owns c arg8 fullShare d)) -∗ K ⟨⟩))
          ⊢ wp frame (wpE (defs₀ (F := F)) Variants.none c none) E (cc0_attn_up i arg2 harg2 arg3 harg3 arg4 harg4 arg5 harg5 arg6 harg6 arg7 harg7 arg8 harg8) K := by
  intro E K
  simp only [cc0_attn_up_eq_skeleton]; unfold cc0_attn_up_skel
  unfold owns
  iintro ⟨⟨%f0, %hf0, H0⟩, ⟨%f1, %hf1, H1⟩, ⟨%fxg, %hxg, Xg⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxg; obtain rfl := harg5.eq_unread hf2
  obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xg]
  · iexists _; isplitr; · ipureintro; exact harg4.read_unread _
    iexact Xg
  isplitl [H2]
  · iexists _; isplitr; · ipureintro; exact harg5.read_unread _
    iexact H2
  isplitl [HS0]
  · iexists _; isplitr; swap; · iexact HS0
    ipureintro
    rw [read_store harg6]
    unfold staged
    congr 2
    sl_unfold_words
    simp only [View.readAt_eq_ld, harg3.read_unread]
    exact View.ld_unit_zero (by decide) _ _
  isplitl [HS1]
  · iexists _; isplitr; · ipureintro; exact harg7.read_unread _
    iexact HS1
  iexists _, _; isplitr; swap; · iexact HS2
  ipureintro; rfl

set_option maxHeartbeats 8000000 in
/-- The body at an odd outer step: the chunk goes into the second panel buffer while the output block is computed from the
    first one. -/
theorem run_odd (c : Dev nD) (i : grid0.Coords) (arg2 : Memref sig .tc .vmem S2048x1024 .bf16) (harg2 : arg2.IsWhole) (arg3 : Memref sig .tc .vmem S256x1024 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S8x128 .f32) (harg8 : arg8.IsWhole) (hc0 : ¬k0_cond1 i = 1#1) (hc1 : k0_cond2 i = 1#1) (hc2 : ¬k0_cond3 i = 1#1)
    (x0 : Vec F S2048x1024 .bf16) (x1 : Vec F S256x1024 .f32) (g : Vec F S2048x1024 .bf16) (D0 D1 : Vec F S1024x1024 .bf16) :
      ∀ (E : Set ℕ) (K : PUnit → sProp 𝕄),
        iprop(owns c arg2 fullShare x0 ∗ owns c arg3 fullShare x1 ∗ owns c arg4 fullShare g ∗ (∃ d, owns c arg5 fullShare d) ∗ owns c arg6 fullShare D0 ∗ owns c arg7 fullShare D1 ∗ (∃ d, owns c arg8 fullShare d)
            ∗ (iprop(owns c arg2 fullShare x0 ∗ owns c arg3 fullShare x1 ∗ owns c arg4 fullShare g ∗ owns c arg5 fullShare (outBlock x0 D0 g) ∗ owns c arg6 fullShare D0 ∗ owns c arg7 fullShare (staged (k0_off2 i) (k0_off2_inb i hc1) x1 D1) ∗ (∃ d, owns c arg8 fullShare d)) -∗ K ⟨⟩))
          ⊢ wp frame (wpE (defs₀ (F := F)) Variants.none c none) E (cc0_attn_up i arg2 harg2 arg3 harg3 arg4 harg4 arg5 harg5 arg6 harg6 arg7 harg7 arg8 harg8) K := by
  intro E K
  simp only [cc0_attn_up_eq_skeleton]; unfold cc0_attn_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%fxg, %hxg, Xg⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxg
  obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xg]
  · iexists _; isplitr; · ipureintro; exact harg4.read_unread _
    iexact Xg
  isplitl [H2]
  · iexists _; isplitr; swap; · iexact H2
    ipureintro
    sl_unfold_words
    refine read_tiled _ _ _ ![256, 256] _ (by rfl) ?_
    simp only [View.readAt_eq_ld, harg2.read_unread, harg4.read_unread, harg6.read_unread]
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals exact tile_eq x0 D0 g _ _ (by decide) (by decide) _ _ (by decide) x
  isplitl [HS0]
  · iexists _; isplitr; · ipureintro; exact harg6.read_unread _
    iexact HS0
  isplitl [HS1]
  · iexists _; isplitr; swap; · iexact HS1
    ipureintro
    rw [read_store harg7]
    unfold staged
    congr 2
    sl_unfold_words
    simp only [View.readAt_eq_ld, harg3.read_unread]
    exact View.ld_unit_zero (by decide) _ _
  iexists _, _; isplitr; swap; · iexact HS2
  ipureintro; rfl

set_option maxHeartbeats 8000000 in
/-- The body at an even outer step: the chunk goes into the first panel buffer while the output block is computed from the
    second one. -/
theorem run_even (c : Dev nD) (i : grid0.Coords) (arg2 : Memref sig .tc .vmem S2048x1024 .bf16) (harg2 : arg2.IsWhole) (arg3 : Memref sig .tc .vmem S256x1024 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S8x128 .f32) (harg8 : arg8.IsWhole) (hc0 : ¬k0_cond1 i = 1#1) (hc1 : ¬k0_cond2 i = 1#1) (hc2 : k0_cond3 i = 1#1)
    (x0 : Vec F S2048x1024 .bf16) (x1 : Vec F S256x1024 .f32) (g : Vec F S2048x1024 .bf16) (D0 D1 : Vec F S1024x1024 .bf16) :
      ∀ (E : Set ℕ) (K : PUnit → sProp 𝕄),
        iprop(owns c arg2 fullShare x0 ∗ owns c arg3 fullShare x1 ∗ owns c arg4 fullShare g ∗ (∃ d, owns c arg5 fullShare d) ∗ owns c arg6 fullShare D0 ∗ owns c arg7 fullShare D1 ∗ (∃ d, owns c arg8 fullShare d)
            ∗ (iprop(owns c arg2 fullShare x0 ∗ owns c arg3 fullShare x1 ∗ owns c arg4 fullShare g ∗ owns c arg5 fullShare (outBlock x0 D1 g) ∗ owns c arg6 fullShare (staged (k0_off3 i) (k0_off3_inb i hc2) x1 D0) ∗ owns c arg7 fullShare D1 ∗ (∃ d, owns c arg8 fullShare d)) -∗ K ⟨⟩))
          ⊢ wp frame (wpE (defs₀ (F := F)) Variants.none c none) E (cc0_attn_up i arg2 harg2 arg3 harg3 arg4 harg4 arg5 harg5 arg6 harg6 arg7 harg7 arg8 harg8) K := by
  intro E K
  simp only [cc0_attn_up_eq_skeleton]; unfold cc0_attn_up_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%fxg, %hxg, Xg⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxg
  obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xg]
  · iexists _; isplitr; · ipureintro; exact harg4.read_unread _
    iexact Xg
  isplitl [H2]
  · iexists _; isplitr; swap; · iexact H2
    ipureintro
    sl_unfold_words
    refine read_tiled _ _ _ ![256, 256] _ (by rfl) ?_
    simp only [View.readAt_eq_ld, harg2.read_unread, harg4.read_unread, harg7.read_unread]
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals exact tile_eq x0 D1 g _ _ (by decide) (by decide) _ _ (by decide) x
  isplitl [HS0]
  · iexists _; isplitr; swap; · iexact HS0
    ipureintro
    rw [read_store harg6]
    unfold staged
    congr 2
    sl_unfold_words
    simp only [View.readAt_eq_ld, harg3.read_unread]
    exact View.ld_unit_zero (by decide) _ _
  isplitl [HS1]
  · iexists _; isplitr; · ipureintro; exact harg7.read_unread _
    iexact HS1
  iexists _, _; isplitr; swap; · iexact HS2
  ipureintro; rfl

end Cert.AttnUpIdeal.AttnUp

end
-- ==== Proof.AttnUp.Run.lean ====
module

public import proofs.«01_k».proof.Proof.AttnUp.Body
public import proofs.«01_k».proof.Proof.Panels

@[expose] public section

set_option maxRecDepth 16384

noncomputable section

namespace Cert.AttnUpIdeal.AttnUp

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.AttnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 20 points (outer step `t / 4`, inner step `t % 4`) -/

theorem cond_stage : ∀ t : Fin cfg0.N, k0_cond1 (grid0.coords t) = 1#1 ↔ t.val < 4 :=
  (by decide +kernel : ∀ t : Fin grid0.N, _)
theorem cond_odd : ∀ t : Fin cfg0.N, k0_cond2 (grid0.coords t) = 1#1 ↔ t.val / 4 % 2 = 1 :=
  (by decide +kernel : ∀ t : Fin grid0.N, _)
theorem cond_even : ∀ t : Fin cfg0.N, k0_cond3 (grid0.coords t) = 1#1 ↔ (4 ≤ t.val ∧ t.val / 4 % 2 = 0) :=
  (by decide +kernel : ∀ t : Fin grid0.N, _)
theorem off_stage : ∀ t : Fin cfg0.N, k0_off1 (grid0.coords t) = ![t.val % 4 * 256, 0] :=
  (by decide +kernel : ∀ t : Fin grid0.N, _)
theorem off_odd : ∀ t : Fin cfg0.N, k0_off2 (grid0.coords t) = ![t.val % 4 * 256, 0] :=
  (by decide +kernel : ∀ t : Fin grid0.N, _)
theorem off_even : ∀ t : Fin cfg0.N, k0_off3 (grid0.coords t) = ![t.val % 4 * 256, 0] :=
  (by decide +kernel : ∀ t : Fin grid0.N, _)
/-- In the first outer step nothing is written back. -/
theorem not_flush : ∀ t : Fin cfg0.N, t.val < 4 → (cfg0.win 3).flush t = false :=
  (by decide +kernel : ∀ t : Fin grid0.N, t.val < 4 → win0_3.flush t = false)

/-! ## The weight panels in the two buffers -/

/-- The weight panel that outer step `T` stages, chunk by chunk. -/
def panel (c : Dev nD) (T : ℕ) : Vec F S1024x1024 .bf16 := fun y =>
  k0_pay1 (iblk m c 1 (⟨(4 * T + (y 0).val / 256) % 20, Nat.mod_lt _ (by decide)⟩ : Fin grid0.N))
    (ix2 (⟨(y 0).val % 256, Nat.mod_lt _ (by decide)⟩ : Fin 256) (y 1))

/-- What the two buffers hold before point `n`, as `Panels.Inv` says. -/
abbrev Inv (c : Dev nD) (n : ℕ) (D0 D1 : Vec F S1024x1024 .bf16) : Prop := Panels.Inv 256 4 (panel m c) n D0 D1

/-- Staging point `t`'s chunk adds one chunk to what the buffer holds. -/
theorem holds_staged (c : Dev nD) (t : Fin cfg0.N) (off : Fin 2 → ℕ) (hoff : off = ![t.val % 4 * 256, 0])
    (inb : ∀ a, off a + S256x1024.size a ≤ S1024x1024.size a) (D : Vec F S1024x1024 .bf16)
    (h : Panels.Holds 256 (panel m c (t.val / 4)) (t.val % 4) D) :
    Panels.Holds 256 (panel m c (t.val / 4)) (t.val % 4 + 1) (staged off inb (iblk m c 1 t) D) := by
  have ht : t.val < 20 := lt_of_lt_of_eq t.isLt N_0
  refine h.stage off hoff inb _ fun z y e0 e1 => ?_
  have hz : (z 0).val < 256 := (z 0).isLt
  unfold panel
  rw [show (⟨(4 * (t.val / 4) + (y 0).val / 256) % 20, Nat.mod_lt _ (by decide)⟩ : Fin grid0.N) = t from Fin.ext (by
    show (4 * (t.val / 4) + (y 0).val / 256) % 20 = t.val; rw [e0]; omega)]
  refine congrArg _ (funext fun a => Fin.ext ?_)
  match a with
  | ⟨0, _⟩ => show (y 0).val % 256 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (panel m c (t.val / 4 - 1)) (iblk m c 2 t)
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_gate (c : Dev nD) (t : Fin cfg0.N) : (dats m 0 c).after 2 t = iblk m c 2 t := by dsimp only [dats]
theorem after_out (c : Dev nD) (t : Fin cfg0.N) :
    (dats m 0 c).after 3 t = outBlock (iblk m c 0 t) (panel m c (t.val / 4 - 1)) (iblk m c 2 t) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d
theorem before_gate (c : Dev nD) (t : Fin cfg0.N) (d) : (dats m 0 c).before 2 t d = iblk m c 2 t :=
  before0_2_of m (dats m 0 c) (A_eq m c 2) (after_gate m c) t d

/-- The staging memrefs of point `t`. -/
abbrev msRows (t : Fin cfg0.N) : Memref sig .tc .vmem S2048x1024 .bf16 := win0_0.stage (cfg0.slots t 0)
abbrev msChunk (t : Fin cfg0.N) : Memref sig .tc .vmem S256x1024 .f32 := win0_1.stage (cfg0.slots t 1)
abbrev msGate (t : Fin cfg0.N) : Memref sig .tc .vmem S2048x1024 .bf16 := win0_2.stage (cfg0.slots t 2)
abbrev msOut (t : Fin cfg0.N) : Memref sig .tc .vmem S2048x1024 .bf16 := win0_3.stage (cfg0.slots t 3)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msGate t) fullShare ((dats m 0 c).before 2 t d))
    ∗ (∃ d, owns c (msOut t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk, before_gate]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t],
    show (dats m 0 c).leavesExact 2 t = owns c (msGate t) fullShare (iblk m c 2 t) from by
      unfold Dat.leavesExact; rw [show cfg0.idle 2 (grid0.coords t) = false from rfl, ← after_gate m c t]]
  unfold PhiT
  by_cases h8 : t.val < 4
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 3 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%dx0, X0⟩, ⟨%d2, H2⟩⟩
    iapply ((run_stage c (grid0.coords t) _ _ _ _ _ _ _ _ _ _ _ _ _ _ c1 c2 c3 (iblk m c 0 t) (iblk m c 1 t) (iblk m c 2 t) ((dats m 0 c).before 3 t d2) D0 D1) Set.univ _)
    isplitl [H0]; · iexact H0
    isplitl [H1]; · iexact H1
    isplitl [X0]; · iexact X0
    isplitl [H2]; · iexact H2
    isplitl [HS0]; · iexact HS0
    isplitl [HS1]; · iexact HS1
    isplitl [HS2]; · iexact HS2
    iintro ⟨H0, H1, X0, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    isplitl [X0]; · iexact X0
    iexists _; iexact H2
  · have c1 : ¬k0_cond1 (grid0.coords t) = 1#1 := fun h => h8 ((cond_stage t).mp h)
    by_cases h1 : t.val / 4 % 2 = 1
    · have c2 := (cond_odd t).mpr h1
      have c3 : ¬k0_cond3 (grid0.coords t) = 1#1 := fun h => by have := (cond_even t).mp h; omega
      rw [show (dats m 0 c).leavesExact 3 t = owns c (msOut t) fullShare (outBlock (iblk m c 0 t) (panel m c (t.val / 4 - 1)) (iblk m c 2 t)) from by
        unfold Dat.leavesExact
        rw [show cfg0.idle 3 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%dx0, X0⟩, ⟨%d2, H2⟩⟩
      rw [← (hI.2.2.2 (by omega) h1).eq_panel]
      iapply ((run_odd c (grid0.coords t) _ _ _ _ _ _ _ _ _ _ _ _ _ _ c1 c2 c3 (iblk m c 0 t) (iblk m c 1 t) (iblk m c 2 t) D0 D1) Set.univ _)
      isplitl [H0]; · iexact H0
      isplitl [H1]; · iexact H1
      isplitl [X0]; · iexact X0
      isplitl [H2]; · iexists _; iexact H2
      isplitl [HS0]; · iexact HS0
      isplitl [HS1]; · iexact HS1
      isplitl [HS2]; · iexact HS2
      iintro ⟨H0, H1, X0, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      iexact H2
    · have c3 := (cond_even t).mpr ⟨by omega, by omega⟩
      have c2 : ¬k0_cond2 (grid0.coords t) = 1#1 := fun h => h1 ((cond_odd t).mp h)
      rw [show (dats m 0 c).leavesExact 3 t = owns c (msOut t) fullShare (outBlock (iblk m c 0 t) (panel m c (t.val / 4 - 1)) (iblk m c 2 t)) from by
        unfold Dat.leavesExact
        rw [show cfg0.idle 3 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%dx0, X0⟩, ⟨%d2, H2⟩⟩
      rw [← (hI.2.2.1 (by omega) (by omega)).eq_panel]
      iapply ((run_even c (grid0.coords t) _ _ _ _ _ _ _ _ _ _ _ _ _ _ c1 c2 c3 (iblk m c 0 t) (iblk m c 1 t) (iblk m c 2 t) D0 D1) Set.univ _)
      isplitl [H0]; · iexact H0
      isplitl [H1]; · iexact H1
      isplitl [X0]; · iexact X0
      isplitl [H2]; · iexists _; iexact H2
      isplitl [HS0]; · iexact HS0
      isplitl [HS1]; · iexact HS1
      isplitl [HS2]; · iexact HS2
      iintro ⟨H0, H1, X0, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnUpIdeal.AttnUp

end
-- ==== Proof.AttnUp.Value.lean ====
module

public import proofs.«01_k».proof.Proof.AttnUp.Run

@[expose] public section

set_option maxRecDepth 16384

noncomputable section

namespace Cert.AttnUpIdeal.AttnUp

open Idealize.ShloMosaic TcCoe Tactic
open Idealize.SL Idealize.SL.Sem
open Idealize.ShloMosaic.Pipeline (Dat Cfg Window)
open Cert.AttnUpIdeal.Gen

variable (m : (ℓ : Loc nD τ sig) → Buf (Elt Ideal) ℓ) (ρ : Dev nD → PrngReg)

/-- The activations, the weights, and the gates as launched. -/
abbrev X (c : Dev nD) : Vec Ideal S8192x1024 .bf16 := m ((c : Thread nD τ).loc main_arg0)
abbrev W (c : Dev nD) : Vec Ideal S1024x4096 .f32 := m ((c : Thread nD τ).loc main_arg1)
abbrev Gt (c : Dev nD) : Vec Ideal S8192x8192 .bf16 := m ((c : Thread nD τ).loc main_arg2)

/-- The result: the first half of the gates' columns times the activations' product with the weights. -/
def G (c : Dev nD) : Vec Ideal S8192x4096 .bf16 := fun i =>
  Gt m c (ix2 (i 0) (⟨(i 1).val, by have : (i 1).val < 4096 := (i 1).isLt; omega⟩ : Fin 8192))
    * ∑ k : Fin 1024, X m c (ix2 (i 0) k) * W m c (ix2 k (i 1))

theorem idx_rows : ∀ t : Fin cfg0.N, 4 ≤ t.val → win0_0.index t = ![t.val % 4, 0] :=
  (by decide +kernel : ∀ t : Fin grid0.N, _)
theorem idx_chunk : ∀ t : Fin cfg0.N, t.val < 16 → win0_1.index t = ![t.val % 4, t.val / 4] :=
  (by decide +kernel : ∀ t : Fin grid0.N, _)
theorem idx_gate : ∀ t : Fin cfg0.N, 4 ≤ t.val → win0_2.index t = ![t.val % 4, t.val / 4 - 1] :=
  (by decide +kernel : ∀ t : Fin grid0.N, _)
theorem idx_out : ∀ t : Fin cfg0.N, 4 ≤ t.val → win0_3.index t = ![t.val % 4, t.val / 4 - 1] :=
  (by decide +kernel : ∀ t : Fin grid0.N, _)

/-- The rows that a multiplying point reads. -/
theorem rows_apply (c : Dev nD) (t : Fin cfg0.N) (ht : 4 ≤ t.val) (y : S2048x1024.Idx) :
    iblk m c 0 t y = X m c (ix2 (⟨t.val % 4 * 2048 + (y 0).val, by have : (y 0).val < 2048 := (y 0).isLt; omega⟩ : Fin 8192) (y 1)) := by
  blk_ext [iblk, V, idx_rows t ht]

/-- The chunk of the weights that a staging point reads. -/
theorem chunk_apply (c : Dev nD) (t : Fin cfg0.N) (ht : t.val < 16) (y : S256x1024.Idx) :
    iblk m c 1 t y = W m c (ix2 (⟨t.val % 4 * 256 + (y 0).val, by have : (y 0).val < 256 := (y 0).isLt; omega⟩ : Fin 1024)
      (⟨t.val / 4 * 1024 + (y 1).val, by have : (y 1).val < 1024 := (y 1).isLt; omega⟩ : Fin 4096)) := by
  blk_ext [iblk, V, idx_chunk t ht]

/-- The block of the gates that a multiplying point reads. -/
theorem gate_apply (c : Dev nD) (t : Fin cfg0.N) (ht : 4 ≤ t.val) (y : S2048x1024.Idx) :
    iblk m c 2 t y = Gt m c (ix2 (⟨t.val % 4 * 2048 + (y 0).val, by have : (y 0).val < 2048 := (y 0).isLt; omega⟩ : Fin 8192)
      (⟨(t.val / 4 - 1) * 1024 + (y 1).val, by have : (y 1).val < 1024 := (y 1).isLt; have : t.val < 20 := lt_of_lt_of_eq t.isLt N_0; omega⟩ : Fin 8192)) := by
  blk_ext [iblk, V, idx_gate t ht]

/-- A staged panel is a block of the weights' columns. -/
theorem panel_apply (c : Dev nD) (T : ℕ) (hT : T < 4) (y : S1024x1024.Idx) :
    panel m c T y = W m c (ix2 (y 0) (⟨T * 1024 + (y 1).val, by have : (y 1).val < 1024 := (y 1).isLt; omega⟩ : Fin 4096)) := by
  have hy : (y 0).val < 1024 := (y 0).isLt
  unfold panel k0_pay1
  pointwise
  rw [chunk_apply m c _ (by show (4 * T + (y 0).val / 256) % 20 < 16; omega)]
  refine congrArg (W m c) (funext fun a => Fin.ext ?_)
  match a with
  | ⟨0, _⟩ =>
    show (4 * T + (y 0).val / 256) % 20 % 4 * 256 + (y 0).val % 256 = (y 0).val
    omega
  | ⟨1, _⟩ =>
    show (4 * T + (y 0).val / 256) % 20 / 4 * 1024 + (y 1).val = T * 1024 + (y 1).val
    rw [show (4 * T + (y 0).val / 256) % 20 / 4 = T by omega]

/-- What a multiplying point leaves in the output's block, at the element that is `j` of the output. -/
theorem out_point (c : Dev nD) (t : Fin cfg0.N) (ht : 4 ≤ t.val) (y : S2048x1024.Idx) (j : S8192x4096.Idx)
    (e0 : (j 0).val = t.val % 4 * 2048 + (y 0).val) (e1 : (j 1).val = (t.val / 4 - 1) * 1024 + (y 1).val) :
    outBlock (iblk m c 0 t) (panel m c (t.val / 4 - 1)) (iblk m c 2 t) y = G m c j := by
  have hlt : t.val < 20 := lt_of_lt_of_eq t.isLt N_0
  have hy0 : (y 0).val < 2048 := (y 0).isLt
  have hy1 : (y 1).val < 1024 := (y 1).isLt
  unfold outBlock k0_pay2 G
  pointwise
  refine congrArg₂ (· * ·) ((gate_apply m c t ht _).trans (congrArg (Gt m c) (funext fun a => Fin.ext ?_)))
    (Finset.sum_congr rfl fun k _ => ?_)
  · match a with
    | ⟨0, _⟩ =>
      show t.val % 4 * 2048 + ((y 0).val / 256 * 256 + (y 0).val % 256) % 2048 = (j 0).val
      omega
    | ⟨1, _⟩ =>
      show (t.val / 4 - 1) * 1024 + ((y 1).val / 256 * 256 + (y 1).val % 256) % 1024 = (j 1).val
      omega
  · rw [rows_apply m c t ht, panel_apply m c _ (by omega)]
    refine congrArg₂ (· * ·) (congrArg (fun a => X m c (ix2 a k)) (Fin.ext ?_)) (congrArg (fun a => W m c (ix2 k a)) (Fin.ext ?_))
    · show t.val % 4 * 2048 + ((y 0).val / 256 * 256 + (y 0).val % 256) % 2048 = (j 0).val
      omega
    · show (t.val / 4 - 1) * 1024 + ((y 1).val / 256 * 256 + (y 1).val % 256) % 1024 = (j 1).val
      omega

/-- The place in the output of an element of a multiplying point's block. -/
theorem out_place (t : Fin cfg0.N) (ht : 4 ≤ t.val) (y : S2048x1024.Idx) :
    ((((cfg0.win 3).blk t).view.emb y) 0).val = t.val % 4 * 2048 + (y 0).val
      ∧ ((((cfg0.win 3).blk t).view.emb y) 1).val = (t.val / 4 - 1) * 1024 + (y 1).val := by
  constructor <;> blk_simp [idx_out t ht]

/-- The output array after the run. -/
theorem final_out (c : Dev nD) : (dats m 0 c).arrAt 3 (cfgs 0).N = G m c := by
  refine (dats m 0 c).arrAt_eq_of_covers 3 _ (by decide +kernel) fun t hf y => ?_
  have ht : 4 ≤ t.val := by
    by_contra h
    have := not_flush t (by omega)
    exact absurd (this.symm.trans hf) (by decide)
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final_out m c), h.2.1 c⟩)
    (θ_run_and ((θ_run defs _ _).mono (fun _ h => h.1) (run_main m ρ)) (frame m ρ))

end Cert.AttnUpIdeal.AttnUp

end
-- ==== Proof.AttnUp.Reference.lean ====
module

public import proofs.«01_k».proof.Proof.AttnUp.Value
public import proofs.«01_k».proof.Proof.Gen.AttnUpRefIdeal.Read

@[expose] public section

set_option maxRecDepth 16384

noncomputable section

namespace Cert.AttnUpRefIdeal.AttnUp

open Idealize.ShloMosaic TcCoe Tactic
open Cert.AttnUpRefIdeal Cert.AttnUpRefIdeal.Gen Cert.AttnUpRefIdeal.Read

variable (x0 : (⟨S8192x1024, .bf16⟩ : BufTy).Contents (Elt Ideal)) (x1 : (⟨S1024x4096, .f32⟩ : BufTy).Contents (Elt Ideal))
  (x2 : (⟨S8192x8192, .bf16⟩ : BufTy).Contents (Elt Ideal))

/-- The reference's product at an element. -/
theorem product_apply (j : S8192x4096.Idx) :
    val_main_v3 (F := Ideal) x0 x1 j = ∑ k : Fin 1024, x0 (ix2 (j 0) k) * x1 (ix2 k (j 1)) := by
  unfold val_main_v3 val_main_v2
  pointwise

/-- The reference's gates at an element. -/
theorem gates_apply (i : S8192x4096.Idx) :
    val_main_v0 (F := Ideal) x2 i = x2 (ix2 (i 0) (⟨(i 1).val, by have : (i 1).val < 4096 := (i 1).isLt; omega⟩ : Fin 8192)) := by
  unfold val_main_v0
  refine congrArg x2 (funext fun a => Fin.ext ?_)
  match a with
  | ⟨0, _⟩ => show 0 + (i 0).val = (i 0).val; omega
  | ⟨1, _⟩ => show 0 + (i 1).val = (i 1).val; omega

/-- The reference's result at an element: the gate times the product. -/
theorem result_apply (i : S8192x4096.Idx) :
    val_main_v5 (F := Ideal) x0 x1 x2 i
      = x2 (ix2 (i 0) (⟨(i 1).val, by have : (i 1).val < 4096 := (i 1).isLt; omega⟩ : Fin 8192))
        * ∑ k : Fin 1024, x0 (ix2 (i 0) k) * x1 (ix2 k (i 1)) := by
  rw [← product_apply, ← gates_apply x2 i]
  rfl

end Cert.AttnUpRefIdeal.AttnUp

end
-- ==== Proof.DnUp.Body.lean ====
module

public import proofs.«01_k».proof.Proof.Gen.DnUpIdeal.Frame
public import proofs.«01_k».proof.Proof.Gen.DnUpIdeal.Skeleton
public import proofs.«01_k».proof.Proof.Stores

@[expose] public section

set_option maxRecDepth 65536

noncomputable section

namespace Cert.DnUpIdeal.DnUp

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.DnUpIdeal.Gen
open Cert.Stores (read_store read_tiled)

variable {F : FTy → Type} [FloatOps F]

local notation "𝕄" => MT nD τ sig Unit (Elt F) ℕ (UR sig nD τ) ℕ

/-! ## What the body computes -/

/-- The panel buffer after a chunk of 512 rows is staged into it at the row offset `off 0`: the chunk, its numbers cast to
    bf16, over the buffer's earlier contents. -/
def staged (off : Fin 2 → ℕ) (inb : ∀ a, off a + S512x1024.size a ≤ S2048x1024.size a) (x1 : Vec F S512x1024 .f32)
    (D : Vec F S2048x1024 .bf16) : Vec F S2048x1024 .bf16 :=
  (Rect.unit (s := S2048x1024) off S512x1024.size inb).overlay D (k0_pay1 x1)

/-- The output block from a block of rows `x`, a weight panel `W`, a block `g` of gates and a block `r` of what is added:
    thirty-two products of 256 rows of `x` with 256 columns of `W`, side by side, each times `g` there, added to `r` there. -/
def outBlock (x : Vec F S2048x2048 .bf16) (W : Vec F S2048x1024 .bf16) (g : Vec F S2048x1024 .bf16) (r : Vec F S2048x1024 .bf16) : Vec F S2048x1024 .bf16 := fun y =>
  k0_pay5 (fun j => x (ix2 (⟨((y 0).val / 256 * 256 + (j 0).val) % 2048, Nat.mod_lt _ (by decide)⟩ : Fin 2048) (j 1)))
    (fun j => W (ix2 (j 0) (⟨((y 1).val / 256 * 256 + (j 1).val) % 1024, Nat.mod_lt _ (by decide)⟩ : Fin 1024)))
    (fun j => r (ix2 (⟨((y 0).val / 256 * 256 + (j 0).val) % 2048, Nat.mod_lt _ (by decide)⟩ : Fin 2048) (⟨((y 1).val / 256 * 256 + (j 1).val) % 1024, Nat.mod_lt _ (by decide)⟩ : Fin 1024)))
    (fun j => g (ix2 (⟨((y 0).val / 256 * 256 + (j 0).val) % 2048, Nat.mod_lt _ (by decide)⟩ : Fin 2048) (⟨((y 1).val / 256 * 256 + (j 1).val) % 1024, Nat.mod_lt _ (by decide)⟩ : Fin 1024)))
    (ix2 (⟨(y 0).val % 256, Nat.mod_lt _ (by decide)⟩ : Fin 256) (⟨(y 1).val % 256, Nat.mod_lt _ (by decide)⟩ : Fin 256))

/-- What is stored at one of the rectangles is the part of `outBlock` under it. -/
theorem tile_eq (x : Vec F S2048x2048 .bf16) (W : Vec F S2048x1024 .bf16) (g : Vec F S2048x1024 .bf16) (r : Vec F S2048x1024 .bf16) (o1 o2 : ℕ) (h1 : o1 % 256 = 0) (h2 : o2 % 256 = 0)
    (i1 : ∀ a, (![o1, 0] : Fin 2 → ℕ) a + S256x2048.size a ≤ S2048x2048.size a)
    (i2 : ∀ a, (![0, o2] : Fin 2 → ℕ) a + S2048x256.size a ≤ S2048x1024.size a)
    (i3 : ∀ a, (![o1, o2] : Fin 2 → ℕ) a + S256x256.size a ≤ S2048x1024.size a) (y : S256x256.Idx) :
    k0_pay5 (View.ld x (Rect.unit (s := S2048x2048) ![o1, 0] S256x2048.size i1))
        (View.ld W (Rect.unit (s := S2048x1024) ![0, o2] S2048x256.size i2))
        (View.ld r (Rect.unit (s := S2048x1024) ![o1, o2] S256x256.size i3))
        (View.ld g (Rect.unit (s := S2048x1024) ![o1, o2] S256x256.size i3)) y
      = outBlock x W g r ((Rect.unit (s := S2048x1024) ![o1, o2] S256x256.size i3).emb y) := by
  have b0 : (y 0).val < 256 := (y 0).isLt
  have b1 : (y 1).val < 256 := (y 1).isLt
  have l1 : o1 + 256 ≤ 2048 := i1 0
  have l2 : o2 + 256 ≤ 1024 := i2 1
  have e0 : (((Rect.unit (s := S2048x1024) ![o1, o2] S256x256.size i3).emb y) 0).val = o1 + (y 0).val := by
    show o1 + 1 * (y 0).val = _; omega
  have e1 : (((Rect.unit (s := S2048x1024) ![o1, o2] S256x256.size i3).emb y) 1).val = o2 + (y 1).val := by
    show o2 + 1 * (y 1).val = _; omega
  have hx : View.ld x (Rect.unit (s := S2048x2048) ![o1, 0] S256x2048.size i1) = fun j : S256x2048.Idx =>
      x (ix2 (⟨((((Rect.unit (s := S2048x1024) ![o1, o2] S256x256.size i3).emb y) 0).val / 256 * 256 + (j 0).val) % 2048, Nat.mod_lt _ (by decide)⟩ : Fin 2048) (j 1)) := by
    funext j
    have bj : (j 0).val < 256 := (j 0).isLt
    refine congrArg x (funext fun a => Fin.ext ?_)
    match a with
    | ⟨0, _⟩ =>
      show o1 + 1 * (j 0).val = ((((Rect.unit (s := S2048x1024) ![o1, o2] S256x256.size i3).emb y) 0).val / 256 * 256 + (j 0).val) % 2048
      rw [e0]; omega
    | ⟨1, _⟩ => show 0 + 1 * (j 1).val = (j 1).val; omega
  have hW : View.ld W (Rect.unit (s := S2048x1024) ![0, o2] S2048x256.size i2) = fun j : S2048x256.Idx =>
      W (ix2 (j 0) (⟨((((Rect.unit (s := S2048x1024) ![o1, o2] S256x256.size i3).emb y) 1).val / 256 * 256 + (j 1).val) % 1024, Nat.mod_lt _ (by decide)⟩ : Fin 1024)) := by
    funext j
    have bj : (j 1).val < 256 := (j 1).isLt
    refine congrArg W (funext fun a => Fin.ext ?_)
    match a with
    | ⟨0, _⟩ => show 0 + 1 * (j 0).val = (j 0).val; omega
    | ⟨1, _⟩ =>
      show o2 + 1 * (j 1).val = ((((Rect.unit (s := S2048x1024) ![o1, o2] S256x256.size i3).emb y) 1).val / 256 * 256 + (j 1).val) % 1024
      rw [e1]; omega
  have hg : View.ld g (Rect.unit (s := S2048x1024) ![o1, o2] S256x256.size i3) = fun j : S256x256.Idx =>
      g (ix2 (⟨((((Rect.unit (s := S2048x1024) ![o1, o2] S256x256.size i3).emb y) 0).val / 256 * 256 + (j 0).val) % 2048, Nat.mod_lt _ (by decide)⟩ : Fin 2048) (⟨((((Rect.unit (s := S2048x1024) ![o1, o2] S256x256.size i3).emb y) 1).val / 256 * 256 + (j 1).val) % 1024, Nat.mod_lt _ (by decide)⟩ : Fin 1024)) := by
    funext j
    have bj0 : (j 0).val < 256 := (j 0).isLt
    have bj1 : (j 1).val < 256 := (j 1).isLt
    refine congrArg g (funext fun a => Fin.ext ?_)
    match a with
    | ⟨0, _⟩ =>
      show o1 + 1 * (j 0).val = ((((Rect.unit (s := S2048x1024) ![o1, o2] S256x256.size i3).emb y) 0).val / 256 * 256 + (j 0).val) % 2048
      rw [e0]; omega
    | ⟨1, _⟩ =>
      show o2 + 1 * (j 1).val = ((((Rect.unit (s := S2048x1024) ![o1, o2] S256x256.size i3).emb y) 1).val / 256 * 256 + (j 1).val) % 1024
      rw [e1]; omega
  have hr : View.ld r (Rect.unit (s := S2048x1024) ![o1, o2] S256x256.size i3) = fun j : S256x256.Idx =>
      r (ix2 (⟨((((Rect.unit (s := S2048x1024) ![o1, o2] S256x256.size i3).emb y) 0).val / 256 * 256 + (j 0).val) % 2048, Nat.mod_lt _ (by decide)⟩ : Fin 2048) (⟨((((Rect.unit (s := S2048x1024) ![o1, o2] S256x256.size i3).emb y) 1).val / 256 * 256 + (j 1).val) % 1024, Nat.mod_lt _ (by decide)⟩ : Fin 1024)) := by
    funext j
    have bj0 : (j 0).val < 256 := (j 0).isLt
    have bj1 : (j 1).val < 256 := (j 1).isLt
    refine congrArg r (funext fun a => Fin.ext ?_)
    match a with
    | ⟨0, _⟩ =>
      show o1 + 1 * (j 0).val = ((((Rect.unit (s := S2048x1024) ![o1, o2] S256x256.size i3).emb y) 0).val / 256 * 256 + (j 0).val) % 2048
      rw [e0]; omega
    | ⟨1, _⟩ =>
      show o2 + 1 * (j 1).val = ((((Rect.unit (s := S2048x1024) ![o1, o2] S256x256.size i3).emb y) 1).val / 256 * 256 + (j 1).val) % 1024
      rw [e1]; omega
  have hy : y = (ix2 (⟨(((Rect.unit (s := S2048x1024) ![o1, o2] S256x256.size i3).emb y) 0).val % 256, Nat.mod_lt _ (by decide)⟩ : Fin 256)
      (⟨(((Rect.unit (s := S2048x1024) ![o1, o2] S256x256.size i3).emb y) 1).val % 256, Nat.mod_lt _ (by decide)⟩ : Fin 256) : S256x256.Idx) := by
    funext a
    refine Fin.ext ?_
    match a with
    | ⟨0, _⟩ => show (y 0).val = (((Rect.unit (s := S2048x1024) ![o1, o2] S256x256.size i3).emb y) 0).val % 256; rw [e0]; omega
    | ⟨1, _⟩ => show (y 1).val = (((Rect.unit (s := S2048x1024) ![o1, o2] S256x256.size i3).emb y) 1).val % 256; rw [e1]; omega
  rw [hx, hW, hg, hr]
  unfold outBlock
  exact congrArg _ hy

set_option maxHeartbeats 1000000 in
/-- The body while only staging (the first outer step): the chunk goes into the first panel buffer, all else is as it was. -/
theorem run_stage (c : Dev nD) (i : grid0.Coords) (arg2 : Memref sig .tc .vmem S2048x2048 .bf16) (harg2 : arg2.IsWhole) (arg3 : Memref sig .tc .vmem S512x1024 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S8x128 .f32) (harg9 : arg9.IsWhole) (hc0 : k0_cond1 i = 1#1) (hc1 : ¬k0_cond2 i = 1#1) (hc2 : ¬k0_cond3 i = 1#1)
    (x0 : Vec F S2048x2048 .bf16) (x1 : Vec F S512x1024 .f32) (g : Vec F S2048x1024 .bf16) (r : Vec F S2048x1024 .bf16) (x2 : Vec F S2048x1024 .bf16) (D0 D1 : Vec F S2048x1024 .bf16) :
      ∀ (E : Set ℕ) (K : PUnit → sProp 𝕄),
        iprop(owns c arg2 fullShare x0 ∗ owns c arg3 fullShare x1 ∗ owns c arg4 fullShare g ∗ owns c arg5 fullShare r ∗ owns c arg6 fullShare x2 ∗ owns c arg7 fullShare D0 ∗ owns c arg8 fullShare D1 ∗ (∃ d, owns c arg9 fullShare d)
            ∗ (iprop(owns c arg2 fullShare x0 ∗ owns c arg3 fullShare x1 ∗ owns c arg4 fullShare g ∗ owns c arg5 fullShare r ∗ owns c arg6 fullShare x2 ∗ owns c arg7 fullShare (staged (k0_off1 i) (k0_off1_inb i hc0) x1 D0) ∗ owns c arg8 fullShare D1 ∗ (∃ d, owns c arg9 fullShare d)) -∗ K ⟨⟩))
          ⊢ wp frame (wpE (defs₀ (F := F)) Variants.none c none) E (cc0_dn_up i arg2 harg2 arg3 harg3 arg4 harg4 arg5 harg5 arg6 harg6 arg7 harg7 arg8 harg8 arg9 harg9) K := by
  intro E K
  simp only [cc0_dn_up_eq_skeleton]; unfold cc0_dn_up_skel
  unfold owns
  iintro ⟨⟨%f0, %hf0, H0⟩, ⟨%f1, %hf1, H1⟩, ⟨%fxg, %hxg, Xg⟩, ⟨%fxr, %hxr, Xr⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxg; obtain rfl := harg5.eq_unread hxr; obtain rfl := harg6.eq_unread hf2
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xg]
  · iexists _; isplitr; · ipureintro; exact harg4.read_unread _
    iexact Xg
  isplitl [Xr]
  · iexists _; isplitr; · ipureintro; exact harg5.read_unread _
    iexact Xr
  isplitl [H2]
  · iexists _; isplitr; · ipureintro; exact harg6.read_unread _
    iexact H2
  isplitl [HS0]
  · iexists _; isplitr; swap; · iexact HS0
    ipureintro
    rw [read_store harg7]
    unfold staged
    congr 2
    sl_unfold_words
    simp only [View.readAt_eq_ld, harg3.read_unread]
    exact View.ld_unit_zero (by decide) _ _
  isplitl [HS1]
  · iexists _; isplitr; · ipureintro; exact harg8.read_unread _
    iexact HS1
  iexists _, _; isplitr; swap; · iexact HS2
  ipureintro; rfl

set_option maxHeartbeats 8000000 in
/-- The body at an odd outer step: the chunk goes into the second panel buffer while the output block is computed from the
    first one. -/
theorem run_odd (c : Dev nD) (i : grid0.Coords) (arg2 : Memref sig .tc .vmem S2048x2048 .bf16) (harg2 : arg2.IsWhole) (arg3 : Memref sig .tc .vmem S512x1024 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S8x128 .f32) (harg9 : arg9.IsWhole) (hc0 : ¬k0_cond1 i = 1#1) (hc1 : k0_cond2 i = 1#1) (hc2 : ¬k0_cond3 i = 1#1)
    (x0 : Vec F S2048x2048 .bf16) (x1 : Vec F S512x1024 .f32) (g : Vec F S2048x1024 .bf16) (r : Vec F S2048x1024 .bf16) (D0 D1 : Vec F S2048x1024 .bf16) :
      ∀ (E : Set ℕ) (K : PUnit → sProp 𝕄),
        iprop(owns c arg2 fullShare x0 ∗ owns c arg3 fullShare x1 ∗ owns c arg4 fullShare g ∗ owns c arg5 fullShare r ∗ (∃ d, owns c arg6 fullShare d) ∗ owns c arg7 fullShare D0 ∗ owns c arg8 fullShare D1 ∗ (∃ d, owns c arg9 fullShare d)
            ∗ (iprop(owns c arg2 fullShare x0 ∗ owns c arg3 fullShare x1 ∗ owns c arg4 fullShare g ∗ owns c arg5 fullShare r ∗ owns c arg6 fullShare (outBlock x0 D0 g r) ∗ owns c arg7 fullShare D0 ∗ owns c arg8 fullShare (staged (k0_off2 i) (k0_off2_inb i hc1) x1 D1) ∗ (∃ d, owns c arg9 fullShare d)) -∗ K ⟨⟩))
          ⊢ wp frame (wpE (defs₀ (F := F)) Variants.none c none) E (cc0_dn_up i arg2 harg2 arg3 harg3 arg4 harg4 arg5 harg5 arg6 harg6 arg7 harg7 arg8 harg8 arg9 harg9) K := by
  intro E K
  simp only [cc0_dn_up_eq_skeleton]; unfold cc0_dn_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%fxg, %hxg, Xg⟩, ⟨%fxr, %hxr, Xr⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxg; obtain rfl := harg5.eq_unread hxr
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xg]
  · iexists _; isplitr; · ipureintro; exact harg4.read_unread _
    iexact Xg
  isplitl [Xr]
  · iexists _; isplitr; · ipureintro; exact harg5.read_unread _
    iexact Xr
  isplitl [H2]
  · iexists _; isplitr; swap; · iexact H2
    ipureintro
    sl_unfold_words
    refine read_tiled _ _ _ ![256, 256] _ (by rfl) ?_
    simp only [View.readAt_eq_ld, harg2.read_unread, harg4.read_unread, harg5.read_unread, harg7.read_unread]
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals exact tile_eq x0 D0 g r _ _ (by decide) (by decide) _ _ (by decide) x
  isplitl [HS0]
  · iexists _; isplitr; · ipureintro; exact harg7.read_unread _
    iexact HS0
  isplitl [HS1]
  · iexists _; isplitr; swap; · iexact HS1
    ipureintro
    rw [read_store harg8]
    unfold staged
    congr 2
    sl_unfold_words
    simp only [View.readAt_eq_ld, harg3.read_unread]
    exact View.ld_unit_zero (by decide) _ _
  iexists _, _; isplitr; swap; · iexact HS2
  ipureintro; rfl

set_option maxHeartbeats 8000000 in
/-- The body at an even outer step: the chunk goes into the first panel buffer while the output block is computed from the
    second one. -/
theorem run_even (c : Dev nD) (i : grid0.Coords) (arg2 : Memref sig .tc .vmem S2048x2048 .bf16) (harg2 : arg2.IsWhole) (arg3 : Memref sig .tc .vmem S512x1024 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S8x128 .f32) (harg9 : arg9.IsWhole) (hc0 : ¬k0_cond1 i = 1#1) (hc1 : ¬k0_cond2 i = 1#1) (hc2 : k0_cond3 i = 1#1)
    (x0 : Vec F S2048x2048 .bf16) (x1 : Vec F S512x1024 .f32) (g : Vec F S2048x1024 .bf16) (r : Vec F S2048x1024 .bf16) (D0 D1 : Vec F S2048x1024 .bf16) :
      ∀ (E : Set ℕ) (K : PUnit → sProp 𝕄),
        iprop(owns c arg2 fullShare x0 ∗ owns c arg3 fullShare x1 ∗ owns c arg4 fullShare g ∗ owns c arg5 fullShare r ∗ (∃ d, owns c arg6 fullShare d) ∗ owns c arg7 fullShare D0 ∗ owns c arg8 fullShare D1 ∗ (∃ d, owns c arg9 fullShare d)
            ∗ (iprop(owns c arg2 fullShare x0 ∗ owns c arg3 fullShare x1 ∗ owns c arg4 fullShare g ∗ owns c arg5 fullShare r ∗ owns c arg6 fullShare (outBlock x0 D1 g r) ∗ owns c arg7 fullShare (staged (k0_off3 i) (k0_off3_inb i hc2) x1 D0) ∗ owns c arg8 fullShare D1 ∗ (∃ d, owns c arg9 fullShare d)) -∗ K ⟨⟩))
          ⊢ wp frame (wpE (defs₀ (F := F)) Variants.none c none) E (cc0_dn_up i arg2 harg2 arg3 harg3 arg4 harg4 arg5 harg5 arg6 harg6 arg7 harg7 arg8 harg8 arg9 harg9) K := by
  intro E K
  simp only [cc0_dn_up_eq_skeleton]; unfold cc0_dn_up_skel
  simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%fxg, %hxg, Xg⟩, ⟨%fxr, %hxr, Xr⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hxg; obtain rfl := harg5.eq_unread hxr
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [Xg]
  · iexists _; isplitr; · ipureintro; exact harg4.read_unread _
    iexact Xg
  isplitl [Xr]
  · iexists _; isplitr; · ipureintro; exact harg5.read_unread _
    iexact Xr
  isplitl [H2]
  · iexists _; isplitr; swap; · iexact H2
    ipureintro
    sl_unfold_words
    refine read_tiled _ _ _ ![256, 256] _ (by rfl) ?_
    simp only [View.readAt_eq_ld, harg2.read_unread, harg4.read_unread, harg5.read_unread, harg8.read_unread]
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals exact tile_eq x0 D1 g r _ _ (by decide) (by decide) _ _ (by decide) x
  isplitl [HS0]
  · iexists _; isplitr; swap; · iexact HS0
    ipureintro
    rw [read_store harg7]
    unfold staged
    congr 2
    sl_unfold_words
    simp only [View.readAt_eq_ld, harg3.read_unread]
    exact View.ld_unit_zero (by decide) _ _
  isplitl [HS1]
  · iexists _; isplitr; · ipureintro; exact harg8.read_unread _
    iexact HS1
  iexists _, _; isplitr; swap; · iexact HS2
  ipureintro; rfl

end Cert.DnUpIdeal.DnUp

end
-- ==== Proof.DnUp.Run.lean ====
module

public import proofs.«01_k».proof.Proof.DnUp.Body
public import proofs.«01_k».proof.Proof.Panels

@[expose] public section

set_option maxRecDepth 16384

noncomputable section

namespace Cert.DnUpIdeal.DnUp

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.DnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 20 points (outer step `t / 4`, inner step `t % 4`) -/

theorem cond_stage : ∀ t : Fin cfg0.N, k0_cond1 (grid0.coords t) = 1#1 ↔ t.val < 4 :=
  (by decide +kernel : ∀ t : Fin grid0.N, _)
theorem cond_odd : ∀ t : Fin cfg0.N, k0_cond2 (grid0.coords t) = 1#1 ↔ t.val / 4 % 2 = 1 :=
  (by decide +kernel : ∀ t : Fin grid0.N, _)
theorem cond_even : ∀ t : Fin cfg0.N, k0_cond3 (grid0.coords t) = 1#1 ↔ (4 ≤ t.val ∧ t.val / 4 % 2 = 0) :=
  (by decide +kernel : ∀ t : Fin grid0.N, _)
theorem off_stage : ∀ t : Fin cfg0.N, k0_off1 (grid0.coords t) = ![t.val % 4 * 512, 0] :=
  (by decide +kernel : ∀ t : Fin grid0.N, _)
theorem off_odd : ∀ t : Fin cfg0.N, k0_off2 (grid0.coords t) = ![t.val % 4 * 512, 0] :=
  (by decide +kernel : ∀ t : Fin grid0.N, _)
theorem off_even : ∀ t : Fin cfg0.N, k0_off3 (grid0.coords t) = ![t.val % 4 * 512, 0] :=
  (by decide +kernel : ∀ t : Fin grid0.N, _)
/-- In the first outer step nothing is written back. -/
theorem not_flush : ∀ t : Fin cfg0.N, t.val < 4 → (cfg0.win 4).flush t = false :=
  (by decide +kernel : ∀ t : Fin grid0.N, t.val < 4 → win0_4.flush t = false)

/-! ## The weight panels in the two buffers -/

/-- The weight panel that outer step `T` stages, chunk by chunk. -/
def panel (c : Dev nD) (T : ℕ) : Vec F S2048x1024 .bf16 := fun y =>
  k0_pay1 (iblk m c 1 (⟨(4 * T + (y 0).val / 512) % 20, Nat.mod_lt _ (by decide)⟩ : Fin grid0.N))
    (ix2 (⟨(y 0).val % 512, Nat.mod_lt _ (by decide)⟩ : Fin 512) (y 1))

/-- What the two buffers hold before point `n`, as `Panels.Inv` says. -/
abbrev Inv (c : Dev nD) (n : ℕ) (D0 D1 : Vec F S2048x1024 .bf16) : Prop := Panels.Inv 512 4 (panel m c) n D0 D1

/-- Staging point `t`'s chunk adds one chunk to what the buffer holds. -/
theorem holds_staged (c : Dev nD) (t : Fin cfg0.N) (off : Fin 2 → ℕ) (hoff : off = ![t.val % 4 * 512, 0])
    (inb : ∀ a, off a + S512x1024.size a ≤ S2048x1024.size a) (D : Vec F S2048x1024 .bf16)
    (h : Panels.Holds 512 (panel m c (t.val / 4)) (t.val % 4) D) :
    Panels.Holds 512 (panel m c (t.val / 4)) (t.val % 4 + 1) (staged off inb (iblk m c 1 t) D) := by
  have ht : t.val < 20 := lt_of_lt_of_eq t.isLt N_0
  refine h.stage off hoff inb _ fun z y e0 e1 => ?_
  have hz : (z 0).val < 512 := (z 0).isLt
  unfold panel
  rw [show (⟨(4 * (t.val / 4) + (y 0).val / 512) % 20, Nat.mod_lt _ (by decide)⟩ : Fin grid0.N) = t from Fin.ext (by
    show (4 * (t.val / 4) + (y 0).val / 512) % 20 = t.val; rw [e0]; omega)]
  refine congrArg _ (funext fun a => Fin.ext ?_)
  match a with
  | ⟨0, _⟩ => show (y 0).val % 512 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (panel m c (t.val / 4 - 1)) (iblk m c 2 t) (iblk m c 3 t)
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_gate (c : Dev nD) (t : Fin cfg0.N) : (dats m 0 c).after 2 t = iblk m c 2 t := by dsimp only [dats]
theorem after_res (c : Dev nD) (t : Fin cfg0.N) : (dats m 0 c).after 3 t = iblk m c 3 t := by dsimp only [dats]
theorem after_out (c : Dev nD) (t : Fin cfg0.N) :
    (dats m 0 c).after 4 t = outBlock (iblk m c 0 t) (panel m c (t.val / 4 - 1)) (iblk m c 2 t) (iblk m c 3 t) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d
theorem before_gate (c : Dev nD) (t : Fin cfg0.N) (d) : (dats m 0 c).before 2 t d = iblk m c 2 t :=
  before0_2_of m (dats m 0 c) (A_eq m c 2) (after_gate m c) t d
theorem before_res (c : Dev nD) (t : Fin cfg0.N) (d) : (dats m 0 c).before 3 t d = iblk m c 3 t :=
  before0_3_of m (dats m 0 c) (A_eq m c 3) (after_res m c) t d

/-- The staging memrefs of point `t`. -/
abbrev msRows (t : Fin cfg0.N) : Memref sig .tc .vmem S2048x2048 .bf16 := win0_0.stage (cfg0.slots t 0)
abbrev msChunk (t : Fin cfg0.N) : Memref sig .tc .vmem S512x1024 .f32 := win0_1.stage (cfg0.slots t 1)
abbrev msGate (t : Fin cfg0.N) : Memref sig .tc .vmem S2048x1024 .bf16 := win0_2.stage (cfg0.slots t 2)
abbrev msRes (t : Fin cfg0.N) : Memref sig .tc .vmem S2048x1024 .bf16 := win0_3.stage (cfg0.slots t 3)
abbrev msOut (t : Fin cfg0.N) : Memref sig .tc .vmem S2048x1024 .bf16 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msGate t) fullShare ((dats m 0 c).before 2 t d))
    ∗ (∃ d, owns c (msRes t) fullShare ((dats m 0 c).before 3 t d))
    ∗ (∃ d, owns c (msOut t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk, before_gate, before_res]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t],
    show (dats m 0 c).leavesExact 2 t = owns c (msGate t) fullShare (iblk m c 2 t) from by
      unfold Dat.leavesExact; rw [show cfg0.idle 2 (grid0.coords t) = false from rfl, ← after_gate m c t],
    show (dats m 0 c).leavesExact 3 t = owns c (msRes t) fullShare (iblk m c 3 t) from by
      unfold Dat.leavesExact; rw [show cfg0.idle 3 (grid0.coords t) = false from rfl, ← after_res m c t]]
  unfold PhiT
  by_cases h8 : t.val < 4
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 4 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%dx0, X0⟩, ⟨%dx1, X1⟩, ⟨%d2, H2⟩⟩
    iapply ((run_stage c (grid0.coords t) _ _ _ _ _ _ _ _ _ _ _ _ _ _ _ _ c1 c2 c3 (iblk m c 0 t) (iblk m c 1 t) (iblk m c 2 t) (iblk m c 3 t) ((dats m 0 c).before 4 t d2) D0 D1) Set.univ _)
    isplitl [H0]; · iexact H0
    isplitl [H1]; · iexact H1
    isplitl [X0]; · iexact X0
    isplitl [X1]; · iexact X1
    isplitl [H2]; · iexact H2
    isplitl [HS0]; · iexact HS0
    isplitl [HS1]; · iexact HS1
    isplitl [HS2]; · iexact HS2
    iintro ⟨H0, H1, X0, X1, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    isplitl [X0]; · iexact X0
    isplitl [X1]; · iexact X1
    iexists _; iexact H2
  · have c1 : ¬k0_cond1 (grid0.coords t) = 1#1 := fun h => h8 ((cond_stage t).mp h)
    by_cases h1 : t.val / 4 % 2 = 1
    · have c2 := (cond_odd t).mpr h1
      have c3 : ¬k0_cond3 (grid0.coords t) = 1#1 := fun h => by have := (cond_even t).mp h; omega
      rw [show (dats m 0 c).leavesExact 4 t = owns c (msOut t) fullShare (outBlock (iblk m c 0 t) (panel m c (t.val / 4 - 1)) (iblk m c 2 t) (iblk m c 3 t)) from by
        unfold Dat.leavesExact
        rw [show cfg0.idle 4 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%dx0, X0⟩, ⟨%dx1, X1⟩, ⟨%d2, H2⟩⟩
      rw [← (hI.2.2.2 (by omega) h1).eq_panel]
      iapply ((run_odd c (grid0.coords t) _ _ _ _ _ _ _ _ _ _ _ _ _ _ _ _ c1 c2 c3 (iblk m c 0 t) (iblk m c 1 t) (iblk m c 2 t) (iblk m c 3 t) D0 D1) Set.univ _)
      isplitl [H0]; · iexact H0
      isplitl [H1]; · iexact H1
      isplitl [X0]; · iexact X0
      isplitl [X1]; · iexact X1
      isplitl [H2]; · iexists _; iexact H2
      isplitl [HS0]; · iexact HS0
      isplitl [HS1]; · iexact HS1
      isplitl [HS2]; · iexact HS2
      iintro ⟨H0, H1, X0, X1, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      isplitl [X1]; · iexact X1
      iexact H2
    · have c3 := (cond_even t).mpr ⟨by omega, by omega⟩
      have c2 : ¬k0_cond2 (grid0.coords t) = 1#1 := fun h => h1 ((cond_odd t).mp h)
      rw [show (dats m 0 c).leavesExact 4 t = owns c (msOut t) fullShare (outBlock (iblk m c 0 t) (panel m c (t.val / 4 - 1)) (iblk m c 2 t) (iblk m c 3 t)) from by
        unfold Dat.leavesExact
        rw [show cfg0.idle 4 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%dx0, X0⟩, ⟨%dx1, X1⟩, ⟨%d2, H2⟩⟩
      rw [← (hI.2.2.1 (by omega) (by omega)).eq_panel]
      iapply ((run_even c (grid0.coords t) _ _ _ _ _ _ _ _ _ _ _ _ _ _ _ _ c1 c2 c3 (iblk m c 0 t) (iblk m c 1 t) (iblk m c 2 t) (iblk m c 3 t) D0 D1) Set.univ _)
      isplitl [H0]; · iexact H0
      isplitl [H1]; · iexact H1
      isplitl [X0]; · iexact X0
      isplitl [X1]; · iexact X1
      isplitl [H2]; · iexists _; iexact H2
      isplitl [HS0]; · iexact HS0
      isplitl [HS1]; · iexact HS1
      isplitl [HS2]; · iexact HS2
      iintro ⟨H0, H1, X0, X1, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      isplitl [X0]; · iexact X0
      isplitl [X1]; · iexact X1
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.DnUpIdeal.DnUp

end
-- ==== Proof.DnUp.Value.lean ====
module

public import proofs.«01_k».proof.Proof.DnUp.Run

@[expose] public section

set_option maxRecDepth 16384

noncomputable section

namespace Cert.DnUpIdeal.DnUp

open Idealize.ShloMosaic TcCoe Tactic
open Idealize.SL Idealize.SL.Sem
open Idealize.ShloMosaic.Pipeline (Dat Cfg Window)
open Cert.DnUpIdeal.Gen

variable (m : (ℓ : Loc nD τ sig) → Buf (Elt Ideal) ℓ) (ρ : Dev nD → PrngReg)

/-- The activations, the weights, the gates and what is added as launched. -/
abbrev X (c : Dev nD) : Vec Ideal S8192x2048 .bf16 := m ((c : Thread nD τ).loc main_arg0)
abbrev W (c : Dev nD) : Vec Ideal S2048x4096 .f32 := m ((c : Thread nD τ).loc main_arg1)
abbrev Gt (c : Dev nD) : Vec Ideal S8192x8192 .bf16 := m ((c : Thread nD τ).loc main_arg2)
abbrev Rs (c : Dev nD) : Vec Ideal S8192x4096 .bf16 := m ((c : Thread nD τ).loc main_arg3)

/-- The result: what is added plus the second half of the gates' columns times the activations' product with the weights. -/
def G (c : Dev nD) : Vec Ideal S8192x4096 .bf16 := fun i =>
  Rs m c i + Gt m c (ix2 (i 0) (⟨4096 + (i 1).val, by have : (i 1).val < 4096 := (i 1).isLt; omega⟩ : Fin 8192))
    * ∑ k : Fin 2048, X m c (ix2 (i 0) k) * W m c (ix2 k (i 1))

theorem idx_rows : ∀ t : Fin cfg0.N, 4 ≤ t.val → win0_0.index t = ![t.val % 4, 0] :=
  (by decide +kernel : ∀ t : Fin grid0.N, _)
theorem idx_chunk : ∀ t : Fin cfg0.N, t.val < 16 → win0_1.index t = ![t.val % 4, t.val / 4] :=
  (by decide +kernel : ∀ t : Fin grid0.N, _)
theorem idx_gate : ∀ t : Fin cfg0.N, 4 ≤ t.val → win0_2.index t = ![t.val % 4, t.val / 4 - 1 + 4] :=
  (by decide +kernel : ∀ t : Fin grid0.N, _)
theorem idx_res : ∀ t : Fin cfg0.N, 4 ≤ t.val → win0_3.index t = ![t.val % 4, t.val / 4 - 1] :=
  (by decide +kernel : ∀ t : Fin grid0.N, _)
theorem idx_out : ∀ t : Fin cfg0.N, 4 ≤ t.val → win0_4.index t = ![t.val % 4, t.val / 4 - 1] :=
  (by decide +kernel : ∀ t : Fin grid0.N, _)

/-- The rows that a multiplying point reads. -/
theorem rows_apply (c : Dev nD) (t : Fin cfg0.N) (ht : 4 ≤ t.val) (y : S2048x2048.Idx) :
    iblk m c 0 t y = X m c (ix2 (⟨t.val % 4 * 2048 + (y 0).val, by have : (y 0).val < 2048 := (y 0).isLt; omega⟩ : Fin 8192) (y 1)) := by
  blk_ext [iblk, V, idx_rows t ht]

/-- The chunk of the weights that a staging point reads. -/
theorem chunk_apply (c : Dev nD) (t : Fin cfg0.N) (ht : t.val < 16) (y : S512x1024.Idx) :
    iblk m c 1 t y = W m c (ix2 (⟨t.val % 4 * 512 + (y 0).val, by have : (y 0).val < 512 := (y 0).isLt; omega⟩ : Fin 2048)
      (⟨t.val / 4 * 1024 + (y 1).val, by have : (y 1).val < 1024 := (y 1).isLt; omega⟩ : Fin 4096)) := by
  blk_ext [iblk, V, idx_chunk t ht]

/-- The block of the gates that a multiplying point reads. -/
theorem gate_apply (c : Dev nD) (t : Fin cfg0.N) (ht : 4 ≤ t.val) (y : S2048x1024.Idx) :
    iblk m c 2 t y = Gt m c (ix2 (⟨t.val % 4 * 2048 + (y 0).val, by have : (y 0).val < 2048 := (y 0).isLt; omega⟩ : Fin 8192)
      (⟨(t.val / 4 - 1 + 4) * 1024 + (y 1).val, by have : (y 1).val < 1024 := (y 1).isLt; have : t.val < 20 := lt_of_lt_of_eq t.isLt N_0; omega⟩ : Fin 8192)) := by
  blk_ext [iblk, V, idx_gate t ht]

/-- The block of what is added that a multiplying point reads. -/
theorem res_apply (c : Dev nD) (t : Fin cfg0.N) (ht : 4 ≤ t.val) (y : S2048x1024.Idx) :
    iblk m c 3 t y = Rs m c (ix2 (⟨t.val % 4 * 2048 + (y 0).val, by have : (y 0).val < 2048 := (y 0).isLt; omega⟩ : Fin 8192)
      (⟨(t.val / 4 - 1) * 1024 + (y 1).val, by have : (y 1).val < 1024 := (y 1).isLt; have : t.val < 20 := lt_of_lt_of_eq t.isLt N_0; omega⟩ : Fin 4096)) := by
  blk_ext [iblk, V, idx_res t ht]

/-- A staged panel is a block of the weights' columns. -/
theorem panel_apply (c : Dev nD) (T : ℕ) (hT : T < 4) (y : S2048x1024.Idx) :
    panel m c T y = W m c (ix2 (y 0) (⟨T * 1024 + (y 1).val, by have : (y 1).val < 1024 := (y 1).isLt; omega⟩ : Fin 4096)) := by
  have hy : (y 0).val < 2048 := (y 0).isLt
  unfold panel k0_pay1
  pointwise
  rw [chunk_apply m c _ (by show (4 * T + (y 0).val / 512) % 20 < 16; omega)]
  refine congrArg (W m c) (funext fun a => Fin.ext ?_)
  match a with
  | ⟨0, _⟩ =>
    show (4 * T + (y 0).val / 512) % 20 % 4 * 512 + (y 0).val % 512 = (y 0).val
    omega
  | ⟨1, _⟩ =>
    show (4 * T + (y 0).val / 512) % 20 / 4 * 1024 + (y 1).val = T * 1024 + (y 1).val
    rw [show (4 * T + (y 0).val / 512) % 20 / 4 = T by omega]

/-- What a multiplying point leaves in the output's block, at the element that is `j` of the output. -/
theorem out_point (c : Dev nD) (t : Fin cfg0.N) (ht : 4 ≤ t.val) (y : S2048x1024.Idx) (j : S8192x4096.Idx)
    (e0 : (j 0).val = t.val % 4 * 2048 + (y 0).val) (e1 : (j 1).val = (t.val / 4 - 1) * 1024 + (y 1).val) :
    outBlock (iblk m c 0 t) (panel m c (t.val / 4 - 1)) (iblk m c 2 t) (iblk m c 3 t) y = G m c j := by
  have hlt : t.val < 20 := lt_of_lt_of_eq t.isLt N_0
  have hy0 : (y 0).val < 2048 := (y 0).isLt
  have hy1 : (y 1).val < 1024 := (y 1).isLt
  unfold outBlock k0_pay5 G
  pointwise
  refine congrArg₂ (· + ·) ((res_apply m c t ht _).trans (congrArg (Rs m c) (funext fun a => Fin.ext ?_))) (congrArg₂ (· * ·) ((gate_apply m c t ht _).trans (congrArg (Gt m c) (funext fun a => Fin.ext ?_)))
    (Finset.sum_congr rfl fun k _ => ?_))
  · match a with
    | ⟨0, _⟩ =>
      show t.val % 4 * 2048 + ((y 0).val / 256 * 256 + (y 0).val % 256) % 2048 = (j 0).val
      omega
    | ⟨1, _⟩ =>
      show (t.val / 4 - 1) * 1024 + ((y 1).val / 256 * 256 + (y 1).val % 256) % 1024 = (j 1).val
      omega
  · match a with
    | ⟨0, _⟩ =>
      show t.val % 4 * 2048 + ((y 0).val / 256 * 256 + (y 0).val % 256) % 2048 = (j 0).val
      omega
    | ⟨1, _⟩ =>
      show (t.val / 4 - 1 + 4) * 1024 + ((y 1).val / 256 * 256 + (y 1).val % 256) % 1024 = 4096 + (j 1).val
      omega
  · rw [rows_apply m c t ht, panel_apply m c _ (by omega)]
    refine congrArg₂ (· * ·) (congrArg (fun a => X m c (ix2 a k)) (Fin.ext ?_)) (congrArg (fun a => W m c (ix2 k a)) (Fin.ext ?_))
    · show t.val % 4 * 2048 + ((y 0).val / 256 * 256 + (y 0).val % 256) % 2048 = (j 0).val
      omega
    · show (t.val / 4 - 1) * 1024 + ((y 1).val / 256 * 256 + (y 1).val % 256) % 1024 = (j 1).val
      omega

/-- The place in the output of an element of a multiplying point's block. -/
theorem out_place (t : Fin cfg0.N) (ht : 4 ≤ t.val) (y : S2048x1024.Idx) :
    ((((cfg0.win 4).blk t).view.emb y) 0).val = t.val % 4 * 2048 + (y 0).val
      ∧ ((((cfg0.win 4).blk t).view.emb y) 1).val = (t.val / 4 - 1) * 1024 + (y 1).val := by
  constructor <;> blk_simp [idx_out t ht]

/-- The output array after the run. -/
theorem final_out (c : Dev nD) : (dats m 0 c).arrAt 4 (cfgs 0).N = G m c := by
  refine (dats m 0 c).arrAt_eq_of_covers 4 _ (by decide +kernel) fun t hf y => ?_
  have ht : 4 ≤ t.val := by
    by_contra h
    have := not_flush t (by omega)
    exact absurd (this.symm.trans hf) (by decide)
  exact (congrFun (after_out m c t) y).trans (out_point m c t ht y _ (out_place t ht y).1 (out_place t ht y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final_out m c), h.2.1 c⟩)
    (θ_run_and ((θ_run defs _ _).mono (fun _ h => h.1) (run_main m ρ)) (frame m ρ))

end Cert.DnUpIdeal.DnUp

end
-- ==== Proof.DnUp.Reference.lean ====
module

public import proofs.«01_k».proof.Proof.DnUp.Value
public import proofs.«01_k».proof.Proof.Gen.DnUpRefIdeal.Read

@[expose] public section

set_option maxRecDepth 16384

noncomputable section

namespace Cert.DnUpRefIdeal.DnUp

open Idealize.ShloMosaic TcCoe Tactic
open Cert.DnUpRefIdeal Cert.DnUpRefIdeal.Gen Cert.DnUpRefIdeal.Read

variable (x0 : (⟨S8192x2048, .bf16⟩ : BufTy).Contents (Elt Ideal)) (x1 : (⟨S2048x4096, .f32⟩ : BufTy).Contents (Elt Ideal))
  (x2 : (⟨S8192x8192, .bf16⟩ : BufTy).Contents (Elt Ideal)) (x3 : (⟨S8192x4096, .bf16⟩ : BufTy).Contents (Elt Ideal))

/-- The reference's product at an element. -/
theorem product_apply (j : S8192x4096.Idx) :
    val_main_v4 (F := Ideal) x0 x1 j = ∑ k : Fin 2048, x0 (ix2 (j 0) k) * x1 (ix2 k (j 1)) := by
  unfold val_main_v4 val_main_v3
  pointwise

/-- The reference's gates at an element. -/
theorem gates_apply (i : S8192x4096.Idx) :
    val_main_v1 (F := Ideal) x2 i = x2 (ix2 (i 0) (⟨4096 + (i 1).val, by have : (i 1).val < 4096 := (i 1).isLt; omega⟩ : Fin 8192)) := by
  unfold val_main_v1
  refine congrArg x2 (funext fun a => Fin.ext ?_)
  match a with
  | ⟨0, _⟩ => show 0 + (i 0).val = (i 0).val; omega
  | ⟨1, _⟩ => show 4096 + (i 1).val = 4096 + (i 1).val; omega

/-- The reference's result at an element: what is added plus the gate times the product. -/
theorem result_apply (i : S8192x4096.Idx) :
    val_main_v7 (F := Ideal) x0 x1 x2 x3 i
      = x3 i + x2 (ix2 (i 0) (⟨4096 + (i 1).val, by have : (i 1).val < 4096 := (i 1).isLt; omega⟩ : Fin 8192))
        * ∑ k : Fin 2048, x0 (ix2 (i 0) k) * x1 (ix2 k (i 1)) := by
  rw [← product_apply, ← gates_apply x2 i]
  rfl

end Cert.DnUpRefIdeal.DnUp

end
-- ==== Proof.PNorm.Value.lean ====
/-
  The per-layer embedding's projection and norm over the extended reals: the first point keeps the weights for all of them,
  and each point's block is the norm of its rows' product with the weights; the reference's result is the same.
-/
module

public import proofs.«01_k».proof.Proof.Gen.PNormIdeal.Frame
public import proofs.«01_k».proof.Proof.Gen.PNormRefIdeal.Read
public import Idealize.ShloMosaic.Lib.Pipeline.ValueKit
public import Idealize.ShloMosaic.Lib.Pointwise.Index

@[expose] public section

set_option maxRecDepth 16384

noncomputable section

namespace Cert.PNormIdeal.PNorm

open Idealize.ShloMosaic TcCoe Tactic
open Idealize.SL Idealize.SL.Sem
open Idealize.ShloMosaic.Pipeline (Dat Cfg Window)
open Cert.PNormIdeal.Gen

variable (m : (ℓ : Loc nD τ sig) → Buf (Elt Ideal) ℓ) (ρ : Dev nD → PrngReg)

/-- The embeddings, the weights of the projection and those of the norm as launched. -/
abbrev X (c : Dev nD) : Vec Ideal S8192x256 .f32 := m ((c : Thread nD τ).loc main_arg0)
abbrev W (c : Dev nD) : Vec Ideal S256x4096 .f32 := m ((c : Thread nD τ).loc main_arg1)
abbrev Gw (c : Dev nD) : Vec Ideal S4096 .f32 := m ((c : Thread nD τ).loc main_arg2)

/-- The norm of a row `q`: its element `j` over the root of the row's mean square (plus the small constant), times a weight. -/
def normed (q : Fin 4096 → EReal) (j : Fin 4096) (g : EReal) : EReal :=
  q j * Ideal.rsqrt (Ideal.div (∑ k : Fin 4096, q k * q k) (Ideal.ofBits FTy.f32 1166016512#32)
    + Ideal.ofBits FTy.f32 897988541#32) * g

/-- The result at `i`: the norm of row `i 0` of the product. -/
def projNorm (x : S8192x256.Idx → EReal) (w : S256x4096.Idx → EReal) (g : S4096.Idx → EReal) (i : S8192x4096.Idx) : EReal :=
  normed (fun j => ∑ k : Fin 256, x (ix2 (i 0) k) * w (ix2 k j)) (i 1) (g (ix1 (i 1)))

def G (c : Dev nD) : Vec Ideal S8192x4096 .bf16 := projNorm (X m c) (W m c) (Gw m c)

section Points

variable {c : Dev nD} {i : grid0.Coords} {a1 : Memref sig .tc .vmem S512x256 .f32} {h1 : a1.IsWhole}
  {a2 : Memref sig .tc .vmem S256x4096 .f32} {h2 : a2.IsWhole} {a3 : Memref sig .tc .vmem S1x4096 .f32} {h3 : a3.IsWhole}
  {a4 : Memref sig .tc .vmem S512x4096 .bf16} {h4 : a4.IsWhole} {a5 : Memref sig .tc .vmem S256x4096 .bf16} {h5 : a5.IsWhole}
  (x0 : Vec Ideal S512x256 .f32) (x1 : Vec Ideal S256x4096 .f32) (x2 : Vec Ideal S1x4096 .f32)

theorem zeros : (![0, 0] : Fin 2 → ℕ) = fun _ => 0 := by decide

/-- What the first point keeps: the weights, cast. -/
theorem kept (hc : cond0_0 i) : sout0_A_0 c i a1 h1 a2 h2 a3 h3 a4 h4 a5 h5 hc x0 x1 x2 = k0_pay1 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero (S := S256x4096) zeros]
  simp only [View.readAt_eq_ld, h2.read_unread, View.ld_unit_zero (S := S256x4096) zeros]

/-- The first point's block of the result. -/
theorem out_first (hc : cond0_0 i) :
    out0_A_3 c i a1 h1 a2 h2 a3 h3 a4 h4 a5 h5 hc x0 x1 x2 = k0_pay2 x0 (k0_pay1 x1) x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S512x4096) zeros, View.readCov_unit_zero (S := S256x4096) _ zeros]
  simp only [View.readAt_eq_ld, h1.read_unread, h2.read_unread, h3.read_unread, View.ld_unit_zero (S := S256x4096) zeros,
    View.ld_unit_zero (S := S512x256) zeros, View.ld_unit_zero (S := S1x4096) zeros]

/-- A later point's block of the result, over the weights that it finds. -/
theorem out_later (hc : ¬cond0_0 i) (w : Vec Ideal S256x4096 .bf16) :
    out0_B_3 c i a1 h1 a2 h2 a3 h3 a4 h4 a5 h5 hc x0 x1 x2 w = k0_pay2 x0 w x2 := by
  unfold out0_B_3
  rw [View.read_writes_eq_canon _ _ _ (cover0_B_3 c i a1 h1 a2 h2 a3 h3 a4 h4 a5 h5 hc x0 x1 x2 w)]
  unfold kernelRun0_B
  dsimp only
  sl_unfold_words
  rw [View.canon_unit_zero (S := S512x4096) zeros]
  simp only [View.readAt_eq_ld, h1.read_unread, h3.read_unread, h5.read_unread, View.ld_unit_zero (S := S256x4096) zeros,
    View.ld_unit_zero (S := S512x256) zeros, View.ld_unit_zero (S := S1x4096) zeros]

/-- One block's norm of the product, element by element. -/
theorem block_apply (y : S512x4096.Idx) :
    k0_pay2 x0 (k0_pay1 x1) x2 y
      = normed (fun j => ∑ k : Fin 256, x0 (ix2 (y 0) k) * x1 (ix2 k j)) (y 1) (x2 (ix2 0 (y 1))) := by
  unfold k0_pay2 k0_pay1 normed
  pointwise

end Points

theorem idx_rows : ∀ t : Fin cfg0.N, win0_0.index t = ![t.val, 0] := (by decide +kernel : ∀ t : Fin grid0.N, _)
theorem idx_w : ∀ t : Fin cfg0.N, win0_1.index t = ![0, 0] := (by decide +kernel : ∀ t : Fin grid0.N, _)
theorem idx_g : ∀ t : Fin cfg0.N, win0_2.index t = ![0, 0] := (by decide +kernel : ∀ t : Fin grid0.N, _)
theorem idx_out : ∀ t : Fin cfg0.N, win0_3.index t = ![t.val, 0] := (by decide +kernel : ∀ t : Fin grid0.N, _)

/-- The rows that a point reads. -/
theorem rows_apply (c : Dev nD) (t : Fin cfg0.N) (y : S512x256.Idx) :
    iblk m c 0 t y = X m c (ix2 (⟨t.val * 512 + (y 0).val, by have : (y 0).val < 512 := (y 0).isLt; have : t.val < 16 := lt_of_lt_of_eq t.isLt N_0; omega⟩ : Fin 8192) (y 1)) := by
  blk_ext [iblk, V, idx_rows t]

/-- Every point's block of the projection's weights is all of them. -/
theorem weights_eq (c : Dev nD) (t : Fin cfg0.N) : iblk m c 1 t = W m c := by
  funext y
  refine Eq.trans (b := W m c (ix2 (y 0) (y 1))) ?_ (congrArg (W m c) (funext fun a => match a with | ⟨0, _⟩ => rfl | ⟨1, _⟩ => rfl))
  blk_ext [iblk, V, idx_w t]

/-- Every point's block of the norm's weights is the whole vector as one row. -/
theorem gains_apply (c : Dev nD) (t : Fin cfg0.N) (k : Fin 4096) : iblk m c 2 t (ix2 0 k) = Gw m c (ix1 k) := by
  have hV : ∀ j : S1x4096.Idx, V m c main_v0 j = Gw m c (ix1 (j 1)) := fun j => by entry_read; pointwise
  have e1 : ((((cfg0.win 2).blk t).view.emb (ix2 0 k)) 1).val = k.val := by
    have h := win0_2.rect_emb_val_off t (ix2 0 k) 1
    rw [idx_g t] at h
    exact h.trans (Nat.zero_add _)
  exact (hV _).trans (congrArg (fun a => Gw m c (ix1 a)) (Fin.ext e1))

/-- Every point leaves the cast weights where the first put them. -/
theorem carried (c : Dev nD) : ∀ (n : ℕ) (hn : n < cfg0.N), (outsAt0 m c n hn).2 = k0_pay1 (W m c)
  | 0, hn => by
    have e := congrArg Prod.snd (outsAt0_A m c ⟨0, hn⟩ rfl)
    dsimp only at e
    rw [kept, weights_eq] at e
    exact e
  | n + 1, hn => by
    have hlt : n + 1 < 16 := lt_of_lt_of_eq hn N_0
    have e := congrArg Prod.snd (outsAt0_B m c ⟨n + 1, hn⟩ (by dsimp only; omega))
    unfold sout0_B_0 at e
    dsimp only at e
    exact e.trans (carried c n (Nat.lt_of_succ_lt hn))

/-- What a point leaves in the output's block. -/
theorem left (c : Dev nD) (t : Fin cfg0.N) :
    (outsAt0 m c t.val t.isLt).1 = k0_pay2 (iblk m c 0 t) (k0_pay1 (W m c)) (iblk m c 2 t) := by
  by_cases h : t.val % 16 = 0
  · have e := congrArg Prod.fst (outsAt0_A m c t h)
    dsimp only at e
    rw [out_first, weights_eq] at e
    exact e
  · have e := congrArg Prod.fst (outsAt0_B m c t h)
    dsimp only at e
    rw [out_later, carried] at e
    exact e

/-- It is the result under it. -/
theorem left_apply (c : Dev nD) (t : Fin cfg0.N) (y : S512x4096.Idx) (j : S8192x4096.Idx)
    (e0 : (j 0).val = t.val * 512 + (y 0).val) (e1 : (j 1).val = (y 1).val) : (outsAt0 m c t.val t.isLt).1 y = G m c j := by
  have hg : ∀ (q : Fin 4096 → EReal) (a b : Fin 4096), a = b →
      normed q a (iblk m c 2 t (ix2 0 a)) = normed q b (Gw m c (ix1 b)) := fun q a b h => by
    subst h
    exact congrArg (normed q a) (gains_apply m c t a)
  refine (congrFun (left m c t) y).trans ((block_apply _ _ _ y).trans ((hg _ _ _ (Fin.ext e1.symm)).trans ?_))
  unfold G projNorm
  refine congrArg (fun q => normed q (j 1) _) (funext fun b => Finset.sum_congr rfl fun k _ => congrArg (· * _) ?_)
  exact (rows_apply m c t _).trans (congrArg (fun a => X m c (ix2 a k)) (Fin.ext e0.symm))

/-- The place in the output of an element of a point's block. -/
theorem out_place (t : Fin cfg0.N) (y : S512x4096.Idx) :
    ((((cfg0.win 3).blk t).view.emb y) 0).val = t.val * 512 + (y 0).val ∧ ((((cfg0.win 3).blk t).view.emb y) 1).val = (y 1).val := by
  constructor <;> blk_simp [idx_out t]

/-- The output array after the run. -/
theorem final_out (c : Dev nD) : (dats m 0 c).arrAt 3 (cfgs 0).N = G m c := by
  refine (dats m 0 c).arrAt_eq_of_covers 3 _ (by decide +kernel) fun t hf y => ?_
  exact (congrFun (after0_3 m c t) y).trans (left_apply m c t y _ (out_place t y).1 (out_place t y).2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final_out m c), h.2.1 c⟩)
    (θ_run_and (run_main m ρ) (frame m ρ))

open Cert.PNormRefIdeal.Read in
/-- The reference's product, element by element. -/
theorem ref_product (x0 : (⟨S8192x256, .f32⟩ : BufTy).Contents (Elt Ideal)) (x1 : (⟨S256x4096, .f32⟩ : BufTy).Contents (Elt Ideal))
    (i : S8192x4096.Idx) : val_main_v0 (F := Ideal) x0 x1 i = ∑ k : Fin 256, x0 (ix2 (i 0) k) * x1 (ix2 k (i 1)) := by
  unfold val_main_v0
  pointwise

open Cert.PNormRefIdeal.Read in
/-- The reference's result, element by element. -/
theorem ref_apply (x0 : (⟨S8192x256, .f32⟩ : BufTy).Contents (Elt Ideal)) (x1 : (⟨S256x4096, .f32⟩ : BufTy).Contents (Elt Ideal))
    (x2 : (⟨S4096, .f32⟩ : BufTy).Contents (Elt Ideal)) (i : S8192x4096.Idx) :
    val_main_v14 (F := Ideal) x0 x1 x2 i = projNorm x0 x1 x2 i := by
  unfold projNorm normed
  have e : idx_main_v11 (idx_main_v12 i) = ix1 (i 1) := funext fun a => match a with | ⟨0, _⟩ => rfl
  have hp := ref_product x0 x1
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_cst_apply, val_main_cst_0_apply, val_main_cst_1_apply, hp, e]
  pointwise
  rfl

end Cert.PNormIdeal.PNorm

end
-- ==== Proof.Mix.Value.lean ====
/-
  The combination of the attention groups over the extended reals: each head's outputs of the three groups, weighted by the
  softmax of the groups' logarithms; and the reference's result is the same.
-/
module

public import proofs.«01_k».proof.Proof.Gen.MixIdeal.Frame
public import proofs.«01_k».proof.Proof.Gen.MixRefIdeal.Read
public import Idealize.ShloMosaic.Lib.Pipeline.ValueKit
public import Idealize.ShloMosaic.Lib.Pointwise.Index

@[expose] public section

set_option maxRecDepth 16384

noncomputable section

namespace Cert.MixIdeal.Mix

open Idealize.ShloMosaic TcCoe Tactic
open Idealize.SL Idealize.SL.Sem
open Cert.MixIdeal.Gen

variable (m : (ℓ : Loc nD τ sig) → Buf (Elt Ideal) ℓ) (ρ : Dev nD → PrngReg)

/-- The exponential of `l` under the greatest of three, and their sum. -/
def ex (a b c l : EReal) : EReal := Ideal.exp (l - max (max a b) c)
def wt (a b c l : EReal) : EReal := Ideal.div (ex a b c l) (ex a b c a + ex a b c b + ex a b c c)

/-- Three numbers `x`, `y`, `z` weighted by the softmax of `a`, `b`, `c`. -/
def mixed (a b c x y z : EReal) : EReal := wt a b c a * x + wt a b c b * y + wt a b c c * z

/-- The head that holds a lane. -/
abbrev headOf (l : Fin 1024) : Fin 8 := ⟨l.val / 128, by omega⟩
abbrev lane (h : Fin 8) : Fin 128 := ⟨h.val, by omega⟩

/-- The combination of rows of three groups. -/
def mixRows {n : ℕ} (x y z : Shape.Idx ⟨2, ![n, 1024]⟩ → EReal) (a b c : Shape.Idx ⟨2, ![n, 128]⟩ → EReal)
    (i : Shape.Idx ⟨2, ![n, 1024]⟩) : EReal :=
  mixed (a (ix2 (i 0) (lane (headOf (i 1))))) (b (ix2 (i 0) (lane (headOf (i 1))))) (c (ix2 (i 0) (lane (headOf (i 1))))) (x i) (y i) (z i)

/-- The rectangle of a head in a block. -/
abbrev rect (h : Fin 8) : Rect S256x1024 := Rect.unit (s := S256x1024) ![0, 128 * h.val] S256x128.size (by revert h; decide)

/-- A head's column of the weights, beside its outputs. -/
def term (h : Fin 8) (w : FVec Ideal S256x128 .f32) (x : Vec Ideal S256x128 .bf16) : FVec Ideal S256x128 .f32 :=
  mulf (broadcastTo S256x128 (extractStridedSlice S256x1 ![0, h.val] w (by revert h; decide)) broadcasts_S256x1_S256x128) (extf .f32 x bitsLt_bf16_f32)

/-- One head's part of the block. -/
def headBlk (h : Fin 8) (x y z : Vec Ideal S256x128 .bf16) (a b c : Vec Ideal S256x128 .f32) : FVec Ideal S256x128 .bf16 :=
  truncf .bf16 (addf (addf (term h (k0_pay7 a b c) x) (term h (k0_pay8 a b c) y)) (term h (k0_pay9 a b c) z)) bitsLt_bf16_f32

/-- The block is made of eight heads alike. -/
theorem out_heads (x y z : Vec Ideal S256x1024 .bf16) (a b c : Vec Ideal S256x128 .f32) :
    out0_6 x y z a b c = View.canon (List.ofFn fun j : Fin 8 =>
      (⟨rect (Fin.rev j), headBlk (Fin.rev j) (View.ld x (rect (Fin.rev j))) (View.ld y (rect (Fin.rev j))) (View.ld z (rect (Fin.rev j)))
        (View.ld a r0_0) (View.ld b r0_0) (View.ld c r0_0)⟩ : View.Piece (Elt Ideal) S256x1024 .bf16)) := by
  rfl

/-- One head's part of the block, element by element. -/
theorem headBlk_apply (h : Fin 8) (x y z : Vec Ideal S256x128 .bf16) (a b c : Vec Ideal S256x128 .f32) (j : S256x128.Idx) :
    headBlk h x y z a b c j
      = mixed (a (ix2 (j 0) (lane h))) (b (ix2 (j 0) (lane h))) (c (ix2 (j 0) (lane h))) (x j) (y j) (z j) := by
  unfold headBlk term k0_pay7 k0_pay8 k0_pay9 k0_pay6 k0_pay5 k0_pay4 k0_pay3 k0_pay2 mixed wt ex
  pointwise

/-- The block, element by element. -/
theorem block_apply (x y z : Vec Ideal S256x1024 .bf16) (a b c : Vec Ideal S256x128 .f32) (j : S256x1024.Idx) :
    out0_6 x y z a b c j = mixRows x y z a b c j := by
  have hj0 : (j 0).val < 256 := (j 0).isLt
  have hj1 : (j 1).val < 1024 := (j 1).isLt
  rw [out_heads]
  refine View.canon_ofFn_eq_of_forall (Val := Elt Ideal) (e := .bf16) (fun k : Fin 8 => rect (Fin.rev k)) _ j _ ⟨Fin.rev (headOf (j 1)), ?_⟩ fun k p hp => ?_
  · rw [Fin.rev_rev]
    refine Rect.mem_set_unit.mpr fun d => ?_
    match d with
    | ⟨0, _⟩ => show 0 ≤ (j 0).val ∧ (j 0).val < 0 + 256; omega
    | ⟨1, _⟩ => show 128 * ((j 1).val / 128) ≤ (j 1).val ∧ (j 1).val < 128 * ((j 1).val / 128) + 128; omega
  · have hp1 : (p 1).val < 128 := (p 1).isLt
    subst hp
    refine (headBlk_apply _ _ _ _ _ _ _ p).trans ?_
    rw [show View.ld a r0_0 = a from View.ld_unit_zero (by decide) _ _, show View.ld b r0_0 = b from View.ld_unit_zero (by decide) _ _,
      show View.ld c r0_0 = c from View.ld_unit_zero (by decide) _ _]
    have e0 : p 0 = (rect (Fin.rev k)).emb p 0 := Fin.ext (by show (p 0).val = 0 + 1 * (p 0).val; omega)
    have eh : Fin.rev k = headOf ((rect (Fin.rev k)).emb p 1) := Fin.ext (by
      show (Fin.rev k).val = (128 * (Fin.rev k).val + 1 * (p 1).val) / 128
      omega)
    have e : (ix2 (p 0) (lane (Fin.rev k)) : S256x128.Idx) = ix2 ((rect (Fin.rev k)).emb p 0) (lane (headOf ((rect (Fin.rev k)).emb p 1))) :=
      congrArg₂ (fun u v => ix2 u (lane v)) e0 eh
    rw [e]
    rfl

/-- The groups' outputs and their logarithms as launched. -/
abbrev O0 (c : Dev nD) : Vec Ideal S8192x1024 .bf16 := m ((c : Thread nD τ).loc main_arg0)
abbrev O1 (c : Dev nD) : Vec Ideal S8192x1024 .bf16 := m ((c : Thread nD τ).loc main_arg1)
abbrev O2 (c : Dev nD) : Vec Ideal S8192x1024 .bf16 := m ((c : Thread nD τ).loc main_arg2)
abbrev L0 (c : Dev nD) : Vec Ideal S8192x128 .f32 := m ((c : Thread nD τ).loc main_arg3)
abbrev L1 (c : Dev nD) : Vec Ideal S8192x128 .f32 := m ((c : Thread nD τ).loc main_arg4)
abbrev L2 (c : Dev nD) : Vec Ideal S8192x128 .f32 := m ((c : Thread nD τ).loc main_arg5)

def G (c : Dev nD) : Vec Ideal S8192x1024 .bf16 := mixRows (O0 m c) (O1 m c) (O2 m c) (L0 m c) (L1 m c) (L2 m c)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the arrays that is a block's row. -/
abbrev row (t : Fin cfg0.N) (r : Fin 256) : Fin 8192 := ⟨t.val * 256 + r.val, by have : t.val < 32 := lt_of_lt_of_eq t.isLt N_0; omega⟩

theorem o0_apply (c : Dev nD) (t : Fin cfg0.N) (y : S256x1024.Idx) : iblk m c 0 t y = O0 m c (ix2 (row t (y 0)) (y 1)) := by
  blk_ext [iblk, V, (idx t).1]
theorem o1_apply (c : Dev nD) (t : Fin cfg0.N) (y : S256x1024.Idx) : iblk m c 1 t y = O1 m c (ix2 (row t (y 0)) (y 1)) := by
  blk_ext [iblk, V, (idx t).2.1]
theorem o2_apply (c : Dev nD) (t : Fin cfg0.N) (y : S256x1024.Idx) : iblk m c 2 t y = O2 m c (ix2 (row t (y 0)) (y 1)) := by
  blk_ext [iblk, V, (idx t).2.2.1]
theorem l0_apply (c : Dev nD) (t : Fin cfg0.N) (y : S256x128.Idx) : iblk m c 3 t y = L0 m c (ix2 (row t (y 0)) (y 1)) := by
  blk_ext [iblk, V, (idx t).2.2.2.1]
theorem l1_apply (c : Dev nD) (t : Fin cfg0.N) (y : S256x128.Idx) : iblk m c 4 t y = L1 m c (ix2 (row t (y 0)) (y 1)) := by
  blk_ext [iblk, V, (idx t).2.2.2.2.1]
theorem l2_apply (c : Dev nD) (t : Fin cfg0.N) (y : S256x128.Idx) : iblk m c 5 t y = L2 m c (ix2 (row t (y 0)) (y 1)) := by
  blk_ext [iblk, V, (idx t).2.2.2.2.2.1]

/-- The place in the output of an element of a point's block. -/
theorem out_place (t : Fin cfg0.N) (y : S256x1024.Idx) : ((cfg0.win 6).blk t).view.emb y = ix2 (row t (y 0)) (y 1) := by
  have h : ((((cfg0.win 6).blk t).view.emb y) 0).val = t.val * 256 + (y 0).val ∧ ((((cfg0.win 6).blk t).view.emb y) 1).val = (y 1).val := by
    constructor <;> blk_simp [(idx t).2.2.2.2.2.2]
  exact funext fun a => Fin.ext (match a with | ⟨0, _⟩ => h.1 | ⟨1, _⟩ => h.2)

/-- The output array after the run. -/
theorem final_out (c : Dev nD) : (dats m 0 c).arrAt 6 (cfgs 0).N = G m c := by
  refine (dats m 0 c).arrAt_eq_of_covers 6 _ (by decide +kernel) fun t hf y => ?_
  refine (block_apply _ _ _ _ _ _ y).trans (Eq.trans ?_ (congrArg (G m c) (out_place t y).symm))
  unfold G mixRows
  rw [o0_apply, o1_apply, o2_apply, l0_apply, l1_apply, l2_apply]
  rfl

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (final_out m c), h.2.1 c⟩)
    (θ_run_and (run_main m ρ) (frame m ρ))

section Reference

open Cert.MixRefIdeal.Read

variable (x0 x1 x2 : (⟨S8192x1024, .bf16⟩ : BufTy).Contents (Elt Ideal)) (x3 x4 x5 : (⟨S8192x128, .f32⟩ : BufTy).Contents (Elt Ideal))

/-- The reference's stacked logarithms and outputs. -/
theorem logs_apply (g : Fin 3) (t : Fin 8192) (h : Fin 8) :
    val_main_v6 (F := Ideal) x3 x4 x5 (ix3 g t h) = (![x3, x4, x5] g) (ix2 t (lane h)) := by
  unfold val_main_v6 val_main_v3 val_main_v4 val_main_v5 val_main_v0 val_main_v1 val_main_v2
  fin_cases g <;> pointwise

theorem outs_apply (g : Fin 3) (t : Fin 8192) (h : Fin 8) (l : Fin 128) :
    val_main_v24 (F := Ideal) x0 x1 x2 (ix4 g t h l) = (![x0, x1, x2] g) (ix2 t (⟨h.val * 128 + l.val, by omega⟩ : Fin 1024)) := by
  unfold val_main_v24 val_main_v13 val_main_v10 val_main_v11 val_main_v12 val_main_v7 val_main_v8 val_main_v9
  fin_cases g <;> pointwise

/-- A fold or a sum from its neutral element. -/
theorem fold_three (f : Fin 3 → EReal) : Finset.univ.fold max (Ideal.ofBits .f32 4286578688#32) f = max (max (f 0) (f 1)) (f 2) := by
  rw [show Ideal.ofBits .f32 4286578688#32 = ⊥ by simp [Ideal.ofBits, Ideal.ieee], show (Finset.univ : Finset (Fin 3)) = {0, 1, 2} from rfl,
    Finset.fold_insert (by decide), Finset.fold_insert (by decide), Finset.fold_singleton, max_bot_right, max_assoc]
theorem sum_three (f : Fin 3 → EReal) : FloatOps.ofBits (F := Ideal) .f32 0x00000000#32 + ∑ k, f k = f 0 + f 1 + f 2 := by
  rw [show FloatOps.ofBits (F := Ideal) .f32 0x00000000#32 = 0 by simp [Ideal.ofBits_def, Ideal.ofBits, Ideal.ieee], zero_add, Fin.sum_univ_three]

/-- The greatest of the three. -/
theorem top_apply (t : Fin 8192) (h : Fin 8) :
    val_main_v14 (F := Ideal) x3 x4 x5 (ix2 t h) = max (max (x3 (ix2 t (lane h))) (x4 (ix2 t (lane h)))) (x5 (ix2 t (lane h))) := by
  unfold val_main_v14
  refine (Host.reduce_eq_fold_single (FloatOps.maximumf (F := Ideal) (φ := .f32)) _ _ _ (by decide) _ (ix2 t h)).trans ?_
  refine (Finset.fold_congr fun g _ => Eq.trans (congrArg (val_main_v6 (F := Ideal) x3 x4 x5) ?_) (logs_apply x3 x4 x5 g t h)).trans
    (fold_three fun g => (![x3, x4, x5] g) (ix2 t (lane h)))
  exact funext fun a => match a with | ⟨0, _⟩ => rfl | ⟨1, _⟩ => rfl | ⟨2, _⟩ => rfl

/-- The reference's exponentials. -/
theorem ex_apply (g : Fin 3) (t : Fin 8192) (h : Fin 8) :
    val_main_v18 (F := Ideal) x3 x4 x5 (ix3 g t h)
      = ex (x3 (ix2 t (lane h))) (x4 (ix2 t (lane h))) (x5 (ix2 t (lane h))) ((![x3, x4, x5] g) (ix2 t (lane h))) := by
  rw [val_main_v18_apply, val_main_v17_apply, logs_apply, val_main_v16_apply, val_main_v15_apply]
  unfold ex
  rw [← top_apply]
  refine congrArg (fun i => Ideal.exp (_ - val_main_v14 (F := Ideal) x3 x4 x5 i)) ?_
  exact funext fun a => match a with | ⟨0, _⟩ => rfl | ⟨1, _⟩ => rfl

/-- The reference's sums of exponentials. -/
theorem tot_apply (t : Fin 8192) (h : Fin 8) (f : EReal → EReal)
    (hf : f = ex (x3 (ix2 t (lane h))) (x4 (ix2 t (lane h))) (x5 (ix2 t (lane h)))) :
    val_main_v19 (F := Ideal) x3 x4 x5 (ix2 t h) = f (x3 (ix2 t (lane h))) + f (x4 (ix2 t (lane h))) + f (x5 (ix2 t (lane h))) := by
  rw [val_main_v19_apply, hf]
  refine (congrArg₂ (· + ·) rfl (Finset.sum_congr rfl fun g _ =>
    Eq.trans (congrArg (val_main_v18 (F := Ideal) x3 x4 x5) ?_) (ex_apply x3 x4 x5 g t h))).trans (sum_three _)
  exact funext fun a => match a with | ⟨0, _⟩ => rfl | ⟨1, _⟩ => rfl | ⟨2, _⟩ => rfl

/-- The reference's weights. -/
theorem wt_apply (g : Fin 3) (t : Fin 8192) (h : Fin 8) :
    val_main_v22 (F := Ideal) x3 x4 x5 (ix3 g t h)
      = wt (x3 (ix2 t (lane h))) (x4 (ix2 t (lane h))) (x5 (ix2 t (lane h))) ((![x3, x4, x5] g) (ix2 t (lane h))) := by
  rw [val_main_v22_apply, val_main_v21_apply, val_main_v20_apply, ex_apply]
  refine congrArg (Ideal.div _) (Eq.trans (congrArg (val_main_v19 (F := Ideal) x3 x4 x5) ?_) (tot_apply x3 x4 x5 t h _ rfl))
  exact funext fun a => match a with | ⟨0, _⟩ => rfl | ⟨1, _⟩ => rfl

/-- The reference's weighted outputs. -/
theorem term_apply (g : Fin 3) (t : Fin 8192) (h : Fin 8) (l : Fin 128) :
    val_main_v26 (F := Ideal) x0 x1 x2 x3 x4 x5 (ix4 g t h l)
      = wt (x3 (ix2 t (lane h))) (x4 (ix2 t (lane h))) (x5 (ix2 t (lane h))) ((![x3, x4, x5] g) (ix2 t (lane h)))
        * (![x0, x1, x2] g) (ix2 t (⟨h.val * 128 + l.val, by omega⟩ : Fin 1024)) := by
  rw [val_main_v26_apply, outs_apply, val_main_v25_apply, val_main_v23_apply]
  refine congrArg (· * _) (Eq.trans (congrArg (val_main_v22 (F := Ideal) x3 x4 x5) ?_) (wt_apply x3 x4 x5 g t h))
  exact funext fun a => match a with | ⟨0, _⟩ => rfl | ⟨1, _⟩ => rfl | ⟨2, _⟩ => rfl

/-- The reference's result, element by element. -/
theorem ref_apply (i : S8192x1024.Idx) : val_main_v29 (F := Ideal) x0 x1 x2 x3 x4 x5 i = mixRows x0 x1 x2 x3 x4 x5 i := by
  have h0 : (i 0).val < 8192 := (i 0).isLt
  have h1 : (i 1).val < 1024 := (i 1).isLt
  have e : ∀ g : Fin 3, idx_main_v27 (idx_main_v28 i) g = ix4 g (i 0) (headOf (i 1)) (⟨(i 1).val % 128, by omega⟩ : Fin 128) := fun g =>
    funext fun a => Fin.ext (match a with
      | ⟨0, _⟩ => rfl
      | ⟨1, _⟩ => by show ((i 0).val * 1024 + (i 1).val) / 1024 = (i 0).val; omega
      | ⟨2, _⟩ => by show ((i 0).val * 1024 + (i 1).val) / 128 % 8 = (i 1).val / 128; omega
      | ⟨3, _⟩ => by show ((i 0).val * 1024 + (i 1).val) % 128 = (i 1).val % 128; omega)
  have ei : (ix2 (i 0) (⟨(headOf (i 1)).val * 128 + (i 1).val % 128, by show (i 1).val / 128 * 128 + (i 1).val % 128 < 1024; omega⟩ : Fin 1024) : S8192x1024.Idx) = i :=
    funext fun a => Fin.ext (match a with
      | ⟨0, _⟩ => rfl
      | ⟨1, _⟩ => by show (i 1).val / 128 * 128 + (i 1).val % 128 = (i 1).val; omega)
  rw [val_main_v29_apply, val_main_v28_apply, val_main_v27_apply]
  refine (congrArg₂ (· + ·) rfl (Finset.sum_congr rfl fun g _ =>
    (congrArg (val_main_v26 (F := Ideal) x0 x1 x2 x3 x4 x5) (e g)).trans (term_apply x0 x1 x2 x3 x4 x5 g _ _ _))).trans ((sum_three _).trans ?_)
  simp only [ei]
  rfl

end Reference

end Cert.MixIdeal.Mix

end
-- ==== Proof.Groups.Body.lean ====
module

public import proofs.«01_k».proof.Proof.Gen.G12Ideal.Frame
public import proofs.«01_k».proof.Proof.Gen.G12Ideal.Skeleton
public import proofs.«01_k».proof.Proof.Stores

@[expose] public section

set_option maxRecDepth 16384

noncomputable section

namespace Cert.G12Ideal.Groups

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.G12Ideal.Gen
open Cert.Stores (read_store read_tiled)

variable {F : FTy → Type} [FloatOps F]

local notation "𝕄" => MT nD τ sig Unit (Elt F) ℕ (UR sig nD τ) ℕ

/-! ## What the body computes -/

/-- The panel buffer after a chunk of 128 rows is staged into it at the row offset `off 0`: the chunk, its numbers cast to
    bf16, over the buffer's earlier contents. -/
def staged (off : Fin 2 → ℕ) (inb : ∀ a, off a + S128x4096.size a ≤ S1024x4096.size a) (x1 : Vec F S128x4096 .f32)
    (D : Vec F S1024x4096 .bf16) : Vec F S1024x4096 .bf16 :=
  (Rect.unit (s := S1024x4096) off S128x4096.size inb).overlay D (k0_pay1 x1)

/-- The eight pieces of the product of a block of rows `x` with a weight panel `W`: piece `p` holds the columns from `128 * p`
    on. Two neighbouring pieces come out of one product, with 256 rows of `W`. -/
def products (x W : Vec F S1024x4096 .bf16) : Vec F S8x1024x128 .f32 := fun y =>
  k0_pay7 x (fun j => W (ix2 (⟨((y 0).val / 2 * 256 + (j 0).val) % 1024, Nat.mod_lt _ (by decide)⟩ : Fin 1024) (j 1)))
    (ix2 (y 1) (⟨((y 0).val % 2 * 128 + (y 2).val) % 256, Nat.mod_lt _ (by decide)⟩ : Fin 256))

/-- The rows of piece `p` that have residue `r` modulo 16. -/
def residue (P : Vec F S8x1024x128 .f32) (p r : ℕ) : Vec F S64x128 .f32 := fun j =>
  P (ix3 (⟨p % 8, Nat.mod_lt _ (by decide)⟩ : Fin 8) (⟨(r + 16 * (j 0).val) % 1024, Nat.mod_lt _ (by decide)⟩ : Fin 1024) (j 1))

/-- The rows of eight pieces regrouped by their residue modulo 16 and cast to bf16, the pieces side by side. -/
def regrouped (P : Vec F S8x1024x128 .f32) : Vec F S16x64x1024 .bf16 := fun y =>
  k0_pay2 (residue P ((y 2).val / 128) (y 0).val) (ix3 (0 : Fin 1) (y 1) (⟨(y 2).val % 128, Nat.mod_lt _ (by decide)⟩ : Fin 128))

/-- The output block from a block of rows and a weight panel. -/
def outBlock (x W : Vec F S1024x4096 .bf16) : Vec F S16x64x1024 .bf16 := regrouped (products x W)

/-- An element of one of the four products is the element of `products` at its place. -/
theorem product_at (x W : Vec F S1024x4096 .bf16) (o : ℕ) (i1 : ∀ a, (![0, 0] : Fin 2 → ℕ) a + S1024x4096.size a ≤ S1024x4096.size a)
    (i2 : ∀ a, (![o, 0] : Fin 2 → ℕ) a + S256x4096.size a ≤ S1024x4096.size a) (a : Fin 1024) (k : Fin 256) (j : S8x1024x128.Idx)
    (h0 : (j 0).val / 2 * 256 = o) (h1 : a.val = (j 1).val) (h2 : k.val = (j 0).val % 2 * 128 + (j 2).val) :
    k0_pay7 (View.ld x (Rect.unit (s := S1024x4096) ![0, 0] S1024x4096.size i1))
        (View.ld W (Rect.unit (s := S1024x4096) ![o, 0] S256x4096.size i2)) (ix2 a k) = products x W j := by
  have l2 : o + 256 ≤ 1024 := i2 0
  have b2 : (j 2).val < 128 := (j 2).isLt
  rw [View.ld_unit_zero (by decide)]
  unfold products
  have hW : View.ld W (Rect.unit (s := S1024x4096) ![o, 0] S256x4096.size i2) = fun i : S256x4096.Idx =>
      W (ix2 (⟨((j 0).val / 2 * 256 + (i 0).val) % 1024, Nat.mod_lt _ (by decide)⟩ : Fin 1024) (i 1)) := by
    funext i
    have bi : (i 0).val < 256 := (i 0).isLt
    refine congrArg W (funext fun a => Fin.ext ?_)
    match a with
    | ⟨0, _⟩ => show o + 1 * (i 0).val = ((j 0).val / 2 * 256 + (i 0).val) % 1024; rw [h0]; omega
    | ⟨1, _⟩ => show 0 + 1 * (i 1).val = (i 1).val; omega
  rw [hW, show a = j 1 from Fin.ext h1, show k = (⟨((j 0).val % 2 * 128 + (j 2).val) % 256, Nat.mod_lt _ (by decide)⟩ : Fin 256) from
    Fin.ext (by show k.val = ((j 0).val % 2 * 128 + (j 2).val) % 256; omega)]

/-- The first half of a product is the piece it is stored as. -/
theorem piece_even (x W : Vec F S1024x4096 .bf16) (o p : ℕ) (hp : p % 2 = 0) (ho : p / 2 * 256 = o)
    (i1 : ∀ a, (![0, 0] : Fin 2 → ℕ) a + S1024x4096.size a ≤ S1024x4096.size a)
    (i2 : ∀ a, (![o, 0] : Fin 2 → ℕ) a + S256x4096.size a ≤ S1024x4096.size a)
    (i3 : ∀ a, (![p, 0, 0] : Fin 3 → ℕ) a + S1x1024x128.size a ≤ S8x1024x128.size a) (y : S1x1024x128.Idx) :
    k0_pay8 (View.ld x (Rect.unit (s := S1024x4096) ![0, 0] S1024x4096.size i1))
        (View.ld W (Rect.unit (s := S1024x4096) ![o, 0] S256x4096.size i2)) y
      = products x W ((Rect.unit (s := S8x1024x128) ![p, 0, 0] S1x1024x128.size i3).emb y) := by
  have b0 : (y 0).val < 1 := (y 0).isLt
  have b1 : (y 1).val < 1024 := (y 1).isLt
  have b2 : (y 2).val < 128 := (y 2).isLt
  have e0 : (((Rect.unit (s := S8x1024x128) ![p, 0, 0] S1x1024x128.size i3).emb y) 0).val = p := by
    show p + 1 * (y 0).val = p; omega
  have e1 : (((Rect.unit (s := S8x1024x128) ![p, 0, 0] S1x1024x128.size i3).emb y) 1).val = (y 1).val := by
    show 0 + 1 * (y 1).val = _; omega
  have e2 : (((Rect.unit (s := S8x1024x128) ![p, 0, 0] S1x1024x128.size i3).emb y) 2).val = (y 2).val := by
    show 0 + 1 * (y 2).val = _; omega
  refine Eq.trans ?_ (product_at x W o i1 i2 (⟨(y 1).val, b1⟩ : Fin 1024) (⟨(y 2).val, by omega⟩ : Fin 256) _ (by rw [e0]; exact ho)
    e1.symm (by rw [e0, e2, hp]; show (y 2).val = _; omega))
  unfold k0_pay8
  refine (shapeCast_apply _ _ y (ix2 (⟨(y 1).val, b1⟩ : Fin 1024) (⟨(y 2).val, b2⟩ : Fin 128)) ?_).trans
    (extractStridedSlice_apply _ _ _ _ _ fun a => ?_)
  · rw [Shape.rowMajor_val_three, Shape.rowMajor_val_two]
    show (y 1).val * 128 + (y 2).val = ((y 0).val * 1024 + (y 1).val) * 128 + (y 2).val
    omega
  match a with
  | ⟨0, _⟩ => exact (Nat.zero_add _).symm
  | ⟨1, _⟩ => exact (Nat.zero_add _).symm

/-- The second half of a product is the piece it is stored as. -/
theorem piece_odd (x W : Vec F S1024x4096 .bf16) (o p : ℕ) (hp : p % 2 = 1) (ho : p / 2 * 256 = o)
    (i1 : ∀ a, (![0, 0] : Fin 2 → ℕ) a + S1024x4096.size a ≤ S1024x4096.size a)
    (i2 : ∀ a, (![o, 0] : Fin 2 → ℕ) a + S256x4096.size a ≤ S1024x4096.size a)
    (i3 : ∀ a, (![p, 0, 0] : Fin 3 → ℕ) a + S1x1024x128.size a ≤ S8x1024x128.size a) (y : S1x1024x128.Idx) :
    k0_pay9 (View.ld x (Rect.unit (s := S1024x4096) ![0, 0] S1024x4096.size i1))
        (View.ld W (Rect.unit (s := S1024x4096) ![o, 0] S256x4096.size i2)) y
      = products x W ((Rect.unit (s := S8x1024x128) ![p, 0, 0] S1x1024x128.size i3).emb y) := by
  have b0 : (y 0).val < 1 := (y 0).isLt
  have b1 : (y 1).val < 1024 := (y 1).isLt
  have b2 : (y 2).val < 128 := (y 2).isLt
  have e0 : (((Rect.unit (s := S8x1024x128) ![p, 0, 0] S1x1024x128.size i3).emb y) 0).val = p := by
    show p + 1 * (y 0).val = p; omega
  have e1 : (((Rect.unit (s := S8x1024x128) ![p, 0, 0] S1x1024x128.size i3).emb y) 1).val = (y 1).val := by
    show 0 + 1 * (y 1).val = _; omega
  have e2 : (((Rect.unit (s := S8x1024x128) ![p, 0, 0] S1x1024x128.size i3).emb y) 2).val = (y 2).val := by
    show 0 + 1 * (y 2).val = _; omega
  refine Eq.trans ?_ (product_at x W o i1 i2 (⟨(y 1).val, b1⟩ : Fin 1024) (⟨128 + (y 2).val, by omega⟩ : Fin 256) _ (by rw [e0]; exact ho)
    e1.symm (by rw [e0, e2, hp]))
  unfold k0_pay9
  refine (shapeCast_apply _ _ y (ix2 (⟨(y 1).val, b1⟩ : Fin 1024) (⟨(y 2).val, b2⟩ : Fin 128)) ?_).trans
    (extractStridedSlice_apply _ _ _ _ _ fun a => ?_)
  · rw [Shape.rowMajor_val_three, Shape.rowMajor_val_two]
    show (y 1).val * 128 + (y 2).val = ((y 0).val * 1024 + (y 1).val) * 128 + (y 2).val
    omega
  match a with
  | ⟨0, _⟩ => exact (Nat.zero_add _).symm
  | ⟨1, _⟩ => rfl

/-- A load of every sixteenth row through the view of one piece reads the rows of one residue. -/
theorem read_residue (arg7 : Memref sig .tc .vmem S8x1024x128 .f32) (f : arg7.view.ty.Contents (Elt F)) (p r : ℕ)
    (i3 : ∀ a, (![p, 0, 0] : Fin 3 → ℕ) a + S1x1024x128.size a ≤ S8x1024x128.size a)
    (hr : ∀ a, (Rect.unit (s := S8x1024x128) ![p, 0, 0] S1x1024x128.size i3).stride a = 1) (hq : S1x1024x128.Squeezes S1024x128)
    (ib : ∀ a, S64x128.size a = 0 ∨ (![r, 0] : Fin 2 → ℕ) a + (![16, 1] : Fin 2 → ℕ) a * (S64x128.size a - 1) < S1024x128.size a) :
    View.readAt (Elt F) ((arg7.slice (Rect.unit (s := S8x1024x128) ![p, 0, 0] S1x1024x128.size i3) hr).squeeze S1024x128 hq).view
        (⟨![r, 0], S64x128.size, ![16, 1], ib⟩ : LoadRect S1024x128) f
      = residue (arg7.view.read (Elt F) f) p r := by
  funext j
  have bp : p + 1 ≤ 8 := i3 0
  have b0 : (j 0).val < 64 := (j 0).isLt
  have b1 : (j 1).val < 128 := (j 1).isLt
  have br : r + 16 * (j 0).val < 1024 := by
    have := ((⟨![r, 0], S64x128.size, ![16, 1], ib⟩ : LoadRect S1024x128).idx j 0).isLt
    exact this
  rw [View.readAt_apply, Memref.read_squeeze_slice _ _ _ _ (by decide : S1x1024x128.ShapeCasts S1024x128),
    show (⟨![r, 0], S64x128.size, ![16, 1], ib⟩ : LoadRect S1024x128).idx j = (ix2 (⟨r + 16 * (j 0).val, br⟩ : Fin 1024) (⟨(j 1).val, b1⟩ : Fin 128) : S1024x128.Idx) from
      funext fun a => by
        match a with
        | ⟨0, _⟩ => rfl
        | ⟨1, _⟩ => exact Fin.ext (by show 0 + 1 * (j 1).val = (j 1).val; omega)]
  refine (shapeCast_apply _ _ _ (ix3 (0 : Fin 1) (⟨r + 16 * (j 0).val, br⟩ : Fin 1024) (⟨(j 1).val, b1⟩ : Fin 128)) (by
    rw [Shape.rowMajor_val_three, Shape.rowMajor_val_two]
    show (0 * 1024 + (r + 16 * (j 0).val)) * 128 + (j 1).val = (r + 16 * (j 0).val) * 128 + (j 1).val
    omega)).trans ?_
  unfold residue
  refine congrArg (arg7.view.read (Elt F) f) (funext fun a => Fin.ext ?_)
  match a with
  | ⟨0, _⟩ => show p + 1 * 0 = p % 8; omega
  | ⟨1, _⟩ => show 0 + 1 * (r + 16 * (j 0).val) = (r + 16 * (j 0).val) % 1024; omega
  | ⟨2, _⟩ => show 0 + 1 * (j 1).val = (j 1).val; omega

/-- One store of the output is the part of `regrouped` under its rectangle. -/
theorem tile_eq (arg7 : Memref sig .tc .vmem S8x1024x128 .f32) (f : arg7.view.ty.Contents (Elt F)) (p r o : ℕ) (ho : o = 128 * p)
    (i1 : ∀ a, (![p, 0, 0] : Fin 3 → ℕ) a + S1x1024x128.size a ≤ S8x1024x128.size a)
    (hr : ∀ a, (Rect.unit (s := S8x1024x128) ![p, 0, 0] S1x1024x128.size i1).stride a = 1) (hq : S1x1024x128.Squeezes S1024x128)
    (ib : ∀ a, S64x128.size a = 0 ∨ (![r, 0] : Fin 2 → ℕ) a + (![16, 1] : Fin 2 → ℕ) a * (S64x128.size a - 1) < S1024x128.size a)
    (i3 : ∀ a, (![r, 0, o] : Fin 3 → ℕ) a + S1x64x128.size a ≤ S16x64x1024.size a) (y : S1x64x128.Idx) :
    k0_pay2 (View.readAt (Elt F) ((arg7.slice (Rect.unit (s := S8x1024x128) ![p, 0, 0] S1x1024x128.size i1) hr).squeeze S1024x128 hq).view
        (⟨![r, 0], S64x128.size, ![16, 1], ib⟩ : LoadRect S1024x128) f) y = regrouped (arg7.view.read (Elt F) f) ((Rect.unit (s := S16x64x1024) ![r, 0, o] S1x64x128.size i3).emb y) := by
  have b0 : (y 0).val < 1 := (y 0).isLt
  have b2 : (y 2).val < 128 := (y 2).isLt
  rw [read_residue]
  unfold regrouped
  have e0 : (((Rect.unit (s := S16x64x1024) ![r, 0, o] S1x64x128.size i3).emb y) 0).val = r := by
    show r + 1 * (y 0).val = r; omega
  have e1 : ((Rect.unit (s := S16x64x1024) ![r, 0, o] S1x64x128.size i3).emb y) 1 = y 1 :=
    Fin.ext (by show 0 + 1 * (y 1).val = _; omega)
  have e2 : (((Rect.unit (s := S16x64x1024) ![r, 0, o] S1x64x128.size i3).emb y) 2).val = o + (y 2).val := by
    show o + 1 * (y 2).val = _; omega
  have hy : y = ix3 (0 : Fin 1) (y 1) (⟨(((Rect.unit (s := S16x64x1024) ![r, 0, o] S1x64x128.size i3).emb y) 2).val % 128,
      Nat.mod_lt _ (by decide)⟩ : Fin 128) := funext fun a => by
    match a with
    | ⟨0, _⟩ => exact Fin.ext (by show (y 0).val = 0; omega)
    | ⟨1, _⟩ => rfl
    | ⟨2, _⟩ => exact Fin.ext (by
        show (y 2).val = (((Rect.unit (s := S16x64x1024) ![r, 0, o] S1x64x128.size i3).emb y) 2).val % 128
        rw [e2, ho]; omega)
  rw [e0, e1, show (((Rect.unit (s := S16x64x1024) ![r, 0, o] S1x64x128.size i3).emb y) 2).val / 128 = p by rw [e2]; omega]
  exact congrArg _ hy

set_option maxHeartbeats 1000000 in
/-- The body while only staging (the first outer step): the chunk goes into the first panel buffer, all else is as it was. -/
theorem run_stage (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S16x64x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x1024x128 .f32) (harg7 : arg7.IsWhole) (hc0 : k0_cond1 i = 1#1) (hc1 : ¬k0_cond2 i = 1#1) (hc2 : ¬k0_cond3 i = 1#1)
    (x0 : Vec F S1024x4096 .bf16) (x1 : Vec F S128x4096 .f32) (x2 : Vec F S16x64x1024 .bf16) (D0 D1 : Vec F S1024x4096 .bf16) :
      ∀ (E : Set ℕ) (K : PUnit → sProp 𝕄),
        iprop(owns c arg2 fullShare x0 ∗ owns c arg3 fullShare x1 ∗ owns c arg4 fullShare x2 ∗ owns c arg5 fullShare D0 ∗ owns c arg6 fullShare D1 ∗ (∃ d, owns c arg7 fullShare d)
            ∗ (iprop(owns c arg2 fullShare x0 ∗ owns c arg3 fullShare x1 ∗ owns c arg4 fullShare x2 ∗ owns c arg5 fullShare (staged (k0_off1 i) (k0_off1_inb i hc0) x1 D0) ∗ owns c arg6 fullShare D1 ∗ (∃ d, owns c arg7 fullShare d)) -∗ K ⟨⟩))
          ⊢ wp frame (wpE (defs₀ (F := F)) Variants.none c none) E (cc0_proj_attn_g12 i arg2 harg2 arg3 harg3 arg4 harg4 arg5 harg5 arg6 harg6 arg7 harg7) K := by
  intro E K
  simp only [cc0_proj_attn_g12_eq_skeleton]; unfold cc0_proj_attn_g12_skel
  unfold owns
  iintro ⟨⟨%f0, %hf0, H0⟩, ⟨%f1, %hf1, H1⟩, ⟨%f2, %hf2, H2⟩, ⟨%fs0, %hs0, HS0⟩, ⟨%fs1, %hs1, HS1⟩, ⟨%ds2, %fs2, -, HS2⟩, Hk⟩
  obtain rfl := harg2.eq_unread hf0; obtain rfl := harg3.eq_unread hf1; obtain rfl := harg4.eq_unread hf2
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

set_option maxHeartbeats 40000000 in
/-- The body at an odd outer step: the chunk goes into the second panel buffer while the output block is computed from the
    first one. -/
theorem run_odd (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S16x64x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x1024x128 .f32) (harg7 : arg7.IsWhole) (hc0 : ¬k0_cond1 i = 1#1) (hc1 : k0_cond2 i = 1#1) (hc2 : ¬k0_cond3 i = 1#1)
    (x0 : Vec F S1024x4096 .bf16) (x1 : Vec F S128x4096 .f32) (D0 D1 : Vec F S1024x4096 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D0) ∗ owns c arg5 fullShare D0 ∗ owns c arg6 fullShare (staged (k0_off2 i) (k0_off2_inb i hc1) x1 D1) ∗ (∃ d, owns c arg7 fullShare d)) -∗ K ⟨⟩))
          ⊢ wp frame (wpE (defs₀ (F := F)) Variants.none c none) E (cc0_proj_attn_g12 i arg2 harg2 arg3 harg3 arg4 harg4 arg5 harg5 arg6 harg6 arg7 harg7) K := by
  intro E K
  simp only [cc0_proj_attn_g12_eq_skeleton]; unfold cc0_proj_attn_g12_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![1, 64, 128] _ (by rfl) ?_
    generalize hf : arg7.view.writes (Elt F) arg7.view.junk _ = f
    have hP : arg7.view.read (Elt F) f = products x0 D0 := by
      rw [← hf]
      refine read_tiled _ _ _ ![1, 1024, 128] _ (by rfl) ?_
      simp only [View.readAt_eq_ld, harg2.read_unread, harg5.read_unread]
      exact List.forall_mem_cons.2 ⟨fun y => piece_odd x0 D0 _ _ (by decide) (by decide) _ _ (by decide) y,
        List.forall_mem_cons.2 ⟨fun y => piece_even x0 D0 _ _ (by decide) (by decide) _ _ (by decide) y,
        List.forall_mem_cons.2 ⟨fun y => piece_odd x0 D0 _ _ (by decide) (by decide) _ _ (by decide) y,
        List.forall_mem_cons.2 ⟨fun y => piece_even x0 D0 _ _ (by decide) (by decide) _ _ (by decide) y,
        List.forall_mem_cons.2 ⟨fun y => piece_odd x0 D0 _ _ (by decide) (by decide) _ _ (by decide) y,
        List.forall_mem_cons.2 ⟨fun y => piece_even x0 D0 _ _ (by decide) (by decide) _ _ (by decide) y,
        List.forall_mem_cons.2 ⟨fun y => piece_odd x0 D0 _ _ (by decide) (by decide) _ _ (by decide) y,
        List.forall_mem_cons.2 ⟨fun y => piece_even x0 D0 _ _ (by decide) (by decide) _ _ (by decide) y, fun _ h => absurd h List.not_mem_nil⟩⟩⟩⟩⟩⟩⟩⟩
    unfold outBlock
    rw [← hP]
    clear hf hP
    repeat refine List.forall_mem_cons.2 ⟨fun y => tile_eq arg7 f _ _ _ (by decide) _ _ _ _ (by decide) y, ?_⟩
    exact fun _ h => absurd h List.not_mem_nil
  isplitl [HS0]
  · iexists _; isplitr; · ipureintro; exact harg5.read_unread _
    iexact HS0
  isplitl [HS1]
  · iexists _; isplitr; swap; · iexact HS1
    ipureintro
    rw [read_store harg6]
    unfold staged
    congr 2
    sl_unfold_words
    simp only [View.readAt_eq_ld, harg3.read_unread]
    exact View.ld_unit_zero (by decide) _ _
  iexists _, _; isplitr; swap; · iexact HS2
  ipureintro; rfl

set_option maxHeartbeats 40000000 in
/-- The body at an even outer step: the chunk goes into the first panel buffer while the output block is computed from the
    second one. -/
theorem run_even (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S16x64x1024 .bf16) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S8x1024x128 .f32) (harg7 : arg7.IsWhole) (hc0 : ¬k0_cond1 i = 1#1) (hc1 : ¬k0_cond2 i = 1#1) (hc2 : k0_cond3 i = 1#1)
    (x0 : Vec F S1024x4096 .bf16) (x1 : Vec F S128x4096 .f32) (D0 D1 : Vec F S1024x4096 .bf16) :
      ∀ (E : Set ℕ) (K : PUnit → sProp 𝕄),
        iprop(owns c arg2 fullShare x0 ∗ owns c arg3 fullShare x1 ∗ (∃ d, owns c arg4 fullShare d) ∗ owns c arg5 fullShare D0 ∗ owns c arg6 fullShare D1 ∗ (∃ d, owns c arg7 fullShare d)
            ∗ (iprop(owns c arg2 fullShare x0 ∗ owns c arg3 fullShare x1 ∗ owns c arg4 fullShare (outBlock x0 D1) ∗ owns c arg5 fullShare (staged (k0_off3 i) (k0_off3_inb i hc2) x1 D0) ∗ owns c arg6 fullShare D1 ∗ (∃ d, owns c arg7 fullShare d)) -∗ K ⟨⟩))
          ⊢ wp frame (wpE (defs₀ (F := F)) Variants.none c none) E (cc0_proj_attn_g12 i arg2 harg2 arg3 harg3 arg4 harg4 arg5 harg5 arg6 harg6 arg7 harg7) K := by
  intro E K
  simp only [cc0_proj_attn_g12_eq_skeleton]; unfold cc0_proj_attn_g12_skel
  simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
  unfold owns
  iintro ⟨⟨%f0, %hf0, H0⟩, ⟨%f1, %hf1, H1⟩, ⟨%d2, %f2, -, H2⟩, ⟨%fs0, %hs0, HS0⟩, ⟨%fs1, %hs1, HS1⟩, ⟨%ds2, %fs2, -, HS2⟩, Hk⟩
  obtain rfl := harg2.eq_unread hf0; obtain rfl := harg3.eq_unread hf1
  obtain rfl := harg5.eq_unread hs0; obtain rfl := harg6.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    refine read_tiled _ _ _ ![1, 64, 128] _ (by rfl) ?_
    generalize hf : arg7.view.writes (Elt F) arg7.view.junk _ = f
    have hP : arg7.view.read (Elt F) f = products x0 D1 := by
      rw [← hf]
      refine read_tiled _ _ _ ![1, 1024, 128] _ (by rfl) ?_
      simp only [View.readAt_eq_ld, harg2.read_unread, harg6.read_unread]
      exact List.forall_mem_cons.2 ⟨fun y => piece_odd x0 D1 _ _ (by decide) (by decide) _ _ (by decide) y,
        List.forall_mem_cons.2 ⟨fun y => piece_even x0 D1 _ _ (by decide) (by decide) _ _ (by decide) y,
        List.forall_mem_cons.2 ⟨fun y => piece_odd x0 D1 _ _ (by decide) (by decide) _ _ (by decide) y,
        List.forall_mem_cons.2 ⟨fun y => piece_even x0 D1 _ _ (by decide) (by decide) _ _ (by decide) y,
        List.forall_mem_cons.2 ⟨fun y => piece_odd x0 D1 _ _ (by decide) (by decide) _ _ (by decide) y,
        List.forall_mem_cons.2 ⟨fun y => piece_even x0 D1 _ _ (by decide) (by decide) _ _ (by decide) y,
        List.forall_mem_cons.2 ⟨fun y => piece_odd x0 D1 _ _ (by decide) (by decide) _ _ (by decide) y,
        List.forall_mem_cons.2 ⟨fun y => piece_even x0 D1 _ _ (by decide) (by decide) _ _ (by decide) y, fun _ h => absurd h List.not_mem_nil⟩⟩⟩⟩⟩⟩⟩⟩
    unfold outBlock
    rw [← hP]
    clear hf hP
    repeat refine List.forall_mem_cons.2 ⟨fun y => tile_eq arg7 f _ _ _ (by decide) _ _ _ _ (by decide) y, ?_⟩
    exact fun _ h => absurd h List.not_mem_nil
  isplitl [HS0]
  · iexists _; isplitr; swap; · iexact HS0
    ipureintro
    rw [read_store harg5]
    unfold staged
    congr 2
    sl_unfold_words
    simp only [View.readAt_eq_ld, harg3.read_unread]
    exact View.ld_unit_zero (by decide) _ _
  isplitl [HS1]
  · iexists _; isplitr; · ipureintro; exact harg6.read_unread _
    iexact HS1
  iexists _, _; isplitr; swap; · iexact HS2
  ipureintro; rfl

end Cert.G12Ideal.Groups

end
-- ==== Proof.Groups.Run.lean ====
module

public import proofs.«01_k».proof.Proof.Groups.Body
public import proofs.«01_k».proof.Proof.Panels

@[expose] public section

set_option maxRecDepth 16384

noncomputable section

namespace Cert.G12Ideal.Groups

open Idealize.ShloMosaic TcCoe Tactic
open Idealize.SL RA BI ProofMode Sem
open scoped Idealize.SL.BI
open Idealize.SL.BI.BIBase Idealize.SL.BI.Laws
open Idealize.ShloMosaic.Rounds
open Idealize.ShloMosaic.Pipeline (Dat Cfg Window BodyObligation cellOf)
open Cert.G12Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the staging offsets over the 56 points (outer step `t / 8`, inner step `t % 8`) -/

theorem cond_stage : ∀ t : Fin cfg0.N, k0_cond1 (grid0.coords t) = 1#1 ↔ t.val < 8 :=
  (by decide +kernel : ∀ t : Fin grid0.N, _)
theorem cond_odd : ∀ t : Fin cfg0.N, k0_cond2 (grid0.coords t) = 1#1 ↔ t.val / 8 % 2 = 1 :=
  (by decide +kernel : ∀ t : Fin grid0.N, _)
theorem cond_even : ∀ t : Fin cfg0.N, k0_cond3 (grid0.coords t) = 1#1 ↔ (8 ≤ t.val ∧ t.val / 8 % 2 = 0) :=
  (by decide +kernel : ∀ t : Fin grid0.N, _)
theorem off_stage : ∀ t : Fin cfg0.N, k0_off1 (grid0.coords t) = ![t.val % 8 * 128, 0] :=
  (by decide +kernel : ∀ t : Fin grid0.N, _)
theorem off_odd : ∀ t : Fin cfg0.N, k0_off2 (grid0.coords t) = ![t.val % 8 * 128, 0] :=
  (by decide +kernel : ∀ t : Fin grid0.N, _)
theorem off_even : ∀ t : Fin cfg0.N, k0_off3 (grid0.coords t) = ![t.val % 8 * 128, 0] :=
  (by decide +kernel : ∀ t : Fin grid0.N, _)
/-- In the first outer step nothing is written back. -/
theorem not_flush : ∀ t : Fin cfg0.N, t.val < 8 → (cfg0.win 2).flush t = false :=
  (by decide +kernel : ∀ t : Fin grid0.N, t.val < 8 → win0_2.flush t = false)

/-! ## The weight panels in the two buffers -/

/-- The weight panel that outer step `T` stages, chunk by chunk. -/
def panel (c : Dev nD) (T : ℕ) : Vec F S1024x4096 .bf16 := fun y =>
  k0_pay1 (iblk m c 1 (⟨(8 * T + (y 0).val / 128) % 56, Nat.mod_lt _ (by decide)⟩ : Fin grid0.N))
    (ix2 (⟨(y 0).val % 128, Nat.mod_lt _ (by decide)⟩ : Fin 128) (y 1))

/-- What the two buffers hold before point `n`, as `Panels.Inv` says. -/
abbrev Inv (c : Dev nD) (n : ℕ) (D0 D1 : Vec F S1024x4096 .bf16) : Prop := Panels.Inv 128 8 (panel m c) n D0 D1

/-- Staging point `t`'s chunk adds one chunk to what the buffer holds. -/
theorem holds_staged (c : Dev nD) (t : Fin cfg0.N) (off : Fin 2 → ℕ) (hoff : off = ![t.val % 8 * 128, 0])
    (inb : ∀ a, off a + S128x4096.size a ≤ S1024x4096.size a) (D : Vec F S1024x4096 .bf16)
    (h : Panels.Holds 128 (panel m c (t.val / 8)) (t.val % 8) D) :
    Panels.Holds 128 (panel m c (t.val / 8)) (t.val % 8 + 1) (staged off inb (iblk m c 1 t) D) := by
  have ht : t.val < 56 := lt_of_lt_of_eq t.isLt N_0
  refine h.stage off hoff inb _ fun z y e0 e1 => ?_
  have hz : (z 0).val < 128 := (z 0).isLt
  unfold panel
  rw [show (⟨(8 * (t.val / 8) + (y 0).val / 128) % 56, Nat.mod_lt _ (by decide)⟩ : Fin grid0.N) = t from Fin.ext (by
    show (8 * (t.val / 8) + (y 0).val / 128) % 56 = t.val; rw [e0]; omega)]
  refine congrArg _ (funext fun a => Fin.ext ?_)
  match a with
  | ⟨0, _⟩ => show (y 0).val % 128 = (z 0).val; rw [e0]; omega
  | ⟨1, _⟩ => exact e1

/-! ## The pipeline's proof data -/

/-- The scratch before point `n`: the two panel buffers as `Inv` says, the third at anything; and the generator register. -/
def PhiT (c : Dev nD) (n : ℕ) : sProp 𝕄 :=
  iprop((∃ D0 D1, ⌜Inv m c n D0 D1⌝ ∗ owns c (Memref.whole cc0_scratch0) fullShare D0 ∗ owns c (Memref.whole cc0_scratch1) fullShare D1)
    ∗ (∃ d, owns c (Memref.whole cc0_scratch2) fullShare d) ∗ (∃ r, prngReg c r))

/-- The proof data: the inputs' blocks stay; the output block is the products of the rows' block with the panel staged one
    outer step before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (panel m c (t.val / 8 - 1))
  Φ n := PhiT m c n.val
  q _ := fullShare
  owed _ := 0

theorem A_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_chunk (c : Dev nD) (t : Fin cfg0.N) : (dats m 0 c).after 1 t = iblk m c 1 t := by dsimp only [dats]
theorem after_out (c : Dev nD) (t : Fin cfg0.N) :
    (dats m 0 c).after 2 t = outBlock (iblk m c 0 t) (panel m c (t.val / 8 - 1)) := by dsimp only [dats]
theorem before_rows (c : Dev nD) (t : Fin cfg0.N) (d) : (dats m 0 c).before 0 t d = iblk m c 0 t :=
  before0_0_of m (dats m 0 c) (A_eq m c 0) (after_rows m c) t d
theorem before_chunk (c : Dev nD) (t : Fin cfg0.N) (d) : (dats m 0 c).before 1 t d = iblk m c 1 t :=
  before0_1_of m (dats m 0 c) (A_eq m c 1) (after_chunk m c) t d

/-- The staging memrefs of point `t`. -/
abbrev msRows (t : Fin cfg0.N) : Memref sig .tc .vmem S1024x4096 .bf16 := win0_0.stage (cfg0.slots t 0)
abbrev msChunk (t : Fin cfg0.N) : Memref sig .tc .vmem S128x4096 .f32 := win0_1.stage (cfg0.slots t 1)
abbrev msOut (t : Fin cfg0.N) : Memref sig .tc .vmem S16x64x1024 .bf16 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns c (msRows t) fullShare ((dats m 0 c).before 0 t d))
    ∗ (∃ d, owns c (msChunk t) fullShare ((dats m 0 c).before 1 t d))
    ∗ (∃ d, owns c (msOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1200000 in
/-- The body at any point: which of the three cases the point is in, that case's run, the invariant kept. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_chunk]
  rw [show (dats m 0 c).owesAt () t.succ = (dats m 0 c).owesAt () t.castSucc from rfl]
  rw [show (dats m 0 c).Φ t.castSucc = PhiT m c t.val from rfl, show (dats m 0 c).Φ t.succ = PhiT m c (t.val + 1) from rfl]
  rw [show (dats m 0 c).leavesExact 0 t = owns c (msRows t) fullShare (iblk m c 0 t) from by
      unfold Dat.leavesExact; rw [show cfg0.idle 0 (grid0.coords t) = false from rfl, ← after_rows m c t],
    show (dats m 0 c).leavesExact 1 t = owns c (msChunk t) fullShare (iblk m c 1 t) from by
      unfold Dat.leavesExact; rw [show cfg0.idle 1 (grid0.coords t) = false from rfl, ← after_chunk m c t]]
  unfold PhiT
  by_cases h8 : t.val < 8
  · have c1 := (cond_stage t).mpr h8
    have c2 : ¬k0_cond2 (grid0.coords t) = 1#1 := fun h => by have := (cond_odd t).mp h; omega
    have c3 : ¬k0_cond3 (grid0.coords t) = 1#1 := fun h => by have := (cond_even t).mp h; omega
    rw [(dats m 0 c).leavesExact_idle 2 t (by
      show (!(k0_cond2 (grid0.coords t) == 1#1) && !(k0_cond3 (grid0.coords t) == 1#1)) = true
      rw [beq_eq_false_iff_ne.mpr c2, beq_eq_false_iff_ne.mpr c3]; rfl) (not_flush t h8)]
    iintro ⟨⟨⟨%D0, %D1, %hI, HS0, HS1⟩, HS2, Hg⟩, Ho, ⟨%d0, H0⟩, ⟨%d1, H1⟩, ⟨%d2, H2⟩⟩
    iapply ((run_stage c (grid0.coords t) _ _ _ _ _ _ _ _ _ _ _ _ c1 c2 c3 (iblk m c 0 t) (iblk m c 1 t) ((dats m 0 c).before 2 t d2) D0 D1) Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1]
      · iexists _, _; isplitr; · ipureintro; exact hI.even (by decide) (by omega) (holds_staged m c t _ (off_stage t) (k0_off1_inb _ c1) _ (hI.1 (by omega)))
        isplitl [HS0]; · iexact HS0
        iexact HS1
      isplitl [HS2]; · iexact HS2
      iexact Hg
    isplitl [Ho]; · iexact Ho
    isplitl [H0]; · iexact H0
    isplitl [H1]; · iexact H1
    iexists _; iexact H2
  · have c1 : ¬k0_cond1 (grid0.coords t) = 1#1 := fun h => h8 ((cond_stage t).mp h)
    by_cases h1 : t.val / 8 % 2 = 1
    · have c2 := (cond_odd t).mpr h1
      have c3 : ¬k0_cond3 (grid0.coords t) = 1#1 := fun h => by have := (cond_even t).mp h; omega
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c2]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.2 (by omega) h1).eq_panel]
      iapply ((run_odd c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.odd (by decide) (by omega) (holds_staged m c t _ (off_odd t) (k0_off2_inb _ c2) _ (hI.2.1 h1))
          isplitl [HS0]; · iexact HS0
          iexact HS1
        isplitl [HS2]; · iexact HS2
        iexact Hg
      isplitl [Ho]; · iexact Ho
      isplitl [H0]; · iexact H0
      isplitl [H1]; · iexact H1
      iexact H2
    · have c3 := (cond_even t).mpr ⟨by omega, by omega⟩
      have c2 : ¬k0_cond2 (grid0.coords t) = 1#1 := fun h => h1 ((cond_odd t).mp h)
      rw [show (dats m 0 c).leavesExact 2 t = owns c (msOut t) fullShare (outBlock (iblk m c 0 t) (panel m c (t.val / 8 - 1))) from by
        unfold Dat.leavesExact
        rw [show cfg0.idle 2 (grid0.coords t) = false from by
          show (!(k0_cond2 (grid0.coords t) == 1#1) && !(k0_cond3 (grid0.coords t) == 1#1)) = false
          rw [c3, Bool.and_comm]; rfl, ← after_out m c t]]
      iintro ⟨⟨⟨%D0, %D1, %hI, HS0, HS1⟩, HS2, Hg⟩, Ho, ⟨%d0, H0⟩, ⟨%d1, H1⟩, ⟨%d2, H2⟩⟩
      rw [← (hI.2.2.1 (by omega) (by omega)).eq_panel]
      iapply ((run_even c (grid0.coords t) _ _ _ _ _ _ _ _ _ _ _ _ c1 c2 c3 (iblk m c 0 t) (iblk m c 1 t) D0 D1) Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1]
        · iexists _, _; isplitr; · ipureintro; exact hI.even (by decide) (by omega) (holds_staged m c t _ (off_even t) (k0_off3_inb _ c3) _ (hI.1 (by omega)))
          isplitl [HS0]; · iexact HS0
          iexact HS1
        isplitl [HS2]; · iexact HS2
        iexact Hg
      isplitl [Ho]; · iexact Ho
      isplitl [H0]; · iexact H0
      isplitl [H1]; · iexact H1
      iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch may hold anything. -/
theorem phi_in (c : Dev nD) : (Pipeline.ΦA spec0 c : sProp 𝕄) ⊢ (dats m 0 c).Φ 0 := by
  rw [show (dats m 0 c).Φ 0 = PhiT m c 0 from rfl]
  unfold Pipeline.ΦA PhiT; rw [scopedRest0_eq]
  simp only [owns_whole]
  iintro ⟨⟨⟨%d0, H0⟩, ⟨%d1, H1⟩, H2⟩, Hg⟩
  isplitl [H0 H1]
  · iexists d0, d1
    isplitr
    · ipureintro
      exact ⟨fun _ y hy => by omega, fun h => by omega, fun h => by omega, fun h => by omega⟩
    isplitl [H0]; · iexact H0
    iexact H1
  isplitl [H2]; · iexact H2
  iexact Hg

/-- After the last point the scratch is forgotten. -/
theorem phi_out (c : Dev nD) : (dats m 0 c).Φ (Fin.last cfg0.N) ⊢ (Pipeline.ΦA spec0 c : sProp 𝕄) := by
  rw [show (dats m 0 c).Φ (Fin.last cfg0.N) = PhiT m c (Fin.last cfg0.N).val from rfl]
  unfold Pipeline.ΦA PhiT; rw [scopedRest0_eq]
  simp only [owns_whole]
  iintro ⟨⟨%d0, %d1, -, H0, H1⟩, H2, Hg⟩
  isplitl [H0 H1 H2]
  · isplitl [H0]; · iexists d0; iexact H0
    isplitl [H1]; · iexists d1; iexact H1
    iexact H2
  iexact Hg

set_option backward.isDefEq.respectTransparency.types false in
/-- The launch: every execution ends, the arrays as the proof data say and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The frame claim's post: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.G12Ideal.Groups

end
-- ==== Proof.Groups.Value.lean ====
module

public import proofs.«01_k».proof.Proof.Groups.Run

@[expose] public section

set_option maxRecDepth 16384

noncomputable section

namespace Cert.G12Ideal.Groups

open Idealize.ShloMosaic TcCoe Tactic
open Idealize.SL Idealize.SL.Sem
open Idealize.ShloMosaic.Pipeline (Dat Cfg Window)
open Cert.G12Ideal.Gen

variable (m : (ℓ : Loc nD τ sig) → Buf (Elt Ideal) ℓ) (ρ : Dev nD → PrngReg)

/-- The column of the weights at which panel `j` begins: two panels each of the query, key and value projections, those of the
    second and the third attention group. -/
def panelCol (j : ℕ) : ℕ := j / 2 * 3072 + (1 + j % 2) * 1024

theorem panelCol_lt {j : ℕ} (h : j < 6) : panelCol j + 1024 ≤ 25632 := by unfold panelCol; omega

/-- The column of the weights that column `k` of the result is taken from. -/
def col (k : Fin 6144) : Fin 25632 := ⟨panelCol (k.val / 1024) + k.val % 1024, by
  have h : k.val / 1024 < 6 := by omega
  have := panelCol_lt h
  omega⟩

/-- The activations and the weights as launched. -/
abbrev X (c : Dev nD) : Vec Ideal S8192x4096 .bf16 := m ((c : Thread nD τ).loc main_arg0)
abbrev W (c : Dev nD) : Vec Ideal S4096x25632 .f32 := m ((c : Thread nD τ).loc main_arg1)

/-- The result: rows of the activations, regrouped by their residue modulo 16, against the chosen columns of the weights. -/
def G (c : Dev nD) : Vec Ideal S16x512x6144 .bf16 := fun i =>
  ∑ k : Fin 4096, X m c (ix2 (⟨16 * (i 1).val + (i 0).val, by
      have h0 : (i 0).val < 16 := (i 0).isLt
      have h1 : (i 1).val < 512 := (i 1).isLt
      omega⟩ : Fin 8192) k) * W m c (ix2 k (col (i 2)))

theorem idx_rows : ∀ t : Fin cfg0.N, 8 ≤ t.val → win0_0.index t = ![t.val % 8, 0] :=
  (by decide +kernel : ∀ t : Fin grid0.N, _)
theorem idx_chunk : ∀ t : Fin cfg0.N, t.val < 48 → win0_1.index t = ![panelCol (t.val / 8) + t.val % 8 * 128, 0] :=
  (by decide +kernel : ∀ t : Fin grid0.N, _)
theorem idx_out : ∀ t : Fin cfg0.N, 8 ≤ t.val → win0_2.index t = ![0, t.val % 8, t.val / 8 - 1] :=
  (by decide +kernel : ∀ t : Fin grid0.N, _)

/-- The rows that a multiplying point reads. -/
theorem rows_apply (c : Dev nD) (t : Fin cfg0.N) (ht : 8 ≤ t.val) (y : S1024x4096.Idx) :
    iblk m c 0 t y = X m c (ix2 (⟨t.val % 8 * 1024 + (y 0).val, by have : (y 0).val < 1024 := (y 0).isLt; omega⟩ : Fin 8192) (y 1)) := by
  blk_ext [iblk, V, idx_rows t ht]

/-- The chunk of the weights that a staging point reads. -/
theorem chunk_apply (c : Dev nD) (t : Fin cfg0.N) (ht : t.val < 48) (y : S128x4096.Idx) :
    iblk m c 1 t y = W m c (ix2 (y 1) (⟨panelCol (t.val / 8) + t.val % 8 * 128 + (y 0).val, by
      have : (y 0).val < 128 := (y 0).isLt
      have h : t.val / 8 < 6 := by omega
      have := panelCol_lt h
      omega⟩ : Fin 25632)) := by
  have hV : ∀ j : S25632x4096.Idx, V m c main_v0 j = W m c (ix2 (j 1) (j 0)) := fun j => by entry_read; pointwise
  have e0 : ((((cfg0.win 1).blk t).view.emb y) 0).val = panelCol (t.val / 8) + t.val % 8 * 128 + (y 0).val := by
    have h := win0_1.rect_emb_val_off t y 0
    rw [idx_chunk t ht] at h
    exact h
  have e1 : ((((cfg0.win 1).blk t).view.emb y) 1).val = (y 1).val := by
    have h := win0_1.rect_emb_val_off t y 1
    rw [idx_chunk t ht] at h
    exact h.trans (Nat.zero_add _)
  refine (hV (((cfg0.win 1).blk t).view.emb y)).trans (congrArg (W m c) (funext fun a => Fin.ext ?_))
  match a with
  | ⟨0, _⟩ => exact e1
  | ⟨1, _⟩ => exact e0

/-- A staged panel is a block of the weights' columns, transposed. -/
theorem panel_apply (c : Dev nD) (T : ℕ) (hT : T < 6) (y : S1024x4096.Idx) :
    panel m c T y = W m c (ix2 (y 1) (⟨panelCol T + (y 0).val, by
      have : (y 0).val < 1024 := (y 0).isLt
      have := panelCol_lt hT
      omega⟩ : Fin 25632)) := by
  have hy : (y 0).val < 1024 := (y 0).isLt
  unfold panel k0_pay1
  pointwise
  rw [chunk_apply m c _ (by show (8 * T + (y 0).val / 128) % 56 < 48; omega)]
  refine congrArg (W m c) (funext fun a => Fin.ext ?_)
  match a with
  | ⟨0, _⟩ => rfl
  | ⟨1, _⟩ =>
    show panelCol ((8 * T + (y 0).val / 128) % 56 / 8) + (8 * T + (y 0).val / 128) % 56 % 8 * 128 + (y 0).val % 128 = panelCol T + (y 0).val
    rw [show (8 * T + (y 0).val / 128) % 56 / 8 = T by omega]
    omega

/-- What a multiplying point leaves in the output's block, at the element that is `j` of the output. -/
theorem out_point (c : Dev nD) (t : Fin cfg0.N) (ht : 8 ≤ t.val) (y : S16x64x1024.Idx) (j : S16x512x6144.Idx)
    (e0 : (j 0).val = (y 0).val) (e1 : (j 1).val = t.val % 8 * 64 + (y 1).val) (e2 : (j 2).val = (t.val / 8 - 1) * 1024 + (y 2).val) :
    outBlock (iblk m c 0 t) (panel m c (t.val / 8 - 1)) y = G m c j := by
  have hlt : t.val < 56 := lt_of_lt_of_eq t.isLt N_0
  have hy0 : (y 0).val < 16 := (y 0).isLt
  have hy1 : (y 1).val < 64 := (y 1).isLt
  have hy2 : (y 2).val < 1024 := (y 2).isLt
  unfold outBlock regrouped k0_pay2 residue products k0_pay7 G
  pointwise
  refine Finset.sum_congr rfl fun k _ => ?_
  rw [rows_apply m c t ht, panel_apply m c _ (by omega)]
  refine congrArg₂ (· * ·) (congrArg (fun a => X m c (ix2 a k)) (Fin.ext ?_)) (congrArg (fun a => W m c (ix2 k a)) (Fin.ext ?_))
  · show t.val % 8 * 1024 + ((y 0).val + 16 * (y 1).val) % 1024 = 16 * (j 1).val + (j 0).val
    omega
  · show panelCol (t.val / 8 - 1) + ((y 2).val / 128 % 8 / 2 * 256 + ((y 2).val / 128 % 8 % 2 * 128 + (y 2).val % 128) % 256) % 1024
      = panelCol ((j 2).val / 1024) + (j 2).val % 1024
    rw [show (j 2).val / 1024 = t.val / 8 - 1 by omega]
    omega

/-- The place in the output of an element of a multiplying point's block. -/
theorem out_place (t : Fin cfg0.N) (ht : 8 ≤ t.val) (y : S16x64x1024.Idx) :
    ((((cfg0.win 2).blk t).view.emb y) 0).val = (y 0).val
      ∧ ((((cfg0.win 2).blk t).view.emb y) 1).val = t.val % 8 * 64 + (y 1).val
      ∧ ((((cfg0.win 2).blk t).view.emb y) 2).val = (t.val / 8 - 1) * 1024 + (y 2).val := by
  refine ⟨?_, ?_, ?_⟩ <;> blk_simp [idx_out t ht]

/-- The output array after the run. -/
theorem final_out (c : Dev nD) : (dats m 0 c).arrAt 2 (cfgs 0).N = G m c := by
  refine (dats m 0 c).arrAt_eq_of_covers 2 _ (by decide +kernel) fun t hf y => ?_
  have ht : 8 ≤ t.val := by
    by_contra h
    have := not_flush t (by omega)
    exact absurd (this.symm.trans hf) (by decide)
  exact (congrFun (after_out m c t) y).trans (out_point m c t ht y _ (out_place t ht y).1 (out_place t ht y).2.1 (out_place t ht y).2.2)

/-- The run: the result is `G` of the arguments, and these are unchanged. -/
theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final_out m c), h.2.1 c⟩)
    (θ_run_and ((θ_run defs _ _).mono (fun _ h => h.1) (run_main m ρ)) (frame m ρ))

end Cert.G12Ideal.Groups

end
-- ==== Proof.Groups.Reference.lean ====
module

public import proofs.«01_k».proof.Proof.Groups.Value
public import proofs.«01_k».proof.Proof.Gen.G12RefIdeal.Read

@[expose] public section

set_option maxRecDepth 16384

noncomputable section

namespace Cert.G12RefIdeal.Groups

open Idealize.ShloMosaic TcCoe Tactic
open Cert.G12RefIdeal Cert.G12RefIdeal.Gen Cert.G12RefIdeal.Read
open Cert.G12Ideal.Groups (panelCol col)

variable (x0 : (⟨S8192x4096, .bf16⟩ : BufTy).Contents (Elt Ideal)) (x1 : (⟨S4096x25632, .f32⟩ : BufTy).Contents (Elt Ideal))

/-- The reference's product, at the element in row `r` and column `k` of all the projections. -/
theorem product_apply (j : S8192x25632.Idx) :
    val_main_v1 (F := Ideal) x0 x1 j = ∑ k : Fin 4096, x0 (ix2 (j 0) k) * x1 (ix2 k (j 1)) := by
  unfold val_main_v1 val_main_v0
  pointwise

/-- The chosen columns of the product, side by side: row `r`, column `k`. -/
theorem columns_apply (i : S8192x6144.Idx) :
    val_main_v15 (F := Ideal) x0 x1 i = ∑ k : Fin 4096, x0 (ix2 (i 0) k) * x1 (ix2 k (col (i 1))) := by
  have hi : (i 1).val < 6144 := (i 1).isLt
  rw [val_main_v15_apply]
  show val_main_v14 (F := Ideal) x0 x1 i = _
  unfold val_main_v14
  generalize h11 : val_main_v11 (F := Ideal) x0 x1 = p11
  generalize h12 : val_main_v12 (F := Ideal) x0 x1 = p12
  generalize h13 : val_main_v13 (F := Ideal) x0 x1 = p13
  pointwise
  have key : ∀ (j : S8192x25632.Idx), (j 0).val = (i 0).val → (j 1).val = panelCol ((i 1).val / 1024) + (i 1).val % 1024 →
      val_main_v1 (F := Ideal) x0 x1 j = ∑ k : Fin 4096, x0 (ix2 (i 0) k) * x1 (ix2 k (col (i 1))) := fun j e0 e1 => by
    rw [product_apply, show j 0 = i 0 from Fin.ext e0, show j 1 = col (i 1) from Fin.ext e1]
  by_cases h1 : (i 1).val < 2048
  · rw [dif_pos h1, ← h11, val_main_v11_apply, val_main_v2_apply]
    refine key _ rfl ?_
    show 1024 + (i 1).val = panelCol ((i 1).val / 1024) + (i 1).val % 1024
    unfold panelCol; omega
  rw [dif_neg h1]
  by_cases h2 : (i 1).val - 2048 < 2048
  · rw [dif_pos h2, ← h12, val_main_v12_apply, val_main_v3_apply]
    refine key _ rfl ?_
    show 3072 + (1024 + ((i 1).val - 2048)) = panelCol ((i 1).val / 1024) + (i 1).val % 1024
    unfold panelCol; omega
  rw [dif_neg h2]
  · rw [← h13, val_main_v13_apply, val_main_v4_apply]
    refine key _ rfl ?_
    show 6144 + (1024 + ((i 1).val - 2048 - 2048)) = panelCol ((i 1).val / 1024) + (i 1).val % 1024
    unfold panelCol; omega

/-- The reference's result at an index: the product in row `16 * b + a`, at the column the index's piece was split off from. -/
theorem result_apply (i : S16x512x6144.Idx) (r : Fin 8192) (hr : r.val = 16 * (i 1).val + (i 0).val) :
    val_main_v17 (F := Ideal) x0 x1 i = ∑ k : Fin 4096, x0 (ix2 r k) * x1 (ix2 k (col (i 2))) := by
  have h0 : (i 0).val < 16 := (i 0).isLt
  have h1 : (i 1).val < 512 := (i 1).isLt
  have h2 : (i 2).val < 6144 := (i 2).isLt
  rw [val_main_v17_apply, val_main_v16_apply, columns_apply,
    show (idx_main_v16 (idx_main_v17 i)) 0 = r from Fin.ext (by
      show (((i 1).val * 16 + (i 0).val) * 6144 + (i 2).val) / 6144 = r.val; omega),
    show (idx_main_v16 (idx_main_v17 i)) 1 = i 2 from Fin.ext (by
      show (((i 1).val * 16 + (i 0).val) * 6144 + (i 2).val) % 6144 = (i 2).val; omega)]

end Cert.G12RefIdeal.Groups

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Proj.Run
public import proofs.«01_k».proof.Proof.Proj.Value
public import proofs.«01_k».proof.Proof.Proj.Reference
public import proofs.«01_k».proof.Proof.Gen.Norm
public import proofs.«01_k».proof.Proof.Gen.NormIdeal
public import proofs.«01_k».proof.Proof.Gen.NormIdeal.Frame
public import proofs.«01_k».proof.Proof.Gen.NormIdeal.Launch
public import proofs.«01_k».proof.Proof.Gen.NormIdeal.Skeleton
public import proofs.«01_k».proof.Proof.Gen.NormIdeal.Loops
public import proofs.«01_k».proof.Proof.Gen.NormIdeal.Points
public import proofs.«01_k».proof.Proof.Gen.NormRefIdeal
public import proofs.«01_k».proof.Proof.Gen.NormRefIdeal.Run
public import proofs.«01_k».proof.Proof.Gen.NormRefIdeal.Read
public import proofs.«01_k».proof.Proof.Gen.Up
public import proofs.«01_k».proof.Proof.Gen.UpIdeal
public import proofs.«01_k».proof.Proof.Gen.UpIdeal.Frame
public import proofs.«01_k».proof.Proof.Gen.UpIdeal.Skeleton
public import proofs.«01_k».proof.Proof.Gen.UpRefIdeal
public import proofs.«01_k».proof.Proof.Gen.UpRefIdeal.Run
public import proofs.«01_k».proof.Proof.Gen.UpRefIdeal.Read
public import proofs.«01_k».proof.Proof.Up.Run
public import proofs.«01_k».proof.Proof.Up.Value
public import proofs.«01_k».proof.Proof.Up.Reference
public import proofs.«01_k».proof.Proof.Gen.Gates
public import proofs.«01_k».proof.Proof.Gen.GatesIdeal
public import proofs.«01_k».proof.Proof.Gen.GatesIdeal.Frame
public import proofs.«01_k».proof.Proof.Gen.GatesIdeal.Skeleton
public import proofs.«01_k».proof.Proof.Gen.GatesRefIdeal
public import proofs.«01_k».proof.Proof.Gen.GatesRefIdeal.Run
public import proofs.«01_k».proof.Proof.Gen.GatesRefIdeal.Read
public import proofs.«01_k».proof.Proof.Gates.Run
public import proofs.«01_k».proof.Proof.Gates.Value
public import proofs.«01_k».proof.Proof.Gates.Reference
public import proofs.«01_k».proof.Proof.Gen.Down
public import proofs.«01_k».proof.Proof.Gen.DownIdeal
public import proofs.«01_k».proof.Proof.Gen.DownIdeal.Frame
public import proofs.«01_k».proof.Proof.Gen.DownIdeal.Skeleton
public import proofs.«01_k».proof.Proof.Gen.DownRefIdeal
public import proofs.«01_k».proof.Proof.Gen.DownRefIdeal.Run
public import proofs.«01_k».proof.Proof.Gen.DownRefIdeal.Read
public import proofs.«01_k».proof.Proof.Down.Run
public import proofs.«01_k».proof.Proof.Down.Value
public import proofs.«01_k».proof.Proof.Down.Reference
public import proofs.«01_k».proof.Proof.Gen.Out
public import proofs.«01_k».proof.Proof.Gen.OutIdeal
public import proofs.«01_k».proof.Proof.Gen.OutIdeal.Frame
public import proofs.«01_k».proof.Proof.Gen.OutIdeal.Skeleton
public import proofs.«01_k».proof.Proof.Gen.OutRefIdeal
public import proofs.«01_k».proof.Proof.Gen.OutRefIdeal.Run
public import proofs.«01_k».proof.Proof.Gen.OutRefIdeal.Read
public import proofs.«01_k».proof.Proof.Out.Run
public import proofs.«01_k».proof.Proof.Out.Value
public import proofs.«01_k».proof.Proof.Out.Reference
public import proofs.«01_k».proof.Proof.Gen.Ple
public import proofs.«01_k».proof.Proof.Gen.PleIdeal
public import proofs.«01_k».proof.Proof.Gen.PleIdeal.Frame
public import proofs.«01_k».proof.Proof.Gen.PleIdeal.Skeleton
public import proofs.«01_k».proof.Proof.Gen.PleRefIdeal
public import proofs.«01_k».proof.Proof.Gen.PleRefIdeal.Run
public import proofs.«01_k».proof.Proof.Gen.PleRefIdeal.Read
public import proofs.«01_k».proof.Proof.Ple.Run
public import proofs.«01_k».proof.Proof.Ple.Value
public import proofs.«01_k».proof.Proof.Ple.Reference
public import proofs.«01_k».proof.Proof.Gen.Attn
public import proofs.«01_k».proof.Proof.Gen.AttnIdeal
public import proofs.«01_k».proof.Proof.Gen.AttnIdeal.Frame
public import proofs.«01_k».proof.Proof.Gen.AttnIdeal.Skeleton
public import proofs.«01_k».proof.Proof.Gen.AttnRefIdeal
public import proofs.«01_k».proof.Proof.Gen.AttnRefIdeal.Run
public import proofs.«01_k».proof.Proof.Gen.AttnRefIdeal.Read
public import proofs.«01_k».proof.Proof.Attn.Value
public import proofs.«01_k».proof.Proof.Attn.Reference
public import proofs.«01_k».proof.Proof.Norm.Launch
public import proofs.«01_k».proof.Proof.Norm.Value
public import Idealize.ShloMosaic.Adequacy
public import Idealize.ShloMosaic.Init
public import proofs.«01_k».proof.Proof.Gen.AttnUp
public import proofs.«01_k».proof.Proof.Gen.AttnUpIdeal
public import proofs.«01_k».proof.Proof.Gen.AttnUpIdeal.Frame
public import proofs.«01_k».proof.Proof.Gen.AttnUpIdeal.Skeleton
public import proofs.«01_k».proof.Proof.Gen.AttnUpRefIdeal
public import proofs.«01_k».proof.Proof.Gen.AttnUpRefIdeal.Run
public import proofs.«01_k».proof.Proof.Gen.AttnUpRefIdeal.Read
public import proofs.«01_k».proof.Proof.AttnUp.Run
public import proofs.«01_k».proof.Proof.AttnUp.Value
public import proofs.«01_k».proof.Proof.AttnUp.Reference
public import proofs.«01_k».proof.Proof.Gen.DnUp
public import proofs.«01_k».proof.Proof.Gen.DnUpIdeal
public import proofs.«01_k».proof.Proof.Gen.DnUpIdeal.Frame
public import proofs.«01_k».proof.Proof.Gen.DnUpIdeal.Skeleton
public import proofs.«01_k».proof.Proof.Gen.DnUpRefIdeal
public import proofs.«01_k».proof.Proof.Gen.DnUpRefIdeal.Run
public import proofs.«01_k».proof.Proof.Gen.DnUpRefIdeal.Read
public import proofs.«01_k».proof.Proof.DnUp.Run
public import proofs.«01_k».proof.Proof.DnUp.Value
public import proofs.«01_k».proof.Proof.DnUp.Reference
public import proofs.«01_k».proof.Proof.Gen.G12
public import proofs.«01_k».proof.Proof.Gen.G12Ideal
public import proofs.«01_k».proof.Proof.Gen.G12Ideal.Frame
public import proofs.«01_k».proof.Proof.Gen.G12Ideal.Skeleton
public import proofs.«01_k».proof.Proof.Gen.G12RefIdeal
public import proofs.«01_k».proof.Proof.Gen.G12RefIdeal.Run
public import proofs.«01_k».proof.Proof.Gen.G12RefIdeal.Read
public import proofs.«01_k».proof.Proof.Gen.PNorm
public import proofs.«01_k».proof.Proof.Gen.PNormIdeal
public import proofs.«01_k».proof.Proof.Gen.PNormIdeal.Frame
public import proofs.«01_k».proof.Proof.Gen.PNormIdeal.Skeleton
public import proofs.«01_k».proof.Proof.Gen.PNormRefIdeal
public import proofs.«01_k».proof.Proof.Gen.PNormRefIdeal.Run
public import proofs.«01_k».proof.Proof.Gen.PNormRefIdeal.Read
public import proofs.«01_k».proof.Proof.PNorm.Value
public import proofs.«01_k».proof.Proof.Gen.Mix
public import proofs.«01_k».proof.Proof.Gen.MixIdeal
public import proofs.«01_k».proof.Proof.Gen.MixIdeal.Frame
public import proofs.«01_k».proof.Proof.Gen.MixIdeal.Skeleton
public import proofs.«01_k».proof.Proof.Gen.MixRefIdeal
public import proofs.«01_k».proof.Proof.Gen.MixRefIdeal.Run
public import proofs.«01_k».proof.Proof.Gen.MixRefIdeal.Read
public import proofs.«01_k».proof.Proof.Mix.Value
public import proofs.«01_k».proof.Proof.Groups.Run
public import proofs.«01_k».proof.Proof.Groups.Value
public import proofs.«01_k».proof.Proof.Groups.Reference

@[expose] public section

set_option maxRecDepth 16384

noncomputable section

namespace Cert.Proof

open Idealize.ShloMosaic Idealize.SL.Sem

/-- Two families over one label that agree at it are equal. -/
theorem one {β : Fin 1 → Sort*} {f g : ∀ l, β l} (h : f 0 = g 0) : f = g := funext fun l => by
  obtain rfl : l = 0 := Subsingleton.elim _ _
  exact h

/-- The projection's program and its reading over the extended reals call the same body. -/
theorem bodies_proj : Kernel.defs (F := Bits) = KernelIdeal.defs (F := Bits) :=
  congrArg (Pipeline.defs KernelIdeal.pcfgs) (congrArg Defs.onTc (one rfl))

/-- The projection with element-indexed weight windows runs to its end at the machine's floats, its arguments unchanged and every
    semaphore at zero: the run proved once for any floats. -/
theorem frame_proj : quiescent_Kernel := fun m ρ _ => by
  rw [bodies_proj]
  exact KernelIdeal.Proj.frame (F := Bits) m ρ

/-- The same over the extended reals. -/
theorem frame_proj_ideal : quiescent_KernelIdeal := fun m ρ _ => KernelIdeal.Proj.frame (F := Ideal) m ρ

/-- The projection's reference runs to its end, its arguments unchanged; it has no semaphore. -/
theorem frame_proj_ref : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- Over the extended reals the projection and its reference end with equal results. -/
theorem value_proj : algebraic_KernelIdeal_ReferenceIdeal := fun m ρ m' ρ' _ hagree =>
  ⟨fun c => KernelIdeal.Proj.G m c, KernelIdeal.Proj.run m ρ,
    (θ_run ReferenceIdeal.defs _ _).mono (fun r h c => ⟨(h c).1.trans (by
        rw [ReferenceIdeal.Read.val_main_v15_eq, (hagree c).1, (hagree c).2]
        exact funext fun i => ReferenceIdeal.Proj.result_apply _ _ i), (h c).2⟩)
      (ReferenceIdeal.Value.run (F := Ideal) m' ρ')⟩

/-- The norm's program and its reading over the extended reals call the same body. -/
theorem bodies_norm : Norm.defs (F := Bits) = NormIdeal.defs (F := Bits) :=
  congrArg (Pipeline.defs NormIdeal.pcfgs) (congrArg Defs.onTc (one rfl))

/-- The final norm runs to its end at the machine's floats, every copy of its inner pipeline waited for, its arguments unchanged
    and every semaphore at zero. -/
theorem frame_norm : quiescent_Norm := fun m ρ _ => by
  rw [bodies_norm]
  exact (θ_run NormIdeal.defs _ _).mono (fun r h => ⟨fun c => ⟨(h.1 c).1, (h.1 c).2.1⟩, h.2⟩)
    (NormIdeal.Ring.run_main (F := Bits) m ρ)

/-- The same over the extended reals. -/
theorem frame_norm_ideal : quiescent_NormIdeal := fun m ρ _ =>
  (θ_run NormIdeal.defs _ _).mono (fun r h => ⟨fun c => ⟨(h.1 c).1, (h.1 c).2.1⟩, h.2⟩)
    (NormIdeal.Ring.run_main (F := Ideal) m ρ)

/-- The norm's reference runs to its end, its arguments unchanged; it has no semaphore. -/
theorem frame_norm_ref : quiescent_NormRefIdeal := fun m ρ _ =>
  (θ_run NormRefIdeal.defs _ _).mono (fun r h => ⟨fun c => (h c).2, sem_eq_zero_of_no_sems (by decide) r.2⟩)
    (NormRefIdeal.Value.run (F := Ideal) m ρ)

/-- Over the extended reals the final norm and its reference end with equal results. -/
theorem value_norm : algebraic_NormIdeal_NormRefIdeal := fun m ρ m' ρ' _ hagree =>
  ⟨fun c => NormIdeal.Ring.G m c,
    (θ_run NormIdeal.defs _ _).mono
      (fun r h c => ⟨(h.1 c).2.2.trans (NormIdeal.Ring.YA_eq m c), (h.1 c).1, (h.1 c).2.1⟩)
      (NormIdeal.Ring.run_main (F := Ideal) m ρ),
    (θ_run NormRefIdeal.defs _ _).mono (fun r h c => ⟨(h c).1.trans (by
        rw [NormRefIdeal.Read.val_main_v12_eq, (hagree c).1, (hagree c).2]
        exact funext fun i => NormIdeal.Ring.ref_apply _ _ i), (h c).2⟩)
      (NormRefIdeal.Value.run (F := Ideal) m' ρ')⟩

/-- The program of the first MLP product with its squared ReLU and its reading over the extended reals call the same body. -/
theorem bodies_up : Up.defs (F := Bits) = UpIdeal.defs (F := Bits) :=
  congrArg (Pipeline.defs UpIdeal.pcfgs) (congrArg Defs.onTc (one rfl))

/-- The first MLP product with its squared ReLU runs to its end at the machine's floats, its arguments unchanged and every semaphore at zero. -/
theorem frame_up : quiescent_Up := fun m ρ _ => by
  rw [bodies_up]
  exact UpIdeal.Up.frame (F := Bits) m ρ

/-- The same over the extended reals. -/
theorem frame_up_ideal : quiescent_UpIdeal := fun m ρ _ => UpIdeal.Up.frame (F := Ideal) m ρ

/-- Its reference runs to its end, its arguments unchanged; it has no semaphore. -/
theorem frame_up_ref : quiescent_UpRefIdeal := fun m ρ _ =>
  (θ_run UpRefIdeal.defs _ _).mono (fun r h => ⟨fun c => (h c).2, sem_eq_zero_of_no_sems (by decide) r.2⟩)
    (UpRefIdeal.Value.run (F := Ideal) m ρ)

/-- Over the extended reals it and its reference end with equal results. -/
theorem value_up : algebraic_UpIdeal_UpRefIdeal := fun m ρ m' ρ' _ hagree =>
  ⟨fun c => UpIdeal.Up.G m c, UpIdeal.Up.run m ρ,
    (θ_run UpRefIdeal.defs _ _).mono (fun r h c => ⟨(h c).1.trans (by
        rw [UpRefIdeal.Read.val_main_v4_eq, (hagree c).1, (hagree c).2]
        exact funext fun i => UpRefIdeal.Up.result_apply _ _ i), (h c).2⟩)
      (UpRefIdeal.Value.run (F := Ideal) m' ρ')⟩

/-- The program of the product of the merge gates with its logistic function and its reading over the extended reals call the same body. -/
theorem bodies_gates : Gates.defs (F := Bits) = GatesIdeal.defs (F := Bits) :=
  congrArg (Pipeline.defs GatesIdeal.pcfgs) (congrArg Defs.onTc (one rfl))

/-- The product of the merge gates with its logistic function runs to its end at the machine's floats, its arguments unchanged and every semaphore at zero. -/
theorem frame_gates : quiescent_Gates := fun m ρ _ => by
  rw [bodies_gates]
  exact GatesIdeal.Gates.frame (F := Bits) m ρ

/-- The same over the extended reals. -/
theorem frame_gates_ideal : quiescent_GatesIdeal := fun m ρ _ => GatesIdeal.Gates.frame (F := Ideal) m ρ

/-- Its reference runs to its end, its arguments unchanged; it has no semaphore. -/
theorem frame_gates_ref : quiescent_GatesRefIdeal := fun m ρ _ =>
  (θ_run GatesRefIdeal.defs _ _).mono (fun r h => ⟨fun c => (h c).2, sem_eq_zero_of_no_sems (by decide) r.2⟩)
    (GatesRefIdeal.Value.run (F := Ideal) m ρ)

/-- Over the extended reals it and its reference end with equal results. -/
theorem value_gates : algebraic_GatesIdeal_GatesRefIdeal := fun m ρ m' ρ' _ hagree =>
  ⟨fun c => GatesIdeal.Gates.G m c, GatesIdeal.Gates.run m ρ,
    (θ_run GatesRefIdeal.defs _ _).mono (fun r h c => ⟨(h c).1.trans (by
        rw [GatesRefIdeal.Read.val_main_v24_eq, (hagree c).1, (hagree c).2]
        exact funext fun i => GatesRefIdeal.Gates.result_apply _ _ i), (h c).2⟩)
      (GatesRefIdeal.Value.run (F := Ideal) m' ρ')⟩

/-- The program of the second MLP product with its residual addition and its reading over the extended reals call the same body. -/
theorem bodies_down : Down.defs (F := Bits) = DownIdeal.defs (F := Bits) :=
  congrArg (Pipeline.defs DownIdeal.pcfgs) (congrArg Defs.onTc (one rfl))

/-- The second MLP product with its residual addition runs to its end at the machine's floats, its arguments unchanged and every semaphore at zero. -/
theorem frame_down : quiescent_Down := fun m ρ _ => by
  rw [bodies_down]
  exact DownIdeal.Down.frame (F := Bits) m ρ

/-- The same over the extended reals. -/
theorem frame_down_ideal : quiescent_DownIdeal := fun m ρ _ => DownIdeal.Down.frame (F := Ideal) m ρ

/-- Its reference runs to its end, its arguments unchanged; it has no semaphore. -/
theorem frame_down_ref : quiescent_DownRefIdeal := fun m ρ _ =>
  (θ_run DownRefIdeal.defs _ _).mono (fun r h => ⟨fun c => (h c).2, sem_eq_zero_of_no_sems (by decide) r.2⟩)
    (DownRefIdeal.Value.run (F := Ideal) m ρ)

/-- Over the extended reals it and its reference end with equal results. -/
theorem value_down : algebraic_DownIdeal_DownRefIdeal := fun m ρ m' ρ' _ hagree =>
  ⟨fun c => DownIdeal.Down.G m c, DownIdeal.Down.run m ρ,
    (θ_run DownRefIdeal.defs _ _).mono (fun r h c => ⟨(h c).1.trans (by
        rw [DownRefIdeal.Read.val_main_v2_eq, (hagree c).1, (hagree c).2.1, (hagree c).2.2]
        exact funext fun i => DownRefIdeal.Down.result_apply _ _ _ i), (h c).2⟩)
      (DownRefIdeal.Value.run (F := Ideal) m' ρ')⟩

/-- The program of the output projection with its residual addition and its reading over the extended reals call the same body. -/
theorem bodies_out : Out.defs (F := Bits) = OutIdeal.defs (F := Bits) :=
  congrArg (Pipeline.defs OutIdeal.pcfgs) (congrArg Defs.onTc (one rfl))

/-- The output projection with its residual addition runs to its end at the machine's floats, its arguments unchanged and every semaphore at zero. -/
theorem frame_out : quiescent_Out := fun m ρ _ => by
  rw [bodies_out]
  exact OutIdeal.Out.frame (F := Bits) m ρ

/-- The same over the extended reals. -/
theorem frame_out_ideal : quiescent_OutIdeal := fun m ρ _ => OutIdeal.Out.frame (F := Ideal) m ρ

/-- Its reference runs to its end, its arguments unchanged; it has no semaphore. -/
theorem frame_out_ref : quiescent_OutRefIdeal := fun m ρ _ =>
  (θ_run OutRefIdeal.defs _ _).mono (fun r h => ⟨fun c => (h c).2, sem_eq_zero_of_no_sems (by decide) r.2⟩)
    (OutRefIdeal.Value.run (F := Ideal) m ρ)

/-- Over the extended reals it and its reference end with equal results. -/
theorem value_out : algebraic_OutIdeal_OutRefIdeal := fun m ρ m' ρ' _ hagree =>
  ⟨fun c => OutIdeal.Out.G m c, OutIdeal.Out.run m ρ,
    (θ_run OutRefIdeal.defs _ _).mono (fun r h c => ⟨(h c).1.trans (by
        rw [OutRefIdeal.Read.val_main_v2_eq, (hagree c).1, (hagree c).2.1, (hagree c).2.2]
        exact funext fun i => OutRefIdeal.Out.result_apply _ _ _ i), (h c).2⟩)
      (OutRefIdeal.Value.run (F := Ideal) m' ρ')⟩

/-- The program of the gated per-layer embedding and its reading over the extended reals call the same body. -/
theorem bodies_ple : Ple.defs (F := Bits) = PleIdeal.defs (F := Bits) :=
  congrArg (Pipeline.defs PleIdeal.pcfgs) (congrArg Defs.onTc (one rfl))

/-- The gated per-layer embedding runs to its end at the machine's floats, its arguments unchanged and every semaphore at zero. -/
theorem frame_ple : quiescent_Ple := fun m ρ _ => by
  rw [bodies_ple]
  exact PleIdeal.Ple.frame (F := Bits) m ρ

/-- The same over the extended reals. -/
theorem frame_ple_ideal : quiescent_PleIdeal := fun m ρ _ => PleIdeal.Ple.frame (F := Ideal) m ρ

/-- Its reference runs to its end, its arguments unchanged; it has no semaphore. -/
theorem frame_ple_ref : quiescent_PleRefIdeal := fun m ρ _ =>
  (θ_run PleRefIdeal.defs _ _).mono (fun r h => ⟨fun c => (h c).2, sem_eq_zero_of_no_sems (by decide) r.2⟩)
    (PleRefIdeal.Value.run (F := Ideal) m ρ)

/-- Over the extended reals it and its reference end with equal results. -/
theorem value_ple : algebraic_PleIdeal_PleRefIdeal := fun m ρ m' ρ' _ hagree =>
  ⟨fun c => PleIdeal.Ple.G m c, PleIdeal.Ple.run m ρ,
    (θ_run PleRefIdeal.defs _ _).mono (fun r h c => ⟨(h c).1.trans (by
        rw [PleRefIdeal.Read.val_main_v10_eq, (hagree c).1, (hagree c).2.1, (hagree c).2.2.1, (hagree c).2.2.2]
        exact funext fun i => PleRefIdeal.Ple.result_apply _ _ _ _ i), (h c).2⟩)
      (PleRefIdeal.Value.run (F := Ideal) m' ρ')⟩

/-- The first attention group's program and its reading over the extended reals call the same body. -/
theorem bodies_attn : Attn.defs (F := Bits) = AttnIdeal.defs (F := Bits) :=
  congrArg (Pipeline.defs AttnIdeal.pcfgs) (congrArg Defs.onTc (one rfl))

/-- The first attention group runs to its end at the machine's floats, its argument unchanged and every semaphore at zero. -/
theorem frame_attn : quiescent_Attn := fun m ρ _ => by
  rw [bodies_attn]
  exact AttnIdeal.Gen.frame (F := Bits) m ρ

/-- The same over the extended reals. -/
theorem frame_attn_ideal : quiescent_AttnIdeal := fun m ρ _ => AttnIdeal.Gen.frame (F := Ideal) m ρ

/-- Its reference runs to its end, its argument unchanged; it has no semaphore. -/
theorem frame_attn_ref : quiescent_AttnRefIdeal := fun m ρ _ =>
  (θ_run AttnRefIdeal.defs _ _).mono (fun r h => ⟨fun c => (h c).2.2, sem_eq_zero_of_no_sems (by decide) r.2⟩)
    (AttnRefIdeal.Value.run (F := Ideal) m ρ)

/-- The side conditions of the statement that the queries and keys are finite. -/
theorem facts_finite : Pre_finite_qk.Facts := ⟨by decide, by decide, by decide⟩

/-- Over the extended reals, from finite queries and keys, the attention and its reference end with equal results. -/
theorem value_attn : algebraic_AttnIdeal_AttnRefIdeal_pre_finite_qk (hPre_finite_qk := facts_finite) :=
  fun m ρ m' ρ' hp hagree =>
  haveI := facts_finite
  ⟨fun c => AttnIdeal.Attn.O (AttnIdeal.Attn.Z m c), fun c => AttnIdeal.Attn.L (AttnIdeal.Attn.Z m c),
    AttnIdeal.Attn.run m ρ,
    (θ_run AttnRefIdeal.defs _ _).mono (fun r h c => ⟨(h c).1.trans (by
        rw [AttnRefIdeal.Read.val_main_v41_eq, hagree c]
        exact funext fun i => AttnRefIdeal.Attn.out_apply _ (AttnRefIdeal.Attn.finite_tot _ (hp c)) i),
      (h c).2.1.trans (by
        rw [AttnRefIdeal.Read.val_main_v43_eq, hagree c]
        exact funext fun i => AttnRefIdeal.Attn.lse_apply _ i), (h c).2.2⟩)
      (AttnRefIdeal.Value.run (F := Ideal) m' ρ')⟩

/-- The program of the expanded attention and its reading over the extended reals call the same body. -/
theorem bodies_attn_up : AttnUp.defs (F := Bits) = AttnUpIdeal.defs (F := Bits) :=
  congrArg (Pipeline.defs AttnUpIdeal.pcfgs) (congrArg Defs.onTc (one rfl))

/-- The expanded attention runs to its end at the machine's floats, its arguments unchanged and every semaphore at zero. -/
theorem frame_attn_up : quiescent_AttnUp := fun m ρ _ => by
  rw [bodies_attn_up]
  exact AttnUpIdeal.AttnUp.frame (F := Bits) m ρ

/-- The same over the extended reals. -/
theorem frame_attn_up_ideal : quiescent_AttnUpIdeal := fun m ρ _ => AttnUpIdeal.AttnUp.frame (F := Ideal) m ρ

/-- Its reference runs to its end, its arguments unchanged; it has no semaphore. -/
theorem frame_attn_up_ref : quiescent_AttnUpRefIdeal := fun m ρ _ =>
  (θ_run AttnUpRefIdeal.defs _ _).mono (fun r h => ⟨fun c => (h c).2, sem_eq_zero_of_no_sems (by decide) r.2⟩)
    (AttnUpRefIdeal.Value.run (F := Ideal) m ρ)

/-- Over the extended reals it and its reference end with equal results. -/
theorem value_attn_up : algebraic_AttnUpIdeal_AttnUpRefIdeal := fun m ρ m' ρ' _ hagree =>
  ⟨fun c => AttnUpIdeal.AttnUp.G m c, AttnUpIdeal.AttnUp.run m ρ,
    (θ_run AttnUpRefIdeal.defs _ _).mono (fun r h c => ⟨(h c).1.trans (by
        rw [AttnUpRefIdeal.Read.val_main_v5_eq, (hagree c).1, (hagree c).2.1, (hagree c).2.2]
        exact funext fun i => AttnUpRefIdeal.AttnUp.result_apply _ _ _ i), (h c).2⟩)
      (AttnUpRefIdeal.Value.run (F := Ideal) m' ρ')⟩

/-- The program of the merge of the two branches and its reading over the extended reals call the same body. -/
theorem bodies_dn_up : DnUp.defs (F := Bits) = DnUpIdeal.defs (F := Bits) :=
  congrArg (Pipeline.defs DnUpIdeal.pcfgs) (congrArg Defs.onTc (one rfl))

/-- The merge of the two branches runs to its end at the machine's floats, its arguments unchanged and every semaphore at zero. -/
theorem frame_dn_up : quiescent_DnUp := fun m ρ _ => by
  rw [bodies_dn_up]
  exact DnUpIdeal.DnUp.frame (F := Bits) m ρ

/-- The same over the extended reals. -/
theorem frame_dn_up_ideal : quiescent_DnUpIdeal := fun m ρ _ => DnUpIdeal.DnUp.frame (F := Ideal) m ρ

/-- Its reference runs to its end, its arguments unchanged; it has no semaphore. -/
theorem frame_dn_up_ref : quiescent_DnUpRefIdeal := fun m ρ _ =>
  (θ_run DnUpRefIdeal.defs _ _).mono (fun r h => ⟨fun c => (h c).2, sem_eq_zero_of_no_sems (by decide) r.2⟩)
    (DnUpRefIdeal.Value.run (F := Ideal) m ρ)

/-- Over the extended reals it and its reference end with equal results. -/
theorem value_dn_up : algebraic_DnUpIdeal_DnUpRefIdeal := fun m ρ m' ρ' _ hagree =>
  ⟨fun c => DnUpIdeal.DnUp.G m c, DnUpIdeal.DnUp.run m ρ,
    (θ_run DnUpRefIdeal.defs _ _).mono (fun r h c => ⟨(h c).1.trans (by
        rw [DnUpRefIdeal.Read.val_main_v7_eq, (hagree c).1, (hagree c).2.1, (hagree c).2.2.1, (hagree c).2.2.2]
        exact funext fun i => DnUpRefIdeal.DnUp.result_apply _ _ _ _ i), (h c).2⟩)
      (DnUpRefIdeal.Value.run (F := Ideal) m' ρ')⟩

/-- The projection of the second and third attention groups and its reading over the extended reals call the same body. -/
theorem bodies_g12 : G12.defs (F := Bits) = G12Ideal.defs (F := Bits) :=
  congrArg (Pipeline.defs G12Ideal.pcfgs) (congrArg Defs.onTc (one rfl))

/-- The projection of the second and third attention groups runs to its end at the machine's floats, its arguments unchanged and every semaphore at zero. -/
theorem frame_g12 : quiescent_G12 := fun m ρ _ => by
  rw [bodies_g12]
  exact G12Ideal.Groups.frame (F := Bits) m ρ

/-- The same over the extended reals. -/
theorem frame_g12_ideal : quiescent_G12Ideal := fun m ρ _ => G12Ideal.Groups.frame (F := Ideal) m ρ

/-- Its reference runs to its end, its arguments unchanged; it has no semaphore. -/
theorem frame_g12_ref : quiescent_G12RefIdeal := fun m ρ _ =>
  (θ_run G12RefIdeal.defs _ _).mono (fun r h => ⟨fun c => (h c).2, sem_eq_zero_of_no_sems (by decide) r.2⟩)
    (G12RefIdeal.Value.run (F := Ideal) m ρ)

/-- Over the extended reals it and its reference end with equal results. -/
theorem value_g12 : algebraic_G12Ideal_G12RefIdeal := fun m ρ m' ρ' _ hagree =>
  ⟨fun c => G12Ideal.Groups.G m c, G12Ideal.Groups.run m ρ,
    (θ_run G12RefIdeal.defs _ _).mono (fun r h c => ⟨(h c).1.trans (by
        rw [G12RefIdeal.Read.val_main_v17_eq, (hagree c).1, (hagree c).2]
        exact funext fun i => G12RefIdeal.Groups.result_apply _ _ i _ rfl), (h c).2⟩)
      (G12RefIdeal.Value.run (F := Ideal) m' ρ')⟩

/-- The projection and norm of the per-layer embedding: the printed kernel's functions are its idealization's; the pass
    changes nothing. -/
theorem bodies_pnorm : PNorm.defs (F := Bits) = PNormIdeal.defs (F := Bits) :=
  congrArg (Pipeline.defs PNormIdeal.pcfgs) (congrArg Defs.onTc (one rfl))

/-- It runs to its end, its arguments unchanged, every counter at zero. -/
theorem frame_pnorm : quiescent_PNorm := fun m ρ _ => by
  rw [bodies_pnorm]
  exact PNormIdeal.Gen.frame (F := Bits) m ρ

/-- So does it over the extended reals. -/
theorem frame_pnorm_ideal : quiescent_PNormIdeal := fun m ρ _ => PNormIdeal.Gen.frame (F := Ideal) m ρ

/-- Its reference runs to its end, its arguments unchanged; it has no semaphore. -/
theorem frame_pnorm_ref : quiescent_PNormRefIdeal := fun m ρ _ =>
  (θ_run PNormRefIdeal.defs _ _).mono (fun r h => ⟨fun c => (h c).2, sem_eq_zero_of_no_sems (by decide) r.2⟩)
    (PNormRefIdeal.Value.run (F := Ideal) m ρ)

/-- Over the extended reals it and its reference end with equal results. -/
theorem value_pnorm : algebraic_PNormIdeal_PNormRefIdeal := fun m ρ m' ρ' _ hagree =>
  ⟨fun c => PNormIdeal.PNorm.G m c, PNormIdeal.PNorm.run m ρ,
    (θ_run PNormRefIdeal.defs _ _).mono (fun r h c => ⟨(h c).1.trans (by
        rw [PNormRefIdeal.Read.val_main_v14_eq, (hagree c).1, (hagree c).2.1, (hagree c).2.2]
        exact funext fun i => PNormIdeal.PNorm.ref_apply _ _ _ i), (h c).2⟩)
      (PNormRefIdeal.Value.run (F := Ideal) m' ρ')⟩

/-- The combination of the attention groups and its reading over the extended reals call the same body. -/
theorem bodies_mix : Mix.defs (F := Bits) = MixIdeal.defs (F := Bits) :=
  congrArg (Pipeline.defs MixIdeal.pcfgs) (congrArg Defs.onTc (one rfl))

/-- It runs to its end, its arguments unchanged, every counter at zero. -/
theorem frame_mix : quiescent_Mix := fun m ρ _ => by
  rw [bodies_mix]
  exact MixIdeal.Gen.frame (F := Bits) m ρ

/-- So does it over the extended reals. -/
theorem frame_mix_ideal : quiescent_MixIdeal := fun m ρ _ => MixIdeal.Gen.frame (F := Ideal) m ρ

/-- Its reference runs to its end, its arguments unchanged; it has no semaphore. -/
theorem frame_mix_ref : quiescent_MixRefIdeal := fun m ρ _ =>
  (θ_run MixRefIdeal.defs _ _).mono (fun r h => ⟨fun c => (h c).2, sem_eq_zero_of_no_sems (by decide) r.2⟩)
    (MixRefIdeal.Value.run (F := Ideal) m ρ)

/-- Over the extended reals it and its reference end with equal results. -/
theorem value_mix : algebraic_MixIdeal_MixRefIdeal := fun m ρ m' ρ' _ hagree =>
  ⟨fun c => MixIdeal.Mix.G m c, MixIdeal.Mix.run m ρ,
    (θ_run MixRefIdeal.defs _ _).mono (fun r h c => ⟨(h c).1.trans (by
        rw [MixRefIdeal.Read.val_main_v29_eq, (hagree c).1, (hagree c).2.1, (hagree c).2.2.1, (hagree c).2.2.2.1, (hagree c).2.2.2.2.1, (hagree c).2.2.2.2.2]
        exact funext fun i => MixIdeal.Mix.ref_apply _ _ _ _ _ _ i), (h c).2⟩)
      (MixRefIdeal.Value.run (F := Ideal) m' ρ')⟩

theorem claim : Claim := ⟨Kernel.Gen.facts, KernelIdeal.Gen.facts, ReferenceIdeal.Gen.facts,
  Norm.Gen.facts, NormIdeal.Gen.facts, NormRefIdeal.Gen.facts,
  Up.Gen.facts, UpIdeal.Gen.facts, UpRefIdeal.Gen.facts,
  Gates.Gen.facts, GatesIdeal.Gen.facts, GatesRefIdeal.Gen.facts,
  Down.Gen.facts, DownIdeal.Gen.facts, DownRefIdeal.Gen.facts,
  Out.Gen.facts, OutIdeal.Gen.facts, OutRefIdeal.Gen.facts,
  Ple.Gen.facts, PleIdeal.Gen.facts, PleRefIdeal.Gen.facts,
  Attn.Gen.facts, AttnIdeal.Gen.facts, AttnRefIdeal.Gen.facts,
  AttnUp.Gen.facts, AttnUpIdeal.Gen.facts, AttnUpRefIdeal.Gen.facts,
  DnUp.Gen.facts, DnUpIdeal.Gen.facts, DnUpRefIdeal.Gen.facts,
  G12.Gen.facts, G12Ideal.Gen.facts, G12RefIdeal.Gen.facts,
  PNorm.Gen.facts, PNormIdeal.Gen.facts, PNormRefIdeal.Gen.facts,
  Mix.Gen.facts, MixIdeal.Gen.facts, MixRefIdeal.Gen.facts, facts_finite,
  frame_proj, frame_proj_ideal, frame_proj_ref, frame_norm, frame_norm_ideal, frame_norm_ref,
  frame_up, frame_up_ideal, frame_up_ref,
  frame_gates, frame_gates_ideal, frame_gates_ref,
  frame_down, frame_down_ideal, frame_down_ref,
  frame_out, frame_out_ideal, frame_out_ref,
  frame_ple, frame_ple_ideal, frame_ple_ref,
  frame_attn, frame_attn_ideal, fun m ρ _ => frame_attn_ideal m ρ trivial, frame_attn_ref, fun m ρ _ => frame_attn_ref m ρ trivial,
  frame_attn_up, frame_attn_up_ideal, frame_attn_up_ref,
  frame_dn_up, frame_dn_up_ideal, frame_dn_up_ref,
  frame_g12, frame_g12_ideal, frame_g12_ref,
  frame_pnorm, frame_pnorm_ideal, frame_pnorm_ref,
  frame_mix, frame_mix_ideal, frame_mix_ref,
  trivial, value_proj, trivial, value_norm, trivial, value_up, trivial, value_gates, trivial, value_down, trivial, value_out, trivial, value_ple,
  trivial, value_attn, trivial, value_attn_up, trivial, value_dn_up, trivial, value_g12, trivial, value_pnorm, trivial, value_mix⟩

end Cert.Proof

end
